-- ==== Defs.lean ====
def Pre_ConvNorm (m : (ℓ : Loc Cert.ConvNorm.nD Cert.ConvNorm.τ Cert.ConvNorm.sig) → Buf (Elt Bits) ℓ) : Prop :=
  True

def Pre_ConvNormIdeal (m : (ℓ : Loc Cert.ConvNormIdeal.nD Cert.ConvNormIdeal.τ Cert.ConvNormIdeal.sig) → Buf (Elt Ideal) ℓ) : Prop :=
  True

def Pre_ConvNormIdeal_finite_cn [hPre_finite_cn : Cert.Pre_finite_cn.Facts] (m : (ℓ : Loc Cert.ConvNormIdeal.nD Cert.ConvNormIdeal.τ Cert.ConvNormIdeal.sig) → Buf (Elt Ideal) ℓ) : Prop :=
  ∀ c : Dev Cert.ConvNormIdeal.nD,
    (Cert.Pre_finite_cn.fn (F := Ideal) (m ((c.tc : Thread Cert.ConvNormIdeal.nD Cert.ConvNormIdeal.τ).loc Cert.ConvNormIdeal.main_arg0)) (m ((c.tc : Thread Cert.ConvNormIdeal.nD Cert.ConvNormIdeal.τ).loc Cert.ConvNormIdeal.main_arg1)) (m ((c.tc : Thread Cert.ConvNormIdeal.nD Cert.ConvNormIdeal.τ).loc Cert.ConvNormIdeal.main_arg2)) (m ((c.tc : Thread Cert.ConvNormIdeal.nD Cert.ConvNormIdeal.τ).loc Cert.ConvNormIdeal.main_arg3)) (m ((c.tc : Thread Cert.ConvNormIdeal.nD Cert.ConvNormIdeal.τ).loc Cert.ConvNormIdeal.main_arg4)) (m ((c.tc : Thread Cert.ConvNormIdeal.nD Cert.ConvNormIdeal.τ).loc Cert.ConvNormIdeal.main_arg5))) = (fun _ => 1#1)

def Pre_ConvNormRefIdeal (m : (ℓ : Loc Cert.ConvNormRefIdeal.nD Cert.ConvNormRefIdeal.τ Cert.ConvNormRefIdeal.sig) → Buf (Elt Ideal) ℓ) : Prop :=
  True

def Pre_ConvNormRefIdeal_finite_cn [hPre_finite_cn : Cert.Pre_finite_cn.Facts] (m : (ℓ : Loc Cert.ConvNormRefIdeal.nD Cert.ConvNormRefIdeal.τ Cert.ConvNormRefIdeal.sig) → Buf (Elt Ideal) ℓ) : Prop :=
  ∀ c : Dev Cert.ConvNormRefIdeal.nD,
    (Cert.Pre_finite_cn.fn (F := Ideal) (m ((c.tc : Thread Cert.ConvNormRefIdeal.nD Cert.ConvNormRefIdeal.τ).loc Cert.ConvNormRefIdeal.main_arg0)) (m ((c.tc : Thread Cert.ConvNormRefIdeal.nD Cert.ConvNormRefIdeal.τ).loc Cert.ConvNormRefIdeal.main_arg1)) (m ((c.tc : Thread Cert.ConvNormRefIdeal.nD Cert.ConvNormRefIdeal.τ).loc Cert.ConvNormRefIdeal.main_arg2)) (m ((c.tc : Thread Cert.ConvNormRefIdeal.nD Cert.ConvNormRefIdeal.τ).loc Cert.ConvNormRefIdeal.main_arg3)) (m ((c.tc : Thread Cert.ConvNormRefIdeal.nD Cert.ConvNormRefIdeal.τ).loc Cert.ConvNormRefIdeal.main_arg4)) (m ((c.tc : Thread Cert.ConvNormRefIdeal.nD Cert.ConvNormRefIdeal.τ).loc Cert.ConvNormRefIdeal.main_arg5))) = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_fb [hPre_finite_fb : Cert.Pre_finite_fb.Facts] (m : (ℓ : Loc Cert.FlashIdeal.nD Cert.FlashIdeal.τ Cert.FlashIdeal.sig) → Buf (Elt Ideal) ℓ) : Prop :=
  ∀ c : Dev Cert.FlashIdeal.nD,
    (Cert.Pre_finite_fb.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_fb [hPre_finite_fb : Cert.Pre_finite_fb.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_fb.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_ip [hPre_finite_ip : Cert.Pre_finite_ip.Facts] (m : (ℓ : Loc Cert.InProjIdeal.nD Cert.InProjIdeal.τ Cert.InProjIdeal.sig) → Buf (Elt Ideal) ℓ) : Prop :=
  ∀ c : Dev Cert.InProjIdeal.nD,
    (Cert.Pre_finite_ip.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_ip [hPre_finite_ip : Cert.Pre_finite_ip.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_ip.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_op [hPre_finite_op : Cert.Pre_finite_op.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_op.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)) (m ((c.tc : Thread Cert.OutProjIdeal.nD Cert.OutProjIdeal.τ).loc Cert.OutProjIdeal.main_arg8)) (m ((c.tc : Thread Cert.OutProjIdeal.nD Cert.OutProjIdeal.τ).loc Cert.OutProjIdeal.main_arg9))) = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite_op [hPre_finite_op : Cert.Pre_finite_op.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite_op.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6)) (m ((c.tc : Thread Cert.OutProjRefIdeal.nD Cert.OutProjRefIdeal.τ).loc Cert.OutProjRefIdeal.main_arg7)) (m ((c.tc : Thread Cert.OutProjRefIdeal.nD Cert.OutProjRefIdeal.τ).loc Cert.OutProjRefIdeal.main_arg8)) (m ((c.tc : Thread Cert.OutProjRefIdeal.nD Cert.OutProjRefIdeal.τ).loc Cert.OutProjRefIdeal.main_arg9))) = (fun _ => 1#1)

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_AttPrep (m : (ℓ : Loc Cert.AttPrep.nD Cert.AttPrep.τ Cert.AttPrep.sig) → Buf (Elt Bits) ℓ) : Prop :=
  True

def Pre_AttPrepIdeal (m : (ℓ : Loc Cert.AttPrepIdeal.nD Cert.AttPrepIdeal.τ Cert.AttPrepIdeal.sig) → Buf (Elt Ideal) ℓ) : Prop :=
  True

def Pre_AttPrepRefIdeal (m : (ℓ : Loc Cert.AttPrepRefIdeal.nD Cert.AttPrepRefIdeal.τ Cert.AttPrepRefIdeal.sig) → Buf (Elt Ideal) ℓ) : Prop :=
  True

def quiescent_ConvNorm [hConvNorm : Cert.ConvNorm.Facts] : Prop :=
  ∀ (m : (ℓ : Loc Cert.ConvNorm.nD Cert.ConvNorm.τ Cert.ConvNorm.sig) → Buf (Elt Bits) ℓ) (g : Dev Cert.ConvNorm.nD → PrngReg), Pre_ConvNorm m →
    θ_run (Cert.ConvNorm.defs (F := Bits)) (onTc (τ := Cert.ConvNorm.τ) (Cert.ConvNorm.main (F := Bits))) ⟨m, fun _ => 0, g⟩ (fun r => (∀ c : Dev Cert.ConvNorm.nD,
      r.2.mem ((c.tc : Thread Cert.ConvNorm.nD Cert.ConvNorm.τ).loc Cert.ConvNorm.main_arg0) = m ((c.tc : Thread Cert.ConvNorm.nD Cert.ConvNorm.τ).loc Cert.ConvNorm.main_arg0)
      ∧ r.2.mem ((c.tc : Thread Cert.ConvNorm.nD Cert.ConvNorm.τ).loc Cert.ConvNorm.main_arg1) = m ((c.tc : Thread Cert.ConvNorm.nD Cert.ConvNorm.τ).loc Cert.ConvNorm.main_arg1)
      ∧ r.2.mem ((c.tc : Thread Cert.ConvNorm.nD Cert.ConvNorm.τ).loc Cert.ConvNorm.main_arg2) = m ((c.tc : Thread Cert.ConvNorm.nD Cert.ConvNorm.τ).loc Cert.ConvNorm.main_arg2)
      ∧ r.2.mem ((c.tc : Thread Cert.ConvNorm.nD Cert.ConvNorm.τ).loc Cert.ConvNorm.main_arg3) = m ((c.tc : Thread Cert.ConvNorm.nD Cert.ConvNorm.τ).loc Cert.ConvNorm.main_arg3)
      ∧ r.2.mem ((c.tc : Thread Cert.ConvNorm.nD Cert.ConvNorm.τ).loc Cert.ConvNorm.main_arg4) = m ((c.tc : Thread Cert.ConvNorm.nD Cert.ConvNorm.τ).loc Cert.ConvNorm.main_arg4)
      ∧ r.2.mem ((c.tc : Thread Cert.ConvNorm.nD Cert.ConvNorm.τ).loc Cert.ConvNorm.main_arg5) = m ((c.tc : Thread Cert.ConvNorm.nD Cert.ConvNorm.τ).loc Cert.ConvNorm.main_arg5))
      ∧ r.2.sem = fun _ => 0)

def quiescent_ConvNormIdeal [hConvNormIdeal : Cert.ConvNormIdeal.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
      ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
      ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5))
      ∧ r.2.sem = fun _ => 0)

def quiescent_ConvNormIdeal_pre_finite_cn [hConvNormIdeal : Cert.ConvNormIdeal.Facts] [hPre_finite_cn : Cert.Pre_finite_cn.Facts] : Prop :=
  ∀ (m : (ℓ : Loc Cert.ConvNormIdeal.nD Cert.ConvNormIdeal.τ Cert.ConvNormIdeal.sig) → Buf (Elt Ideal) ℓ) (g : Dev Cert.ConvNormIdeal.nD → PrngReg), Pre_ConvNormIdeal_finite_cn m →
    θ_run (Cert.ConvNormIdeal.defs (F := Ideal)) (onTc (τ := Cert.ConvNormIdeal.τ) (Cert.ConvNormIdeal.main (F := Ideal))) ⟨m, fun _ => 0, g⟩ (fun r => (∀ c : Dev Cert.ConvNormIdeal.nD,
      r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
      ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
      ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
      ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
      ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
      ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5))
      ∧ r.2.sem = fun _ => 0)

def quiescent_ConvNormRefIdeal [hConvNormRefIdeal : Cert.ConvNormRefIdeal.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3)
      ∧ r.2.mem ((c.tc : Thread Cert.ConvNormRefIdeal.nD Cert.ConvNormRefIdeal.τ).loc Cert.ConvNormRefIdeal.main_arg4) = m ((c.tc : Thread Cert.ConvNormRefIdeal.nD Cert.ConvNormRefIdeal.τ).loc Cert.ConvNormRefIdeal.main_arg4)
      ∧ r.2.mem ((c.tc : Thread Cert.ConvNormRefIdeal.nD Cert.ConvNormRefIdeal.τ).loc Cert.ConvNormRefIdeal.main_arg5) = m ((c.tc : Thread Cert.ConvNormRefIdeal.nD Cert.ConvNormRefIdeal.τ).loc Cert.ConvNormRefIdeal.main_arg5))
      ∧ r.2.sem = fun _ => 0)

def quiescent_ConvNormRefIdeal_pre_finite_cn [hConvNormRefIdeal : Cert.ConvNormRefIdeal.Facts] [hPre_finite_cn : Cert.Pre_finite_cn.Facts] : Prop :=
  ∀ (m : (ℓ : Loc Cert.ConvNormRefIdeal.nD Cert.ConvNormRefIdeal.τ Cert.ConvNormRefIdeal.sig) → Buf (Elt Ideal) ℓ) (g : Dev Cert.ConvNormRefIdeal.nD → PrngReg), Pre_ConvNormRefIdeal_finite_cn m →
    θ_run (Cert.ConvNormRefIdeal.defs (F := Ideal)) (onTc (τ := Cert.ConvNormRefIdeal.τ) (Cert.ConvNormRefIdeal.main (F := Ideal))) ⟨m, fun _ => 0, g⟩ (fun r => (∀ c : Dev Cert.ConvNormRefIdeal.nD,
      r.2.mem ((c.tc : Thread Cert.ConvNormRefIdeal.nD Cert.ConvNormRefIdeal.τ).loc Cert.ConvNormRefIdeal.main_arg0) = m ((c.tc : Thread Cert.ConvNormRefIdeal.nD Cert.ConvNormRefIdeal.τ).loc Cert.ConvNormRefIdeal.main_arg0)
      ∧ r.2.mem ((c.tc : Thread Cert.ConvNormRefIdeal.nD Cert.ConvNormRefIdeal.τ).loc Cert.ConvNormRefIdeal.main_arg1) = m ((c.tc : Thread Cert.ConvNormRefIdeal.nD Cert.ConvNormRefIdeal.τ).loc Cert.ConvNormRefIdeal.main_arg1)
      ∧ r.2.mem ((c.tc : Thread Cert.ConvNormRefIdeal.nD Cert.ConvNormRefIdeal.τ).loc Cert.ConvNormRefIdeal.main_arg2) = m ((c.tc : Thread Cert.ConvNormRefIdeal.nD Cert.ConvNormRefIdeal.τ).loc Cert.ConvNormRefIdeal.main_arg2)
      ∧ r.2.mem ((c.tc : Thread Cert.ConvNormRefIdeal.nD Cert.ConvNormRefIdeal.τ).loc Cert.ConvNormRefIdeal.main_arg3) = m ((c.tc : Thread Cert.ConvNormRefIdeal.nD Cert.ConvNormRefIdeal.τ).loc Cert.ConvNormRefIdeal.main_arg3)
      ∧ r.2.mem ((c.tc : Thread Cert.ConvNormRefIdeal.nD Cert.ConvNormRefIdeal.τ).loc Cert.ConvNormRefIdeal.main_arg4) = m ((c.tc : Thread Cert.ConvNormRefIdeal.nD Cert.ConvNormRefIdeal.τ).loc Cert.ConvNormRefIdeal.main_arg4)
      ∧ r.2.mem ((c.tc : Thread Cert.ConvNormRefIdeal.nD Cert.ConvNormRefIdeal.τ).loc Cert.ConvNormRefIdeal.main_arg5) = m ((c.tc : Thread Cert.ConvNormRefIdeal.nD Cert.ConvNormRefIdeal.τ).loc Cert.ConvNormRefIdeal.main_arg5))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_finite_fb [hFlashIdeal : Cert.FlashIdeal.Facts] [hPre_finite_fb : Cert.Pre_finite_fb.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_fb m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_finite_fb [hFlashRefIdeal : Cert.FlashRefIdeal.Facts] [hPre_finite_fb : Cert.Pre_finite_fb.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_fb m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjIdeal_pre_finite_ip [hInProjIdeal : Cert.InProjIdeal.Facts] [hPre_finite_ip : Cert.Pre_finite_ip.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_ip m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_InProjRefIdeal_pre_finite_ip [hInProjRefIdeal : Cert.InProjRefIdeal.Facts] [hPre_finite_ip : Cert.Pre_finite_ip.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_ip m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8)
      ∧ r.2.mem ((c.tc : Thread Cert.OutProj.nD Cert.OutProj.τ).loc Cert.OutProj.main_arg9) = m ((c.tc : Thread Cert.OutProj.nD Cert.OutProj.τ).loc Cert.OutProj.main_arg9))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ r.2.sem = fun _ => 0)

def quiescent_OutProjIdeal_pre_finite_op [hOutProjIdeal : Cert.OutProjIdeal.Facts] [hPre_finite_op : Cert.Pre_finite_op.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_op m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
      ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9))
      ∧ r.2.sem = fun _ => 0)

def quiescent_OutProjRefIdeal_pre_finite_op [hOutProjRefIdeal : Cert.OutProjRefIdeal.Facts] [hPre_finite_op : Cert.Pre_finite_op.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite_op m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8)
      ∧ r.2.mem ((c.tc : Thread Cert.OutProjRefIdeal.nD Cert.OutProjRefIdeal.τ).loc Cert.OutProjRefIdeal.main_arg9) = m ((c.tc : Thread Cert.OutProjRefIdeal.nD Cert.OutProjRefIdeal.τ).loc Cert.OutProjRefIdeal.main_arg9))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_AttPrep [hAttPrep : Cert.AttPrep.Facts] : Prop :=
  ∀ (m : (ℓ : Loc Cert.AttPrep.nD Cert.AttPrep.τ Cert.AttPrep.sig) → Buf (Elt Bits) ℓ) (g : Dev Cert.AttPrep.nD → PrngReg), Pre_AttPrep m →
    θ_run (Cert.AttPrep.defs (F := Bits)) (onTc (τ := Cert.AttPrep.τ) (Cert.AttPrep.main (F := Bits))) ⟨m, fun _ => 0, g⟩ (fun r => (∀ c : Dev Cert.AttPrep.nD,
      r.2.mem ((c.tc : Thread Cert.AttPrep.nD Cert.AttPrep.τ).loc Cert.AttPrep.main_arg0) = m ((c.tc : Thread Cert.AttPrep.nD Cert.AttPrep.τ).loc Cert.AttPrep.main_arg0)
      ∧ r.2.mem ((c.tc : Thread Cert.AttPrep.nD Cert.AttPrep.τ).loc Cert.AttPrep.main_arg1) = m ((c.tc : Thread Cert.AttPrep.nD Cert.AttPrep.τ).loc Cert.AttPrep.main_arg1)
      ∧ r.2.mem ((c.tc : Thread Cert.AttPrep.nD Cert.AttPrep.τ).loc Cert.AttPrep.main_arg2) = m ((c.tc : Thread Cert.AttPrep.nD Cert.AttPrep.τ).loc Cert.AttPrep.main_arg2)
      ∧ r.2.mem ((c.tc : Thread Cert.AttPrep.nD Cert.AttPrep.τ).loc Cert.AttPrep.main_arg3) = m ((c.tc : Thread Cert.AttPrep.nD Cert.AttPrep.τ).loc Cert.AttPrep.main_arg3)
      ∧ r.2.mem ((c.tc : Thread Cert.AttPrep.nD Cert.AttPrep.τ).loc Cert.AttPrep.main_arg4) = m ((c.tc : Thread Cert.AttPrep.nD Cert.AttPrep.τ).loc Cert.AttPrep.main_arg4)
      ∧ r.2.mem ((c.tc : Thread Cert.AttPrep.nD Cert.AttPrep.τ).loc Cert.AttPrep.main_arg5) = m ((c.tc : Thread Cert.AttPrep.nD Cert.AttPrep.τ).loc Cert.AttPrep.main_arg5)
      ∧ r.2.mem ((c.tc : Thread Cert.AttPrep.nD Cert.AttPrep.τ).loc Cert.AttPrep.main_arg6) = m ((c.tc : Thread Cert.AttPrep.nD Cert.AttPrep.τ).loc Cert.AttPrep.main_arg6)
      ∧ r.2.mem ((c.tc : Thread Cert.AttPrep.nD Cert.AttPrep.τ).loc Cert.AttPrep.main_arg7) = m ((c.tc : Thread Cert.AttPrep.nD Cert.AttPrep.τ).loc Cert.AttPrep.main_arg7)
      ∧ r.2.mem ((c.tc : Thread Cert.AttPrep.nD Cert.AttPrep.τ).loc Cert.AttPrep.main_arg8) = m ((c.tc : Thread Cert.AttPrep.nD Cert.AttPrep.τ).loc Cert.AttPrep.main_arg8))
      ∧ r.2.sem = fun _ => 0)

def quiescent_AttPrepIdeal [hAttPrepIdeal : Cert.AttPrepIdeal.Facts] : Prop :=
  ∀ (m : (ℓ : Loc Cert.AttPrepIdeal.nD Cert.AttPrepIdeal.τ Cert.AttPrepIdeal.sig) → Buf (Elt Ideal) ℓ) (g : Dev Cert.AttPrepIdeal.nD → PrngReg), Pre_AttPrepIdeal m →
    θ_run (Cert.AttPrepIdeal.defs (F := Ideal)) (onTc (τ := Cert.AttPrepIdeal.τ) (Cert.AttPrepIdeal.main (F := Ideal))) ⟨m, fun _ => 0, g⟩ (fun r => (∀ c : Dev Cert.AttPrepIdeal.nD,
      r.2.mem ((c.tc : Thread Cert.AttPrepIdeal.nD Cert.AttPrepIdeal.τ).loc Cert.AttPrepIdeal.main_arg0) = m ((c.tc : Thread Cert.AttPrepIdeal.nD Cert.AttPrepIdeal.τ).loc Cert.AttPrepIdeal.main_arg0)
      ∧ r.2.mem ((c.tc : Thread Cert.AttPrepIdeal.nD Cert.AttPrepIdeal.τ).loc Cert.AttPrepIdeal.main_arg1) = m ((c.tc : Thread Cert.AttPrepIdeal.nD Cert.AttPrepIdeal.τ).loc Cert.AttPrepIdeal.main_arg1)
      ∧ r.2.mem ((c.tc : Thread Cert.AttPrepIdeal.nD Cert.AttPrepIdeal.τ).loc Cert.AttPrepIdeal.main_arg2) = m ((c.tc : Thread Cert.AttPrepIdeal.nD Cert.AttPrepIdeal.τ).loc Cert.AttPrepIdeal.main_arg2)
      ∧ r.2.mem ((c.tc : Thread Cert.AttPrepIdeal.nD Cert.AttPrepIdeal.τ).loc Cert.AttPrepIdeal.main_arg3) = m ((c.tc : Thread Cert.AttPrepIdeal.nD Cert.AttPrepIdeal.τ).loc Cert.AttPrepIdeal.main_arg3)
      ∧ r.2.mem ((c.tc : Thread Cert.AttPrepIdeal.nD Cert.AttPrepIdeal.τ).loc Cert.AttPrepIdeal.main_arg4) = m ((c.tc : Thread Cert.AttPrepIdeal.nD Cert.AttPrepIdeal.τ).loc Cert.AttPrepIdeal.main_arg4)
      ∧ r.2.mem ((c.tc : Thread Cert.AttPrepIdeal.nD Cert.AttPrepIdeal.τ).loc Cert.AttPrepIdeal.main_arg5) = m ((c.tc : Thread Cert.AttPrepIdeal.nD Cert.AttPrepIdeal.τ).loc Cert.AttPrepIdeal.main_arg5)
      ∧ r.2.mem ((c.tc : Thread Cert.AttPrepIdeal.nD Cert.AttPrepIdeal.τ).loc Cert.AttPrepIdeal.main_arg6) = m ((c.tc : Thread Cert.AttPrepIdeal.nD Cert.AttPrepIdeal.τ).loc Cert.AttPrepIdeal.main_arg6)
      ∧ r.2.mem ((c.tc : Thread Cert.AttPrepIdeal.nD Cert.AttPrepIdeal.τ).loc Cert.AttPrepIdeal.main_arg7) = m ((c.tc : Thread Cert.AttPrepIdeal.nD Cert.AttPrepIdeal.τ).loc Cert.AttPrepIdeal.main_arg7)
      ∧ r.2.mem ((c.tc : Thread Cert.AttPrepIdeal.nD Cert.AttPrepIdeal.τ).loc Cert.AttPrepIdeal.main_arg8) = m ((c.tc : Thread Cert.AttPrepIdeal.nD Cert.AttPrepIdeal.τ).loc Cert.AttPrepIdeal.main_arg8))
      ∧ r.2.sem = fun _ => 0)

def quiescent_AttPrepRefIdeal [hAttPrepRefIdeal : Cert.AttPrepRefIdeal.Facts] : Prop :=
  ∀ (m : (ℓ : Loc Cert.AttPrepRefIdeal.nD Cert.AttPrepRefIdeal.τ Cert.AttPrepRefIdeal.sig) → Buf (Elt Ideal) ℓ) (g : Dev Cert.AttPrepRefIdeal.nD → PrngReg), Pre_AttPrepRefIdeal m →
    θ_run (Cert.AttPrepRefIdeal.defs (F := Ideal)) (onTc (τ := Cert.AttPrepRefIdeal.τ) (Cert.AttPrepRefIdeal.main (F := Ideal))) ⟨m, fun _ => 0, g⟩ (fun r => (∀ c : Dev Cert.AttPrepRefIdeal.nD,
      r.2.mem ((c.tc : Thread Cert.AttPrepRefIdeal.nD Cert.AttPrepRefIdeal.τ).loc Cert.AttPrepRefIdeal.main_arg0) = m ((c.tc : Thread Cert.AttPrepRefIdeal.nD Cert.AttPrepRefIdeal.τ).loc Cert.AttPrepRefIdeal.main_arg0)
      ∧ r.2.mem ((c.tc : Thread Cert.AttPrepRefIdeal.nD Cert.AttPrepRefIdeal.τ).loc Cert.AttPrepRefIdeal.main_arg1) = m ((c.tc : Thread Cert.AttPrepRefIdeal.nD Cert.AttPrepRefIdeal.τ).loc Cert.AttPrepRefIdeal.main_arg1)
      ∧ r.2.mem ((c.tc : Thread Cert.AttPrepRefIdeal.nD Cert.AttPrepRefIdeal.τ).loc Cert.AttPrepRefIdeal.main_arg2) = m ((c.tc : Thread Cert.AttPrepRefIdeal.nD Cert.AttPrepRefIdeal.τ).loc Cert.AttPrepRefIdeal.main_arg2)
      ∧ r.2.mem ((c.tc : Thread Cert.AttPrepRefIdeal.nD Cert.AttPrepRefIdeal.τ).loc Cert.AttPrepRefIdeal.main_arg3) = m ((c.tc : Thread Cert.AttPrepRefIdeal.nD Cert.AttPrepRefIdeal.τ).loc Cert.AttPrepRefIdeal.main_arg3)
      ∧ r.2.mem ((c.tc : Thread Cert.AttPrepRefIdeal.nD Cert.AttPrepRefIdeal.τ).loc Cert.AttPrepRefIdeal.main_arg4) = m ((c.tc : Thread Cert.AttPrepRefIdeal.nD Cert.AttPrepRefIdeal.τ).loc Cert.AttPrepRefIdeal.main_arg4)
      ∧ r.2.mem ((c.tc : Thread Cert.AttPrepRefIdeal.nD Cert.AttPrepRefIdeal.τ).loc Cert.AttPrepRefIdeal.main_arg5) = m ((c.tc : Thread Cert.AttPrepRefIdeal.nD Cert.AttPrepRefIdeal.τ).loc Cert.AttPrepRefIdeal.main_arg5)
      ∧ r.2.mem ((c.tc : Thread Cert.AttPrepRefIdeal.nD Cert.AttPrepRefIdeal.τ).loc Cert.AttPrepRefIdeal.main_arg6) = m ((c.tc : Thread Cert.AttPrepRefIdeal.nD Cert.AttPrepRefIdeal.τ).loc Cert.AttPrepRefIdeal.main_arg6)
      ∧ r.2.mem ((c.tc : Thread Cert.AttPrepRefIdeal.nD Cert.AttPrepRefIdeal.τ).loc Cert.AttPrepRefIdeal.main_arg7) = m ((c.tc : Thread Cert.AttPrepRefIdeal.nD Cert.AttPrepRefIdeal.τ).loc Cert.AttPrepRefIdeal.main_arg7)
      ∧ r.2.mem ((c.tc : Thread Cert.AttPrepRefIdeal.nD Cert.AttPrepRefIdeal.τ).loc Cert.AttPrepRefIdeal.main_arg8) = m ((c.tc : Thread Cert.AttPrepRefIdeal.nD Cert.AttPrepRefIdeal.τ).loc Cert.AttPrepRefIdeal.main_arg8))
      ∧ r.2.sem = fun _ => 0)

def preserves_ConvNorm_ConvNormIdeal : Prop :=
  True

def algebraic_ConvNormIdeal_ConvNormRefIdeal_pre_finite_cn [hConvNormIdeal : Cert.ConvNormIdeal.Facts] [hConvNormRefIdeal : Cert.ConvNormRefIdeal.Facts] [hPre_finite_cn : Cert.Pre_finite_cn.Facts] : Prop :=
  ∀ (m : (ℓ : Loc Cert.ConvNormIdeal.nD Cert.ConvNormIdeal.τ Cert.ConvNormIdeal.sig) → Buf (Elt Ideal) ℓ) (g : Dev Cert.ConvNormIdeal.nD → PrngReg)
    (m' : (ℓ : Loc Cert.ConvNormRefIdeal.nD Cert.ConvNormRefIdeal.τ Cert.ConvNormRefIdeal.sig) → Buf (Elt Ideal) ℓ) (g' : Dev Cert.ConvNormRefIdeal.nD → PrngReg), Pre_ConvNormIdeal_finite_cn m →
    (∀ c : Dev Cert.ConvNormIdeal.nD,
      m' ((c.tc : Thread Cert.ConvNormRefIdeal.nD Cert.ConvNormRefIdeal.τ).loc Cert.ConvNormRefIdeal.main_arg0) = m ((c.tc : Thread Cert.ConvNormIdeal.nD Cert.ConvNormIdeal.τ).loc Cert.ConvNormIdeal.main_arg0)
      ∧ m' ((c.tc : Thread Cert.ConvNormRefIdeal.nD Cert.ConvNormRefIdeal.τ).loc Cert.ConvNormRefIdeal.main_arg1) = m ((c.tc : Thread Cert.ConvNormIdeal.nD Cert.ConvNormIdeal.τ).loc Cert.ConvNormIdeal.main_arg1)
      ∧ m' ((c.tc : Thread Cert.ConvNormRefIdeal.nD Cert.ConvNormRefIdeal.τ).loc Cert.ConvNormRefIdeal.main_arg2) = m ((c.tc : Thread Cert.ConvNormIdeal.nD Cert.ConvNormIdeal.τ).loc Cert.ConvNormIdeal.main_arg2)
      ∧ m' ((c.tc : Thread Cert.ConvNormRefIdeal.nD Cert.ConvNormRefIdeal.τ).loc Cert.ConvNormRefIdeal.main_arg3) = m ((c.tc : Thread Cert.ConvNormIdeal.nD Cert.ConvNormIdeal.τ).loc Cert.ConvNormIdeal.main_arg3)
      ∧ m' ((c.tc : Thread Cert.ConvNormRefIdeal.nD Cert.ConvNormRefIdeal.τ).loc Cert.ConvNormRefIdeal.main_arg4) = m ((c.tc : Thread Cert.ConvNormIdeal.nD Cert.ConvNormIdeal.τ).loc Cert.ConvNormIdeal.main_arg4)
      ∧ m' ((c.tc : Thread Cert.ConvNormRefIdeal.nD Cert.ConvNormRefIdeal.τ).loc Cert.ConvNormRefIdeal.main_arg5) = m ((c.tc : Thread Cert.ConvNormIdeal.nD Cert.ConvNormIdeal.τ).loc Cert.ConvNormIdeal.main_arg5)) →
    ∃ (v0 : (c : Dev Cert.ConvNormIdeal.nD) → Buf (Elt Ideal) ((c.tc : Thread Cert.ConvNormIdeal.nD Cert.ConvNormIdeal.τ).loc Cert.ConvNormIdeal.main_v6_0)) (v1 : (c : Dev Cert.ConvNormIdeal.nD) → Buf (Elt Ideal) ((c.tc : Thread Cert.ConvNormIdeal.nD Cert.ConvNormIdeal.τ).loc Cert.ConvNormIdeal.main_v6_1)) (v2 : (c : Dev Cert.ConvNormIdeal.nD) → Buf (Elt Ideal) ((c.tc : Thread Cert.ConvNormIdeal.nD Cert.ConvNormIdeal.τ).loc Cert.ConvNormIdeal.main_v6_2)) (v3 : (c : Dev Cert.ConvNormIdeal.nD) → Buf (Elt Ideal) ((c.tc : Thread Cert.ConvNormIdeal.nD Cert.ConvNormIdeal.τ).loc Cert.ConvNormIdeal.main_v6_3)) (v4 : (c : Dev Cert.ConvNormIdeal.nD) → Buf (Elt Ideal) ((c.tc : Thread Cert.ConvNormIdeal.nD Cert.ConvNormIdeal.τ).loc Cert.ConvNormIdeal.main_v6_4)) (v5 : (c : Dev Cert.ConvNormIdeal.nD) → Buf (Elt Ideal) ((c.tc : Thread Cert.ConvNormIdeal.nD Cert.ConvNormIdeal.τ).loc Cert.ConvNormIdeal.main_v6_5)),
      θ_run (Cert.ConvNormIdeal.defs (F := Ideal)) (onTc (τ := Cert.ConvNormIdeal.τ) (Cert.ConvNormIdeal.main (F := Ideal))) ⟨m, fun _ => 0, g⟩ (fun r => ∀ c : Dev Cert.ConvNormIdeal.nD,
          r.2.mem ((c.tc : Thread Cert.ConvNormIdeal.nD Cert.ConvNormIdeal.τ).loc Cert.ConvNormIdeal.main_v6_0) = v0 c
          ∧ r.2.mem ((c.tc : Thread Cert.ConvNormIdeal.nD Cert.ConvNormIdeal.τ).loc Cert.ConvNormIdeal.main_v6_1) = v1 c
          ∧ r.2.mem ((c.tc : Thread Cert.ConvNormIdeal.nD Cert.ConvNormIdeal.τ).loc Cert.ConvNormIdeal.main_v6_2) = v2 c
          ∧ r.2.mem ((c.tc : Thread Cert.ConvNormIdeal.nD Cert.ConvNormIdeal.τ).loc Cert.ConvNormIdeal.main_v6_3) = v3 c
          ∧ r.2.mem ((c.tc : Thread Cert.ConvNormIdeal.nD Cert.ConvNormIdeal.τ).loc Cert.ConvNormIdeal.main_v6_4) = v4 c
          ∧ r.2.mem ((c.tc : Thread Cert.ConvNormIdeal.nD Cert.ConvNormIdeal.τ).loc Cert.ConvNormIdeal.main_v6_5) = v5 c
          ∧ r.2.mem ((c.tc : Thread Cert.ConvNormIdeal.nD Cert.ConvNormIdeal.τ).loc Cert.ConvNormIdeal.main_arg0) = m ((c.tc : Thread Cert.ConvNormIdeal.nD Cert.ConvNormIdeal.τ).loc Cert.ConvNormIdeal.main_arg0)
          ∧ r.2.mem ((c.tc : Thread Cert.ConvNormIdeal.nD Cert.ConvNormIdeal.τ).loc Cert.ConvNormIdeal.main_arg1) = m ((c.tc : Thread Cert.ConvNormIdeal.nD Cert.ConvNormIdeal.τ).loc Cert.ConvNormIdeal.main_arg1)
          ∧ r.2.mem ((c.tc : Thread Cert.ConvNormIdeal.nD Cert.ConvNormIdeal.τ).loc Cert.ConvNormIdeal.main_arg2) = m ((c.tc : Thread Cert.ConvNormIdeal.nD Cert.ConvNormIdeal.τ).loc Cert.ConvNormIdeal.main_arg2)
          ∧ r.2.mem ((c.tc : Thread Cert.ConvNormIdeal.nD Cert.ConvNormIdeal.τ).loc Cert.ConvNormIdeal.main_arg3) = m ((c.tc : Thread Cert.ConvNormIdeal.nD Cert.ConvNormIdeal.τ).loc Cert.ConvNormIdeal.main_arg3)
          ∧ r.2.mem ((c.tc : Thread Cert.ConvNormIdeal.nD Cert.ConvNormIdeal.τ).loc Cert.ConvNormIdeal.main_arg4) = m ((c.tc : Thread Cert.ConvNormIdeal.nD Cert.ConvNormIdeal.τ).loc Cert.ConvNormIdeal.main_arg4)
          ∧ r.2.mem ((c.tc : Thread Cert.ConvNormIdeal.nD Cert.ConvNormIdeal.τ).loc Cert.ConvNormIdeal.main_arg5) = m ((c.tc : Thread Cert.ConvNormIdeal.nD Cert.ConvNormIdeal.τ).loc Cert.ConvNormIdeal.main_arg5))
      ∧ θ_run (Cert.ConvNormRefIdeal.defs (F := Ideal)) (onTc (τ := Cert.ConvNormRefIdeal.τ) (Cert.ConvNormRefIdeal.main (F := Ideal))) ⟨m', fun _ => 0, g'⟩ (fun r => ∀ c : Dev Cert.ConvNormRefIdeal.nD,
          r.2.mem ((c.tc : Thread Cert.ConvNormRefIdeal.nD Cert.ConvNormRefIdeal.τ).loc Cert.ConvNormRefIdeal.main_v96) = v0 c
          ∧ r.2.mem ((c.tc : Thread Cert.ConvNormRefIdeal.nD Cert.ConvNormRefIdeal.τ).loc Cert.ConvNormRefIdeal.main_v100) = v1 c
          ∧ r.2.mem ((c.tc : Thread Cert.ConvNormRefIdeal.nD Cert.ConvNormRefIdeal.τ).loc Cert.ConvNormRefIdeal.main_v101) = v2 c
          ∧ r.2.mem ((c.tc : Thread Cert.ConvNormRefIdeal.nD Cert.ConvNormRefIdeal.τ).loc Cert.ConvNormRefIdeal.main_v102) = v3 c
          ∧ r.2.mem ((c.tc : Thread Cert.ConvNormRefIdeal.nD Cert.ConvNormRefIdeal.τ).loc Cert.ConvNormRefIdeal.main_v103) = v4 c
          ∧ r.2.mem ((c.tc : Thread Cert.ConvNormRefIdeal.nD Cert.ConvNormRefIdeal.τ).loc Cert.ConvNormRefIdeal.main_v104) = v5 c
          ∧ r.2.mem ((c.tc : Thread Cert.ConvNormRefIdeal.nD Cert.ConvNormRefIdeal.τ).loc Cert.ConvNormRefIdeal.main_arg0) = m' ((c.tc : Thread Cert.ConvNormRefIdeal.nD Cert.ConvNormRefIdeal.τ).loc Cert.ConvNormRefIdeal.main_arg0)
          ∧ r.2.mem ((c.tc : Thread Cert.ConvNormRefIdeal.nD Cert.ConvNormRefIdeal.τ).loc Cert.ConvNormRefIdeal.main_arg1) = m' ((c.tc : Thread Cert.ConvNormRefIdeal.nD Cert.ConvNormRefIdeal.τ).loc Cert.ConvNormRefIdeal.main_arg1)
          ∧ r.2.mem ((c.tc : Thread Cert.ConvNormRefIdeal.nD Cert.ConvNormRefIdeal.τ).loc Cert.ConvNormRefIdeal.main_arg2) = m' ((c.tc : Thread Cert.ConvNormRefIdeal.nD Cert.ConvNormRefIdeal.τ).loc Cert.ConvNormRefIdeal.main_arg2)
          ∧ r.2.mem ((c.tc : Thread Cert.ConvNormRefIdeal.nD Cert.ConvNormRefIdeal.τ).loc Cert.ConvNormRefIdeal.main_arg3) = m' ((c.tc : Thread Cert.ConvNormRefIdeal.nD Cert.ConvNormRefIdeal.τ).loc Cert.ConvNormRefIdeal.main_arg3)
          ∧ r.2.mem ((c.tc : Thread Cert.ConvNormRefIdeal.nD Cert.ConvNormRefIdeal.τ).loc Cert.ConvNormRefIdeal.main_arg4) = m' ((c.tc : Thread Cert.ConvNormRefIdeal.nD Cert.ConvNormRefIdeal.τ).loc Cert.ConvNormRefIdeal.main_arg4)
          ∧ r.2.mem ((c.tc : Thread Cert.ConvNormRefIdeal.nD Cert.ConvNormRefIdeal.τ).loc Cert.ConvNormRefIdeal.main_arg5) = m' ((c.tc : Thread Cert.ConvNormRefIdeal.nD Cert.ConvNormRefIdeal.τ).loc Cert.ConvNormRefIdeal.main_arg5))

def preserves_Flash_FlashIdeal : Prop :=
  IdealRules.named_const.Statement Cert.FlashIdeal.κ "log2e" .f32 0x3FB8AA3B#32 (((Real.log 2)⁻¹ : ℝ) : EReal)
  ∧ IdealRules.named_const.Statement Cert.FlashIdeal.κ "exp2_scale" .f32 0x3DD53B95#32 (((Real.sqrt 192)⁻¹ * (Real.log 2)⁻¹ : ℝ) : EReal)
  ∧ IdealRules.named_const.Statement Cert.FlashIdeal.κ "att_scale" .f32 0x3D93CD3A#32 (((Real.sqrt 192)⁻¹ : ℝ) : EReal)

def algebraic_FlashIdeal_FlashRefIdeal_pre_finite_fb [hFlashIdeal : Cert.FlashIdeal.Facts] [hFlashRefIdeal : Cert.FlashRefIdeal.Facts] [hPre_finite_fb : Cert.Pre_finite_fb.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_fb m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v43_0)) (v1 : (c : Dev Cert.FlashIdeal.nD) → Buf (Elt Ideal) ((c.tc : Thread Cert.FlashIdeal.nD Cert.FlashIdeal.τ).loc Cert.FlashIdeal.main_v43_1)) (v2 : (c : Dev Cert.FlashIdeal.nD) → Buf (Elt Ideal) ((c.tc : Thread Cert.FlashIdeal.nD Cert.FlashIdeal.τ).loc Cert.FlashIdeal.main_v43_2)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v43_0) = v0 c
          ∧ r.2.mem ((c.tc : Thread Cert.FlashIdeal.nD Cert.FlashIdeal.τ).loc Cert.FlashIdeal.main_v43_1) = v1 c
          ∧ r.2.mem ((c.tc : Thread Cert.FlashIdeal.nD Cert.FlashIdeal.τ).loc Cert.FlashIdeal.main_v43_2) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v65) = v0 c
          ∧ r.2.mem ((c.tc : Thread Cert.FlashRefIdeal.nD Cert.FlashRefIdeal.τ).loc Cert.FlashRefIdeal.main_v67) = v1 c
          ∧ r.2.mem ((c.tc : Thread Cert.FlashRefIdeal.nD Cert.FlashRefIdeal.τ).loc Cert.FlashRefIdeal.main_v68) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_InProj_InProjIdeal : Prop :=
  True

def algebraic_InProjIdeal_InProjRefIdeal_pre_finite_ip [hInProjIdeal : Cert.InProjIdeal.Facts] [hInProjRefIdeal : Cert.InProjRefIdeal.Facts] [hPre_finite_ip : Cert.Pre_finite_ip.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_ip m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)) (v2 : (c : Dev Cert.InProjIdeal.nD) → Buf (Elt Ideal) ((c.tc : Thread Cert.InProjIdeal.nD Cert.InProjIdeal.τ).loc Cert.InProjIdeal.main_v16_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_v16_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v59) = v0 c
          ∧ r.2.mem ((c.tc : Thread Cert.InProjRefIdeal.nD Cert.InProjRefIdeal.τ).loc Cert.InProjRefIdeal.main_v62) = v1 c
          ∧ r.2.mem ((c.tc : Thread Cert.InProjRefIdeal.nD Cert.InProjRefIdeal.τ).loc Cert.InProjRefIdeal.main_v63) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_OutProj_OutProjIdeal : Prop :=
  True

def algebraic_OutProjIdeal_OutProjRefIdeal_pre_finite_op [hOutProjIdeal : Cert.OutProjIdeal.Facts] [hOutProjRefIdeal : Cert.OutProjRefIdeal.Facts] [hPre_finite_op : Cert.Pre_finite_op.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite_op m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)
      ∧ m' ((c.tc : Thread Cert.OutProjRefIdeal.nD Cert.OutProjRefIdeal.τ).loc Cert.OutProjRefIdeal.main_arg9) = m ((c.tc : Thread Cert.OutProjIdeal.nD Cert.OutProjIdeal.τ).loc Cert.OutProjIdeal.main_arg9)) →
    ∃ (v0 : (c : Dev Cert.OutProjIdeal.nD) → Buf (Elt Ideal) ((c.tc : Thread Cert.OutProjIdeal.nD Cert.OutProjIdeal.τ).loc Cert.OutProjIdeal.main_v36_0)) (v1 : (c : Dev Cert.OutProjIdeal.nD) → Buf (Elt Ideal) ((c.tc : Thread Cert.OutProjIdeal.nD Cert.OutProjIdeal.τ).loc Cert.OutProjIdeal.main_v36_1)) (v2 : (c : Dev Cert.OutProjIdeal.nD) → Buf (Elt Ideal) ((c.tc : Thread Cert.OutProjIdeal.nD Cert.OutProjIdeal.τ).loc Cert.OutProjIdeal.main_v36_2)) (v3 : (c : Dev Cert.OutProjIdeal.nD) → Buf (Elt Ideal) ((c.tc : Thread Cert.OutProjIdeal.nD Cert.OutProjIdeal.τ).loc Cert.OutProjIdeal.main_v36_3)) (v4 : (c : Dev Cert.OutProjIdeal.nD) → Buf (Elt Ideal) ((c.tc : Thread Cert.OutProjIdeal.nD Cert.OutProjIdeal.τ).loc Cert.OutProjIdeal.main_v36_4)) (v5 : (c : Dev Cert.OutProjIdeal.nD) → Buf (Elt Ideal) ((c.tc : Thread Cert.OutProjIdeal.nD Cert.OutProjIdeal.τ).loc Cert.OutProjIdeal.main_v36_5)) (v6 : (c : Dev Cert.OutProjIdeal.nD) → Buf (Elt Ideal) ((c.tc : Thread Cert.OutProjIdeal.nD Cert.OutProjIdeal.τ).loc Cert.OutProjIdeal.main_v36_6)) (v7 : (c : Dev Cert.OutProjIdeal.nD) → Buf (Elt Ideal) ((c.tc : Thread Cert.OutProjIdeal.nD Cert.OutProjIdeal.τ).loc Cert.OutProjIdeal.main_v36_7)) (v8 : (c : Dev Cert.OutProjIdeal.nD) → Buf (Elt Ideal) ((c.tc : Thread Cert.OutProjIdeal.nD Cert.OutProjIdeal.τ).loc Cert.OutProjIdeal.main_v36_8)) (v9 : (c : Dev Cert.OutProjIdeal.nD) → Buf (Elt Ideal) ((c.tc : Thread Cert.OutProjIdeal.nD Cert.OutProjIdeal.τ).loc Cert.OutProjIdeal.main_v36_9)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v36_0) = v0 c
          ∧ r.2.mem ((c.tc : Thread Cert.OutProjIdeal.nD Cert.OutProjIdeal.τ).loc Cert.OutProjIdeal.main_v36_1) = v1 c
          ∧ r.2.mem ((c.tc : Thread Cert.OutProjIdeal.nD Cert.OutProjIdeal.τ).loc Cert.OutProjIdeal.main_v36_2) = v2 c
          ∧ r.2.mem ((c.tc : Thread Cert.OutProjIdeal.nD Cert.OutProjIdeal.τ).loc Cert.OutProjIdeal.main_v36_3) = v3 c
          ∧ r.2.mem ((c.tc : Thread Cert.OutProjIdeal.nD Cert.OutProjIdeal.τ).loc Cert.OutProjIdeal.main_v36_4) = v4 c
          ∧ r.2.mem ((c.tc : Thread Cert.OutProjIdeal.nD Cert.OutProjIdeal.τ).loc Cert.OutProjIdeal.main_v36_5) = v5 c
          ∧ r.2.mem ((c.tc : Thread Cert.OutProjIdeal.nD Cert.OutProjIdeal.τ).loc Cert.OutProjIdeal.main_v36_6) = v6 c
          ∧ r.2.mem ((c.tc : Thread Cert.OutProjIdeal.nD Cert.OutProjIdeal.τ).loc Cert.OutProjIdeal.main_v36_7) = v7 c
          ∧ r.2.mem ((c.tc : Thread Cert.OutProjIdeal.nD Cert.OutProjIdeal.τ).loc Cert.OutProjIdeal.main_v36_8) = v8 c
          ∧ r.2.mem ((c.tc : Thread Cert.OutProjIdeal.nD Cert.OutProjIdeal.τ).loc Cert.OutProjIdeal.main_v36_9) = v9 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8)
          ∧ r.2.mem ((c.tc : Thread Cert.OutProjIdeal.nD Cert.OutProjIdeal.τ).loc Cert.OutProjIdeal.main_arg9) = m ((c.tc : Thread Cert.OutProjIdeal.nD Cert.OutProjIdeal.τ).loc Cert.OutProjIdeal.main_arg9))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v101) = v0 c
          ∧ r.2.mem ((c.tc : Thread Cert.OutProjRefIdeal.nD Cert.OutProjRefIdeal.τ).loc Cert.OutProjRefIdeal.main_v102) = v1 c
          ∧ r.2.mem ((c.tc : Thread Cert.OutProjRefIdeal.nD Cert.OutProjRefIdeal.τ).loc Cert.OutProjRefIdeal.main_v100) = v2 c
          ∧ r.2.mem ((c.tc : Thread Cert.OutProjRefIdeal.nD Cert.OutProjRefIdeal.τ).loc Cert.OutProjRefIdeal.main_v103) = v3 c
          ∧ r.2.mem ((c.tc : Thread Cert.OutProjRefIdeal.nD Cert.OutProjRefIdeal.τ).loc Cert.OutProjRefIdeal.main_v66) = v4 c
          ∧ r.2.mem ((c.tc : Thread Cert.OutProjRefIdeal.nD Cert.OutProjRefIdeal.τ).loc Cert.OutProjRefIdeal.main_v104) = v5 c
          ∧ r.2.mem ((c.tc : Thread Cert.OutProjRefIdeal.nD Cert.OutProjRefIdeal.τ).loc Cert.OutProjRefIdeal.main_v63) = v6 c
          ∧ r.2.mem ((c.tc : Thread Cert.OutProjRefIdeal.nD Cert.OutProjRefIdeal.τ).loc Cert.OutProjRefIdeal.main_v105) = v7 c
          ∧ r.2.mem ((c.tc : Thread Cert.OutProjRefIdeal.nD Cert.OutProjRefIdeal.τ).loc Cert.OutProjRefIdeal.main_v106) = v8 c
          ∧ r.2.mem ((c.tc : Thread Cert.OutProjRefIdeal.nD Cert.OutProjRefIdeal.τ).loc Cert.OutProjRefIdeal.main_v107) = v9 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8)
          ∧ r.2.mem ((c.tc : Thread Cert.OutProjRefIdeal.nD Cert.OutProjRefIdeal.τ).loc Cert.OutProjRefIdeal.main_arg9) = m' ((c.tc : Thread Cert.OutProjRefIdeal.nD Cert.OutProjRefIdeal.τ).loc Cert.OutProjRefIdeal.main_arg9))

def preserves_Sgu_SguIdeal : Prop :=
  True

def preserves_AttPrep_AttPrepIdeal : Prop :=
  True

def Claim : Prop :=
  ∃ (hConvNorm : Cert.ConvNorm.Facts) (hConvNormIdeal : Cert.ConvNormIdeal.Facts) (hConvNormRefIdeal : Cert.ConvNormRefIdeal.Facts) (hFlash : Cert.Flash.Facts) (hFlashIdeal : Cert.FlashIdeal.Facts) (hFlashRefIdeal : Cert.FlashRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hSgu : Cert.Sgu.Facts) (hSguIdeal : Cert.SguIdeal.Facts) (hSguRefIdeal : Cert.SguRefIdeal.Facts) (hAttPrep : Cert.AttPrep.Facts) (hAttPrepIdeal : Cert.AttPrepIdeal.Facts) (hAttPrepRefIdeal : Cert.AttPrepRefIdeal.Facts) (hPre_finite_cn : Cert.Pre_finite_cn.Facts) (hPre_finite_fb : Cert.Pre_finite_fb.Facts) (hPre_finite_ip : Cert.Pre_finite_ip.Facts) (hPre_finite_op : Cert.Pre_finite_op.Facts),
    quiescent_ConvNorm (hConvNorm := hConvNorm)
    ∧ quiescent_ConvNormIdeal (hConvNormIdeal := hConvNormIdeal)
    ∧ quiescent_ConvNormIdeal_pre_finite_cn (hConvNormIdeal := hConvNormIdeal) (hPre_finite_cn := hPre_finite_cn)
    ∧ quiescent_ConvNormRefIdeal (hConvNormRefIdeal := hConvNormRefIdeal)
    ∧ quiescent_ConvNormRefIdeal_pre_finite_cn (hConvNormRefIdeal := hConvNormRefIdeal) (hPre_finite_cn := hPre_finite_cn)
    ∧ quiescent_Flash (hFlash := hFlash)
    ∧ quiescent_FlashIdeal (hFlashIdeal := hFlashIdeal)
    ∧ quiescent_FlashIdeal_pre_finite_fb (hFlashIdeal := hFlashIdeal) (hPre_finite_fb := hPre_finite_fb)
    ∧ quiescent_FlashRefIdeal (hFlashRefIdeal := hFlashRefIdeal)
    ∧ quiescent_FlashRefIdeal_pre_finite_fb (hFlashRefIdeal := hFlashRefIdeal) (hPre_finite_fb := hPre_finite_fb)
    ∧ quiescent_InProj (hInProj := hInProj)
    ∧ quiescent_InProjIdeal (hInProjIdeal := hInProjIdeal)
    ∧ quiescent_InProjIdeal_pre_finite_ip (hInProjIdeal := hInProjIdeal) (hPre_finite_ip := hPre_finite_ip)
    ∧ quiescent_InProjRefIdeal (hInProjRefIdeal := hInProjRefIdeal)
    ∧ quiescent_InProjRefIdeal_pre_finite_ip (hInProjRefIdeal := hInProjRefIdeal) (hPre_finite_ip := hPre_finite_ip)
    ∧ quiescent_OutProj (hOutProj := hOutProj)
    ∧ quiescent_OutProjIdeal (hOutProjIdeal := hOutProjIdeal)
    ∧ quiescent_OutProjIdeal_pre_finite_op (hOutProjIdeal := hOutProjIdeal) (hPre_finite_op := hPre_finite_op)
    ∧ quiescent_OutProjRefIdeal (hOutProjRefIdeal := hOutProjRefIdeal)
    ∧ quiescent_OutProjRefIdeal_pre_finite_op (hOutProjRefIdeal := hOutProjRefIdeal) (hPre_finite_op := hPre_finite_op)
    ∧ quiescent_Sgu (hSgu := hSgu)
    ∧ quiescent_SguIdeal (hSguIdeal := hSguIdeal)
    ∧ quiescent_SguRefIdeal (hSguRefIdeal := hSguRefIdeal)
    ∧ quiescent_AttPrep (hAttPrep := hAttPrep)
    ∧ quiescent_AttPrepIdeal (hAttPrepIdeal := hAttPrepIdeal)
    ∧ quiescent_AttPrepRefIdeal (hAttPrepRefIdeal := hAttPrepRefIdeal)
    ∧ preserves_ConvNorm_ConvNormIdeal
    ∧ algebraic_ConvNormIdeal_ConvNormRefIdeal_pre_finite_cn (hConvNormIdeal := hConvNormIdeal) (hConvNormRefIdeal := hConvNormRefIdeal) (hPre_finite_cn := hPre_finite_cn)
    ∧ preserves_Flash_FlashIdeal
    ∧ algebraic_FlashIdeal_FlashRefIdeal_pre_finite_fb (hFlashIdeal := hFlashIdeal) (hFlashRefIdeal := hFlashRefIdeal) (hPre_finite_fb := hPre_finite_fb)
    ∧ preserves_InProj_InProjIdeal
    ∧ algebraic_InProjIdeal_InProjRefIdeal_pre_finite_ip (hInProjIdeal := hInProjIdeal) (hInProjRefIdeal := hInProjRefIdeal) (hPre_finite_ip := hPre_finite_ip)
    ∧ preserves_OutProj_OutProjIdeal
    ∧ algebraic_OutProjIdeal_OutProjRefIdeal_pre_finite_op (hOutProjIdeal := hOutProjIdeal) (hOutProjRefIdeal := hOutProjRefIdeal) (hPre_finite_op := hPre_finite_op)
    ∧ preserves_Sgu_SguIdeal
    ∧ preserves_AttPrep_AttPrepIdeal
-- ==== Pre_finite_cn.lean ====
abbrev S8192x256 : Shape := ⟨2, ![8192, 256]⟩
abbrev S256 : Shape := ⟨1, ![256]⟩
abbrev S256x256 : Shape := ⟨2, ![256, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_arg5 : FVec F S8192x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S8192x256 .f32 := Host.absf main_arg5
  let main_cst_8 : FVec F S_ .f32 := constant S_ .f32 0x7F800000#32
  let main_v25 : FVec F S8192x256 .f32 := broadcastInDim S8192x256 ![] bcast_S_S8192x256 main_cst_8
  let main_v26 : IVec S8192x256 1 := cmpf .olt main_v24 main_v25
  let main_c_9 : IVec S_ 1 := constantI S_ 1 1#1
  let main_v27 : IVec S_ 1 := (fun x v => Host.reduce IntOp.andi x v reducesTo_S8192x256_S_d0_1 h_S_) main_v26 main_c_9
  let main_v28 : IVec S_ 1 := andi main_v23 main_v27
  main_v28

def fn {F : FTy → Type} [FloatOps F] (main_arg0 : FVec F S8192x256 .f32) (main_arg1 : FVec F S256 .f32) (main_arg2 : FVec F S256 .f32) (main_arg3 : FVec F S256 .f32) (main_arg4 : FVec F S256x256 .f32) (main_arg5 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Pre_finite_fb.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  reducesTo_S8192x4x192_S_d0_1_2 : S8192x4x192.ReducesTo [0, 1, 2] S_
  h_S_ : 0 < S_.numel
  bcast_S_S8192x4x128 : S_.BroadcastsInDim S8192x4x128 (![] : Fin 0 → Fin S8192x4x128.rank)
  reducesTo_S8192x4x128_S_d0_1_2 : S8192x4x128.ReducesTo [0, 1, 2] S_

variable [Facts]

def fn_part1 {F : FTy → Type} [FloatOps F] (main_v13 : IVec S_ 1) (main_v16 : IVec S8192x4x128 1) : IVec S_ 1 :=
  let main_c_5 : IVec S_ 1 := constantI S_ 1 1#1
  let main_v17 : IVec S_ 1 := (fun x v => Host.reduce IntOp.andi x v reducesTo_S8192x4x128_S_d0_1_2 h_S_) main_v16 main_c_5
  let main_v18 : IVec S_ 1 := andi main_v13 main_v17
  main_v18

def fn {F : FTy → Type} [FloatOps F] (main_arg0 : FVec F S8192x4x192 .f32) (main_arg1 : FVec F S8192x4x192 .f32) (main_arg2 : FVec F S8192x4x128 .f32) (main_arg3 : FVec F S8192x4x128 .f32) : IVec S_ 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_c : IVec S_ 1 := constantI S_ 1 1#1
  let main_v3 : IVec S_ 1 := (fun x v => Host.reduce IntOp.andi x v reducesTo_S8192x4x192_S_d0_1_2 h_S_) main_v2 main_c
  let main_v4 : FVec F S8192x4x192 .f32 := Host.absf main_arg1
  let main_cst_0 : FVec F S_ .f32 := constant S_ .f32 0x7F800000#32
  let main_v5 : FVec F S8192x4x192 .f32 := broadcastInDim S8192x4x192 ![] bcast_S_S8192x4x192 main_cst_0
  let main_v6 : IVec S8192x4x192 1 := cmpf .olt main_v4 main_v5
  let main_c_1 : IVec S_ 1 := constantI S_ 1 1#1
  let main_v7 : IVec S_ 1 := (fun x v => Host.reduce IntOp.andi x v reducesTo_S8192x4x192_S_d0_1_2 h_S_) main_v6 main_c_1
  let main_v8 : IVec S_ 1 := andi main_v3 main_v7
  let main_v9 : FVec F S8192x4x128 .f32 := Host.absf main_arg2
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  let main_c_3 : IVec S_ 1 := constantI S_ 1 1#1
  let main_v12 : IVec S_ 1 := (fun x v => Host.reduce IntOp.andi x v reducesTo_S8192x4x128_S_d0_1_2 h_S_) main_v11 main_c_3
  let main_v13 : IVec S_ 1 := andi main_v8 main_v12
  let main_v14 : FVec F S8192x4x128 .f32 := Host.absf main_arg3
  let main_cst_4 : FVec F S_ .f32 := constant S_ .f32 0x7F800000#32
  let main_v15 : FVec F S8192x4x128 .f32 := broadcastInDim S8192x4x128 ![] bcast_S_S8192x4x128 main_cst_4
  let main_v16 : IVec S8192x4x128 1 := cmpf .olt main_v14 main_v15
  fn_part1 (F := F) main_v13 main_v16
-- ==== Pre_finite_ip.lean ====
abbrev S8192x1024 : Shape := ⟨2, ![8192, 1024]⟩
abbrev S1024 : Shape := ⟨1, ![1024]⟩
abbrev S3x1024 : Shape := ⟨2, ![3, 1024]⟩
abbrev S1024x2496 : Shape := ⟨2, ![1024, 2496]⟩
abbrev S8192x2496 : Shape := ⟨2, ![8192, 2496]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S3x1024 : S_.BroadcastsInDim S3x1024 (![] : Fin 0 → Fin S3x1024.rank)
  reducesTo_S3x1024_S_d0_1 : S3x1024.ReducesTo [0, 1] S_
  bcast_S_S1024x2496 : S_.BroadcastsInDim S1024x2496 (![] : Fin 0 → Fin S1024x2496.rank)
  reducesTo_S1024x2496_S_d0_1 : S1024x2496.ReducesTo [0, 1] S_
  bcast_S_S8192x2496 : S_.BroadcastsInDim S8192x2496 (![] : Fin 0 → Fin S8192x2496.rank)
  reducesTo_S8192x2496_S_d0_1 : S8192x2496.ReducesTo [0, 1] S_

variable [Facts]

def fn_part1 {F : FTy → Type} [FloatOps F] (main_arg4 : FVec F S8192x1024 .f32) (main_arg5 : FVec F S8192x2496 .f32) (main_v13 : IVec S_ 1) (main_v16 : IVec S1024x2496 1) : IVec S_ 1 :=
  let main_c_5 : IVec S_ 1 := constantI S_ 1 1#1
  let main_v17 : IVec S_ 1 := (fun x v => Host.reduce IntOp.andi x v reducesTo_S1024x2496_S_d0_1 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x2496 .f32 := Host.absf main_arg5
  let main_cst_8 : FVec F S_ .f32 := constant S_ .f32 0x7F800000#32
  let main_v25 : FVec F S8192x2496 .f32 := broadcastInDim S8192x2496 ![] bcast_S_S8192x2496 main_cst_8
  let main_v26 : IVec S8192x2496 1 := cmpf .olt main_v24 main_v25
  let main_c_9 : IVec S_ 1 := constantI S_ 1 1#1
  let main_v27 : IVec S_ 1 := (fun x v => Host.reduce IntOp.andi x v reducesTo_S8192x2496_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S3x1024 .f32) (main_arg3 : FVec F S1024x2496 .f32) (main_arg4 : FVec F S8192x1024 .f32) (main_arg5 : FVec F S8192x2496 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S3x1024 .f32 := Host.absf main_arg2
  let main_cst_2 : FVec F S_ .f32 := constant S_ .f32 0x7F800000#32
  let main_v10 : FVec F S3x1024 .f32 := broadcastInDim S3x1024 ![] bcast_S_S3x1024 main_cst_2
  let main_v11 : IVec S3x1024 1 := cmpf .olt main_v9 main_v10
  let main_c_3 : IVec S_ 1 := constantI S_ 1 1#1
  let main_v12 : IVec S_ 1 := (fun x v => Host.reduce IntOp.andi x v reducesTo_S3x1024_S_d0_1 h_S_) main_v11 main_c_3
  let main_v13 : IVec S_ 1 := andi main_v8 main_v12
  let main_v14 : FVec F S1024x2496 .f32 := Host.absf main_arg3
  let main_cst_4 : FVec F S_ .f32 := constant S_ .f32 0x7F800000#32
  let main_v15 : FVec F S1024x2496 .f32 := broadcastInDim S1024x2496 ![] bcast_S_S1024x2496 main_cst_4
  let main_v16 : IVec S1024x2496 1 := cmpf .olt main_v14 main_v15
  fn_part1 (F := F) main_arg4 main_arg5 main_v13 main_v16
-- ==== Pre_finite_op.lean ====
abbrev S8192x2496 : Shape := ⟨2, ![8192, 2496]⟩
abbrev S8192x512 : Shape := ⟨2, ![8192, 512]⟩
abbrev S8192x256 : Shape := ⟨2, ![8192, 256]⟩
abbrev S8192x4x192 : Shape := ⟨3, ![8192, 4, 192]⟩
abbrev S1024x1024 : Shape := ⟨2, ![1024, 1024]⟩
abbrev S1024 : Shape := ⟨1, ![1024]⟩
abbrev S3x1024 : Shape := ⟨2, ![3, 1024]⟩
abbrev S8192x1024 : Shape := ⟨2, ![8192, 1024]⟩
abbrev S_ : Shape := ⟨0, ![]⟩

class Facts : Prop where
  bcast_S_S8192x2496 : S_.BroadcastsInDim S8192x2496 (![] : Fin 0 → Fin S8192x2496.rank)
  reducesTo_S8192x2496_S_d0_1 : S8192x2496.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S8192x256 : S_.BroadcastsInDim S8192x256 (![] : Fin 0 → Fin S8192x256.rank)
  reducesTo_S8192x256_S_d0_1 : S8192x256.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S3x1024 : S_.BroadcastsInDim S3x1024 (![] : Fin 0 → Fin S3x1024.rank)
  reducesTo_S3x1024_S_d0_1 : S3x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part2 {F : FTy → Type} [FloatOps F] (main_arg9 : FVec F S8192x1024 .f32) (main_v33 : IVec S_ 1) : IVec S_ 1 :=
  let main_v34 : FVec F S8192x1024 .f32 := Host.absf main_arg9
  let main_cst_12 : FVec F S_ .f32 := constant S_ .f32 0x7F800000#32
  let main_v35 : FVec F S8192x1024 .f32 := broadcastInDim S8192x1024 ![] bcast_S_S8192x1024 main_cst_12
  let main_v36 : IVec S8192x1024 1 := cmpf .olt main_v34 main_v35
  let main_c_13 : IVec S_ 1 := constantI S_ 1 1#1
  let main_v37 : IVec S_ 1 := (fun x v => Host.reduce IntOp.andi x v reducesTo_S8192x1024_S_d0_1 h_S_) main_v36 main_c_13
  let main_v38 : IVec S_ 1 := andi main_v33 main_v37
  main_v38

def fn_part1 {F : FTy → Type} [FloatOps F] (main_arg6 : FVec F S1024x1024 .f32) (main_arg7 : FVec F S1024 .f32) (main_arg8 : FVec F S3x1024 .f32) (main_arg9 : FVec F S8192x1024 .f32) (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  let main_v19 : FVec F S1024x1024 .f32 := Host.absf main_arg6
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg7
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S3x1024 .f32 := Host.absf main_arg8
  let main_cst_10 : FVec F S_ .f32 := constant S_ .f32 0x7F800000#32
  let main_v30 : FVec F S3x1024 .f32 := broadcastInDim S3x1024 ![] bcast_S_S3x1024 main_cst_10
  let main_v31 : IVec S3x1024 1 := cmpf .olt main_v29 main_v30
  let main_c_11 : IVec S_ 1 := constantI S_ 1 1#1
  let main_v32 : IVec S_ 1 := (fun x v => Host.reduce IntOp.andi x v reducesTo_S3x1024_S_d0_1 h_S_) main_v31 main_c_11
  let main_v33 : IVec S_ 1 := andi main_v28 main_v32
  fn_part2 (F := F) main_arg9 main_v33

def fn {F : FTy → Type} [FloatOps F] (main_arg0 : FVec F S8192x2496 .f32) (main_arg1 : FVec F S8192x512 .f32) (main_arg2 : FVec F S8192x256 .f32) (main_arg3 : FVec F S8192x256 .f32) (main_arg4 : FVec F S8192x4x192 .f32) (main_arg5 : FVec F S8192x4x192 .f32) (main_arg6 : FVec F S1024x1024 .f32) (main_arg7 : FVec F S1024 .f32) (main_arg8 : FVec F S3x1024 .f32) (main_arg9 : FVec F S8192x1024 .f32) : IVec S_ 1 :=
  let main_v0 : FVec F S8192x2496 .f32 := Host.absf main_arg0
  let main_cst : FVec F S_ .f32 := constant S_ .f32 0x7F800000#32
  let main_v1 : FVec F S8192x2496 .f32 := broadcastInDim S8192x2496 ![] bcast_S_S8192x2496 main_cst
  let main_v2 : IVec S8192x2496 1 := cmpf .olt main_v0 main_v1
  let main_c : IVec S_ 1 := constantI S_ 1 1#1
  let main_v3 : IVec S_ 1 := (fun x v => Host.reduce IntOp.andi x v reducesTo_S8192x2496_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_arg6 main_arg7 main_arg8 main_arg9 main_v13 main_v16
-- ==== ConvNorm.lean ====
abbrev S8192x256 : Shape := ⟨2, ![8192, 256]⟩
abbrev S256 : Shape := ⟨1, ![256]⟩
abbrev S256x256 : Shape := ⟨2, ![256, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S8192x256, .f32⟩
  | .hbm, ⟨6, _⟩ => ⟨S1x256, .f32⟩
  | .hbm, ⟨7, _⟩ => ⟨S8192x256, .f32⟩
  | .hbm, ⟨8, _⟩ => ⟨S8192x256, .f32⟩
  | .hbm, ⟨9, _⟩ => ⟨S1x256, .f32⟩
  | .hbm, ⟨10, _⟩ => ⟨S1x256, .f32⟩
  | .hbm, ⟨11, _⟩ => ⟨S256x256, .bf16⟩
  | .hbm, ⟨12, _⟩ => ⟨S8192x256, .f32⟩
  | .hbm, ⟨13, _⟩ => ⟨S8192x256, .bf16⟩
  | .hbm, ⟨14, _⟩ => ⟨S8192x256, .bf16⟩
  | .hbm, ⟨15, _⟩ => ⟨S1x256, .f32⟩
  | .hbm, ⟨16, _⟩ => ⟨S1x256, .f32⟩
  | .hbm, ⟨17, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S256x256, .bf16⟩
  | .local _ .vmem, ⟨7, _⟩ => ⟨S512x256, .f32⟩
  | .local _ .vmem, ⟨8, _⟩ => ⟨S512x256, .f32⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S1x256, .f32⟩
  | .local _ .vmem, ⟨14, _⟩ => ⟨S1x256, .f32⟩
  | .local _ .vmem, ⟨15, _⟩ => ⟨S1x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvNormRefIdeal.lean ====
abbrev S8192x256 : Shape := ⟨2, ![8192, 256]⟩
abbrev S256 : Shape := ⟨1, ![256]⟩
abbrev S256x256 : Shape := ⟨2, ![256, 256]⟩
abbrev S1x256 : Shape := ⟨2, ![1, 256]⟩
abbrev S_ : Shape := ⟨0, ![]⟩
abbrev S8192 : Shape := ⟨1, ![8192]⟩
abbrev S8192x1 : Shape := ⟨2, ![8192, 1]⟩

abbrev nBuf : Space → Nat
  | .hbm => 159
  | .vmem => 0
  | .smem => 0
  | _ => 0

abbrev hbmTy0_0 (i : Nat) : BufTy := match i % 128 with
  | 0 => ⟨S8192x256, .f32⟩
  | 1 => ⟨S256, .f32⟩
  | 2 => ⟨S256, .f32⟩
  | 3 => ⟨S256, .f32⟩
  | 4 => ⟨S256x256, .f32⟩
  | 5 => ⟨S8192x256, .f32⟩
  | 6 => ⟨S1x256, .f32⟩
  | 7 => ⟨S8192x256, .f32⟩
  | 8 => ⟨S8192x256, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S8192x256, .f32⟩
  | 16 => ⟨S8192x256, .f32⟩
  | 17 => ⟨S8192x256, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x256, .f32⟩
  | 25 => ⟨S8192x256, .f32⟩
  | 26 => ⟨S_, .f32⟩
  | 27 => ⟨S8192x1, .f32⟩
  | 28 => ⟨S8192x1, .f32⟩
  | 29 => ⟨S8192x1, .f32⟩
  | 30 => ⟨S8192x256, .f32⟩
  | 31 => ⟨S8192x256, .f32⟩
  | 32 => ⟨S1x256, .f32⟩
  | 33 => ⟨S8192x256, .f32⟩
  | 34 => ⟨S8192x256, .f32⟩
  | 35 => ⟨S1x256, .f32⟩
  | 36 => ⟨S8192x256, .f32⟩
  | 37 => ⟨S8192x256, .f32⟩
  | 38 => ⟨S8192x256, .f32⟩
  | 39 => ⟨S8192x256, .f32⟩
  | 40 => ⟨S_, .f32⟩
  | 41 => ⟨S8192x256, .f32⟩
  | 42 => ⟨S8192x256, .f32⟩
  | 43 => ⟨S_, .f32⟩
  | 44 => ⟨S8192x256, .f32⟩
  | 45 => ⟨S8192x256, .f32⟩
  | 46 => ⟨S8192x256, .f32⟩
  | 47 => ⟨S1x256, .f32⟩
  | 48 => ⟨S8192x256, .f32⟩
  | 49 => ⟨S8192x256, .f32⟩
  | 50 => ⟨S_, .f32⟩
  | 51 => ⟨S8192, .f32⟩
  | 52 => ⟨S8192x1, .f32⟩
  | 53 => ⟨S_, .f32⟩
  | 54 => ⟨S8192x1, .f32⟩
  | 55 => ⟨S8192x1, .f32⟩
  | 56 => ⟨S8192x256, .f32⟩
  | 57 => ⟨S8192x256, .f32⟩
  | 58 => ⟨S8192x256, .f32⟩
  | 59 => ⟨S_, .f32⟩
  | 60 => ⟨S8192x256, .f32⟩
  | 61 => ⟨S8192x256, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S8192x256, .f32⟩
  | 69 => ⟨S8192x256, .f32⟩
  | 70 => ⟨S_, .f32⟩
  | 71 => ⟨S8192x1, .f32⟩
  | 72 => ⟨S8192x1, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x256, .f32⟩
  | 79 => ⟨S8192x256, .f32⟩
  | 80 => ⟨S1x256, .f32⟩
  | 81 => ⟨S8192x256, .f32⟩
  | 82 => ⟨S8192x256, .f32⟩
  | 83 => ⟨S1x256, .f32⟩
  | 84 => ⟨S8192x256, .f32⟩
  | 85 => ⟨S8192x256, .f32⟩
  | 86 => ⟨S8192x256, .f32⟩
  | 87 => ⟨S8192x256, .f32⟩
  | 88 => ⟨S_, .f32⟩
  | 89 => ⟨S8192x256, .f32⟩
  | 90 => ⟨S8192x256, .f32⟩
  | 91 => ⟨S_, .f32⟩
  | 92 => ⟨S8192x256, .f32⟩
  | 93 => ⟨S8192x256, .f32⟩
  | 94 => ⟨S_, .f32⟩
  | 95 => ⟨S8192x256, .f32⟩
  | 96 => ⟨S8192x256, .f32⟩
  | 97 => ⟨S8192x256, .f32⟩
  | 98 => ⟨S8192x256, .f32⟩
  | 99 => ⟨S8192x256, .f32⟩
  | 100 => ⟨S8192x256, .f32⟩
  | 101 => ⟨S8192x256, .f32⟩
  | 102 => ⟨S8192x256, .f32⟩
  | 103 => ⟨S8192x256, .f32⟩
  | 104 => ⟨S8192x256, .f32⟩
  | 105 => ⟨S_, .f32⟩
  | 106 => ⟨S256, .f32⟩
  | 107 => ⟨S1x256, .f32⟩
  | 108 => ⟨S_, .f32⟩
  | 109 => ⟨S256, .f32⟩
  | 110 => ⟨S8192x256, .f32⟩
  | 111 => ⟨S_, .f32⟩
  | 112 => ⟨S256, .f32⟩
  | 113 => ⟨S1x256, .f32⟩
  | 114 => ⟨S8192x256, .f32⟩
  | 115 => ⟨S8192x256, .f32⟩
  | 116 => ⟨S_, .f32⟩
  | 117 => ⟨S256, .f32⟩
  | 118 => ⟨S8192x256, .f32⟩
  | 119 => ⟨S_, .f32⟩
  | 120 => ⟨S8192, .f32⟩
  | 121 => ⟨S8192x1, .f32⟩
  | 122 => ⟨S8192x256, .f32⟩
  | 123 => ⟨S8192x256, .f32⟩
  | 124 => ⟨S8192x1, .f32⟩
  | 125 => ⟨S8192x256, .f32⟩
  | 126 => ⟨S_, .f32⟩
  | 127 => ⟨S8192, .f32⟩
  | _ => ⟨S8192x256, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x256, .f32⟩
  | 7 => ⟨S8192x256, .f32⟩
  | 8 => ⟨S8192x256, .f32⟩
  | 9 => ⟨S_, .f32⟩
  | 10 => ⟨S8192, .f32⟩
  | 11 => ⟨S8192x1, .f32⟩
  | 12 => ⟨S8192x256, .f32⟩
  | 13 => ⟨S8192x1, .f32⟩
  | 14 => ⟨S_, .f32⟩
  | 15 => ⟨S8192x1, .f32⟩
  | 16 => ⟨S8192x1, .f32⟩
  | 17 => ⟨S_, .f32⟩
  | 18 => ⟨S8192, .f32⟩
  | 19 => ⟨S8192x256, .f32⟩
  | 20 => ⟨S8192x256, .f32⟩
  | 21 => ⟨S_, .f32⟩
  | 22 => ⟨S256, .f32⟩
  | 23 => ⟨S1x256, .f32⟩
  | 24 => ⟨S_, .f32⟩
  | 25 => ⟨S256, .f32⟩
  | 26 => ⟨S8192x256, .bf16⟩
  | 27 => ⟨S8192x256, .bf16⟩
  | 28 => ⟨S1x256, .f32⟩
  | 29 => ⟨S1x256, .f32⟩
  | 30 => ⟨S1x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_v60_2 : Ref sig .tc := ⟨.hbm, 93, rfl⟩
abbrev main_call1_cst_1 : Ref sig .tc := ⟨.hbm, 94, rfl⟩
abbrev main_call1_v6 : Ref sig .tc := ⟨.hbm, 95, rfl⟩
abbrev main_call1_v7 : Ref sig .tc := ⟨.hbm, 96, rfl⟩
abbrev main_v60_1 : Ref sig .tc := ⟨.hbm, 97, rfl⟩
abbrev main_v60_0 : Ref sig .tc := ⟨.hbm, 98, rfl⟩
abbrev main_v61 : Ref sig .tc := ⟨.hbm, 99, rfl⟩
abbrev main_v62 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_v63 : Ref sig .tc := ⟨.hbm, 104, rfl⟩
abbrev main_cst_11 : Ref sig .tc := ⟨.hbm, 105, rfl⟩
abbrev main_v64 : Ref sig .tc := ⟨.hbm, 106, rfl⟩
abbrev main_v65 : Ref sig .tc := ⟨.hbm, 107, rfl⟩
abbrev main_cst_12 : Ref sig .tc := ⟨.hbm, 108, rfl⟩
abbrev main_v66 : Ref sig .tc := ⟨.hbm, 109, rfl⟩
abbrev main_v67 : Ref sig .tc := ⟨.hbm, 110, rfl⟩
abbrev main_cst_13 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_14 : Ref sig .tc := ⟨.hbm, 116, rfl⟩
abbrev main_v72 : Ref sig .tc := ⟨.hbm, 117, rfl⟩
abbrev main_v73 : Ref sig .tc := ⟨.hbm, 118, rfl⟩
abbrev main_cst_15 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_16 : Ref sig .tc := ⟨.hbm, 126, rfl⟩
abbrev main_v80 : Ref sig .tc := ⟨.hbm, 127, rfl⟩
abbrev main_v81 : Ref sig .tc := ⟨.hbm, 128, rfl⟩
abbrev main_cst_17 : Ref sig .tc := ⟨.hbm, 129, rfl⟩
abbrev main_v82 : Ref sig .tc := ⟨.hbm, 130, rfl⟩
abbrev main_v83 : Ref sig .tc := ⟨.hbm, 131, rfl⟩
abbrev main_cst_18 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_19 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_20 : Ref sig .tc := ⟨.hbm, 142, rfl⟩
abbrev main_v92 : Ref sig .tc := ⟨.hbm, 143, rfl⟩
abbrev main_v93 : Ref sig .tc := ⟨.hbm, 144, rfl⟩
abbrev main_cst_21 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_cst_22 : Ref sig .tc := ⟨.hbm, 149, rfl⟩
abbrev main_v97 : Ref sig .tc := ⟨.hbm, 150, rfl⟩
abbrev main_v98 : Ref sig .tc := ⟨.hbm, 151, rfl⟩
abbrev main_cst_23 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩

abbrev nD : Nat := 1
abbrev τ : Topo := Topo.v7x

variable {F : FTy → Type} [FloatOps F]
-- ==== Flash.lean ====
abbrev S8192x4x192 : Shape := ⟨3, ![8192, 4, 192]⟩
abbrev S8192x4x128 : Shape := ⟨3, ![8192, 4, 128]⟩
abbrev S_ : Shape := ⟨0, ![]⟩
abbrev S8192x4x256 : Shape := ⟨3, ![8192, 4, 256]⟩
abbrev S8192x1024 : Shape := ⟨2, ![8192, 1024]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S8192x4 : Shape := ⟨2, ![8192, 4]⟩
abbrev S8192x4x1 : Shape := ⟨3, ![8192, 4, 1]⟩
abbrev S8192x4x2 : Shape := ⟨3, ![8192, 4, 2]⟩
abbrev S8192x8 : Shape := ⟨2, ![8192, 8]⟩
abbrev S8192x128 : Shape := ⟨2, ![8192, 128]⟩
abbrev S8192x512 : Shape := ⟨2, ![8192, 512]⟩
abbrev S8192x256 : Shape := ⟨2, ![8192, 256]⟩
abbrev S1024x256 : Shape := ⟨2, ![1024, 256]⟩
abbrev S1024x128 : Shape := ⟨2, ![1024, 128]⟩
abbrev S2x512x256 : Shape := ⟨3, ![2, 512, 256]⟩
abbrev S2x512x128 : Shape := ⟨3, ![2, 512, 128]⟩
abbrev S1x128 : Shape := ⟨2, ![1, 128]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S1x512x128 : Shape := ⟨3, ![1, 512, 128]⟩
abbrev S1x512x256 : Shape := ⟨3, ![1, 512, 256]⟩

abbrev nBuf : Space → Nat
  | .hbm => 64
  | .vmem => 17
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S_, .i32⟩
  | .hbm, ⟨5, _⟩ => ⟨S_, .f32⟩
  | .hbm, ⟨6, _⟩ => ⟨S8192x4x256, .f32⟩
  | .hbm, ⟨7, _⟩ => ⟨S8192x1024, .f32⟩
  | .hbm, ⟨8, _⟩ => ⟨S8192x1024, .bf16⟩
  | .hbm, ⟨9, _⟩ => ⟨S_, .i32⟩
  | .hbm, ⟨10, _⟩ => ⟨S_, .f32⟩
  | .hbm, ⟨11, _⟩ => ⟨S8192x4x256, .f32⟩
  | .hbm, ⟨12, _⟩ => ⟨S8192x1024, .f32⟩
  | .hbm, ⟨13, _⟩ => ⟨S8192x1024, .bf16⟩
  | .hbm, ⟨14, _⟩ => ⟨S4x8192x8192, .f32⟩
  | .hbm, ⟨15, _⟩ => ⟨S_, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S8192, .i32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S4x8192x8192, .i1⟩
  | .hbm, ⟨28, _⟩ => ⟨S4x8192x8192, .f32⟩
  | .hbm, ⟨29, _⟩ => ⟨S4x8192x8192, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S4x8192x8192, .f32⟩
  | .hbm, ⟨34, _⟩ => ⟨S4x8192x8192, .f32⟩
  | .hbm, ⟨35, _⟩ => ⟨S4x8192x8192, .f32⟩
  | .hbm, ⟨36, _⟩ => ⟨S_, .f32⟩
  | .hbm, ⟨37, _⟩ => ⟨S4x8192, .f32⟩
  | .hbm, ⟨38, _⟩ => ⟨S4x8192x1, .f32⟩
  | .hbm, ⟨39, _⟩ => ⟨S4x8192x1, .f32⟩
  | .hbm, ⟨40, _⟩ => ⟨S4x8192x1, .f32⟩
  | .hbm, ⟨41, _⟩ => ⟨S4x8192, .f32⟩
  | .hbm, ⟨42, _⟩ => ⟨S4x8192x8192, .f32⟩
  | .hbm, ⟨43, _⟩ => ⟨S4x8192x8192, .f32⟩
  | .hbm, ⟨44, _⟩ => ⟨S4x128x8192, .f32⟩
  | .hbm, ⟨45, _⟩ => ⟨S8192x4x128, .f32⟩
  | .hbm, ⟨46, _⟩ => ⟨S8192x4x128, .f32⟩
  | .hbm, ⟨47, _⟩ => ⟨S_, .f32⟩
  | .hbm, ⟨48, _⟩ => ⟨S8192x4, .f32⟩
  | .hbm, ⟨49, _⟩ => ⟨S8192x4, .f32⟩
  | .hbm, ⟨50, _⟩ => ⟨S8192x4x1, .f32⟩
  | .hbm, ⟨51, _⟩ => ⟨S8192x4x1, .f32⟩
  | .hbm, ⟨52, _⟩ => ⟨S8192x4x2, .f32⟩
  | .hbm, ⟨53, _⟩ => ⟨S8192x8, .f32⟩
  | .hbm, ⟨54, _⟩ => ⟨S_, .i32⟩
  | .hbm, ⟨55, _⟩ => ⟨S_, .f32⟩
  | .hbm, ⟨56, _⟩ => ⟨S8192x128, .f32⟩
  | .hbm, ⟨57, _⟩ => ⟨S8192x512, .f32⟩
  | .hbm, ⟨58, _⟩ => ⟨S8192x512, .bf16⟩
  | .hbm, ⟨59, _⟩ => ⟨S8192x512, .f32⟩
  | .hbm, ⟨60, _⟩ => ⟨S8192x512, .bf16⟩
  | .hbm, ⟨61, _⟩ => ⟨S8192x1024, .f32⟩
  | .hbm, ⟨62, _⟩ => ⟨S8192x1024, .f32⟩
  | .hbm, ⟨63, _⟩ => ⟨S8192x512, .f32⟩
  | .local _ .vmem, ⟨0, _⟩ => ⟨S8192x256, .bf16⟩
  | .local _ .vmem, ⟨1, _⟩ => ⟨S8192x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .f32⟩
  | .local _ .vmem, ⟨5, _⟩ => ⟨S1024x256, .bf16⟩
  | .local _ .vmem, ⟨6, _⟩ => ⟨S1024x256, .bf16⟩
  | .local _ .vmem, ⟨7, _⟩ => ⟨S1024x128, .bf16⟩
  | .local _ .vmem, ⟨8, _⟩ => ⟨S1024x128, .bf16⟩
  | .local _ .vmem, ⟨9, _⟩ => ⟨S8192x256, .f32⟩
  | .local _ .vmem, ⟨10, _⟩ => ⟨S8192x256, .f32⟩
  | .local _ .vmem, ⟨11, _⟩ => ⟨S1024x256, .f32⟩
  | .local _ .vmem, ⟨12, _⟩ => ⟨S1024x256, .f32⟩
  | .local _ .vmem, ⟨13, _⟩ => ⟨S1024x128, .f32⟩
  | .local _ .vmem, ⟨14, _⟩ => ⟨S1024x128, .f32⟩
  | .local _ .vmem, ⟨15, _⟩ => ⟨S2x512x256, .f32⟩
  | .local _ .vmem, ⟨16, _⟩ => ⟨S2x512x128, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_call3_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43_0 : Ref sig .tc := ⟨.hbm, 61, rfl⟩
abbrev main_v43_1 : Ref sig .tc := ⟨.hbm, 62, rfl⟩
abbrev main_v43_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c2_i32 : BitVec 32 := 2#32
  let arg1 : BitVec 32 := BitVec.ofNat 32 (i 1).val
  let v12 : BitVec 32 := Scalar.muli c2_i32 arg1
  let c512_i32 : BitVec 32 := 512#32
  let v13 : BitVec 32 := Scalar.muli v12 c512_i32
  v13
def k0_off1 (i : grid0.Coords) : Fin 2 → Nat :=
  let c2_i32 : BitVec 32 := 2#32
  let arg1 : BitVec 32 := BitVec.ofNat 32 (i 1).val
  let v12 : BitVec 32 := Scalar.muli c2_i32 arg1
  let c512_i32 : BitVec 32 := 512#32
  let v13 : BitVec 32 := Scalar.muli v12 c512_i32
  let v14 : BitVec 32 := v13
  let v15 : Index := Scalar.indexCast v14
  let c0_7 : Index := 0#32
  ![v15.toNat, 0]
def k0_off2 (i : grid0.Coords) : Fin 2 → Nat :=
  let c2_i32 : BitVec 32 := 2#32
  let arg1 : BitVec 32 := BitVec.ofNat 32 (i 1).val
  let v12 : BitVec 32 := Scalar.muli c2_i32 arg1
  let c512_i32 : BitVec 32 := 512#32
  let v13 : BitVec 32 := Scalar.muli v12 c512_i32
  let v14 : BitVec 32 := v13
  let v18 : Index := Scalar.indexCast v14
  let c0_8 : Index := 0#32
  ![v18.toNat, 0]
def k0_mult2 (i : grid0.Coords) : BitVec 32 :=
  let c2_i32_43 : BitVec 32 := 2#32
  let arg1 : BitVec 32 := BitVec.ofNat 32 (i 1).val
  let v89 : BitVec 32 := Scalar.muli c2_i32_43 arg1
  let c1_i32_44 : BitVec 32 := 1#32
  let v90 : BitVec 32 := Scalar.addi v89 c1_i32_44
  let c512_i32_45 : BitVec 32 := 512#32
  let v91 : BitVec 32 := Scalar.muli v90 c512_i32_45
  v91
def k0_off3 (i : grid0.Coords) : Fin 2 → Nat :=
  let c2_i32_43 : BitVec 32 := 2#32
  let arg1 : BitVec 32 := BitVec.ofNat 32 (i 1).val
  let v89 : BitVec 32 := Scalar.muli c2_i32_43 arg1
  let c1_i32_44 : BitVec 32 := 1#32
  let v90 : BitVec 32 := Scalar.addi v89 c1_i32_44
  let c512_i32_45 : BitVec 32 := 512#32
  let v91 : BitVec 32 := Scalar.muli v90 c512_i32_45
  let v92 : BitVec 32 := v91
  let v93 : Index := Scalar.indexCast v92
  let c0_46 : Index := 0#32
  ![v93.toNat, 0]
def k0_off4 (i : grid0.Coords) : Fin 2 → Nat :=
  let c2_i32_43 : BitVec 32 := 2#32
  let arg1 : BitVec 32 := BitVec.ofNat 32 (i 1).val
  let v89 : BitVec 32 := Scalar.muli c2_i32_43 arg1
  let c1_i32_44 : BitVec 32 := 1#32
  let v90 : BitVec 32 := Scalar.addi v89 c1_i32_44
  let c512_i32_45 : BitVec 32 := 512#32
  let v91 : BitVec 32 := Scalar.muli v90 c512_i32_45
  let v92 : BitVec 32 := v91
  let v96 : Index := Scalar.indexCast v92
  let c0_47 : Index := 0#32
  ![v96.toNat, 0]
@[reducible] def k0_t1_loop (i : grid0.Coords) : Scf.Loop 32 :=
  let c0_i32_113 : BitVec 32 := 0#32
  let c8_i32 : BitVec 32 := 8#32
  let arg1 : BitVec 32 := BitVec.ofNat 32 (i 1).val
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_115 : BitVec 32 := 1#32
  ⟨c0_i32_113, v224, c1_i32_115⟩
def k0_mult3 (i : grid0.Coords) (k0_t1 : Fin (k0_t1_loop i).trips) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let c512_i32_147 : BitVec 32 := 512#32
  let v254 : BitVec 32 := Scalar.muli v253 c512_i32_147
  v254
def k0_off5 (i : grid0.Coords) (k0_t1 : Fin (k0_t1_loop i).trips) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let c512_i32_147 : BitVec 32 := 512#32
  let v254 : BitVec 32 := Scalar.muli v253 c512_i32_147
  let v255 : BitVec 32 := v254
  let v256 : Index := Scalar.indexCast v255
  let c0_148 : Index := 0#32
  ![v256.toNat, 0]
def k0_off6 (i : grid0.Coords) (k0_t1 : Fin (k0_t1_loop i).trips) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let c512_i32_147 : BitVec 32 := 512#32
  let v254 : BitVec 32 := Scalar.muli v253 c512_i32_147
  let v255 : BitVec 32 := v254
  let v259 : Index := Scalar.indexCast v255
  let c0_149 : Index := 0#32
  ![v259.toNat, 0]
def k0_mult4 (i : grid0.Coords) (k0_t1 : Fin (k0_t1_loop i).trips) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let c1_i32_207 : BitVec 32 := 1#32
  let v359 : BitVec 32 := Scalar.addi v253 c1_i32_207
  let c512_i32_208 : BitVec 32 := 512#32
  let v360 : BitVec 32 := Scalar.muli v359 c512_i32_208
  v360
def k0_off7 (i : grid0.Coords) (k0_t1 : Fin (k0_t1_loop i).trips) (c1_i32_207 : BitVec 32) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let v359 : BitVec 32 := Scalar.addi v253 c1_i32_207
  let c512_i32_208 : BitVec 32 := 512#32
  let v360 : BitVec 32 := Scalar.muli v359 c512_i32_208
  let v361 : BitVec 32 := v360
  let v362 : Index := Scalar.indexCast v361
  let c0_209 : Index := 0#32
  ![v362.toNat, 0]
def k0_off8 (i : grid0.Coords) (k0_t1 : Fin (k0_t1_loop i).trips) (c1_i32_207 : BitVec 32) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c1_i32_115 : BitVec 32 := 1#32
  let arg12 : BitVec 32 := Scf.iv c0_i32_113 c1_i32_115 k0_t1
  let v252 : BitVec 32 := Scalar.muli c4_i32 arg12
  let v253 : BitVec 32 := Scalar.addi v251 v252
  let v359 : BitVec 32 := Scalar.addi v253 c1_i32_207
  let c512_i32_208 : BitVec 32 := 512#32
  let v360 : BitVec 32 := Scalar.muli v359 c512_i32_208
  let v361 : BitVec 32 := v360
  let v365 : Index := Scalar.indexCast v361
  let c0_210 : Index := 0#32
  ![v365.toNat, 0]
def k0_mult5 (i : grid0.Coords) (k0_t1 : Fin (k0_t1_loop i).trips) : BitVec 32 :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c1_i32_115 : BitVec 32 := 1#32
  let arg12 : BitVec 32 := Scf.iv c0_i32_113 c1_i32_115 k0_t1
  let v467 : BitVec 32 := Scalar.muli c4_i32_270 arg12
  let v468 : BitVec 32 := Scalar.addi v466 v467
  let c2_i32_271 : BitVec 32 := 2#32
  let v469 : BitVec 32 := Scalar.addi v468 c2_i32_271
  let c512_i32_272 : BitVec 32 := 512#32
  let v470 : BitVec 32 := Scalar.muli v469 c512_i32_272
  v470
def k0_mult6 (i : grid0.Coords) (k0_t1 : Fin (k0_t1_loop i).trips) : BitVec 32 :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c1_i32_115 : BitVec 32 := 1#32
  let arg12 : BitVec 32 := Scf.iv c0_i32_113 c1_i32_115 k0_t1
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  v576
def k0_off9 (i : grid0.Coords) (k0_t1 : Fin (k0_t1_loop i).trips) : Fin 2 → Nat :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c1_i32_115 : BitVec 32 := 1#32
  let arg12 : BitVec 32 := Scf.iv c0_i32_113 c1_i32_115 k0_t1
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  let v577 : BitVec 32 := v576
  let v578 : Index := Scalar.indexCast v577
  let c0_334 : Index := 0#32
  ![v578.toNat, 0]
def k0_off10 (i : grid0.Coords) (k0_t1 : Fin (k0_t1_loop i).trips) : Fin 2 → Nat :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c1_i32_115 : BitVec 32 := 1#32
  let arg12 : BitVec 32 := Scf.iv c0_i32_113 c1_i32_115 k0_t1
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  let v577 : BitVec 32 := v576
  let v581 : Index := Scalar.indexCast v577
  let c0_335 : Index := 0#32
  ![v581.toNat, 0]
@[reducible] def k0_t2_loop (i : grid0.Coords) : Scf.Loop 32 :=
  let c0_i32_113 : BitVec 32 := 0#32
  let c8_i32 : BitVec 32 := 8#32
  let arg1 : BitVec 32 := BitVec.ofNat 32 (i 1).val
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let v221 : BitVec 32 := Scalar.addi c0_i32_113 v220
  let c1_i32_116 : BitVec 32 := 1#32
  ⟨v224, v221, c1_i32_116⟩
def k0_mult7 (i : grid0.Coords) (k0_t2 : Fin (k0_t2_loop i).trips) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let c512_i32_147 : BitVec 32 := 512#32
  let v254 : BitVec 32 := Scalar.muli v253 c512_i32_147
  v254
def k0_off11 (i : grid0.Coords) (k0_t2 : Fin (k0_t2_loop i).trips) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let c512_i32_147 : BitVec 32 := 512#32
  let v254 : BitVec 32 := Scalar.muli v253 c512_i32_147
  let v255 : BitVec 32 := v254
  let v256 : Index := Scalar.indexCast v255
  let c0_148 : Index := 0#32
  ![v256.toNat, 0]
def k0_off12 (i : grid0.Coords) (k0_t2 : Fin (k0_t2_loop i).trips) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let c512_i32_147 : BitVec 32 := 512#32
  let v254 : BitVec 32 := Scalar.muli v253 c512_i32_147
  let v255 : BitVec 32 := v254
  let v259 : Index := Scalar.indexCast v255
  let c0_149 : Index := 0#32
  ![v259.toNat, 0]
def k0_mult8 (i : grid0.Coords) (k0_t2 : Fin (k0_t2_loop i).trips) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let c1_i32_207 : BitVec 32 := 1#32
  let v359 : BitVec 32 := Scalar.addi v253 c1_i32_207
  let c512_i32_208 : BitVec 32 := 512#32
  let v360 : BitVec 32 := Scalar.muli v359 c512_i32_208
  v360
def k0_off13 (i : grid0.Coords) (k0_t2 : Fin (k0_t2_loop i).trips) (c1_i32_207 : BitVec 32) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let v359 : BitVec 32 := Scalar.addi v253 c1_i32_207
  let c512_i32_208 : BitVec 32 := 512#32
  let v360 : BitVec 32 := Scalar.muli v359 c512_i32_208
  let v361 : BitVec 32 := v360
  let v362 : Index := Scalar.indexCast v361
  let c0_209 : Index := 0#32
  ![v362.toNat, 0]
def k0_off14 (i : grid0.Coords) (k0_t2 : Fin (k0_t2_loop i).trips) (c1_i32_207 : BitVec 32) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v252 : BitVec 32 := Scalar.muli c4_i32 arg12
  let v253 : BitVec 32 := Scalar.addi v251 v252
  let v359 : BitVec 32 := Scalar.addi v253 c1_i32_207
  let c512_i32_208 : BitVec 32 := 512#32
  let v360 : BitVec 32 := Scalar.muli v359 c512_i32_208
  let v361 : BitVec 32 := v360
  let v365 : Index := Scalar.indexCast v361
  let c0_210 : Index := 0#32
  ![v365.toNat, 0]
def k0_mult9 (i : grid0.Coords) (k0_t2 : Fin (k0_t2_loop i).trips) : BitVec 32 :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v467 : BitVec 32 := Scalar.muli c4_i32_270 arg12
  let v468 : BitVec 32 := Scalar.addi v466 v467
  let c2_i32_271 : BitVec 32 := 2#32
  let v469 : BitVec 32 := Scalar.addi v468 c2_i32_271
  let c512_i32_272 : BitVec 32 := 512#32
  let v470 : BitVec 32 := Scalar.muli v469 c512_i32_272
  v470
def k0_mult10 (i : grid0.Coords) (k0_t2 : Fin (k0_t2_loop i).trips) : BitVec 32 :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  v576
def k0_off15 (i : grid0.Coords) (k0_t2 : Fin (k0_t2_loop i).trips) : Fin 2 → Nat :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  let v577 : BitVec 32 := v576
  let v578 : Index := Scalar.indexCast v577
  let c0_334 : Index := 0#32
  ![v578.toNat, 0]
def k0_off16 (i : grid0.Coords) (k0_t2 : Fin (k0_t2_loop i).trips) : Fin 2 → Nat :=
  let c2_i32_269 : BitVec 32 := 2#32
  let arg1 : BitVec 32 := BitVec.ofNat 32 (i 1).val
  let c1_i32_268 : BitVec 32 := 1#32
  let v465 : BitVec 32 := Scalar.addi arg1 c1_i32_268
  let v466 : BitVec 32 := Scalar.muli c2_i32_269 v465
  let c4_i32_270 : BitVec 32 := 4#32
  let c0_i32_113 : BitVec 32 := 0#32
  let c8_i32 : BitVec 32 := 8#32
  let v201 : BitVec 32 := Scalar.subi c8_i32 arg1
  let c1_i32_104 : BitVec 32 := 1#32
  let v202 : BitVec 32 := Scalar.subi v201 c1_i32_104
  let c0_i32_106 : BitVec 32 := 0#32
  let v204 : BitVec 1 := Scalar.cmpi .sgt v202 c0_i32_106
  let v205 : BitVec 32 := Scalar.extui v204
  let c0_i32_107 : BitVec 32 := 0#32
  let v206 : BitVec 1 := Scalar.cmpi .slt v202 c0_i32_107
  let v207 : BitVec 32 := Scalar.extui v206
  let v208 : BitVec 32 := Scalar.subi v205 v207
  let c2_i32_105 : BitVec 32 := 2#32
  let c0_i32_108 : BitVec 32 := 0#32
  let v209 : BitVec 1 := Scalar.cmpi .sgt c2_i32_105 c0_i32_108
  let v210 : BitVec 32 := Scalar.extui v209
  let c0_i32_109 : BitVec 32 := 0#32
  let v211 : BitVec 1 := Scalar.cmpi .slt c2_i32_105 c0_i32_109
  let v212 : BitVec 32 := Scalar.extui v211
  let v213 : BitVec 32 := Scalar.subi v210 v212
  let v214 : BitVec 1 := Scalar.cmpi .ne v208 v213
  let v215 : BitVec 32 := Scalar.remsi v202 c2_i32_105
  let c0_i32_110 : BitVec 32 := 0#32
  let v216 : BitVec 1 := Scalar.cmpi .ne v215 c0_i32_110
  let v217 : BitVec 1 := Scalar.andi v214 v216
  let v203 : BitVec 32 := Scalar.divsi v202 c2_i32_105
  let c1_i32_111 : BitVec 32 := 1#32
  let v218 : BitVec 32 := Scalar.subi v203 c1_i32_111
  let v219 : BitVec 32 := Scalar.select v217 v218 v203
  let v220 : BitVec 32 := Scalar.subi v219 c0_i32_113
  let c1_i32_114 : BitVec 32 := 1#32
  let v222 : BitVec 32 := Scalar.divsi v220 c1_i32_114
  let v223 : BitVec 32 := Scalar.muli v222 c1_i32_114
  let v224 : BitVec 32 := Scalar.addi c0_i32_113 v223
  let c1_i32_116 : BitVec 32 := 1#32
  let arg12 : BitVec 32 := Scf.iv v224 c1_i32_116 k0_t2
  let v467 : BitVec 32 := Scalar.muli c4_i32_270 arg12
  let v468 : BitVec 32 := Scalar.addi v466 v467
  let c2_i32_271 : BitVec 32 := 2#32
  let v469 : BitVec 32 := Scalar.addi v468 c2_i32_271
  let c1_i32_332 : BitVec 32 := 1#32
  let v575 : BitVec 32 := Scalar.addi v469 c1_i32_332
  let c512_i32_333 : BitVec 32 := 512#32
  let v576 : BitVec 32 := Scalar.muli v575 c512_i32_333
  let v577 : BitVec 32 := v576
  let v581 : Index := Scalar.indexCast v577
  let c0_335 : Index := 0#32
  ![v581.toNat, 0]
def k0_cond2 (i : grid0.Coords) : BitVec 1 :=
  let c8_i32 : BitVec 32 := 8#32
  let arg1 : BitVec 32 := BitVec.ofNat 32 (i 1).val
  let v201 : BitVec 32 := Scalar.subi c8_i32 arg1
  let c1_i32_104 : BitVec 32 := 1#32
  let v202 : BitVec 32 := Scalar.subi v201 c1_i32_104
  let c2_i32_117 : BitVec 32 := 2#32
  let c0_i32_118 : BitVec 32 := 0#32
  let v225 : BitVec 1 := Scalar.cmpi .eq c2_i32_117 c0_i32_118
  let c1_i32_119 : BitVec 32 := 1#32
  let v226 : BitVec 32 := Scalar.select v225 c1_i32_119 c2_i32_117
  let v227 : BitVec 32 := Scalar.remsi v202 v226
  let c0_i32_121 : BitVec 32 := 0#32
  let v229 : BitVec 1 := Scalar.cmpi .slt v227 c0_i32_121
  let c0_i32_122 : BitVec 32 := 0#32
  let v230 : BitVec 1 := Scalar.cmpi .slt v226 c0_i32_122
  let v231 : BitVec 1 := Scalar.xori v229 v230
  let c0_i32_120 : BitVec 32 := 0#32
  let v228 : BitVec 1 := Scalar.cmpi .ne v227 c0_i32_120
  let v232 : BitVec 1 := Scalar.andi v231 v228
  let v233 : BitVec 32 := Scalar.addi v227 v226
  let v234 : BitVec 32 := Scalar.select v232 v233 v227
  let c1_i32_123 : BitVec 32 := 1#32
  let v235 : BitVec 1 := Scalar.cmpi .eq v234 c1_i32_123
  let v236 : BitVec 32 := Scalar.extui v235
  let c0_i32_124 : BitVec 32 := 0#32
  let v237 : BitVec 1 := Scalar.cmpi .ne v236 c0_i32_124
  v237

def k0_mult11 (i : grid0.Coords) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c512_i32_154 : BitVec 32 := 512#32
  let v271 : BitVec 32 := Scalar.muli v270 c512_i32_154
  v271
def k0_off17 (i : grid0.Coords) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c512_i32_154 : BitVec 32 := 512#32
  let v271 : BitVec 32 := Scalar.muli v270 c512_i32_154
  let v272 : BitVec 32 := v271
  let v273 : Index := Scalar.indexCast v272
  let c0_155 : Index := 0#32
  ![v273.toNat, 0]
def k0_off18 (i : grid0.Coords) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c512_i32_154 : BitVec 32 := 512#32
  let v271 : BitVec 32 := Scalar.muli v270 c512_i32_154
  let v272 : BitVec 32 := v271
  let v276 : Index := Scalar.indexCast v272
  let c0_156 : Index := 0#32
  ![v276.toNat, 0]
def k0_mult12 (i : grid0.Coords) : BitVec 32 :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c1_i32_214 : BitVec 32 := 1#32
  let v376 : BitVec 32 := Scalar.addi v270 c1_i32_214
  let c512_i32_215 : BitVec 32 := 512#32
  let v377 : BitVec 32 := Scalar.muli v376 c512_i32_215
  v377
def k0_off19 (i : grid0.Coords) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c1_i32_214 : BitVec 32 := 1#32
  let v376 : BitVec 32 := Scalar.addi v270 c1_i32_214
  let c512_i32_215 : BitVec 32 := 512#32
  let v377 : BitVec 32 := Scalar.muli v376 c512_i32_215
  let v378 : BitVec 32 := v377
  let v379 : Index := Scalar.indexCast v378
  let c0_216 : Index := 0#32
  ![v379.toNat, 0]
def k0_off20 (i : grid0.Coords) : Fin 2 → Nat :=
  let c2_i32_146 : BitVec 32 := 2#32
  let arg1 : BitVec 32 := BitVec.ofNat 32 (i 1).val
  let c1_i32_145 : BitVec 32 := 1#32
  let v250 : BitVec 32 := Scalar.addi arg1 c1_i32_145
  let v251 : BitVec 32 := Scalar.muli c2_i32_146 v250
  let c4_i32 : BitVec 32 := 4#32
  let c8_i32 : BitVec 32 := 8#32
  let v201 : BitVec 32 := Scalar.subi c8_i32 arg1
  let c1_i32_104 : BitVec 32 := 1#32
  let v202 : BitVec 32 := Scalar.subi v201 c1_i32_104
  let c0_i32_148 : BitVec 32 := 0#32
  let v253 : BitVec 1 := Scalar.cmpi .sgt v202 c0_i32_148
  let v254 : BitVec 32 := Scalar.extui v253
  let c0_i32_149 : BitVec 32 := 0#32
  let v255 : BitVec 1 := Scalar.cmpi .slt v202 c0_i32_149
  let v256 : BitVec 32 := Scalar.extui v255
  let v257 : BitVec 32 := Scalar.subi v254 v256
  let c2_i32_147 : BitVec 32 := 2#32
  let c0_i32_150 : BitVec 32 := 0#32
  let v258 : BitVec 1 := Scalar.cmpi .sgt c2_i32_147 c0_i32_150
  let v259 : BitVec 32 := Scalar.extui v258
  let c0_i32_151 : BitVec 32 := 0#32
  let v260 : BitVec 1 := Scalar.cmpi .slt c2_i32_147 c0_i32_151
  let v261 : BitVec 32 := Scalar.extui v260
  let v262 : BitVec 32 := Scalar.subi v259 v261
  let v263 : BitVec 1 := Scalar.cmpi .ne v257 v262
  let v264 : BitVec 32 := Scalar.remsi v202 c2_i32_147
  let c0_i32_152 : BitVec 32 := 0#32
  let v265 : BitVec 1 := Scalar.cmpi .ne v264 c0_i32_152
  let v266 : BitVec 1 := Scalar.andi v263 v265
  let v252 : BitVec 32 := Scalar.divsi v202 c2_i32_147
  let c1_i32_153 : BitVec 32 := 1#32
  let v267 : BitVec 32 := Scalar.subi v252 c1_i32_153
  let v268 : BitVec 32 := Scalar.select v266 v267 v252
  let v269 : BitVec 32 := Scalar.muli c4_i32 v268
  let v270 : BitVec 32 := Scalar.addi v251 v269
  let c1_i32_214 : BitVec 32 := 1#32
  let v376 : BitVec 32 := Scalar.addi v270 c1_i32_214
  let c512_i32_215 : BitVec 32 := 512#32
  let v377 : BitVec 32 := Scalar.muli v376 c512_i32_215
  let v378 : BitVec 32 := v377
  let v382 : Index := Scalar.indexCast v378
  let c0_217 : Index := 0#32
  ![v382.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8192x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FlashIdeal.lean ====
variable {F : FTy → Type} [FloatOps F] [Named F]
def κ : String → Option EReal := fun
  | "att_scale" => some (((Real.sqrt 192)⁻¹ : ℝ) : EReal)
  | "exp2_scale" => some (((Real.sqrt 192)⁻¹ * (Real.log 2)⁻¹ : ℝ) : EReal)
  | "log2e" => some (((Real.log 2)⁻¹ : ℝ) : EReal)
  | _ => none
-- ==== FlashRefIdeal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x8192x192 : Shape := ⟨3, ![4, 8192, 192]⟩
abbrev S8192x4x256 : Shape := ⟨3, ![8192, 4, 256]⟩
abbrev S8192x1024 : Shape := ⟨2, ![8192, 1024]⟩
abbrev S8192x512 : Shape := ⟨2, ![8192, 512]⟩

abbrev nBuf : Space → Nat
  | .hbm => 98
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S4x8192x8192, .f32⟩
  | .hbm, ⟨5, _⟩ => ⟨S_, .f32⟩
  | .hbm, ⟨6, _⟩ => ⟨S_, .f32⟩
  | .hbm, ⟨7, _⟩ => ⟨S4x8192x8192, .f32⟩
  | .hbm, ⟨8, _⟩ => ⟨S4x8192x8192, .f32⟩
  | .hbm, ⟨9, _⟩ => ⟨S8192, .i32⟩
  | .hbm, ⟨10, _⟩ => ⟨S1x8192, .i32⟩
  | .hbm, ⟨11, _⟩ => ⟨S8192x1, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S4x8192x8192, .i1⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x8192, .f32⟩
  | .hbm, ⟨26, _⟩ => ⟨S4x8192x8192, .i1⟩
  | .hbm, ⟨27, _⟩ => ⟨S4x8192x8192, .f32⟩
  | .hbm, ⟨28, _⟩ => ⟨S_, .f32⟩
  | .hbm, ⟨29, _⟩ => ⟨S4x8192, .f32⟩
  | .hbm, ⟨30, _⟩ => ⟨S_, .f32⟩
  | .hbm, ⟨31, _⟩ => ⟨S4x8192, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .i1⟩
  | .hbm, ⟨36, _⟩ => ⟨S_, .f32⟩
  | .hbm, ⟨37, _⟩ => ⟨S4x8192, .f32⟩
  | .hbm, ⟨38, _⟩ => ⟨S4x8192, .i1⟩
  | .hbm, ⟨39, _⟩ => ⟨S_, .f32⟩
  | .hbm, ⟨40, _⟩ => ⟨S4x8192, .f32⟩
  | .hbm, ⟨41, _⟩ => ⟨S_, .f32⟩
  | .hbm, ⟨42, _⟩ => ⟨S4x8192, .f32⟩
  | .hbm, ⟨43, _⟩ => ⟨S_, .f32⟩
  | .hbm, ⟨44, _⟩ => ⟨S4x8192, .f32⟩
  | .hbm, ⟨45, _⟩ => ⟨S4x8192, .f32⟩
  | .hbm, ⟨46, _⟩ => ⟨S4x8192, .f32⟩
  | .hbm, ⟨47, _⟩ => ⟨S4x8192x1, .f32⟩
  | .hbm, ⟨48, _⟩ => ⟨S4x8192x8192, .f32⟩
  | .hbm, ⟨49, _⟩ => ⟨S4x8192x8192, .f32⟩
  | .hbm, ⟨50, _⟩ => ⟨S4x8192x8192, .f32⟩
  | .hbm, ⟨51, _⟩ => ⟨S_, .f32⟩
  | .hbm, ⟨52, _⟩ => ⟨S4x8192, .f32⟩
  | .hbm, ⟨53, _⟩ => ⟨S4x8192x1, .f32⟩
  | .hbm, ⟨54, _⟩ => ⟨S4x8192x8192, .f32⟩
  | .hbm, ⟨55, _⟩ => ⟨S4x8192x8192, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S4x128x8192, .f32⟩
  | .hbm, ⟨61, _⟩ => ⟨S8192x4x128, .f32⟩
  | .hbm, ⟨62, _⟩ => ⟨S4x128x8192, .f32⟩
  | .hbm, ⟨63, _⟩ => ⟨S4x8192x8192, .f32⟩
  | .hbm, ⟨64, _⟩ => ⟨S4x128x8192, .f32⟩
  | .hbm, ⟨65, _⟩ => ⟨S8192x4x128, .f32⟩
  | .hbm, ⟨66, _⟩ => ⟨S4x8192x8192, .f32⟩
  | .hbm, ⟨67, _⟩ => ⟨S4x8192x8192, .f32⟩
  | .hbm, ⟨68, _⟩ => ⟨S4x8192x8192, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S4x8192x1, .f32⟩
  | .hbm, ⟨73, _⟩ => ⟨S4x8192x8192, .f32⟩
  | .hbm, ⟨74, _⟩ => ⟨S4x8192x8192, .f32⟩
  | .hbm, ⟨75, _⟩ => ⟨S_, .f32⟩
  | .hbm, ⟨76, _⟩ => ⟨S4x8192, .f32⟩
  | .hbm, ⟨77, _⟩ => ⟨S4x8192x8192, .f32⟩
  | .hbm, ⟨78, _⟩ => ⟨S4x8192x8192, .f32⟩
  | .hbm, ⟨79, _⟩ => ⟨S4x8192x8192, .f32⟩
  | .hbm, ⟨80, _⟩ => ⟨S_, .f32⟩
  | .hbm, ⟨81, _⟩ => ⟨S4x8192x8192, .f32⟩
  | .hbm, ⟨82, _⟩ => ⟨S4x8192x8192, .f32⟩
  | .hbm, ⟨83, _⟩ => ⟨S4x8192x8192, .f32⟩
  | .hbm, ⟨84, _⟩ => ⟨S4x8192x8192, .f32⟩
  | .hbm, ⟨85, _⟩ => ⟨S4x8192x192, .f32⟩
  | .hbm, ⟨86, _⟩ => ⟨S8192x4x192, .f32⟩
  | .hbm, ⟨87, _⟩ => ⟨S4x8192x192, .f32⟩
  | .hbm, ⟨88, _⟩ => ⟨S8192x4x192, .f32⟩
  | .hbm, ⟨89, _⟩ => ⟨S_, .i32⟩
  | .hbm, ⟨90, _⟩ => ⟨S_, .f32⟩
  | .hbm, ⟨91, _⟩ => ⟨S8192x4x256, .f32⟩
  | .hbm, ⟨92, _⟩ => ⟨S8192x1024, .f32⟩
  | .hbm, ⟨93, _⟩ => ⟨S_, .i32⟩
  | .hbm, ⟨94, _⟩ => ⟨S_, .f32⟩
  | .hbm, ⟨95, _⟩ => ⟨S8192x4x256, .f32⟩
  | .hbm, ⟨96, _⟩ => ⟨S8192x1024, .f32⟩
  | .hbm, ⟨97, _⟩ => ⟨S8192x512, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_v10_1 : Ref sig .tc := ⟨.hbm, 17, rfl⟩
abbrev main_call0_v2 : Ref sig .tc := ⟨.hbm, 18, rfl⟩
abbrev main_v10_0 : Ref sig .tc := ⟨.hbm, 19, rfl⟩
abbrev main_call0_cst : Ref sig .tc := ⟨.hbm, 20, rfl⟩
abbrev main_v10_2 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_cst_8 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_11 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c : Ref sig .tc := ⟨.hbm, 89, rfl⟩
abbrev main_call2_v0 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_call3_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S3x1024 : Shape := ⟨2, ![3, 1024]⟩
abbrev S1024x2496 : Shape := ⟨2, ![1024, 2496]⟩
abbrev S8192x2496 : Shape := ⟨2, ![8192, 2496]⟩
abbrev S1024x448 : Shape := ⟨2, ![1024, 448]⟩
abbrev S_ : Shape := ⟨0, ![]⟩
abbrev S1024x64 : Shape := ⟨2, ![1024, 64]⟩
abbrev S1024x2048 : Shape := ⟨2, ![1024, 2048]⟩
abbrev S1024x2560 : Shape := ⟨2, ![1024, 2560]⟩
abbrev S8192x448 : Shape := ⟨2, ![8192, 448]⟩
abbrev S8192x512 : Shape := ⟨2, ![8192, 512]⟩
abbrev S8192x256 : Shape := ⟨2, ![8192, 256]⟩
abbrev S1x1024 : Shape := ⟨2, ![1, 1024]⟩
abbrev S2x1024 : Shape := ⟨2, ![2, 1024]⟩
abbrev S512x1024 : Shape := ⟨2, ![512, 1024]⟩
abbrev S512x512 : Shape := ⟨2, ![512, 512]⟩
abbrev S512x256 : Shape := ⟨2, ![512, 256]⟩
abbrev S512x2560 : Shape := ⟨2, ![512, 2560]⟩
abbrev S256x2560 : Shape := ⟨2, ![256, 2560]⟩
abbrev S256x1024 : Shape := ⟨2, ![256, 1024]⟩
abbrev S256 : Shape := ⟨1, ![256]⟩
abbrev S256x1 : Shape := ⟨2, ![256, 1]⟩

abbrev nBuf : Space → Nat
  | .hbm => 28
  | .vmem => 28
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3x1024, .f32⟩
  | .hbm, ⟨3, _⟩ => ⟨S1024x2496, .f32⟩
  | .hbm, ⟨4, _⟩ => ⟨S8192x1024, .f32⟩
  | .hbm, ⟨5, _⟩ => ⟨S8192x2496, .f32⟩
  | .hbm, ⟨6, _⟩ => ⟨S1024x2496, .bf16⟩
  | .hbm, ⟨7, _⟩ => ⟨S1024x448, .bf16⟩
  | .hbm, ⟨8, _⟩ => ⟨S_, .bf16⟩
  | .hbm, ⟨9, _⟩ => ⟨S1024x64, .bf16⟩
  | .hbm, ⟨10, _⟩ => ⟨S1024x2048, .bf16⟩
  | .hbm, ⟨11, _⟩ => ⟨S1024x2560, .bf16⟩
  | .hbm, ⟨12, _⟩ => ⟨S8192x2496, .bf16⟩
  | .hbm, ⟨13, _⟩ => ⟨S8192x448, .bf16⟩
  | .hbm, ⟨14, _⟩ => ⟨S_, .i32⟩
  | .hbm, ⟨15, _⟩ => ⟨S_, .bf16⟩
  | .hbm, ⟨16, _⟩ => ⟨S8192x512, .bf16⟩
  | .hbm, ⟨17, _⟩ => ⟨S8192x512, .bf16⟩
  | .hbm, ⟨18, _⟩ => ⟨S8192x256, .bf16⟩
  | .hbm, ⟨19, _⟩ => ⟨S8192x256, .bf16⟩
  | .hbm, ⟨20, _⟩ => ⟨S8192x256, .bf16⟩
  | .hbm, ⟨21, _⟩ => ⟨S8192x256, .bf16⟩
  | .hbm, ⟨22, _⟩ => ⟨S8192x256, .bf16⟩
  | .hbm, ⟨23, _⟩ => ⟨S8192x256, .bf16⟩
  | .hbm, ⟨24, _⟩ => ⟨S1x1024, .f32⟩
  | .hbm, ⟨25, _⟩ => ⟨S8192x1024, .f32⟩
  | .hbm, ⟨26, _⟩ => ⟨S2x1024, .f32⟩
  | .hbm, ⟨27, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S1x1024, .f32⟩
  | .local _ .vmem, ⟨21, _⟩ => ⟨S3x1024, .f32⟩
  | .local _ .vmem, ⟨22, _⟩ => ⟨S1024x2560, .bf16⟩
  | .local _ .vmem, ⟨23, _⟩ => ⟨S512x1024, .f32⟩
  | .local _ .vmem, ⟨24, _⟩ => ⟨S512x1024, .f32⟩
  | .local _ .vmem, ⟨25, _⟩ => ⟨S2x1024, .f32⟩
  | .local _ .vmem, ⟨26, _⟩ => ⟨S1x1024, .f32⟩
  | .local _ .vmem, ⟨27, _⟩ => ⟨S512x2560, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem15_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2560 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== InProjRefIdeal.lean ====
abbrev S8192x1024 : Shape := ⟨2, ![8192, 1024]⟩
abbrev S1024 : Shape := ⟨1, ![1024]⟩
abbrev S3x1024 : Shape := ⟨2, ![3, 1024]⟩
abbrev S1024x2496 : Shape := ⟨2, ![1024, 2496]⟩
abbrev S8192x2496 : Shape := ⟨2, ![8192, 2496]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S2x1024 : Shape := ⟨2, ![2, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S3x1024, .f32⟩
  | .hbm, ⟨3, _⟩ => ⟨S1024x2496, .f32⟩
  | .hbm, ⟨4, _⟩ => ⟨S8192x1024, .f32⟩
  | .hbm, ⟨5, _⟩ => ⟨S8192x2496, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x2496, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S_, .f32⟩
  | .hbm, ⟨45, _⟩ => ⟨S1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S1x1024, .f32⟩
  | .hbm, ⟨81, _⟩ => ⟨S1x1024, .f32⟩
  | .hbm, ⟨82, _⟩ => ⟨S2x1024, .f32⟩
  | .hbm, ⟨83, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_cst_10 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_11 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== OutProj.lean ====
abbrev S8192x2496 : Shape := ⟨2, ![8192, 2496]⟩
abbrev S8192x512 : Shape := ⟨2, ![8192, 512]⟩
abbrev S8192x256 : Shape := ⟨2, ![8192, 256]⟩
abbrev S8192x4x192 : Shape := ⟨3, ![8192, 4, 192]⟩
abbrev S1024x1024 : Shape := ⟨2, ![1024, 1024]⟩
abbrev S1024 : Shape := ⟨1, ![1024]⟩
abbrev S3x1024 : Shape := ⟨2, ![3, 1024]⟩
abbrev S8192x1024 : Shape := ⟨2, ![8192, 1024]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S8192x448 : Shape := ⟨2, ![8192, 448]⟩
abbrev S8192x64 : Shape := ⟨2, ![8192, 64]⟩
abbrev S8192x2048 : Shape := ⟨2, ![8192, 2048]⟩
abbrev S8192x2560 : Shape := ⟨2, ![8192, 2560]⟩
abbrev S1x1024 : Shape := ⟨2, ![1, 1024]⟩
abbrev S8192x128 : Shape := ⟨2, ![8192, 128]⟩
abbrev S512x1024 : Shape := ⟨2, ![512, 1024]⟩
abbrev S512x512 : Shape := ⟨2, ![512, 512]⟩
abbrev S512x256 : Shape := ⟨2, ![512, 256]⟩
abbrev S4x512x1 : Shape := ⟨3, ![4, 512, 1]⟩
abbrev S512x128 : Shape := ⟨2, ![512, 128]⟩
abbrev S512 : Shape := ⟨1, ![512]⟩
abbrev S512x1 : Shape := ⟨2, ![512, 1]⟩
abbrev S1x128 : Shape := ⟨2, ![1, 128]⟩
abbrev S1x512x1 : Shape := ⟨3, ![1, 512, 1]⟩

abbrev nBuf : Space → Nat
  | .hbm => 72
  | .vmem => 39
  | .smem => 0
  | _ => 0

abbrev bufTy : (tb : Table) → Fin (tcTables nBuf tb) → BufTy
  | .hbm, ⟨0, _⟩ => ⟨S8192x2496, .f32⟩
  | .hbm, ⟨1, _⟩ => ⟨S8192x512, .f32⟩
  | .hbm, ⟨2, _⟩ => ⟨S8192x256, .f32⟩
  | .hbm, ⟨3, _⟩ => ⟨S8192x256, .f32⟩
  | .hbm, ⟨4, _⟩ => ⟨S8192x4x192, .f32⟩
  | .hbm, ⟨5, _⟩ => ⟨S8192x4x192, .f32⟩
  | .hbm, ⟨6, _⟩ => ⟨S1024x1024, .f32⟩
  | .hbm, ⟨7, _⟩ => ⟨S1024, .f32⟩
  | .hbm, ⟨8, _⟩ => ⟨S3x1024, .f32⟩
  | .hbm, ⟨9, _⟩ => ⟨S8192x1024, .f32⟩
  | .hbm, ⟨10, _⟩ => ⟨S4x8192x8192, .f32⟩
  | .hbm, ⟨11, _⟩ => ⟨S_, .f32⟩
  | .hbm, ⟨12, _⟩ => ⟨S_, .f32⟩
  | .hbm, ⟨13, _⟩ => ⟨S4x8192x8192, .f32⟩
  | .hbm, ⟨14, _⟩ => ⟨S4x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S4x8192x8192, .i1⟩
  | .hbm, ⟨24, _⟩ => ⟨S4x8192x8192, .f32⟩
  | .hbm, ⟨25, _⟩ => ⟨S4x8192x8192, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S4x8192x8192, .f32⟩
  | .hbm, ⟨30, _⟩ => ⟨S4x8192x8192, .f32⟩
  | .hbm, ⟨31, _⟩ => ⟨S4x8192x8192, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S4x8192x1, .f32⟩
  | .hbm, ⟨36, _⟩ => ⟨S4x8192x1, .f32⟩
  | .hbm, ⟨37, _⟩ => ⟨S8192x448, .f32⟩
  | .hbm, ⟨38, _⟩ => ⟨S_, .f32⟩
  | .hbm, ⟨39, _⟩ => ⟨S8192x64, .f32⟩
  | .hbm, ⟨40, _⟩ => ⟨S8192x2048, .f32⟩
  | .hbm, ⟨41, _⟩ => ⟨S8192x2560, .f32⟩
  | .hbm, ⟨42, _⟩ => ⟨S8192x2560, .bf16⟩
  | .hbm, ⟨43, _⟩ => ⟨S1024x1024, .bf16⟩
  | .hbm, ⟨44, _⟩ => ⟨S8192x512, .f32⟩
  | .hbm, ⟨45, _⟩ => ⟨S8192x256, .f32⟩
  | .hbm, ⟨46, _⟩ => ⟨S8192x256, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | .hbm, ⟨60, _⟩ => ⟨S8192x1024, .f32⟩
  | .hbm, ⟨61, _⟩ => ⟨S1x1024, .f32⟩
  | .hbm, ⟨62, _⟩ => ⟨S8192x1024, .bf16⟩
  | .hbm, ⟨63, _⟩ => ⟨S8192x512, .bf16⟩
  | .hbm, ⟨64, _⟩ => ⟨S8192x128, .f32⟩
  | .hbm, ⟨65, _⟩ => ⟨S8192x512, .bf16⟩
  | .hbm, ⟨66, _⟩ => ⟨S8192x256, .f32⟩
  | .hbm, ⟨67, _⟩ => ⟨S8192x256, .bf16⟩
  | .hbm, ⟨68, _⟩ => ⟨S8192x256, .f32⟩
  | .hbm, ⟨69, _⟩ => ⟨S8192x256, .bf16⟩
  | .hbm, ⟨70, _⟩ => ⟨S1x1024, .f32⟩
  | .hbm, ⟨71, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x512, .f32⟩
  | .local _ .vmem, ⟨11, _⟩ => ⟨S512x512, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S4x512x1, .f32⟩
  | .local _ .vmem, ⟨17, _⟩ => ⟨S4x512x1, .f32⟩
  | .local _ .vmem, ⟨18, _⟩ => ⟨S1024x1024, .bf16⟩
  | .local _ .vmem, ⟨19, _⟩ => ⟨S1x1024, .f32⟩
  | .local _ .vmem, ⟨20, _⟩ => ⟨S3x1024, .f32⟩
  | .local _ .vmem, ⟨21, _⟩ => ⟨S512x1024, .bf16⟩
  | .local _ .vmem, ⟨22, _⟩ => ⟨S512x1024, .bf16⟩
  | .local _ .vmem, ⟨23, _⟩ => ⟨S512x512, .bf16⟩
  | .local _ .vmem, ⟨24, _⟩ => ⟨S512x512, .bf16⟩
  | .local _ .vmem, ⟨25, _⟩ => ⟨S512x128, .f32⟩
  | .local _ .vmem, ⟨26, _⟩ => ⟨S512x128, .f32⟩
  | .local _ .vmem, ⟨27, _⟩ => ⟨S512x512, .bf16⟩
  | .local _ .vmem, ⟨28, _⟩ => ⟨S512x512, .bf16⟩
  | .local _ .vmem, ⟨29, _⟩ => ⟨S512x256, .f32⟩
  | .local _ .vmem, ⟨30, _⟩ => ⟨S512x256, .f32⟩
  | .local _ .vmem, ⟨31, _⟩ => ⟨S512x256, .bf16⟩
  | .local _ .vmem, ⟨32, _⟩ => ⟨S512x256, .bf16⟩
  | .local _ .vmem, ⟨33, _⟩ => ⟨S512x256, .f32⟩
  | .local _ .vmem, ⟨34, _⟩ => ⟨S512x256, .f32⟩
  | .local _ .vmem, ⟨35, _⟩ => ⟨S512x256, .bf16⟩
  | .local _ .vmem, ⟨36, _⟩ => ⟨S512x256, .bf16⟩
  | .local _ .vmem, ⟨37, _⟩ => ⟨S1x1024, .f32⟩
  | .local _ .vmem, ⟨38, _⟩ => ⟨S1x1024, .f32⟩
  | _, _ => ⟨S8192x2496, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36_0 : Ref sig .tc := ⟨.hbm, 62, rfl⟩
abbrev main_v36_1 : Ref sig .tc := ⟨.hbm, 63, rfl⟩
abbrev main_v36_2 : Ref sig .tc := ⟨.hbm, 64, rfl⟩
abbrev main_v36_3 : Ref sig .tc := ⟨.hbm, 65, rfl⟩
abbrev main_v36_4 : Ref sig .tc := ⟨.hbm, 66, rfl⟩
abbrev main_v36_5 : Ref sig .tc := ⟨.hbm, 67, rfl⟩
abbrev main_v36_6 : Ref sig .tc := ⟨.hbm, 68, rfl⟩
abbrev main_v36_7 : Ref sig .tc := ⟨.hbm, 69, rfl⟩
abbrev main_v36_8 : Ref sig .tc := ⟨.hbm, 70, rfl⟩
abbrev main_v36_9 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg21_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem21_0 : DmaSem sig := 38

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== OutProjRefIdeal.lean ====
abbrev S8192x2496 : Shape := ⟨2, ![8192, 2496]⟩
abbrev S8192x512 : Shape := ⟨2, ![8192, 512]⟩
abbrev S8192x256 : Shape := ⟨2, ![8192, 256]⟩
abbrev S8192x4x192 : Shape := ⟨3, ![8192, 4, 192]⟩
abbrev S1024x1024 : Shape := ⟨2, ![1024, 1024]⟩
abbrev S1024 : Shape := ⟨1, ![1024]⟩
abbrev S3x1024 : Shape := ⟨2, ![3, 1024]⟩
abbrev S8192x1024 : Shape := ⟨2, ![8192, 1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S8192x4x128 : Shape := ⟨3, ![8192, 4, 128]⟩
abbrev S8192x4 : Shape := ⟨2, ![8192, 4]⟩
abbrev S4x8192x8192 : Shape := ⟨3, ![4, 8192, 8192]⟩
abbrev S1x8192 : Shape := ⟨2, ![1, 8192]⟩
abbrev S8192x8192 : Shape := ⟨2, ![8192, 8192]⟩
abbrev S4x8192 : Shape := ⟨2, ![4, 8192]⟩
abbrev S4x8192x1 : Shape := ⟨3, ![4, 8192, 1]⟩
abbrev S8192x4x1 : Shape := ⟨3, ![8192, 4, 1]⟩
abbrev S8192x4x2 : Shape := ⟨3, ![8192, 4, 2]⟩
abbrev S8192x8 : Shape := ⟨2, ![8192, 8]⟩
abbrev S8192x128 : Shape := ⟨2, ![8192, 128]⟩

abbrev nBuf : Space → Nat
  | .hbm => 184
  | .vmem => 0
  | .smem => 0
  | _ => 0

abbrev hbmTy0_0 (i : Nat) : BufTy := match i % 128 with
  | 0 => ⟨S8192x2496, .f32⟩
  | 1 => ⟨S8192x512, .f32⟩
  | 2 => ⟨S8192x256, .f32⟩
  | 3 => ⟨S8192x256, .f32⟩
  | 4 => ⟨S8192x4x192, .f32⟩
  | 5 => ⟨S8192x4x192, .f32⟩
  | 6 => ⟨S1024x1024, .f32⟩
  | 7 => ⟨S1024, .f32⟩
  | 8 => ⟨S3x1024, .f32⟩
  | 9 => ⟨S8192x1024, .f32⟩
  | 10 => ⟨S8192x512, .f32⟩
  | 11 => ⟨S8192x256, .f32⟩
  | 12 => ⟨S8192x256, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S_, .f32⟩
  | 19 => ⟨S8192x512, .f32⟩
  | 20 => ⟨S8192x512, .f32⟩
  | 21 => ⟨S_, .f32⟩
  | 22 => ⟨S8192x512, .f32⟩
  | 23 => ⟨S8192x512, .f32⟩
  | 24 => ⟨S8192x512, .f32⟩
  | 25 => ⟨S8192x512, .f32⟩
  | 26 => ⟨S8192x512, .f32⟩
  | 27 => ⟨S8192x256, .f32⟩
  | 28 => ⟨S8192x256, .f32⟩
  | 29 => ⟨S_, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S_, .f32⟩
  | 36 => ⟨S8192x256, .f32⟩
  | 37 => ⟨S8192x256, .f32⟩
  | 38 => ⟨S8192x256, .f32⟩
  | 39 => ⟨S8192x256, .f32⟩
  | 40 => ⟨S8192x256, .f32⟩
  | 41 => ⟨S8192x256, .f32⟩
  | 42 => ⟨S8192x256, .f32⟩
  | 43 => ⟨S_, .f32⟩
  | 44 => ⟨S8192x256, .f32⟩
  | 45 => ⟨S8192x256, .f32⟩
  | 46 => ⟨S_, .f32⟩
  | 47 => ⟨S8192x256, .f32⟩
  | 48 => ⟨S8192x256, .f32⟩
  | 49 => ⟨S_, .f32⟩
  | 50 => ⟨S8192x256, .f32⟩
  | 51 => ⟨S8192x256, .f32⟩
  | 52 => ⟨S8192x256, .f32⟩
  | 53 => ⟨S8192x256, .f32⟩
  | 54 => ⟨S8192x256, .f32⟩
  | 55 => ⟨S8192x1024, .f32⟩
  | 56 => ⟨S8192x1024, .f32⟩
  | 57 => ⟨S1x1024, .f32⟩
  | 58 => ⟨S1024, .f32⟩
  | 59 => ⟨S8192x1024, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x1024, .f32⟩
  | 75 => ⟨S8192x1024, .f32⟩
  | 76 => ⟨S1x1024, .f32⟩
  | 77 => ⟨S8192x1024, .f32⟩
  | 78 => ⟨S8192x1024, .f32⟩
  | 79 => ⟨S1x1024, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S_, .f32⟩
  | 86 => ⟨S1024, .f32⟩
  | 87 => ⟨S1x1024, .f32⟩
  | 88 => ⟨S_, .f32⟩
  | 89 => ⟨S1024, .f32⟩
  | 90 => ⟨S8192x1024, .f32⟩
  | 91 => ⟨S_, .f32⟩
  | 92 => ⟨S1024, .f32⟩
  | 93 => ⟨S1x1024, .f32⟩
  | 94 => ⟨S8192x1024, .f32⟩
  | 95 => ⟨S8192x1024, .f32⟩
  | 96 => ⟨S_, .f32⟩
  | 97 => ⟨S1024, .f32⟩
  | 98 => ⟨S8192x1024, .f32⟩
  | 99 => ⟨S_, .f32⟩
  | 100 => ⟨S8192, .f32⟩
  | 101 => ⟨S8192x1, .f32⟩
  | 102 => ⟨S8192x1024, .f32⟩
  | 103 => ⟨S8192x1024, .f32⟩
  | 104 => ⟨S8192x1, .f32⟩
  | 105 => ⟨S_, .f32⟩
  | 106 => ⟨S8192x1, .f32⟩
  | 107 => ⟨S8192x1, .f32⟩
  | 108 => ⟨S_, .f32⟩
  | 109 => ⟨S8192, .f32⟩
  | 110 => ⟨S8192x1024, .f32⟩
  | 111 => ⟨S8192x1024, .f32⟩
  | 112 => ⟨S8192x1024, .f32⟩
  | 113 => ⟨S8192x1024, .f32⟩
  | 114 => ⟨S8192x1024, .f32⟩
  | 115 => ⟨S8192x1024, .f32⟩
  | 116 => ⟨S8192x512, .f32⟩
  | 117 => ⟨S8192x256, .f32⟩
  | 118 => ⟨S8192x256, .f32⟩
  | 119 => ⟨S8192x256, .f32⟩
  | 120 => ⟨S8192x256, .f32⟩
  | 121 => ⟨S8192x256, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S8192x256, .f32⟩
  | _ => ⟨S8192x2496, .f32⟩

abbrev hbmTy0_1 (i : Nat) : BufTy := match i % 128 with
  | 0 => ⟨S8192x256, .f32⟩
  | 1 => ⟨S8192x256, .f32⟩
  | 2 => ⟨S8192x256, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x4x128, .f32⟩
  | 11 => ⟨S_, .f32⟩
  | 12 => ⟨S8192x4, .f32⟩
  | 13 => ⟨S4x8192x8192, .f32⟩
  | 14 => ⟨S_, .f32⟩
  | 15 => ⟨S_, .f32⟩
  | 16 => ⟨S4x8192x8192, .f32⟩
  | 17 => ⟨S4x8192x8192, .f32⟩
  | 18 => ⟨S8192, .i32⟩
  | 19 => ⟨S1x8192, .i32⟩
  | 20 => ⟨S8192x1, .i32⟩
  | 21 => ⟨S8192x8192, .i32⟩
  | 22 => ⟨S8192x8192, .i32⟩
  | 23 => ⟨S8192x8192, .i1⟩
  | 24 => ⟨S_, .f32⟩
  | 25 => ⟨S_, .f32⟩
  | 26 => ⟨S4x8192x8192, .i1⟩
  | 27 => ⟨S4x8192x8192, .f32⟩
  | 28 => ⟨S4x8192x8192, .f32⟩
  | 29 => ⟨S_, .f32⟩
  | 30 => ⟨S4x8192, .f32⟩
  | 31 => ⟨S4x8192x1, .f32⟩
  | 32 => ⟨S4x8192x8192, .f32⟩
  | 33 => ⟨S4x8192x8192, .f32⟩
  | 34 => ⟨S4x8192x8192, .f32⟩
  | 35 => ⟨S_, .f32⟩
  | 36 => ⟨S4x8192, .f32⟩
  | 37 => ⟨S4x8192x1, .f32⟩
  | 38 => ⟨S4x8192x1, .f32⟩
  | 39 => ⟨S4x8192x1, .f32⟩
  | 40 => ⟨S4x8192, .f32⟩
  | 41 => ⟨S8192x4, .f32⟩
  | 42 => ⟨S8192x4x1, .f32⟩
  | 43 => ⟨S8192x4x1, .f32⟩
  | 44 => ⟨S8192x4x2, .f32⟩
  | 45 => ⟨S8192x8, .f32⟩
  | 46 => ⟨S_, .i32⟩
  | 47 => ⟨S_, .f32⟩
  | 48 => ⟨S8192x128, .f32⟩
  | 49 => ⟨S8192x1024, .bf16⟩
  | 50 => ⟨S8192x512, .bf16⟩
  | 51 => ⟨S8192x512, .bf16⟩
  | 52 => ⟨S8192x256, .bf16⟩
  | 53 => ⟨S8192x256, .bf16⟩
  | 54 => ⟨S1x1024, .f32⟩
  | 55 => ⟨S1x1024, .f32⟩
  | _ => ⟨S8192x2496, .f32⟩

abbrev hbmTy (i : Nat) : BufTy := match i / 128 with
  | 0 => hbmTy0_0 i
  | 1 => hbmTy0_1 i
  | _ => ⟨S8192x2496, .f32⟩

abbrev bufTy : (tb : Table) → Fin (tcTables nBuf tb) → BufTy
  | .hbm, ⟨i, _⟩ => hbmTy i
  | _, _ => ⟨S8192x2496, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v3_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v3_1 : Ref sig .tc := ⟨.hbm, 24, rfl⟩
abbrev main_v3_0 : Ref sig .tc := ⟨.hbm, 25, rfl⟩
abbrev main_v4 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_v5_2 : Ref sig .tc := ⟨.hbm, 34, rfl⟩
abbrev main_call1_cst_1 : Ref sig .tc := ⟨.hbm, 35, rfl⟩
abbrev main_call1_v6 : Ref sig .tc := ⟨.hbm, 36, rfl⟩
abbrev main_call1_v7 : Ref sig .tc := ⟨.hbm, 37, rfl⟩
abbrev main_v5_1 : Ref sig .tc := ⟨.hbm, 38, rfl⟩
abbrev main_v5_0 : Ref sig .tc := ⟨.hbm, 39, rfl⟩
abbrev main_v6 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_v7_2 : Ref sig .tc := ⟨.hbm, 48, rfl⟩
abbrev main_call2_cst_1 : Ref sig .tc := ⟨.hbm, 49, rfl⟩
abbrev main_call2_v6 : Ref sig .tc := ⟨.hbm, 50, rfl⟩
abbrev main_call2_v7 : Ref sig .tc := ⟨.hbm, 51, rfl⟩
abbrev main_v7_1 : Ref sig .tc := ⟨.hbm, 52, rfl⟩
abbrev main_v7_0 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_cst : Ref sig .tc := ⟨.hbm, 60, rfl⟩
abbrev main_v14 : Ref sig .tc := ⟨.hbm, 61, rfl⟩
abbrev main_v15 : Ref sig .tc := ⟨.hbm, 62, rfl⟩
abbrev main_cst_0 : Ref sig .tc := ⟨.hbm, 63, rfl⟩
abbrev main_v16 : Ref sig .tc := ⟨.hbm, 64, rfl⟩
abbrev main_v17 : Ref sig .tc := ⟨.hbm, 65, rfl⟩
abbrev main_cst_1 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_2 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_cst_3 : Ref sig .tc := ⟨.hbm, 85, rfl⟩
abbrev main_v35 : Ref sig .tc := ⟨.hbm, 86, rfl⟩
abbrev main_v36 : Ref sig .tc := ⟨.hbm, 87, rfl⟩
abbrev main_cst_4 : Ref sig .tc := ⟨.hbm, 88, rfl⟩
abbrev main_v37 : Ref sig .tc := ⟨.hbm, 89, rfl⟩
abbrev main_v38 : Ref sig .tc := ⟨.hbm, 90, rfl⟩
abbrev main_cst_5 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_cst_6 : Ref sig .tc := ⟨.hbm, 96, rfl⟩
abbrev main_v43 : Ref sig .tc := ⟨.hbm, 97, rfl⟩
abbrev main_v44 : Ref sig .tc := ⟨.hbm, 98, rfl⟩
abbrev main_cst_7 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_cst_8 : Ref sig .tc := ⟨.hbm, 105, rfl⟩
abbrev main_v50 : Ref sig .tc := ⟨.hbm, 106, rfl⟩
abbrev main_v51 : Ref sig .tc := ⟨.hbm, 107, rfl⟩
abbrev main_cst_9 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_call5_v0 : Ref sig .tc := ⟨.hbm, 133, rfl⟩
abbrev main_call5_v1 : Ref sig .tc := ⟨.hbm, 134, rfl⟩
abbrev main_call5_v2 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_cst_10 : Ref sig .tc := ⟨.hbm, 139, rfl⟩
abbrev main_v73 : Ref sig .tc := ⟨.hbm, 140, rfl⟩
abbrev main_v74 : Ref sig .tc := ⟨.hbm, 141, rfl⟩
abbrev main_cst_11 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_cst_12 : Ref sig .tc := ⟨.hbm, 152, rfl⟩
abbrev main_call6_v0 : Ref sig .tc := ⟨.hbm, 153, rfl⟩
abbrev main_call6_v1 : Ref sig .tc := ⟨.hbm, 154, rfl⟩
abbrev main_call6_v2 : Ref sig .tc := ⟨.hbm, 155, rfl⟩
abbrev main_v84 : Ref sig .tc := ⟨.hbm, 156, rfl⟩
abbrev main_cst_13 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_v88 : Ref sig .tc := ⟨.hbm, 161, rfl⟩
abbrev main_v89 : Ref sig .tc := ⟨.hbm, 162, rfl⟩
abbrev main_cst_14 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_c : Ref sig .tc := ⟨.hbm, 174, rfl⟩
abbrev main_call7_v0 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩

abbrev nD : Nat := 1
abbrev τ : Topo := Topo.v7x

variable {F : FTy → Type} [FloatOps F]
-- ==== Sgu.lean ====
abbrev S8192x2496 : Shape := ⟨2, ![8192, 2496]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S128x4 : Shape := ⟨2, ![128, 4]⟩
abbrev S128x4x64 : Shape := ⟨3, ![128, 4, 64]⟩
abbrev S128x256 : Shape := ⟨2, ![128, 256]⟩
abbrev S8192x448 : Shape := ⟨2, ![8192, 448]⟩
abbrev S_ : Shape := ⟨0, ![]⟩
abbrev S8192x64 : Shape := ⟨2, ![8192, 64]⟩
abbrev S8192x2048 : Shape := ⟨2, ![8192, 2048]⟩
abbrev S8192x2560 : Shape := ⟨2, ![8192, 2560]⟩
abbrev S1x256 : Shape := ⟨2, ![1, 256]⟩
abbrev S128x128 : Shape := ⟨2, ![128, 128]⟩
abbrev S512x256 : Shape := ⟨2, ![512, 256]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 23
  | .vmem => 18
  | .smem => 0
  | _ => 0

abbrev bufTy : (tb : Table) → Fin (tcTables nBuf tb) → BufTy
  | .hbm, ⟨0, _⟩ => ⟨S8192x2496, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x256, .f32⟩
  | .hbm, ⟨6, _⟩ => ⟨S128x4, .f32⟩
  | .hbm, ⟨7, _⟩ => ⟨S128x4x64, .f32⟩
  | .hbm, ⟨8, _⟩ => ⟨S128x256, .f32⟩
  | .hbm, ⟨9, _⟩ => ⟨S8192x448, .f32⟩
  | .hbm, ⟨10, _⟩ => ⟨S_, .f32⟩
  | .hbm, ⟨11, _⟩ => ⟨S8192x64, .f32⟩
  | .hbm, ⟨12, _⟩ => ⟨S8192x2048, .f32⟩
  | .hbm, ⟨13, _⟩ => ⟨S8192x2560, .f32⟩
  | .hbm, ⟨14, _⟩ => ⟨S8192x2560, .bf16⟩
  | .hbm, ⟨15, _⟩ => ⟨S1x256, .f32⟩
  | .hbm, ⟨16, _⟩ => ⟨S1x256, .f32⟩
  | .hbm, ⟨17, _⟩ => ⟨S8192x256, .bf16⟩
  | .hbm, ⟨18, _⟩ => ⟨S8192x256, .bf16⟩
  | .hbm, ⟨19, _⟩ => ⟨S4x128x128, .f32⟩
  | .hbm, ⟨20, _⟩ => ⟨S128x128, .f32⟩
  | .hbm, ⟨21, _⟩ => ⟨S1x256, .f32⟩
  | .hbm, ⟨22, _⟩ => ⟨S1x256, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S4x128x128, .f32⟩
  | .local _ .vmem, ⟨9, _⟩ => ⟨S128x256, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S4x128x128, .f32⟩
  | .local _ .vmem, ⟨15, _⟩ => ⟨S128x128, .f32⟩
  | .local _ .vmem, ⟨16, _⟩ => ⟨S1x256, .f32⟩
  | .local _ .vmem, ⟨17, _⟩ => ⟨S1x256, .f32⟩
  | _, _ => ⟨S8192x2496, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v10_4 : Ref sig .tc := ⟨.hbm, 21, rfl⟩
abbrev main_v10_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SguRefIdeal.lean ====
abbrev S8192x2496 : Shape := ⟨2, ![8192, 2496]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩

abbrev nBuf : Space → Nat
  | .hbm => 192
  | .vmem => 0
  | .smem => 0
  | _ => 0

abbrev hbmTy0_0 (i : Nat) : BufTy := match i % 128 with
  | 0 => ⟨S8192x2496, .f32⟩
  | 1 => ⟨S256, .f32⟩
  | 2 => ⟨S256, .f32⟩
  | 3 => ⟨S4x128x128, .f32⟩
  | 4 => ⟨S4x128, .f32⟩
  | 5 => ⟨S8192x256, .f32⟩
  | 6 => ⟨S8192x256, .f32⟩
  | 7 => ⟨S8192x256, .f32⟩
  | 8 => ⟨S_, .f32⟩
  | 9 => ⟨S8192x256, .f32⟩
  | 10 => ⟨S8192x256, .f32⟩
  | 11 => ⟨S8192x256, .f32⟩
  | 12 => ⟨S_, .f32⟩
  | 13 => ⟨S_, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S8192x256, .f32⟩
  | 20 => ⟨S8192x256, .f32⟩
  | 21 => ⟨S_, .f32⟩
  | 22 => ⟨S8192x256, .f32⟩
  | 23 => ⟨S8192x256, .f32⟩
  | 24 => ⟨S8192x256, .f32⟩
  | 25 => ⟨S_, .f32⟩
  | 26 => ⟨S_, .f32⟩
  | 27 => ⟨S8192x256, .f32⟩
  | 28 => ⟨S8192x256, .f32⟩
  | 29 => ⟨S8192x256, .f32⟩
  | 30 => ⟨S8192x256, .f32⟩
  | 31 => ⟨S8192x256, .f32⟩
  | 32 => ⟨S8192x256, .f32⟩
  | 33 => ⟨S8192x256, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S8192x256, .f32⟩
  | 41 => ⟨S8192x256, .f32⟩
  | 42 => ⟨S8192x256, .f32⟩
  | 43 => ⟨S_, .f32⟩
  | 44 => ⟨S8192x256, .f32⟩
  | 45 => ⟨S8192x256, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S8192x256, .f32⟩
  | 53 => ⟨S8192x256, .f32⟩
  | 54 => ⟨S_, .f32⟩
  | 55 => ⟨S8192x1, .f32⟩
  | 56 => ⟨S8192x1, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x256, .f32⟩
  | 63 => ⟨S8192x256, .f32⟩
  | 64 => ⟨S1x256, .f32⟩
  | 65 => ⟨S8192x256, .f32⟩
  | 66 => ⟨S8192x256, .f32⟩
  | 67 => ⟨S1x256, .f32⟩
  | 68 => ⟨S8192x256, .f32⟩
  | 69 => ⟨S8192x256, .f32⟩
  | 70 => ⟨S64x128x4x64, .f32⟩
  | 71 => ⟨S_, .i1⟩
  | 72 => ⟨S128x128, .i1⟩
  | 73 => ⟨S128x128, .i32⟩
  | 74 => ⟨S_, .i32⟩
  | 75 => ⟨S128x128, .i32⟩
  | 76 => ⟨S128x128, .i32⟩
  | 77 => ⟨S128x128, .i32⟩
  | 78 => ⟨S128x128, .i1⟩
  | 79 => ⟨S_, .i1⟩
  | 80 => ⟨S128x128, .i1⟩
  | 81 => ⟨S128x128, .i1⟩
  | 82 => ⟨S1x128x128, .i1⟩
  | 83 => ⟨S_, .f32⟩
  | 84 => ⟨S4x128x128, .f32⟩
  | 85 => ⟨S4x128x128, .i1⟩
  | 86 => ⟨S4x128x128, .f32⟩
  | 87 => ⟨S_, .f32⟩
  | 88 => ⟨S4x128x128, .f32⟩
  | 89 => ⟨S4x64x64x128, .f32⟩
  | 90 => ⟨S64x128x4x64, .f32⟩
  | 91 => ⟨S128x4, .f32⟩
  | 92 => ⟨S1x128x4x1, .f32⟩
  | 93 => ⟨S64x128x4x64, .f32⟩
  | 94 => ⟨S64x128x4x64, .f32⟩
  | 95 => ⟨S8192x256, .f32⟩
  | 96 => ⟨S8192x256, .f32⟩
  | 97 => ⟨S8192x256, .f32⟩
  | 98 => ⟨S8192x256, .f32⟩
  | 99 => ⟨S64x128x4x64, .f32⟩
  | 100 => ⟨S_, .f32⟩
  | 101 => ⟨S128x4, .f32⟩
  | 102 => ⟨S1x128x4x1, .f32⟩
  | 103 => ⟨S_, .f32⟩
  | 104 => ⟨S128x4, .f32⟩
  | 105 => ⟨S4x128, .f32⟩
  | 106 => ⟨S4x64x64x128, .f32⟩
  | 107 => ⟨S4x128x128, .f32⟩
  | 108 => ⟨S4x64x64x128, .f32⟩
  | 109 => ⟨S64x128x4x64, .f32⟩
  | 110 => ⟨S_, .f32⟩
  | 111 => ⟨S4x128x128, .f32⟩
  | 112 => ⟨S4x128x128, .f32⟩
  | 113 => ⟨S8192x256, .f32⟩
  | 114 => ⟨S_, .f32⟩
  | 115 => ⟨S256, .f32⟩
  | 116 => ⟨S1x256, .f32⟩
  | 117 => ⟨S_, .f32⟩
  | 118 => ⟨S256, .f32⟩
  | 119 => ⟨S8192x256, .f32⟩
  | 120 => ⟨S_, .f32⟩
  | 121 => ⟨S256, .f32⟩
  | 122 => ⟨S1x256, .f32⟩
  | 123 => ⟨S8192x256, .f32⟩
  | 124 => ⟨S8192x256, .f32⟩
  | 125 => ⟨S_, .f32⟩
  | 126 => ⟨S256, .f32⟩
  | 127 => ⟨S8192x256, .f32⟩
  | _ => ⟨S8192x2496, .f32⟩

abbrev hbmTy0_1 (i : Nat) : BufTy := match i % 128 with
  | 0 => ⟨S_, .f32⟩
  | 1 => ⟨S8192, .f32⟩
  | 2 => ⟨S8192x1, .f32⟩
  | 3 => ⟨S8192x256, .f32⟩
  | 4 => ⟨S8192x256, .f32⟩
  | 5 => ⟨S8192x1, .f32⟩
  | 6 => ⟨S8192x256, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x256, .f32⟩
  | 16 => ⟨S8192x256, .f32⟩
  | 17 => ⟨S8192x256, .f32⟩
  | 18 => ⟨S_, .f32⟩
  | 19 => ⟨S8192, .f32⟩
  | 20 => ⟨S8192x1, .f32⟩
  | 21 => ⟨S8192x256, .f32⟩
  | 22 => ⟨S8192x1, .f32⟩
  | 23 => ⟨S_, .f32⟩
  | 24 => ⟨S8192x1, .f32⟩
  | 25 => ⟨S8192x1, .f32⟩
  | 26 => ⟨S_, .f32⟩
  | 27 => ⟨S8192, .f32⟩
  | 28 => ⟨S8192x256, .f32⟩
  | 29 => ⟨S8192x256, .f32⟩
  | 30 => ⟨S8192x256, .f32⟩
  | 31 => ⟨S8192x256, .f32⟩
  | 32 => ⟨S_, .f32⟩
  | 33 => ⟨S8192x256, .f32⟩
  | 34 => ⟨S8192x256, .f32⟩
  | 35 => ⟨S8192x256, .f32⟩
  | 36 => ⟨S8192x256, .f32⟩
  | 37 => ⟨S8192x256, .f32⟩
  | 38 => ⟨S8192x256, .f32⟩
  | 39 => ⟨S_, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S_, .f32⟩
  | 46 => ⟨S8192x256, .f32⟩
  | 47 => ⟨S8192x256, .f32⟩
  | 48 => ⟨S8192x256, .f32⟩
  | 49 => ⟨S8192x256, .f32⟩
  | 50 => ⟨S8192x256, .f32⟩
  | 51 => ⟨S8192x256, .f32⟩
  | 52 => ⟨S_, .f32⟩
  | 53 => ⟨S8192x256, .f32⟩
  | 54 => ⟨S8192x256, .f32⟩
  | 55 => ⟨S8192x256, .f32⟩
  | 56 => ⟨S8192x256, .bf16⟩
  | 57 => ⟨S8192x256, .bf16⟩
  | 58 => ⟨S128x4, .f32⟩
  | 59 => ⟨S_, .i32⟩
  | 60 => ⟨S_, .f32⟩
  | 61 => ⟨S128x128, .f32⟩
  | 62 => ⟨S1x256, .f32⟩
  | 63 => ⟨S1x256, .f32⟩
  | _ => ⟨S8192x2496, .f32⟩

abbrev hbmTy (i : Nat) : BufTy := match i / 128 with
  | 0 => hbmTy0_0 i
  | 1 => hbmTy0_1 i
  | _ => ⟨S8192x2496, .f32⟩

abbrev bufTy : (tb : Table) → Fin (tcTables nBuf tb) → BufTy
  | .hbm, ⟨i, _⟩ => hbmTy i
  | _, _ => ⟨S8192x2496, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c : Ref sig .tc := ⟨.hbm, 71, rfl⟩
abbrev main_v54 : Ref sig .tc := ⟨.hbm, 72, rfl⟩
abbrev main_call0_v0 : Ref sig .tc := ⟨.hbm, 73, rfl⟩
abbrev main_call0_c : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_c_0 : Ref sig .tc := ⟨.hbm, 79, rfl⟩
abbrev main_call0_v5 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58_1 : Ref sig .tc := ⟨.hbm, 85, rfl⟩
abbrev main_v58_0 : Ref sig .tc := ⟨.hbm, 86, rfl⟩
abbrev main_call1_cst : Ref sig .tc := ⟨.hbm, 87, rfl⟩
abbrev main_v58_2 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_11 : Ref sig .tc := ⟨.hbm, 100, rfl⟩
abbrev main_v70 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call2_cst : Ref sig .tc := ⟨.hbm, 110, rfl⟩
abbrev main_call2_v0 : Ref sig .tc := ⟨.hbm, 111, rfl⟩
abbrev main_v78 : Ref sig .tc := ⟨.hbm, 112, rfl⟩
abbrev main_v79 : Ref sig .tc := ⟨.hbm, 113, rfl⟩
abbrev main_cst_13 : Ref sig .tc := ⟨.hbm, 114, rfl⟩
abbrev main_v80 : Ref sig .tc := ⟨.hbm, 115, rfl⟩
abbrev main_v81 : Ref sig .tc := ⟨.hbm, 116, rfl⟩
abbrev main_cst_14 : Ref sig .tc := ⟨.hbm, 117, rfl⟩
abbrev main_v82 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_cst_16 : Ref sig .tc := ⟨.hbm, 125, rfl⟩
abbrev main_v88 : Ref sig .tc := ⟨.hbm, 126, rfl⟩
abbrev main_v89 : Ref sig .tc := ⟨.hbm, 127, rfl⟩
abbrev main_cst_17 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_18 : Ref sig .tc := ⟨.hbm, 135, rfl⟩
abbrev main_v96 : Ref sig .tc := ⟨.hbm, 136, rfl⟩
abbrev main_v97 : Ref sig .tc := ⟨.hbm, 137, rfl⟩
abbrev main_cst_19 : Ref sig .tc := ⟨.hbm, 138, rfl⟩
abbrev main_v98 : Ref sig .tc := ⟨.hbm, 139, rfl⟩
abbrev main_v99 : Ref sig .tc := ⟨.hbm, 140, rfl⟩
abbrev main_cst_20 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_21 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_22 : Ref sig .tc := ⟨.hbm, 151, rfl⟩
abbrev main_v108 : Ref sig .tc := ⟨.hbm, 152, rfl⟩
abbrev main_v109 : Ref sig .tc := ⟨.hbm, 153, rfl⟩
abbrev main_cst_23 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_24 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_cst_25 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_26 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_27 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_c_28 : Ref sig .tc := ⟨.hbm, 187, rfl⟩
abbrev main_call3_v0 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩

abbrev nD : Nat := 1
abbrev τ : Topo := Topo.v7x

variable {F : FTy → Type} [FloatOps F]
-- ==== AttPrep.lean ====
abbrev S8192x2496 : Shape := ⟨2, ![8192, 2496]⟩
abbrev S8192 : Shape := ⟨1, ![8192]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8192x768 : Shape := ⟨2, ![8192, 768]⟩
abbrev S8192x512 : Shape := ⟨2, ![8192, 512]⟩
abbrev S256x4x192 : Shape := ⟨3, ![256, 4, 192]⟩
abbrev S_ : Shape := ⟨0, ![]⟩
abbrev S256x4x256 : Shape := ⟨3, ![256, 4, 256]⟩
abbrev S256x1024 : Shape := ⟨2, ![256, 1024]⟩
abbrev S8192x448 : Shape := ⟨2, ![8192, 448]⟩
abbrev S8192x64 : Shape := ⟨2, ![8192, 64]⟩
abbrev S8192x2048 : Shape := ⟨2, ![8192, 2048]⟩
abbrev S8192x2560 : Shape := ⟨2, ![8192, 2560]⟩
abbrev S8192x1 : Shape := ⟨2, ![8192, 1]⟩
abbrev S8192x4x192 : Shape := ⟨3, ![8192, 4, 192]⟩
abbrev S8192x4x256 : Shape := ⟨3, ![8192, 4, 256]⟩
abbrev S8192x1024 : Shape := ⟨2, ![8192, 1024]⟩
abbrev S1x256 : Shape := ⟨2, ![1, 256]⟩
abbrev S1x128 : Shape := ⟨2, ![1, 128]⟩
abbrev S32 : Shape := ⟨1, ![32]⟩
abbrev S8x128 : Shape := ⟨2, ![8, 128]⟩
abbrev S1 : Shape := ⟨1, ![1]⟩
abbrev S8192x256 : Shape := ⟨2, ![8192, 256]⟩
abbrev S8192x128 : Shape := ⟨2, ![8192, 128]⟩
abbrev S512x512 : Shape := ⟨2, ![512, 512]⟩
abbrev S512x1 : Shape := ⟨2, ![512, 1]⟩
abbrev S512x1024 : Shape := ⟨2, ![512, 1024]⟩
abbrev S512x256 : Shape := ⟨2, ![512, 256]⟩
abbrev S512x128 : Shape := ⟨2, ![512, 128]⟩
abbrev S512 : Shape := ⟨1, ![512]⟩

abbrev nBuf : Space → Nat
  | .hbm => 75
  | .vmem => 27
  | .smem => 0
  | _ => 0

abbrev bufTy : (tb : Table) → Fin (tcTables nBuf tb) → BufTy
  | .hbm, ⟨0, _⟩ => ⟨S8192x2496, .f32⟩
  | .hbm, ⟨1, _⟩ => ⟨S8192, .i32⟩
  | .hbm, ⟨2, _⟩ => ⟨S256, .f32⟩
  | .hbm, ⟨3, _⟩ => ⟨S256x768, .f32⟩
  | .hbm, ⟨4, _⟩ => ⟨S128, .f32⟩
  | .hbm, ⟨5, _⟩ => ⟨S128x1024, .f32⟩
  | .hbm, ⟨6, _⟩ => ⟨S8192x768, .f32⟩
  | .hbm, ⟨7, _⟩ => ⟨S8192x768, .f32⟩
  | .hbm, ⟨8, _⟩ => ⟨S8192x512, .f32⟩
  | .hbm, ⟨9, _⟩ => ⟨S256x768, .bf16⟩
  | .hbm, ⟨10, _⟩ => ⟨S256x4x192, .bf16⟩
  | .hbm, ⟨11, _⟩ => ⟨S_, .i32⟩
  | .hbm, ⟨12, _⟩ => ⟨S_, .bf16⟩
  | .hbm, ⟨13, _⟩ => ⟨S256x4x256, .bf16⟩
  | .hbm, ⟨14, _⟩ => ⟨S256x1024, .bf16⟩
  | .hbm, ⟨15, _⟩ => ⟨S8192x448, .f32⟩
  | .hbm, ⟨16, _⟩ => ⟨S_, .f32⟩
  | .hbm, ⟨17, _⟩ => ⟨S8192x64, .f32⟩
  | .hbm, ⟨18, _⟩ => ⟨S8192x2048, .f32⟩
  | .hbm, ⟨19, _⟩ => ⟨S8192x2560, .f32⟩
  | .hbm, ⟨20, _⟩ => ⟨S8192x2560, .bf16⟩
  | .hbm, ⟨21, _⟩ => ⟨S8192x1, .i32⟩
  | .hbm, ⟨22, _⟩ => ⟨S8192x4x192, .f32⟩
  | .hbm, ⟨23, _⟩ => ⟨S_, .i32⟩
  | .hbm, ⟨24, _⟩ => ⟨S_, .f32⟩
  | .hbm, ⟨25, _⟩ => ⟨S8192x4x256, .f32⟩
  | .hbm, ⟨26, _⟩ => ⟨S8192x1024, .f32⟩
  | .hbm, ⟨27, _⟩ => ⟨S8192x4x192, .f32⟩
  | .hbm, ⟨28, _⟩ => ⟨S_, .i32⟩
  | .hbm, ⟨29, _⟩ => ⟨S_, .f32⟩
  | .hbm, ⟨30, _⟩ => ⟨S8192x4x256, .f32⟩
  | .hbm, ⟨31, _⟩ => ⟨S8192x1024, .f32⟩
  | .hbm, ⟨32, _⟩ => ⟨S1x256, .f32⟩
  | .hbm, ⟨33, _⟩ => ⟨S1x128, .f32⟩
  | .hbm, ⟨34, _⟩ => ⟨S128x1024, .bf16⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S_, .f32⟩
  | .hbm, ⟨54, _⟩ => ⟨S8x128, .f32⟩
  | .hbm, ⟨55, _⟩ => ⟨S128, .f32⟩
  | .hbm, ⟨56, _⟩ => ⟨S_, .i32⟩
  | .hbm, ⟨57, _⟩ => ⟨S1, .i32⟩
  | .hbm, ⟨58, _⟩ => ⟨S8x128, .f32⟩
  | .hbm, ⟨59, _⟩ => ⟨S128, .f32⟩
  | .hbm, ⟨60, _⟩ => ⟨S_, .i32⟩
  | .hbm, ⟨61, _⟩ => ⟨S1, .i32⟩
  | .hbm, ⟨62, _⟩ => ⟨S8x128, .f32⟩
  | .hbm, ⟨63, _⟩ => ⟨S32, .f32⟩
  | .hbm, ⟨64, _⟩ => ⟨S128, .f32⟩
  | .hbm, ⟨65, _⟩ => ⟨S_, .i32⟩
  | .hbm, ⟨66, _⟩ => ⟨S1, .i32⟩
  | .hbm, ⟨67, _⟩ => ⟨S8x128, .f32⟩
  | .hbm, ⟨68, _⟩ => ⟨S8192x512, .bf16⟩
  | .hbm, ⟨69, _⟩ => ⟨S8192x256, .bf16⟩
  | .hbm, ⟨70, _⟩ => ⟨S8192x1024, .bf16⟩
  | .hbm, ⟨71, _⟩ => ⟨S8192x128, .bf16⟩
  | .hbm, ⟨72, _⟩ => ⟨S8192x1024, .bf16⟩
  | .hbm, ⟨73, _⟩ => ⟨S1x256, .f32⟩
  | .hbm, ⟨74, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x1, .i32⟩
  | .local _ .vmem, ⟨3, _⟩ => ⟨S512x1, .i32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x512, .f32⟩
  | .local _ .vmem, ⟨9, _⟩ => ⟨S512x512, .f32⟩
  | .local _ .vmem, ⟨10, _⟩ => ⟨S1x256, .f32⟩
  | .local _ .vmem, ⟨11, _⟩ => ⟨S1x128, .f32⟩
  | .local _ .vmem, ⟨12, _⟩ => ⟨S256x1024, .bf16⟩
  | .local _ .vmem, ⟨13, _⟩ => ⟨S128x1024, .bf16⟩
  | .local _ .vmem, ⟨14, _⟩ => ⟨S8x128, .f32⟩
  | .local _ .vmem, ⟨15, _⟩ => ⟨S512x512, .bf16⟩
  | .local _ .vmem, ⟨16, _⟩ => ⟨S512x512, .bf16⟩
  | .local _ .vmem, ⟨17, _⟩ => ⟨S512x256, .bf16⟩
  | .local _ .vmem, ⟨18, _⟩ => ⟨S512x256, .bf16⟩
  | .local _ .vmem, ⟨19, _⟩ => ⟨S512x1024, .bf16⟩
  | .local _ .vmem, ⟨20, _⟩ => ⟨S512x1024, .bf16⟩
  | .local _ .vmem, ⟨21, _⟩ => ⟨S512x128, .bf16⟩
  | .local _ .vmem, ⟨22, _⟩ => ⟨S512x128, .bf16⟩
  | .local _ .vmem, ⟨23, _⟩ => ⟨S512x1024, .bf16⟩
  | .local _ .vmem, ⟨24, _⟩ => ⟨S512x1024, .bf16⟩
  | .local _ .vmem, ⟨25, _⟩ => ⟨S1x256, .f32⟩
  | .local _ .vmem, ⟨26, _⟩ => ⟨S1x128, .f32⟩
  | _, _ => ⟨S8192x2496, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_11 : Ref sig .tc := ⟨.hbm, 65, rfl⟩
abbrev main_v40 : Ref sig .tc := ⟨.hbm, 66, rfl⟩
abbrev main_v41 : Ref sig .tc := ⟨.hbm, 67, rfl⟩
abbrev main_v42_0 : Ref sig .tc := ⟨.hbm, 68, rfl⟩
abbrev main_v42_1 : Ref sig .tc := ⟨.hbm, 69, rfl⟩
abbrev main_v42_2 : Ref sig .tc := ⟨.hbm, 70, rfl⟩
abbrev main_v42_3 : Ref sig .tc := ⟨.hbm, 71, rfl⟩
abbrev main_v42_4 : Ref sig .tc := ⟨.hbm, 72, rfl⟩
abbrev main_v42_5 : Ref sig .tc := ⟨.hbm, 73, rfl⟩
abbrev main_v42_6 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== AttPrepRefIdeal.lean ====
abbrev S8192x2496 : Shape := ⟨2, ![8192, 2496]⟩
abbrev S8192 : Shape := ⟨1, ![8192]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8192x768 : Shape := ⟨2, ![8192, 768]⟩
abbrev S8192x512 : Shape := ⟨2, ![8192, 512]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x256 : Shape := ⟨2, ![8192, 256]⟩
abbrev S8192x128 : Shape := ⟨2, ![8192, 128]⟩
abbrev S8192x64 : Shape := ⟨2, ![8192, 64]⟩
abbrev S1x256 : Shape := ⟨2, ![1, 256]⟩
abbrev S1x128 : Shape := ⟨2, ![1, 128]⟩
abbrev S8192x1024 : Shape := ⟨2, ![8192, 1024]⟩
abbrev S8192x4x192 : Shape := ⟨3, ![8192, 4, 192]⟩
abbrev S8192x4x256 : Shape := ⟨3, ![8192, 4, 256]⟩
abbrev S8192x4x128 : Shape := ⟨3, ![8192, 4, 128]⟩
abbrev S8192x4x64 : Shape := ⟨3, ![8192, 4, 64]⟩
abbrev S8192x1x32 : Shape := ⟨3, ![8192, 1, 32]⟩
abbrev S8192x4x32 : Shape := ⟨3, ![8192, 4, 32]⟩
abbrev S8192x1x64 : Shape := ⟨3, ![8192, 1, 64]⟩
abbrev S768x256 : Shape := ⟨2, ![768, 256]⟩
abbrev S1024x128 : Shape := ⟨2, ![1024, 128]⟩
abbrev S8192x448 : Shape := ⟨2, ![8192, 448]⟩

abbrev nBuf : Space → Nat
  | .hbm => 236
  | .vmem => 0
  | .smem => 0
  | _ => 0

abbrev hbmTy0_0 (i : Nat) : BufTy := match i % 128 with
  | 0 => ⟨S8192x2496, .f32⟩
  | 1 => ⟨S8192, .i32⟩
  | 2 => ⟨S256, .f32⟩
  | 3 => ⟨S256x768, .f32⟩
  | 4 => ⟨S128, .f32⟩
  | 5 => ⟨S128x1024, .f32⟩
  | 6 => ⟨S8192x768, .f32⟩
  | 7 => ⟨S8192x768, .f32⟩
  | 8 => ⟨S8192x512, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S8192, .f32⟩
  | 24 => ⟨S8192x1, .f32⟩
  | 25 => ⟨S1x32, .f32⟩
  | 26 => ⟨S8192x32, .f32⟩
  | 27 => ⟨S8192x32, .f32⟩
  | 28 => ⟨S8192x32, .f32⟩
  | 29 => ⟨S8192x32, .f32⟩
  | 30 => ⟨S8192x32, .f32⟩
  | 31 => ⟨S8192x256, .f32⟩
  | 32 => ⟨S8192x128, .f32⟩
  | 33 => ⟨S8192x64, .f32⟩
  | 34 => ⟨S8192x256, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x256, .f32⟩
  | 50 => ⟨S8192x256, .f32⟩
  | 51 => ⟨S1x256, .f32⟩
  | 52 => ⟨S8192x256, .f32⟩
  | 53 => ⟨S8192x256, .f32⟩
  | 54 => ⟨S8192x128, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x128, .f32⟩
  | 70 => ⟨S8192x128, .f32⟩
  | 71 => ⟨S1x128, .f32⟩
  | 72 => ⟨S8192x128, .f32⟩
  | 73 => ⟨S8192x128, .f32⟩
  | 74 => ⟨S8192x768, .f32⟩
  | 75 => ⟨S8192x1024, .f32⟩
  | 76 => ⟨S8192x4x192, .f32⟩
  | 77 => ⟨S8192x4x256, .f32⟩
  | 78 => ⟨S8192x4x128, .f32⟩
  | 79 => ⟨S8192x4x64, .f32⟩
  | 80 => ⟨S8192x1x32, .f32⟩
  | 81 => ⟨S8192x1x32, .f32⟩
  | 82 => ⟨S8192x4x32, .f32⟩
  | 83 => ⟨S8192x4x32, .f32⟩
  | 84 => ⟨S8192x4x32, .f32⟩
  | 85 => ⟨S8192x4x32, .f32⟩
  | 86 => ⟨S8192x4x32, .f32⟩
  | 87 => ⟨S8192x4x32, .f32⟩
  | 88 => ⟨S8192x4x32, .f32⟩
  | 89 => ⟨S8192x4x32, .f32⟩
  | 90 => ⟨S8192x4x32, .f32⟩
  | 91 => ⟨S8192x4x32, .f32⟩
  | 92 => ⟨S8192x4x32, .f32⟩
  | 93 => ⟨S8192x4x32, .f32⟩
  | 94 => ⟨S8192x4x64, .f32⟩
  | 95 => ⟨S8192x4x192, .f32⟩
  | 96 => ⟨S8192x32, .f32⟩
  | 97 => ⟨S8192x32, .f32⟩
  | 98 => ⟨S8192x32, .f32⟩
  | 99 => ⟨S8192x32, .f32⟩
  | 100 => ⟨S8192x32, .f32⟩
  | 101 => ⟨S8192x32, .f32⟩
  | 102 => ⟨S8192x32, .f32⟩
  | 103 => ⟨S8192x32, .f32⟩
  | 104 => ⟨S8192x64, .f32⟩
  | 105 => ⟨S8192x1x64, .f32⟩
  | 106 => ⟨S8192x4x64, .f32⟩
  | 107 => ⟨S8192x4x128, .f32⟩
  | 108 => ⟨S8192x4x192, .f32⟩
  | 109 => ⟨S8192x4x128, .f32⟩
  | 110 => ⟨S8192x4x192, .f32⟩
  | 111 => ⟨S8192x4x192, .f32⟩
  | 112 => ⟨S8192x4x128, .f32⟩
  | 113 => ⟨S_, .f32⟩
  | 114 => ⟨S8192x4x256, .f32⟩
  | 115 => ⟨S8192x4x128, .f32⟩
  | 116 => ⟨S8192x4x64, .f32⟩
  | 117 => ⟨S_, .f32⟩
  | 118 => ⟨S8192x4x256, .f32⟩
  | 119 => ⟨S8192x4x256, .f32⟩
  | 120 => ⟨S_, .f32⟩
  | 121 => ⟨S8192x64, .f32⟩
  | 122 => ⟨S8192x1x64, .f32⟩
  | 123 => ⟨S_, .f32⟩
  | 124 => ⟨S8192x64, .f32⟩
  | 125 => ⟨S8192x32, .f32⟩
  | 126 => ⟨S8192x32, .f32⟩
  | 127 => ⟨S8192x32, .f32⟩
  | _ => ⟨S8192x2496, .f32⟩

abbrev hbmTy0_1 (i : Nat) : BufTy := match i % 128 with
  | 0 => ⟨S8192x32, .f32⟩
  | 1 => ⟨S8192x32, .f32⟩
  | 2 => ⟨S8192x32, .f32⟩
  | 3 => ⟨S8192x32, .f32⟩
  | 4 => ⟨S8192x32, .f32⟩
  | 5 => ⟨S8192x32, .f32⟩
  | 6 => ⟨S_, .f32⟩
  | 7 => ⟨S8192x64, .f32⟩
  | 8 => ⟨S_, .f32⟩
  | 9 => ⟨S8192x64, .f32⟩
  | 10 => ⟨S8192x64, .f32⟩
  | 11 => ⟨S8192x4x128, .f32⟩
  | 12 => ⟨S8192x4x64, .f32⟩
  | 13 => ⟨S8192x4x32, .f32⟩
  | 14 => ⟨S8192x4x32, .f32⟩
  | 15 => ⟨S8192x4x32, .f32⟩
  | 16 => ⟨S8192x4x32, .f32⟩
  | 17 => ⟨S8192x4x32, .f32⟩
  | 18 => ⟨S8192x4x32, .f32⟩
  | 19 => ⟨S8192x4x32, .f32⟩
  | 20 => ⟨S8192x4x32, .f32⟩
  | 21 => ⟨S8192x4x32, .f32⟩
  | 22 => ⟨S8192x4x32, .f32⟩
  | 23 => ⟨S8192x4x32, .f32⟩
  | 24 => ⟨S8192x4x32, .f32⟩
  | 25 => ⟨S8192x4x32, .f32⟩
  | 26 => ⟨S_, .f32⟩
  | 27 => ⟨S8192x4x64, .f32⟩
  | 28 => ⟨S_, .f32⟩
  | 29 => ⟨S8192x4x64, .f32⟩
  | 30 => ⟨S8192x4x64, .f32⟩
  | 31 => ⟨S_, .f32⟩
  | 32 => ⟨S8192x4x192, .f32⟩
  | 33 => ⟨S_, .f32⟩
  | 34 => ⟨S8192x4x192, .f32⟩
  | 35 => ⟨S8192x4x192, .f32⟩
  | 36 => ⟨S8192x1024, .f32⟩
  | 37 => ⟨S8192x768, .f32⟩
  | 38 => ⟨S768x256, .f32⟩
  | 39 => ⟨S8192x256, .f32⟩
  | 40 => ⟨S8192x256, .f32⟩
  | 41 => ⟨S_, .f32⟩
  | 42 => ⟨S256, .f32⟩
  | 43 => ⟨S1x256, .f32⟩
  | 44 => ⟨S8192x256, .f32⟩
  | 45 => ⟨S8192x256, .f32⟩
  | 46 => ⟨S_, .f32⟩
  | 47 => ⟨S256, .f32⟩
  | 48 => ⟨S8192x256, .f32⟩
  | 49 => ⟨S_, .f32⟩
  | 50 => ⟨S8192, .f32⟩
  | 51 => ⟨S8192x1, .f32⟩
  | 52 => ⟨S8192x256, .f32⟩
  | 53 => ⟨S8192x256, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192, .f32⟩
  | 60 => ⟨S8192x256, .f32⟩
  | 61 => ⟨S8192x256, .f32⟩
  | 62 => ⟨S8192x256, .f32⟩
  | 63 => ⟨S8192x256, .f32⟩
  | 64 => ⟨S8192x256, .f32⟩
  | 65 => ⟨S1024x128, .f32⟩
  | 66 => ⟨S8192x128, .f32⟩
  | 67 => ⟨S8192x128, .f32⟩
  | 68 => ⟨S_, .f32⟩
  | 69 => ⟨S128, .f32⟩
  | 70 => ⟨S1x128, .f32⟩
  | 71 => ⟨S8192x128, .f32⟩
  | 72 => ⟨S8192x128, .f32⟩
  | 73 => ⟨S_, .f32⟩
  | 74 => ⟨S128, .f32⟩
  | 75 => ⟨S8192x128, .f32⟩
  | 76 => ⟨S_, .f32⟩
  | 77 => ⟨S8192, .f32⟩
  | 78 => ⟨S8192x1, .f32⟩
  | 79 => ⟨S8192x128, .f32⟩
  | 80 => ⟨S8192x128, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192, .f32⟩
  | 87 => ⟨S8192x128, .f32⟩
  | 88 => ⟨S8192x128, .f32⟩
  | 89 => ⟨S8192x128, .f32⟩
  | 90 => ⟨S8192x128, .f32⟩
  | 91 => ⟨S8192x128, .f32⟩
  | 92 => ⟨S8192x448, .f32⟩
  | 93 => ⟨S_, .i32⟩
  | 94 => ⟨S_, .f32⟩
  | 95 => ⟨S8192x512, .f32⟩
  | 96 => ⟨S8192x4x192, .f32⟩
  | 97 => ⟨S_, .i32⟩
  | 98 => ⟨S_, .f32⟩
  | 99 => ⟨S8192x4x256, .f32⟩
  | 100 => ⟨S8192x1024, .f32⟩
  | 101 => ⟨S8192x512, .bf16⟩
  | 102 => ⟨S8192x256, .bf16⟩
  | 103 => ⟨S8192x1024, .bf16⟩
  | 104 => ⟨S8192x128, .bf16⟩
  | 105 => ⟨S8192x1024, .bf16⟩
  | 106 => ⟨S1x256, .f32⟩
  | 107 => ⟨S1x128, .f32⟩
  | _ => ⟨S8192x2496, .f32⟩

abbrev hbmTy (i : Nat) : BufTy := match i / 128 with
  | 0 => hbmTy0_0 i
  | 1 => hbmTy0_1 i
  | _ => ⟨S8192x2496, .f32⟩

abbrev bufTy : (tb : Table) → Fin (tcTables nBuf tb) → BufTy
  | .hbm, ⟨i, _⟩ => hbmTy i
  | _, _ => ⟨S8192x2496, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_cst_11 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_cst_12 : Ref sig .tc := ⟨.hbm, 117, rfl⟩
abbrev main_v95 : Ref sig .tc := ⟨.hbm, 118, rfl⟩
abbrev main_v96 : Ref sig .tc := ⟨.hbm, 119, rfl⟩
abbrev main_cst_13 : Ref sig .tc := ⟨.hbm, 120, rfl⟩
abbrev main_v97 : Ref sig .tc := ⟨.hbm, 121, rfl⟩
abbrev main_v98 : Ref sig .tc := ⟨.hbm, 122, rfl⟩
abbrev main_cst_14 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_cst_15 : Ref sig .tc := ⟨.hbm, 134, rfl⟩
abbrev main_v109 : Ref sig .tc := ⟨.hbm, 135, rfl⟩
abbrev main_cst_16 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_17 : Ref sig .tc := ⟨.hbm, 154, rfl⟩
abbrev main_v127 : Ref sig .tc := ⟨.hbm, 155, rfl⟩
abbrev main_cst_18 : Ref sig .tc := ⟨.hbm, 156, rfl⟩
abbrev main_v128 : Ref sig .tc := ⟨.hbm, 157, rfl⟩
abbrev main_v129 : Ref sig .tc := ⟨.hbm, 158, rfl⟩
abbrev main_cst_19 : Ref sig .tc := ⟨.hbm, 159, rfl⟩
abbrev main_v130 : Ref sig .tc := ⟨.hbm, 160, rfl⟩
abbrev main_cst_20 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_21 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_cst_22 : Ref sig .tc := ⟨.hbm, 174, rfl⟩
abbrev main_v142 : Ref sig .tc := ⟨.hbm, 175, rfl⟩
abbrev main_v143 : Ref sig .tc := ⟨.hbm, 176, rfl⟩
abbrev main_cst_23 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_cst_24 : Ref sig .tc := ⟨.hbm, 183, rfl⟩
abbrev main_v149 : Ref sig .tc := ⟨.hbm, 184, rfl⟩
abbrev main_v150 : Ref sig .tc := ⟨.hbm, 185, rfl⟩
abbrev main_cst_25 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_cst_26 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_cst_27 : Ref sig .tc := ⟨.hbm, 201, rfl⟩
abbrev main_v164 : Ref sig .tc := ⟨.hbm, 202, rfl⟩
abbrev main_v165 : Ref sig .tc := ⟨.hbm, 203, rfl⟩
abbrev main_cst_28 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_cst_29 : Ref sig .tc := ⟨.hbm, 210, rfl⟩
abbrev main_v171 : Ref sig .tc := ⟨.hbm, 211, rfl⟩
abbrev main_v172 : Ref sig .tc := ⟨.hbm, 212, rfl⟩
abbrev main_cst_30 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_c : Ref sig .tc := ⟨.hbm, 221, rfl⟩
abbrev main_call0_v0 : Ref sig .tc := ⟨.hbm, 222, rfl⟩
abbrev main_v180 : Ref sig .tc := ⟨.hbm, 223, rfl⟩
abbrev main_v181 : Ref sig .tc := ⟨.hbm, 224, rfl⟩
abbrev main_c_31 : Ref sig .tc := ⟨.hbm, 225, rfl⟩
abbrev main_call1_v0 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩

abbrev nD : Nat := 1
abbrev τ : Topo := Topo.v7x

variable {F : FTy → Type} [FloatOps F]
-- ==== Proof.Lift.lean ====
/- Finite arrays as real arrays: a vector of extended reals whose elements are all finite is `up x` for a real array
   `x`, and every operation of the programs (sums, products, quotients, reciprocal roots, exponentials) of such values is
   again a real number, whose coercion is pushed outward by the lemmas below. A value proof then compares two real
   numbers, where `ring` and `field_simp` work. -/
module

public import Idealize.ShloMosaic.Lib.Pointwise
public import Idealize.ShloMosaic.Lib.ReduceAll
public import Idealize.ShloMosaic.Lib.IdealHost

@[expose] public section

set_option maxRecDepth 16384

noncomputable section

namespace Cert.Lift

open Idealize.ShloMosaic

/-- A real array as an array of extended reals. -/
def up {s : Shape} (x : s.Idx → ℝ) : s.Idx → EReal := fun i => ((x i : ℝ) : EReal)

@[pointwise] theorem up_apply {s : Shape} (x : s.Idx → ℝ) (i : s.Idx) :
    up x i = ((x i : ℝ) : EReal) := rfl

theorem exists_coe {x : EReal} (h : max x (-x) < ⊤) : ∃ r : ℝ, x = (r : EReal) := by
  induction x using EReal.rec with
  | bot => simp at h
  | coe r => exact ⟨r, rfl⟩
  | top => simp at h

theorem ofBits_inf : Ideal.ofBits .f32 0x7F800000#32 = ⊤ := by simp [Ideal.ofBits, Ideal.ieee]

/-- What `jnp.all(jnp.abs(x) < jnp.inf)` says of `x`. -/
theorem exists_up {s t u : Shape} {axes : List (Fin s.rank)} [Subsingleton t.Idx] (X : FVec Ideal s .f32)
    (B : FVec Ideal s .f32) (hB : ∀ i, B i = Ideal.ofBits .f32 0x7F800000#32) (init : u.Idx → BitVec 1)
    (h : s.ReducesTo axes t) (hu : 0 < u.numel) (j : t.Idx)
    (e : Host.reduce IntOp.andi (cmpf .olt (Host.absf X) B) init h hu j = 1#1) :
    ∃ x : s.Idx → ℝ, X = up x := by
  have hx : ∀ i, ∃ r : ℝ, X i = (r : EReal) := fun i => by
    have e1 := Host.reduce_andi_all _ init h hu j e i
    have e2 : Ideal.cmp .olt (max (X i) (-(X i))) (B i) = 1#1 := e1
    rw [hB, ofBits_inf] at e2
    refine exists_coe ?_
    by_contra hn
    simp [Ideal.cmp, hn] at e2
  choose x hx using hx
  exact ⟨x, funext hx⟩

@[pointwise] theorem lift_add (a b : ℝ) : (a : EReal) + (b : EReal) = ((a + b : ℝ) : EReal) := (EReal.coe_add a b).symm
@[pointwise] theorem lift_mul (a b : ℝ) : (a : EReal) * (b : EReal) = ((a * b : ℝ) : EReal) := (EReal.coe_mul a b).symm
@[pointwise] theorem lift_sub (a b : ℝ) : (a : EReal) - (b : EReal) = ((a - b : ℝ) : EReal) := (EReal.coe_sub a b).symm
@[pointwise] theorem lift_neg (a : ℝ) : -(a : EReal) = ((-a : ℝ) : EReal) := (EReal.coe_neg a).symm
@[pointwise] theorem lift_one_add (a : ℝ) : 1 + (a : EReal) = ((1 + a : ℝ) : EReal) := by rw [EReal.coe_add, EReal.coe_one]
@[pointwise] theorem lift_one_sub (a : ℝ) : 1 - (a : EReal) = ((1 - a : ℝ) : EReal) := by rw [EReal.coe_sub, EReal.coe_one]
@[pointwise] theorem lift_zero_sub (a : ℝ) : 0 - (a : EReal) = ((-a : ℝ) : EReal) := by rw [zero_sub, EReal.coe_neg]
@[pointwise] theorem lift_exp (a : ℝ) : Ideal.exp (a : EReal) = ((Real.exp a : ℝ) : EReal) := rfl

@[pointwise] theorem coe_sum {ι : Type*} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

theorem coe_div {a b : ℝ} (h : b ≠ 0) : Ideal.div (a : EReal) (b : EReal) = ((a / b : ℝ) : EReal) := by
  rw [Ideal.div_coe h, ← EReal.coe_mul, mul_one_div]

theorem coe_rsqrt {a : ℝ} (h : 0 < a) : Ideal.rsqrt (a : EReal) = (((Real.sqrt a)⁻¹ : ℝ) : EReal) := by
  rw [Ideal.rsqrt_coe, if_neg (not_lt.2 h.le), if_neg h.ne']

/-- The logistic function. -/
def sgm (x : ℝ) : ℝ := 1 / (1 + Real.exp (-x))

theorem one_add_exp_ne (x : ℝ) : 1 + Real.exp x ≠ 0 := by positivity

@[pointwise] theorem lift_sig (x : ℝ) : Ideal.div 1 ((1 + Real.exp (-x) : ℝ) : EReal) = ((sgm x : ℝ) : EReal) := by
  rw [← EReal.coe_one, coe_div (one_add_exp_ne _)]; rfl

@[pointwise] theorem coe_logistic (x : ℝ) : Ideal.logistic (x : EReal) = ((sgm x : ℝ) : EReal) := by
  show Ideal.div 1 (1 + Ideal.exp (-(x : EReal))) = _
  rw [← EReal.coe_neg, Ideal.exp_coe, ← EReal.coe_one, ← EReal.coe_add, coe_div (one_add_exp_ne _)]; rfl

@[pointwise] theorem lit_256 : Ideal.ofBits .f32 0x43800000#32 = ((256 : ℝ) : EReal) := by
  simp [Ideal.ofBits, Ideal.ieee, -EReal.coe_mul]; norm_num

@[pointwise] theorem div_256 (a : ℝ) : Ideal.div (a : EReal) ((256 : ℝ) : EReal) = ((a / 256 : ℝ) : EReal) := coe_div (by norm_num)

@[pointwise] theorem lit_neg_half : Ideal.ofBits .f32 0xBF000000#32 = ((-(1 / 2) : ℝ) : EReal) := by
  simp [Ideal.ofBits, Ideal.ieee, -EReal.coe_mul, -EReal.coe_neg]; norm_num

@[pointwise] theorem lit_two : Ideal.ofBits .f32 0x40000000#32 = ((2 : ℝ) : EReal) := by
  simp [Ideal.ofBits, Ideal.ieee, -EReal.coe_mul]; norm_num

/-- The norms' epsilon: the real number that the f32 literal of 1e-6 denotes. -/
def eps : ℝ := 8796093 / 8796093022208

@[pointwise] theorem lit_eps : Ideal.ofBits .f32 0x358637BD#32 = ((eps : ℝ) : EReal) := by
  simp [Ideal.ofBits, Ideal.ieee, -EReal.coe_mul, eps]; norm_num

theorem eps_pos : 0 < eps := by norm_num [eps]

attribute [pointwise] Fin.sum_univ_one

/-- The gradient of a norm `C l * R`, `R = V ^ (-1/2)`, `V` a mean of squares of the centred `C`: the chain rule's terms
    in the order of a reverse pass, against the closed form. -/
theorem norm_back {n : ℕ} (N : ℝ) (C q : Fin n → ℝ) (R V : ℝ) (hC : ∑ k, C k = 0) (hR : R * R * V = 1) (hV : V ≠ 0) (l : Fin n) :
    q l * R + (∑ k, C k * q k) * (-(1 / 2) * (R / V)) / N * (2 * C l)
        + ((∑ i, -(q i * R)) + ∑ i, -((∑ k, C k * q k) * (-(1 / 2) * (R / V)) / N * (2 * C i))) / N
      = R * (q l - (∑ k, q k) / N - C l * R * ((∑ k, q k * (C k * R)) / N)) := by
  have h1 : ∑ i, -(q i * R) = -((∑ k, q k) * R) := by rw [Finset.sum_neg_distrib, Finset.sum_mul]
  have h2 : ∀ A : ℝ, ∑ i, -(A * (2 * C i)) = 0 := fun A => by
    rw [Finset.sum_neg_distrib, ← Finset.mul_sum, ← Finset.mul_sum, hC]; ring
  have h3 : ∑ k, q k * (C k * R) = (∑ k, C k * q k) * R := by
    rw [Finset.sum_mul]; exact Finset.sum_congr rfl fun k _ => by ring
  have h4 : R / V = R * R * R := by rw [div_eq_iff hV]; linear_combination -R * hR
  rw [h1, h2, h3, h4]
  ring

/-- The reciprocal root's square times its radicand. -/
theorem inv_sqrt_mul {V : ℝ} (h : 0 < V) : (Real.sqrt V)⁻¹ * (Real.sqrt V)⁻¹ * V = 1 := by
  rw [← mul_inv, Real.mul_self_sqrt h.le, inv_mul_cancel₀ h.ne']

/-- A mean of squares plus epsilon is positive. -/
theorem add_eps_pos {n : ℕ} (c : Fin n → ℝ) {N : ℝ} (hN : 0 < N) : 0 < (∑ k, c k * c k) / N + eps :=
  add_pos_of_nonneg_of_pos (div_nonneg (Finset.sum_nonneg fun k _ => mul_self_nonneg (c k)) hN.le) eps_pos

end Cert.Lift

end
-- ==== Proof.ConvNorm.lean ====
module

public import proofs.«01_k».proof.Proof.Gen.ConvNormIdeal.Value
public import proofs.«01_k».proof.Proof.Gen.ConvNormRefIdeal.Read
public import proofs.«01_k».proof.Proof.Lift
public import Idealize.ShloMosaic.Lib.Pipeline.ValueKit

@[expose] public section

set_option maxRecDepth 16384

noncomputable section

namespace Cert.ConvNormIdeal.Body

open Idealize.ShloMosaic Idealize.ShloMosaic.TcCoe Idealize.SL.Sem Cert.Lift
open Cert.ConvNormIdeal Cert.ConvNormIdeal.Gen

/-- A row less its mean. -/
def cen (v : Fin 256 → ℝ) (l : Fin 256) : ℝ := v l - (∑ k, v k) / 256

/-- A row's variance plus epsilon, and the reciprocal of its root. -/
def vr (v : Fin 256 → ℝ) : ℝ := (∑ k, cen v k * cen v k) / 256 + eps
def rsd (v : Fin 256 → ℝ) : ℝ := (Real.sqrt (vr v))⁻¹

theorem vr_pos (v : Fin 256 → ℝ) : 0 < vr v := add_eps_pos _ (by norm_num)

theorem sum_cen (v : Fin 256 → ℝ) : ∑ l, cen v l = 0 := by
  unfold cen
  rw [Finset.sum_sub_distrib, Finset.sum_const, Finset.card_univ, Fintype.card_fin]
  simp; ring

/-- The normed row, scaled and shifted. -/
def nrm (v g b : Fin 256 → ℝ) (l : Fin 256) : ℝ := cen v l * rsd v * g l + b l

/-- The cotangent of the norm's result: that of the product pulled back through the product and the swish. -/
def ct (v g b d : Fin 256 → ℝ) (w : Fin 256 → Fin 256 → ℝ) (l : Fin 256) : ℝ :=
  (∑ k, d k * w l k) * (sgm (nrm v g b l) * (1 + nrm v g b l * (1 - sgm (nrm v g b l))))

section Kernel

variable (x dy : S512x256.Idx → ℝ) (g b : S1x256.Idx → ℝ) (w : S256x256.Idx → ℝ) (r : Fin 512) (l : Fin 256)

/-- Row `r` of a block. -/
abbrev row (x : S512x256.Idx → ℝ) (r : Fin 512) : Fin 256 → ℝ := fun k => x (ix2 r k)
abbrev vec (g : S1x256.Idx → ℝ) : Fin 256 → ℝ := fun k => g (ix2 0 k)
abbrev mat (w : S256x256.Idx → ℝ) : Fin 256 → Fin 256 → ℝ := fun l k => w (ix2 l k)

theorem pay6_at : k0_pay6 (F := Ideal) (up x) (ix2 r l) = ((cen (row x r) l : ℝ) : EReal) := by
  pointwise [k0_pay6]
  rfl

theorem pay7_at : k0_pay7 (F := Ideal) (up x) (ix2 r 0) = ((rsd (row x r) : ℝ) : EReal) := by
  pointwise [k0_pay7, pay6_at]
  exact coe_rsqrt (vr_pos (row x r))

theorem pay8_at : k0_pay8 (F := Ideal) (up x) (ix2 r l) = ((cen (row x r) l * rsd (row x r) : ℝ) : EReal) := by
  pointwise [k0_pay8, pay6_at, pay7_at]

theorem pay10_at : k0_pay10 (F := Ideal) (up x) (up g) (up b) (ix2 r l) = ((nrm (row x r) (vec g) (vec b) l : ℝ) : EReal) := by
  pointwise [k0_pay10, k0_pay9, pay8_at]
  rfl

theorem pay11_at : k0_pay11 (F := Ideal) (up x) (up g) (up b) (ix2 r l) = ((sgm (nrm (row x r) (vec g) (vec b) l) : ℝ) : EReal) := by
  pointwise [k0_pay11, pay10_at]

theorem pay12_at : k0_pay12 (F := Ideal) (up x) (up g) (up b) (ix2 r l)
    = ((nrm (row x r) (vec g) (vec b) l * sgm (nrm (row x r) (vec g) (vec b) l) : ℝ) : EReal) := by
  pointwise [k0_pay12, pay10_at, pay11_at]

theorem pay13_at : k0_pay13 (F := Ideal) (up x) (up g) (up b) (ix2 r l)
    = ((nrm (row x r) (vec g) (vec b) l * (1 - sgm (nrm (row x r) (vec g) (vec b) l)) : ℝ) : EReal) := by
  pointwise [k0_pay13, pay10_at, pay11_at]

/-- The cotangent of the norm's result, over the block. -/
abbrev ctB : FVec Ideal S512x256 .f32 :=
  k0_pay16 (k0_pay11 (up x) (up g) (up b)) (k0_pay13 (up x) (up g) (up b)) 1 (up dy) (up w)

theorem pay16_at : ctB x dy g b w (ix2 r l) = ((ct (row x r) (vec g) (vec b) (row dy r) (mat w) l : ℝ) : EReal) := by
  pointwise [ctB, k0_pay16, k0_pay15, pay11_at, pay13_at]
  rfl

/-- The cotangent scaled by the norm's gain, over the block. -/
abbrev gyB : FVec Ideal S512x256 .f32 :=
  k0_pay19 (k0_pay9 (up g)) (k0_pay11 (up x) (up g) (up b)) (k0_pay13 (up x) (up g) (up b)) 1 (up dy) (up w)

theorem pay19_at : gyB x dy g b w (ix2 r l)
    = ((ct (row x r) (vec g) (vec b) (row dy r) (mat w) l * g (ix2 0 l) : ℝ) : EReal) := by
  pointwise [gyB, k0_pay19, k0_pay9, pay16_at]

/-- The gradient of the norm's argument, as the kernel computes it. -/
def dxK (v g b d : Fin 256 → ℝ) (w : Fin 256 → Fin 256 → ℝ) (l : Fin 256) : ℝ :=
  rsd v * (ct v g b d w l * g l - (∑ k, ct v g b d w k * g k) / 256
    - cen v l * rsd v * ((∑ k, ct v g b d w k * g k * (cen v k * rsd v)) / 256))

theorem pay1_at : k0_pay1 (F := Ideal) (k0_pay7 (up x)) (k0_pay8 (up x))
      (k0_pay20 (k0_pay9 (up g)) (k0_pay11 (up x) (up g) (up b)) (k0_pay13 (up x) (up g) (up b)) 1 (up dy) (up w))
      (k0_pay21 (k0_pay8 (up x)) (k0_pay9 (up g)) (k0_pay11 (up x) (up g) (up b)) (k0_pay13 (up x) (up g) (up b)) 1 (up dy) (up w))
      (ix2 r l) = ((dxK (row x r) (vec g) (vec b) (row dy r) (mat w) l : ℝ) : EReal) := by
  pointwise [k0_pay1, k0_pay20, k0_pay21, pay7_at, pay8_at, pay19_at]
  rfl

end Kernel

/-! ## The reference -/

section Reference

variable (h dy : S8192x256.Idx → ℝ) (cb g b : S256.Idx → ℝ) (w : S256x256.Idx → ℝ) (r : Fin 8192) (l : Fin 256)

section
open Cert.ConvNormRefIdeal.Read
abbrev rrow (h : S8192x256.Idx → ℝ) (cb : S256.Idx → ℝ) (r : Fin 8192) : Fin 256 → ℝ := fun k => h (ix2 r k) + cb (ix1 k)
abbrev rowR (x : S8192x256.Idx → ℝ) (r : Fin 8192) : Fin 256 → ℝ := fun k => x (ix2 r k)
abbrev vec1 (g : S256.Idx → ℝ) : Fin 256 → ℝ := fun k => g (ix1 k)

theorem v36_at : val_main_v36 (F := Ideal) (up h) (up cb) (ix2 r l) = ((cen (rrow h cb r) l : ℝ) : EReal) := by
  pointwise [val_main_v36, val_main_v30, val_main_v29, val_main_v28, val_main_v35, val_main_v34, val_main_v33, val_main_cst_5, val_main_v32, val_main_v31, val_main_cst_4]
  rfl

theorem v45_at : val_main_v45 (F := Ideal) (up h) (up cb) (ix2 r l) = ((cen (rrow h cb r) l : ℝ) : EReal) := v36_at h cb r l

theorem v47_at : val_main_v47 (F := Ideal) (up h) (up cb) (ix2 r 0) = ((vr (rrow h cb r) : ℝ) : EReal) := by
  pointwise [val_main_v47, val_main_v46, val_main_cst_9, val_main_v43, val_main_v42, val_main_cst_8, val_main_v41, val_main_v40, val_main_cst_7, val_main_v37, v36_at]
  rfl

theorem v48_at : val_main_v48 (F := Ideal) (up h) (up cb) (ix2 r 0) = ((rsd (rrow h cb r) : ℝ) : EReal) := by
  pointwise [val_main_v48, v47_at]
  rw [coe_rsqrt (vr_pos _)]; rfl

theorem v51_at : val_main_v51 (F := Ideal) (up h) (up cb) (ix2 r 0) = ((-(1 / 2) * (rsd (rrow h cb r) / vr (rrow h cb r)) : ℝ) : EReal) := by
  pointwise [val_main_v51, val_main_v50, val_main_cst_10, val_main_v49, v47_at, v48_at]
  rw [coe_div (vr_pos _).ne', lift_mul]

theorem v53_at : val_main_v53 (F := Ideal) (up h) (up cb) (ix2 r l) = ((cen (rrow h cb r) l * rsd (rrow h cb r) : ℝ) : EReal) := by
  pointwise [val_main_v53, val_main_v52, v45_at, v48_at]

theorem v59_at : val_main_v59 (F := Ideal) (up h) (up cb) (up g) (up b) (ix2 r l) = ((nrm (rrow h cb r) (vec1 g) (vec1 b) l : ℝ) : EReal) := by
  pointwise [val_main_v59, val_main_v58, val_main_v57, val_main_v56, val_main_v55, val_main_v54, v53_at]
  rfl

theorem v26_at : val_main_v26 (F := Ideal) (up h) (up cb) (up g) (up b) (ix2 r l) = ((nrm (rrow h cb r) (vec1 g) (vec1 b) l : ℝ) : EReal) :=
  v59_at h cb g b r l

theorem v27_at : val_main_v27 (F := Ideal) (up h) (up cb) (up g) (up b) (ix2 r l)
    = ((nrm (rrow h cb r) (vec1 g) (vec1 b) l * sgm (nrm (rrow h cb r) (vec1 g) (vec1 b) l) : ℝ) : EReal) := by
  pointwise [val_main_v27, val_main_call0_v5, val_main_call0_v4, val_main_call0_cst_0, val_main_call0_v3, val_main_call0_v2, val_main_call0_cst, val_main_call0_v1, val_main_call0_v0, v26_at]

theorem v60_2_at : val_main_v60_2 (F := Ideal) (up h) (up cb) (up g) (up b) (ix2 r l)
    = ((sgm (nrm (rrow h cb r) (vec1 g) (vec1 b) l) : ℝ) : EReal) := by
  pointwise [val_main_v60_2, val_main_call1_v4, val_main_call1_cst_0, val_main_call1_v3, val_main_call1_v2, val_main_call1_cst, val_main_call1_v1, val_main_call1_v0, v59_at]

theorem v62_at : val_main_v62 (F := Ideal) (up w) (up dy) (ix2 r l) = ((∑ k, dy (ix2 r k) * w (ix2 l k) : ℝ) : EReal) := by
  pointwise [val_main_v62]

theorem v63_at : val_main_v63 (F := Ideal) (up h) (up cb) (up g) (up b) (up w) (up dy) (ix2 r l)
    = ((ct (rrow h cb r) (vec1 g) (vec1 b) (rowR dy r) (mat w) l : ℝ) : EReal) := by
  pointwise [val_main_v63, val_main_call2_v0, val_main_call2_v1, val_main_call2_v2, val_main_v60_1, val_main_call1_v7, val_main_call1_v6, val_main_call1_cst_1, v59_at, v60_2_at, v62_at]
  congr 1
  unfold ct
  ring

theorem v71_at : val_main_v71 (F := Ideal) (up h) (up cb) (up g) (up b) (up w) (up dy) (ix2 r l)
    = ((ct (rrow h cb r) (vec1 g) (vec1 b) (rowR dy r) (mat w) l * g (ix1 l) : ℝ) : EReal) := by
  pointwise [val_main_v71, val_main_v70, val_main_v54, v63_at]

theorem v77_at : val_main_v77 (F := Ideal) (up h) (up cb) (up g) (up b) (up w) (up dy) (ix2 r l)
    = ((ct (rrow h cb r) (vec1 g) (vec1 b) (rowR dy r) (mat w) l * g (ix1 l) * rsd (rrow h cb r) : ℝ) : EReal) := by
  pointwise [val_main_v77, val_main_v76, v71_at, v48_at]

theorem v86_at : val_main_v86 (F := Ideal) (up h) (up cb) (up g) (up b) (up w) (up dy) (ix2 r l)
    = (((∑ k, cen (rrow h cb r) k * (ct (rrow h cb r) (vec1 g) (vec1 b) (rowR dy r) (mat w) k * g (ix1 k)))
        * (-(1 / 2) * (rsd (rrow h cb r) / vr (rrow h cb r))) / 256 * (2 * cen (rrow h cb r) l) : ℝ) : EReal) := by
  pointwise [val_main_v86, val_main_v85, val_main_v84, val_main_cst_18, val_main_v83, val_main_v82, val_main_cst_17, val_main_v78, val_main_v75, val_main_v74,
    val_main_cst_15, val_main_v73, val_main_v39, val_main_v38, val_main_cst_6, v36_at, v45_at, v71_at, v51_at]

theorem v96_at : val_main_v96 (F := Ideal) (up h) (up cb) (up g) (up b) (up w) (up dy) (ix2 r l)
    = ((dxK (rrow h cb r) (vec1 g) (vec1 b) (rowR dy r) (mat w) l : ℝ) : EReal) := by
  pointwise [val_main_v96, val_main_v95, val_main_v94, val_main_cst_21, val_main_v93, val_main_v92, val_main_cst_20, val_main_v91, val_main_v90, val_main_v89, val_main_v88,
    val_main_cst_19, val_main_v87, val_main_v81, val_main_v80, val_main_cst_16, val_main_v79, v77_at, v86_at]
  exact congrArg _ (norm_back 256 (cen (rrow h cb r)) (fun k => ct (rrow h cb r) (vec1 g) (vec1 b) (rowR dy r) (mat w) k * g (ix1 k)) _ _
    (sum_cen _) (inv_sqrt_mul (vr_pos _)) (vr_pos _).ne' l)

theorem v103_at : val_main_v103 (F := Ideal) (up h) (up cb) (up g) (up b) (up w) (up dy) (ix2 0 l)
    = ((∑ r, ct (rrow h cb r) (vec1 g) (vec1 b) (rowR dy r) (mat w) l : ℝ) : EReal) := by
  pointwise [val_main_v103, val_main_v66, val_main_cst_12, val_main_v65, val_main_v64, val_main_cst_11, v63_at]

theorem v102_at : val_main_v102 (F := Ideal) (up h) (up cb) (up g) (up b) (up w) (up dy) (ix2 0 l)
    = ((∑ r, ct (rrow h cb r) (vec1 g) (vec1 b) (rowR dy r) (mat w) l * (cen (rrow h cb r) l * rsd (rrow h cb r)) : ℝ) : EReal) := by
  pointwise [val_main_v102, val_main_v72, val_main_cst_14, val_main_v69, val_main_v68, val_main_cst_13, val_main_v67, v63_at, v53_at]
  exact congrArg _ (Finset.sum_congr rfl fun k _ => mul_comm _ _)

theorem v104_at : val_main_v104 (F := Ideal) (up h) (up cb) (up g) (up b) (up w) (up dy) (ix2 0 l)
    = ((∑ r, dxK (rrow h cb r) (vec1 g) (vec1 b) (rowR dy r) (mat w) l : ℝ) : EReal) := by
  pointwise [val_main_v104, val_main_v99, val_main_cst_23, val_main_v98, val_main_v97, val_main_cst_22, v96_at]

end

end Reference

end Cert.ConvNormIdeal.Body

end
-- ==== Proof.ConvNormValue.lean ====
module

public import proofs.«01_k».proof.Defs
public import proofs.«01_k».proof.Proof.Gen.Pre_finite_cn
public import proofs.«01_k».proof.Proof.ConvNorm
public import Idealize.ShloMosaic.Lib.Claim

@[expose] public section

set_option maxRecDepth 16384

noncomputable section

namespace Cert.ConvNormIdeal.Body

open Idealize.ShloMosaic Idealize.ShloMosaic.TcCoe Idealize.SL.Sem Cert.Lift
open Cert.ConvNormIdeal Cert.ConvNormIdeal.Gen

/-! ## The arrays after the run -/

section Arrays

variable (m : (ℓ : Loc nD τ sig) → Buf (Elt Ideal) ℓ) (c : Dev nD)
variable (h dy : S8192x256.Idx → ℝ) (cb g b : S256.Idx → ℝ) (w : S256x256.Idx → ℝ)

/-- The arguments' arrays are these real arrays. -/
structure Args : Prop where
  e0 : m ((c.tc : Thread nD τ).loc main_arg0) = up h
  e1 : m ((c.tc : Thread nD τ).loc main_arg1) = up cb
  e2 : m ((c.tc : Thread nD τ).loc main_arg2) = up g
  e3 : m ((c.tc : Thread nD τ).loc main_arg3) = up b
  e4 : m ((c.tc : Thread nD τ).loc main_arg4) = up w
  e5 : m ((c.tc : Thread nD τ).loc main_arg5) = up dy

/-- Row `r` of point `t`'s block in the whole array. -/
def glob (t : Fin cfg0.N) (r : Fin 512) : Fin 8192 := ⟨t.val * 512 + r.val, by have := t.isLt; have : cfg0.N = 16 := N_0; omega⟩

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

variable {m c h dy cb g b w}

theorem in0 (A : Args m c h dy cb g b w) (t : Fin cfg0.N) : iblk m c 0 t = up fun y => dy (ix2 (glob t (y 0)) (y 1)) := by
  funext y
  have e : ((View.whole main_arg5).slice (win0_0.rect t)).emb y = ix2 (glob t (y 0)) (y 1) := by blk_ext [idx t, glob]
  blk_simp [iblk]
  entry_read
  exact (congrFun A.e5 _).trans (by rw [e]; rfl)

theorem in1 (A : Args m c h dy cb g b w) (t : Fin cfg0.N) : iblk m c 1 t = up fun y => h (ix2 (glob t (y 0)) (y 1)) + cb (ix1 (y 1)) := by
  funext y
  have e : ((View.whole main_v2).slice (win0_1.rect t)).emb y = ix2 (glob t (y 0)) (y 1) := by blk_ext [idx t, glob]
  blk_simp [iblk]
  entry_read
  rw [show m (c, Proc.tc.devRef main_arg0) = up h from A.e0, show m (c, Proc.tc.devRef main_arg1) = up cb from A.e1, e]
  pointwise

theorem in2 (A : Args m c h dy cb g b w) (t : Fin cfg0.N) : iblk m c 2 t = up fun y => g (ix1 (y 1)) := by
  funext y
  have e : ((View.whole main_v3).slice (win0_2.rect t)).emb y = ix2 0 (y 1) := by blk_ext [idx t]
  blk_simp [iblk]
  entry_read
  rw [show m (c, Proc.tc.devRef main_arg2) = up g from A.e2, e]
  pointwise

theorem in3 (A : Args m c h dy cb g b w) (t : Fin cfg0.N) : iblk m c 3 t = up fun y => b (ix1 (y 1)) := by
  funext y
  have e : ((View.whole main_v4).slice (win0_3.rect t)).emb y = ix2 0 (y 1) := by blk_ext [idx t]
  blk_simp [iblk]
  entry_read
  rw [show m (c, Proc.tc.devRef main_arg3) = up b from A.e3, e]
  pointwise

theorem in4 (A : Args m c h dy cb g b w) (t : Fin cfg0.N) : iblk m c 4 t = up w := by
  funext y
  have e : ((View.whole main_v5).slice (win0_4.rect t)).emb y = y := by blk_ext [idx t]
  blk_simp [iblk]
  entry_read
  rw [show m (c, Proc.tc.devRef main_arg4) = up w from A.e4, e]
  pointwise

theorem one_bits : (FloatOps.ofBits FTy.f32 1065353216#32 : Ideal .f32) = 1 := Ideal.ofBits_one_f32

theorem final5 (A : Args m c h dy cb g b w) : (dats m 0 c).arrAt 5 (cfgs 0).N
    = up fun i => dxK (rrow h cb (i 0)) (vec1 g) (vec1 b) (rowR dy (i 0)) (mat w) (i 1) := by
  refine (dats m 0 c).arrAt_eq_of_covers 5 _ (by decide +kernel) fun t _ y => ?_
  blk_simp
  rw [after0_5]
  have e : ((View.whole main_v6_0).slice (win0_5.rect t)).emb y = ix2 (glob t (y 0)) (y 1) := by blk_ext [idx t, glob]
  rw [e, eq_ix2 y]
  by_cases h : t.val % 16 = 0
  · rw [outsAt0_A m c t h]; frame_out
    rw [in0 A, in1 A, in2 A, in3 A, in4 A, one_bits]
    exact pay1_at _ _ _ _ _ _ _
  · rw [outsAt0_B m c t h]; frame_out
    rw [in0 A, in1 A, in2 A, in3 A, in4 A, one_bits]
    exact pay1_at _ _ _ _ _ _ _

theorem final6 (A : Args m c h dy cb g b w) : (dats m 0 c).arrAt 6 (cfgs 0).N
    = up fun i => nrm (rrow h cb (i 0)) (vec1 g) (vec1 b) (i 1) * sgm (nrm (rrow h cb (i 0)) (vec1 g) (vec1 b) (i 1)) := by
  refine (dats m 0 c).arrAt_eq_of_covers 6 _ (by decide +kernel) fun t _ y => ?_
  blk_simp
  rw [after0_6]
  have e : ((View.whole main_v6_1).slice (win0_6.rect t)).emb y = ix2 (glob t (y 0)) (y 1) := by blk_ext [idx t, glob]
  rw [e, eq_ix2 y]
  by_cases h : t.val % 16 = 0
  · rw [outsAt0_A m c t h]; frame_out
    rw [in1 A, in2 A, in3 A]
    exact pay12_at _ _ _ _ _
  · rw [outsAt0_B m c t h]; frame_out
    rw [in1 A, in2 A, in3 A]
    exact pay12_at _ _ _ _ _

theorem final7 (A : Args m c h dy cb g b w) : (dats m 0 c).arrAt 7 (cfgs 0).N = up dy := by
  refine (dats m 0 c).arrAt_eq_of_covers 7 _ (by decide +kernel) fun t _ y => ?_
  blk_simp
  rw [after0_7]
  have e : ((View.whole main_v6_2).slice (win0_7.rect t)).emb y = ix2 (glob t (y 0)) (y 1) := by blk_ext [idx t, glob]
  rw [e, eq_ix2 y]
  by_cases h : t.val % 16 = 0
  · rw [outsAt0_A m c t h]; frame_out
    rw [in0 A]
    pointwise [k0_pay15]
  · rw [outsAt0_B m c t h]; frame_out
    rw [in0 A]
    pointwise [k0_pay15]

theorem accG_at (acc : FVec Ideal S1x256 .f32) (x dy : S512x256.Idx → ℝ) (g b : S1x256.Idx → ℝ) (w : S256x256.Idx → ℝ) (l : Fin 256) :
    k0_pay18 (F := Ideal) (k0_pay8 (up x)) (k0_pay11 (up x) (up g) (up b)) (k0_pay13 (up x) (up g) (up b)) 1 (up dy) (up w) acc (ix2 0 l)
      = acc (ix2 0 l) + ∑ r : Fin 512, ((ct (row x r) (vec g) (vec b) (row dy r) (mat w) l * (cen (row x r) l * rsd (row x r)) : ℝ) : EReal) := by
  pointwise [k0_pay18, pay8_at, pay16_at]

theorem accB_at (acc : FVec Ideal S1x256 .f32) (x dy : S512x256.Idx → ℝ) (g b : S1x256.Idx → ℝ) (w : S256x256.Idx → ℝ) (l : Fin 256) :
    k0_pay17 (F := Ideal) (k0_pay11 (up x) (up g) (up b)) (k0_pay13 (up x) (up g) (up b)) 1 (up dy) (up w) acc (ix2 0 l)
      = acc (ix2 0 l) + ∑ r : Fin 512, ((ct (row x r) (vec g) (vec b) (row dy r) (mat w) l : ℝ) : EReal) := by
  pointwise [k0_pay17, pay16_at]

theorem accC_at (acc : FVec Ideal S1x256 .f32) (x dy : S512x256.Idx → ℝ) (g b : S1x256.Idx → ℝ) (w : S256x256.Idx → ℝ) (l : Fin 256) :
    k0_pay2 (F := Ideal) (k0_pay7 (up x)) (k0_pay8 (up x))
      (k0_pay20 (k0_pay9 (up g)) (k0_pay11 (up x) (up g) (up b)) (k0_pay13 (up x) (up g) (up b)) 1 (up dy) (up w))
      (k0_pay21 (k0_pay8 (up x)) (k0_pay9 (up g)) (k0_pay11 (up x) (up g) (up b)) (k0_pay13 (up x) (up g) (up b)) 1 (up dy) (up w)) acc (ix2 0 l)
      = acc (ix2 0 l) + ∑ r : Fin 512, ((dxK (row x r) (vec g) (vec b) (row dy r) (mat w) l : ℝ) : EReal) := by
  pointwise [k0_pay2, pay1_at]

theorem row0 (j : S1x256.Idx) : ∃ l, j = ix2 0 l := ⟨j 1, (eq_ix2 j).trans (congrArg (ix2 · _) (Subsingleton.elim _ _))⟩

/-- Row `r`'s share of the gain's gradient. -/
def shareG (h dy : S8192x256.Idx → ℝ) (cb g b : S256.Idx → ℝ) (w : S256x256.Idx → ℝ) (r : Fin 8192) (l : Fin 256) : ℝ :=
  ct (rrow h cb r) (vec1 g) (vec1 b) (rowR dy r) (mat w) l * (cen (rrow h cb r) l * rsd (rrow h cb r))

/-- The sixteen points' sums of 512 rows are the sum of all rows. -/
theorem sum_points (f : Fin 8192 → ℝ) : ∑ p : Fin cfg0.N, ∑ r : Fin 512, ((f (glob p r) : ℝ) : EReal) = ((∑ r, f r : ℝ) : EReal) := by
  rw [← coe_sum]
  exact Fin.sum_mul_add_congr (S := cfg0.N) (n := 512) (L := 8192) (fun p r _ => rfl) (by decide +kernel)

theorem stepG_A (A : Args m c h dy cb g b w) (t : Fin cfg0.N) (ht : t.val % 16 = 0) (j : S1x256.Idx) :
    (outsAt0 m c t.val t.isLt).2.2.2.1 j = 0 + ∑ r : Fin 512, ((shareG h dy cb g b w (glob t r) (j 1) : ℝ) : EReal) := by
  obtain ⟨l, rfl⟩ := row0 j
  rw [outsAt0_A m c t ht]; frame_out
  rw [in0 A, in1 A, in2 A, in3 A, in4 A, one_bits, accG_at]
  congr 1
  pointwise [k0_pay3]

theorem stepG_B (A : Args m c h dy cb g b w) (t : Fin cfg0.N) (ht : ¬t.val % 16 = 0) (j : S1x256.Idx) :
    (outsAt0 m c t.val t.isLt).2.2.2.1 j = (outsAt0 m c (t.val - 1) (Nat.lt_of_le_of_lt (Nat.sub_le _ _) t.isLt)).2.2.2.1 j
      + ∑ r : Fin 512, ((shareG h dy cb g b w (glob t r) (j 1) : ℝ) : EReal) := by
  obtain ⟨l, rfl⟩ := row0 j
  rw [outsAt0_B m c t ht]; frame_out
  rw [in0 A, in1 A, in2 A, in3 A, in4 A, one_bits, accG_at]
  rfl

theorem final8 (A : Args m c h dy cb g b w) : (dats m 0 c).arrAt 8 (cfgs 0).N = up fun i => ∑ r, shareG h dy cb g b w r (i 1) := by
  refine (dats m 0 c).arrAt_eq_of_after_last 8 t0_15 (by decide +kernel) _ fun j => ?_
  blk_simp
  rw [after0_8, Pipeline.eq_sum_fin_of_reset_step_apply_last (fun n h => (outsAt0 m c n h).2.2.2.1) 16 (fun _ => 0)
    (fun p j => ∑ r : Fin 512, ((shareG h dy cb g b w (glob p r) (j 1) : ℝ) : EReal)) (stepG_A A) (stepG_B A)
    (le_of_eq N_0) t0_15 rfl j, zero_add, sum_points (shareG h dy cb g b w · (j 1))]
  rfl

/-- Row `r`'s share of the shift's gradient. -/
def shareB (h dy : S8192x256.Idx → ℝ) (cb g b : S256.Idx → ℝ) (w : S256x256.Idx → ℝ) (r : Fin 8192) (l : Fin 256) : ℝ :=
  ct (rrow h cb r) (vec1 g) (vec1 b) (rowR dy r) (mat w) l

theorem stepB_A (A : Args m c h dy cb g b w) (t : Fin cfg0.N) (ht : t.val % 16 = 0) (j : S1x256.Idx) :
    (outsAt0 m c t.val t.isLt).2.2.2.2.1 j = 0 + ∑ r : Fin 512, ((shareB h dy cb g b w (glob t r) (j 1) : ℝ) : EReal) := by
  obtain ⟨l, rfl⟩ := row0 j
  rw [outsAt0_A m c t ht]; frame_out
  rw [in0 A, in1 A, in2 A, in3 A, in4 A, one_bits, accB_at]
  congr 1
  pointwise [k0_pay4]

theorem stepB_B (A : Args m c h dy cb g b w) (t : Fin cfg0.N) (ht : ¬t.val % 16 = 0) (j : S1x256.Idx) :
    (outsAt0 m c t.val t.isLt).2.2.2.2.1 j = (outsAt0 m c (t.val - 1) (Nat.lt_of_le_of_lt (Nat.sub_le _ _) t.isLt)).2.2.2.2.1 j
      + ∑ r : Fin 512, ((shareB h dy cb g b w (glob t r) (j 1) : ℝ) : EReal) := by
  obtain ⟨l, rfl⟩ := row0 j
  rw [outsAt0_B m c t ht]; frame_out
  rw [in0 A, in1 A, in2 A, in3 A, in4 A, one_bits, accB_at]
  rfl

theorem final9 (A : Args m c h dy cb g b w) : (dats m 0 c).arrAt 9 (cfgs 0).N = up fun i => ∑ r, shareB h dy cb g b w r (i 1) := by
  refine (dats m 0 c).arrAt_eq_of_after_last 9 t0_15 (by decide +kernel) _ fun j => ?_
  blk_simp
  rw [after0_9, Pipeline.eq_sum_fin_of_reset_step_apply_last (fun n h => (outsAt0 m c n h).2.2.2.2.1) 16 (fun _ => 0)
    (fun p j => ∑ r : Fin 512, ((shareB h dy cb g b w (glob p r) (j 1) : ℝ) : EReal)) (stepB_A A) (stepB_B A)
    (le_of_eq N_0) t0_15 rfl j, zero_add, sum_points (shareB h dy cb g b w · (j 1))]
  rfl

/-- Row `r`'s share of the convolution bias's gradient. -/
def shareC (h dy : S8192x256.Idx → ℝ) (cb g b : S256.Idx → ℝ) (w : S256x256.Idx → ℝ) (r : Fin 8192) (l : Fin 256) : ℝ :=
  dxK (rrow h cb r) (vec1 g) (vec1 b) (rowR dy r) (mat w) l

theorem stepC_A (A : Args m c h dy cb g b w) (t : Fin cfg0.N) (ht : t.val % 16 = 0) (j : S1x256.Idx) :
    (outsAt0 m c t.val t.isLt).2.2.2.2.2 j = 0 + ∑ r : Fin 512, ((shareC h dy cb g b w (glob t r) (j 1) : ℝ) : EReal) := by
  obtain ⟨l, rfl⟩ := row0 j
  rw [outsAt0_A m c t ht]; frame_out
  rw [in0 A, in1 A, in2 A, in3 A, in4 A, one_bits, accC_at]
  congr 1
  pointwise [k0_pay5]

theorem stepC_B (A : Args m c h dy cb g b w) (t : Fin cfg0.N) (ht : ¬t.val % 16 = 0) (j : S1x256.Idx) :
    (outsAt0 m c t.val t.isLt).2.2.2.2.2 j = (outsAt0 m c (t.val - 1) (Nat.lt_of_le_of_lt (Nat.sub_le _ _) t.isLt)).2.2.2.2.2 j
      + ∑ r : Fin 512, ((shareC h dy cb g b w (glob t r) (j 1) : ℝ) : EReal) := by
  obtain ⟨l, rfl⟩ := row0 j
  rw [outsAt0_B m c t ht]; frame_out
  rw [in0 A, in1 A, in2 A, in3 A, in4 A, one_bits, accC_at]
  rfl

theorem final10 (A : Args m c h dy cb g b w) : (dats m 0 c).arrAt 10 (cfgs 0).N = up fun i => ∑ r, shareC h dy cb g b w r (i 1) := by
  refine (dats m 0 c).arrAt_eq_of_after_last 10 t0_15 (by decide +kernel) _ fun j => ?_
  blk_simp
  rw [after0_10, Pipeline.eq_sum_fin_of_reset_step_apply_last (fun n h => (outsAt0 m c n h).2.2.2.2.2) 16 (fun _ => 0)
    (fun p j => ∑ r : Fin 512, ((shareC h dy cb g b w (glob p r) (j 1) : ℝ) : EReal)) (stepC_A A) (stepC_B A)
    (le_of_eq N_0) t0_15 rfl j, zero_add, sum_points (shareC h dy cb g b w · (j 1))]
  rfl

end Arrays

/-! ## The claims -/

/-- The precondition's meaning: every argument is a real array. -/
theorem exists_args (m : (ℓ : Loc nD τ sig) → Buf (Elt Ideal) ℓ) (hm : Pre_ConvNormIdeal_finite_cn m) (c : Dev nD) :
    ∃ h dy cb g b w, Args m c h dy cb g b w := by
  have e := congrFun (hm c) ix0
  dsimp only [Cert.Pre_finite_cn.fn, Cert.Pre_finite_cn.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨h, e0⟩ := exists_up _ _ (fun _ => rfl) _ _ _ _ e0
  obtain ⟨cb, e1⟩ := exists_up _ _ (fun _ => rfl) _ _ _ _ e1
  obtain ⟨g, e2⟩ := exists_up _ _ (fun _ => rfl) _ _ _ _ e2
  obtain ⟨b, e3⟩ := exists_up _ _ (fun _ => rfl) _ _ _ _ e3
  obtain ⟨w, e4⟩ := exists_up _ _ (fun _ => rfl) _ _ _ _ e4
  obtain ⟨dy, e5⟩ := exists_up _ _ (fun _ => rfl) _ _ _ _ e5
  exact ⟨h, dy, cb, g, b, w, e0, e1, e2, e3, e4, e5⟩

/-- The reference's arguments' arrays are these real arrays. -/
structure ArgsR (m : (ℓ : Loc Cert.ConvNormRefIdeal.nD Cert.ConvNormRefIdeal.τ Cert.ConvNormRefIdeal.sig) → Buf (Elt Ideal) ℓ) (c : Dev nD)
    (h dy : S8192x256.Idx → ℝ) (cb g b : S256.Idx → ℝ) (w : S256x256.Idx → ℝ) : Prop where
  e0 : m ((c.tc : Thread nD Cert.ConvNormRefIdeal.τ).loc Cert.ConvNormRefIdeal.main_arg0) = up h
  e1 : m ((c.tc : Thread nD Cert.ConvNormRefIdeal.τ).loc Cert.ConvNormRefIdeal.main_arg1) = up cb
  e2 : m ((c.tc : Thread nD Cert.ConvNormRefIdeal.τ).loc Cert.ConvNormRefIdeal.main_arg2) = up g
  e3 : m ((c.tc : Thread nD Cert.ConvNormRefIdeal.τ).loc Cert.ConvNormRefIdeal.main_arg3) = up b
  e4 : m ((c.tc : Thread nD Cert.ConvNormRefIdeal.τ).loc Cert.ConvNormRefIdeal.main_arg4) = up w
  e5 : m ((c.tc : Thread nD Cert.ConvNormRefIdeal.τ).loc Cert.ConvNormRefIdeal.main_arg5) = up dy

section Reference

open Cert.ConvNormRefIdeal.Read Cert.ConvNormRefIdeal.Value

variable {m : (ℓ : Loc Cert.ConvNormRefIdeal.nD Cert.ConvNormRefIdeal.τ Cert.ConvNormRefIdeal.sig) → Buf (Elt Ideal) ℓ} {c : Dev nD}
variable {h dy : S8192x256.Idx → ℝ} {cb g b : S256.Idx → ℝ} {w : S256x256.Idx → ℝ}

theorem ref0 (B : ArgsR m c h dy cb g b w) : res_main_v96 m c = up fun i => dxK (rrow h cb (i 0)) (vec1 g) (vec1 b) (rowR dy (i 0)) (mat w) (i 1) := by
  refine (val_main_v96_eq m c).trans ?_
  rw [B.e0, B.e1, B.e2, B.e3, B.e4, B.e5]
  funext i
  rw [eq_ix2 i]; exact v96_at ..

theorem ref1 (B : ArgsR m c h dy cb g b w) : res_main_v100 m c
    = up fun i => nrm (rrow h cb (i 0)) (vec1 g) (vec1 b) (i 1) * sgm (nrm (rrow h cb (i 0)) (vec1 g) (vec1 b) (i 1)) := by
  refine (val_main_v100_eq m c).trans ?_
  rw [B.e0, B.e1, B.e2, B.e3]
  funext i
  rw [eq_ix2 i]; exact v27_at ..

theorem ref3 (B : ArgsR m c h dy cb g b w) : res_main_v102 m c = up fun i => ∑ r, shareG h dy cb g b w r (i 1) := by
  refine (val_main_v102_eq m c).trans ?_
  rw [B.e0, B.e1, B.e2, B.e3, B.e4, B.e5]
  funext i
  obtain ⟨l, rfl⟩ := row0 i; exact v102_at ..

theorem ref4 (B : ArgsR m c h dy cb g b w) : res_main_v103 m c = up fun i => ∑ r, shareB h dy cb g b w r (i 1) := by
  refine (val_main_v103_eq m c).trans ?_
  rw [B.e0, B.e1, B.e2, B.e3, B.e4, B.e5]
  funext i
  obtain ⟨l, rfl⟩ := row0 i; exact v103_at ..

theorem ref5 (B : ArgsR m c h dy cb g b w) : res_main_v104 m c = up fun i => ∑ r, shareC h dy cb g b w r (i 1) := by
  refine (val_main_v104_eq m c).trans ?_
  rw [B.e0, B.e1, B.e2, B.e3, B.e4, B.e5]
  funext i
  obtain ⟨l, rfl⟩ := row0 i; exact v104_at ..

end Reference

theorem algebraic : Cert.algebraic_ConvNormIdeal_ConvNormRefIdeal_pre_finite_cn := by
  pair_intro
  · run_from Cert.ConvNormIdeal.Gen.run_main m g
  · refine θ_run_mono (Cert.ConvNormRefIdeal.Value.run m' g') fun r hr c => ?_
    obtain ⟨h, dy, cb, gn, b, w, A⟩ := exists_args m hpre c
    obtain ⟨a0, a1, a2, a3, a4, a5⟩ := hagree c
    have B : ArgsR m' c h dy cb gn b w := ⟨a0.trans A.e0, a1.trans A.e1, a2.trans A.e2, a3.trans A.e3, a4.trans A.e4, a5.trans A.e5⟩
    obtain ⟨r0, r1, r2, r3, r4, r5, ra⟩ := hr c
    exact ⟨r0.trans ((ref0 B).trans (final5 A).symm), r1.trans ((ref1 B).trans (final6 A).symm), r2.trans (B.e5.trans (final7 A).symm),
      r3.trans ((ref3 B).trans (final8 A).symm), r4.trans ((ref4 B).trans (final9 A).symm), r5.trans ((ref5 B).trans (final10 A).symm), ra⟩

/-- The reference is host operations only, and declares no semaphore. -/
theorem frame_ref : Cert.quiescent_ConvNormRefIdeal := fun m ρ _ =>
  (θ_run Cert.ConvNormRefIdeal.defs _ _).mono
    (fun r h => ⟨fun c => (h c).2.2.2.2.2.2, sem_eq_zero_of_no_sems (by decide) r.2⟩) (Cert.ConvNormRefIdeal.Value.run m ρ)

end Cert.ConvNormIdeal.Body

end
-- ==== Proof.FlashTrip.lean ====
module

public import proofs.«01_k».proof.Proof.Gen.FlashIdeal.Skeleton
public import proofs.«01_k».proof.Proof.Gen.FlashIdeal.Loops

@[expose] public section

set_option maxRecDepth 16384

noncomputable section

namespace Cert.FlashIdeal.Body

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Where a trip's tiles lie -/

theorem off5_eq : ∀ (i : grid0.Coords) (t : Fin (k0_t1_loop i).trips), k0_off5 i t = ![1024 * (i 1).val + 2048 * t.val + 1024, 0] := by decide +kernel
theorem off6_eq : ∀ (i : grid0.Coords) (t : Fin (k0_t1_loop i).trips), k0_off6 i t = ![1024 * (i 1).val + 2048 * t.val + 1024, 0] := by decide +kernel
theorem off7a_eq : ∀ (i : grid0.Coords) (t : Fin (k0_t1_loop i).trips), k0_off7 i t 1#32 = ![1024 * (i 1).val + 2048 * t.val + 1536, 0] := by decide +kernel
theorem off8a_eq : ∀ (i : grid0.Coords) (t : Fin (k0_t1_loop i).trips), k0_off8 i t 1#32 = ![1024 * (i 1).val + 2048 * t.val + 1536, 0] := by decide +kernel
theorem off7b_eq : ∀ (i : grid0.Coords) (t : Fin (k0_t1_loop i).trips), k0_off7 i t 2#32 = ![1024 * (i 1).val + 2048 * t.val + 2048, 0] := by decide +kernel
theorem off8b_eq : ∀ (i : grid0.Coords) (t : Fin (k0_t1_loop i).trips), k0_off8 i t 2#32 = ![1024 * (i 1).val + 2048 * t.val + 2048, 0] := by decide +kernel
theorem off9_eq : ∀ (i : grid0.Coords) (t : Fin (k0_t1_loop i).trips), k0_off9 i t = ![1024 * (i 1).val + 2048 * t.val + 2560, 0] := by decide +kernel
theorem off10_eq : ∀ (i : grid0.Coords) (t : Fin (k0_t1_loop i).trips), k0_off10 i t = ![1024 * (i 1).val + 2048 * t.val + 2560, 0] := by decide +kernel

instance (i : grid0.Coords) (t : Fin (k0_t1_loop i).trips) : ClosedOff (k0_off5 i t) := ⟨_, off5_eq i t⟩
instance (i : grid0.Coords) (t : Fin (k0_t1_loop i).trips) : ClosedOff (k0_off6 i t) := ⟨_, off6_eq i t⟩
instance (i : grid0.Coords) (t : Fin (k0_t1_loop i).trips) : ClosedOff (k0_off7 i t 1#32) := ⟨_, off7a_eq i t⟩
instance (i : grid0.Coords) (t : Fin (k0_t1_loop i).trips) : ClosedOff (k0_off8 i t 1#32) := ⟨_, off8a_eq i t⟩
instance (i : grid0.Coords) (t : Fin (k0_t1_loop i).trips) : ClosedOff (k0_off7 i t 2#32) := ⟨_, off7b_eq i t⟩
instance (i : grid0.Coords) (t : Fin (k0_t1_loop i).trips) : ClosedOff (k0_off8 i t 2#32) := ⟨_, off8b_eq i t⟩
instance (i : grid0.Coords) (t : Fin (k0_t1_loop i).trips) : ClosedOff (k0_off9 i t) := ⟨_, off9_eq i t⟩
instance (i : grid0.Coords) (t : Fin (k0_t1_loop i).trips) : ClosedOff (k0_off10 i t) := ⟨_, off10_eq i t⟩

theorem off17_eq : ∀ (i : grid0.Coords), k0_cond2 i = 1#1 → k0_off17 i = ![7168, 0] := by decide +kernel
theorem off19_eq : ∀ (i : grid0.Coords), k0_cond2 i = 1#1 → k0_off19 i = ![7680, 0] := by decide +kernel
theorem trips_eq : ∀ (i : grid0.Coords), (k0_t1_loop i).trips = (7 - (i 1).val) / 2 := by decide +kernel
theorem trips2_eq : ∀ (i : grid0.Coords), Scf.trips (k0_t2_loop i).lb (k0_t2_loop i).ub (k0_t2_loop i).st = 0 := by decide +kernel
theorem cond2_of_odd : ∀ (i : grid0.Coords), (i 1).val % 2 = 1 → ¬k0_cond2 i = 1#1 := by decide +kernel
theorem cond2_of_even : ∀ (i : grid0.Coords), (i 1).val % 2 = 0 → k0_cond2 i = 1#1 := by decide +kernel

/-! ## The loop over the query tiles below the diagonal -/

section Trip
variable {F : FTy → Type} [FloatOps F] [Named F]

abbrev 𝕄 : Type := MT nD τ sig Unit (Elt F) ℕ (UR sig nD τ) ℕ

variable (c : Dev nD) (i : grid0.Coords) (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole) (arg6 : Memref sig .tc .vmem S1024x128 .bf16) (harg6 : arg6.IsWhole)
  (arg7 : Memref sig .tc .vmem S8192x256 .f32) (harg7 : arg7.IsWhole) (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (arg0 arg1 : BitVec 32) (v11 : IVec S1x128 32) (v202 c0_i32_113 c1_i32_114 v222 : BitVec 32)
  (X2 : arg2.view.ty.Contents (Elt F)) (X3 : arg3.view.ty.Contents (Elt F)) (X4 : arg4.view.ty.Contents (Elt F)) (X5 : arg5.view.ty.Contents (Elt F)) (X6 : arg6.view.ty.Contents (Elt F))

/-- What a trip touches: the inputs at their contents, the gradient of the queries and the two accumulators. -/
abbrev Held (f7 : arg7.view.ty.Contents (Elt F)) (f10 : arg10.view.ty.Contents (Elt F)) (f11 : arg11.view.ty.Contents (Elt F)) : sProp (𝕄 (F := F)) :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6) ∗ (arg7.view.loc (c : Thread nD τ) ↦[arg7.view.set]{fullShare} f7)
    ∗ (arg10.view.loc (c : Thread nD τ) ↦[arg10.view.set]{fullShare} f10) ∗ (arg11.view.loc (c : Thread nD τ) ↦[arg11.view.set]{fullShare} f11))

set_option maxHeartbeats 4000000 in
/-- One trip, four query tiles: what it stores, as a function of what it finds. -/
@[irreducible] def trip (k : Fin (k0_t1_loop i).trips) :
    Σ' (L7 : arg7.view.ty.Contents (Elt F) → arg10.view.ty.Contents (Elt F) → arg11.view.ty.Contents (Elt F) → List (View.Piece (Elt F) S8192x256 .f32))
      (L10 : arg7.view.ty.Contents (Elt F) → arg10.view.ty.Contents (Elt F) → arg11.view.ty.Contents (Elt F) → List (View.Piece (Elt F) S2x512x256 .f32)),
      { L11 : arg7.view.ty.Contents (Elt F) → arg10.view.ty.Contents (Elt F) → arg11.view.ty.Contents (Elt F) → List (View.Piece (Elt F) S2x512x128 .f32) //
        ∀ f7 f10 f11,
          Held c arg2 arg3 arg4 arg5 arg6 arg7 arg10 arg11 X2 X3 X4 X5 X6 f7 f10 f11
            ⊢ wp frame (wpE (defs₀ (F := F)) Variants.none (c : Thread nD τ) none) Set.univ
                (k0_t1_body i arg2 harg2 arg3 harg3 arg4 harg4 arg5 harg5 arg6 harg6 arg7 harg7 arg8 harg8 arg9 harg9 arg10 harg10 arg11 harg11 arg0 arg1 v11 v202 c0_i32_113 c1_i32_114 v222 k ())
                (fun _ => Held c arg2 arg3 arg4 arg5 arg6 arg7 arg10 arg11 X2 X3 X4 X5 X6 (arg7.view.writes (Elt F) f7 (L7 f7 f10 f11))
                  (arg10.view.writes (Elt F) f10 (L10 f7 f10 f11)) (arg11.view.writes (Elt F) f11 (L11 f7 f10 f11))) } := by
  refine ⟨?_, ?_, ?_, fun f7 f10 f11 => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨H2, H3, H4, H5, H6, H7, H10, H11⟩
    sl_exec
    sl_step
    sl_close

/-- The three buffers the loop stores into, as the trips before `k` leave them. -/
def st (G : arg7.view.ty.Contents (Elt F) × arg10.view.ty.Contents (Elt F) × arg11.view.ty.Contents (Elt F)) :
    ℕ → arg7.view.ty.Contents (Elt F) × arg10.view.ty.Contents (Elt F) × arg11.view.ty.Contents (Elt F)
  | 0 => G
  | k + 1 =>
    let s := st G k
    if h : k < (k0_t1_loop i).trips then
      let t := trip c i arg2 harg2 arg3 harg3 arg4 harg4 arg5 harg5 arg6 harg6 arg7 harg7 arg8 harg8 arg9 harg9 arg10 harg10 arg11 harg11
        arg0 arg1 v11 v202 c0_i32_113 c1_i32_114 v222 X2 X3 X4 X5 X6 ⟨k, h⟩
      ⟨arg7.view.writes (Elt F) s.1 (t.1 s.1 s.2.1 s.2.2), arg10.view.writes (Elt F) s.2.1 (t.2.1 s.1 s.2.1 s.2.2),
        arg11.view.writes (Elt F) s.2.2 (t.2.2.1 s.1 s.2.1 s.2.2)⟩
    else s

theorem st_succ (G : arg7.view.ty.Contents (Elt F) × arg10.view.ty.Contents (Elt F) × arg11.view.ty.Contents (Elt F)) (k : Fin (k0_t1_loop i).trips) :
    st c i arg2 harg2 arg3 harg3 arg4 harg4 arg5 harg5 arg6 harg6 arg7 harg7 arg8 harg8 arg9 harg9 arg10 harg10 arg11 harg11
        arg0 arg1 v11 v202 c0_i32_113 c1_i32_114 v222 X2 X3 X4 X5 X6 G (k.val + 1)
      = (let s := st c i arg2 harg2 arg3 harg3 arg4 harg4 arg5 harg5 arg6 harg6 arg7 harg7 arg8 harg8 arg9 harg9 arg10 harg10 arg11 harg11
          arg0 arg1 v11 v202 c0_i32_113 c1_i32_114 v222 X2 X3 X4 X5 X6 G k.val
        let t := trip c i arg2 harg2 arg3 harg3 arg4 harg4 arg5 harg5 arg6 harg6 arg7 harg7 arg8 harg8 arg9 harg9 arg10 harg10 arg11 harg11
          arg0 arg1 v11 v202 c0_i32_113 c1_i32_114 v222 X2 X3 X4 X5 X6 k
        ⟨arg7.view.writes (Elt F) s.1 (t.1 s.1 s.2.1 s.2.2), arg10.view.writes (Elt F) s.2.1 (t.2.1 s.1 s.2.1 s.2.2),
          arg11.view.writes (Elt F) s.2.2 (t.2.2.1 s.1 s.2.1 s.2.2)⟩) := by
  rw [st]; exact dif_pos k.isLt

/-- The invariant of the loop. -/
abbrev inv (G : arg7.view.ty.Contents (Elt F) × arg10.view.ty.Contents (Elt F) × arg11.view.ty.Contents (Elt F)) (k : ℕ) (_ : Unit) : sProp (𝕄 (F := F)) :=
  Held c arg2 arg3 arg4 arg5 arg6 arg7 arg10 arg11 X2 X3 X4 X5 X6
    (st c i arg2 harg2 arg3 harg3 arg4 harg4 arg5 harg5 arg6 harg6 arg7 harg7 arg8 harg8 arg9 harg9 arg10 harg10 arg11 harg11
      arg0 arg1 v11 v202 c0_i32_113 c1_i32_114 v222 X2 X3 X4 X5 X6 G k).1
    (st c i arg2 harg2 arg3 harg3 arg4 harg4 arg5 harg5 arg6 harg6 arg7 harg7 arg8 harg8 arg9 harg9 arg10 harg10 arg11 harg11
      arg0 arg1 v11 v202 c0_i32_113 c1_i32_114 v222 X2 X3 X4 X5 X6 G k).2.1
    (st c i arg2 harg2 arg3 harg3 arg4 harg4 arg5 harg5 arg6 harg6 arg7 harg7 arg8 harg8 arg9 harg9 arg10 harg10 arg11 harg11
      arg0 arg1 v11 v202 c0_i32_113 c1_i32_114 v222 X2 X3 X4 X5 X6 G k).2.2

@[instance_reducible] def loopInv_k0_t1 (G7 : arg7.view.ty.Contents (Elt F)) (G10 : arg10.view.ty.Contents (Elt F)) (G11 : arg11.view.ty.Contents (Elt F)) :
    Gen.LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11
      arg0 arg1 v11 v202 c0_i32_113 c1_i32_114 v222 where
  inv := inv c i arg2 harg2 arg3 harg3 arg4 harg4 arg5 harg5 arg6 harg6 arg7 harg7 arg8 harg8 arg9 harg9 arg10 harg10 arg11 harg11
    arg0 arg1 v11 v202 c0_i32_113 c1_i32_114 v222 X2 X3 X4 X5 X6 (G7, G10, G11)
  step k _ := by
    unfold inv
    rw [st_succ]
    exact (trip c i arg2 harg2 arg3 harg3 arg4 harg4 arg5 harg5 arg6 harg6 arg7 harg7 arg8 harg8 arg9 harg9 arg10 harg10 arg11 harg11
      arg0 arg1 v11 v202 c0_i32_113 c1_i32_114 v222 X2 X3 X4 X5 X6 k).2.2.2 _ _ _

/-- The loop, run: what it leaves goes to the rest of the body. -/
theorem loop_run (G7 : arg7.view.ty.Contents (Elt F)) (G10 : arg10.view.ty.Contents (Elt F)) (G11 : arg11.view.ty.Contents (Elt F))
    {β : Type} {kk : Unit → Prog (TpuEff nD τ sig (Elt F) Λ₀ .tc) β} {Q : β → sProp (𝕄 (F := F))} :
    iprop(Held c arg2 arg3 arg4 arg5 arg6 arg7 arg10 arg11 X2 X3 X4 X5 X6 G7 G10 G11
        ∗ (inv c i arg2 harg2 arg3 harg3 arg4 harg4 arg5 harg5 arg6 harg6 arg7 harg7 arg8 harg8 arg9 harg9 arg10 harg10 arg11 harg11
            arg0 arg1 v11 v202 c0_i32_113 c1_i32_114 v222 X2 X3 X4 X5 X6 (G7, G10, G11) (k0_t1_loop i).trips ()
          -∗ wp frame (wpE (defs₀ (F := F)) Variants.none (c : Thread nD τ) none) Set.univ (kk ()) Q))
      ⊢ wp frame (wpE (defs₀ (F := F)) Variants.none (c : Thread nD τ) none) Set.univ
          (Scf.Loop.for (k0_t1_loop i) (k0_t1_ok i) () (k0_t1_body i arg2 harg2 arg3 harg3 arg4 harg4 arg5 harg5 arg6 harg6 arg7 harg7 arg8 harg8 arg9 harg9 arg10 harg10 arg11 harg11
            arg0 arg1 v11 v202 c0_i32_113 c1_i32_114 v222) >>= kk) Q := by
  have h := BIClass.wand_elim (exec_loop frame (wpE (defs₀ (F := F)) Variants.none (c : Thread nD τ) none) Set.univ _ _ _ (k0_t1_ok i) () _
    (loopInv_k0_t1 c i arg2 harg2 arg3 harg3 arg4 harg4 arg5 harg5 arg6 harg6 arg7 harg7 arg8 harg8 arg9 harg9 arg10 harg10 arg11 harg11
      arg0 arg1 v11 v202 c0_i32_113 c1_i32_114 v222 X2 X3 X4 X5 X6 G7 G10 G11) (kk := kk) (Q := Q))
  change iprop(inv c i arg2 harg2 arg3 harg3 arg4 harg4 arg5 harg5 arg6 harg6 arg7 harg7 arg8 harg8 arg9 harg9 arg10 harg10 arg11 harg11
      arg0 arg1 v11 v202 c0_i32_113 c1_i32_114 v222 X2 X3 X4 X5 X6 (G7, G10, G11) 0 ()
      ∗ (∀ acc, inv c i arg2 harg2 arg3 harg3 arg4 harg4 arg5 harg5 arg6 harg6 arg7 harg7 arg8 harg8 arg9 harg9 arg10 harg10 arg11 harg11
      arg0 arg1 v11 v202 c0_i32_113 c1_i32_114 v222 X2 X3 X4 X5 X6 (G7, G10, G11) (k0_t1_loop i).trips acc
        -∗ wp frame (wpE (defs₀ (F := F)) Variants.none (c : Thread nD τ) none) Set.univ (kk acc) Q)) ⊢ _ at h
  iintro ⟨H, Hk⟩
  iapply h
  isplitl [H]
  · unfold inv
    rw [st]
    iexact H
  iintro %acc
  iexact Hk

/-- The second loop has no trips. -/
@[sl_loop, instance_reducible] def loopInv_k0_t2 (v224 : BitVec 32) :
    Gen.LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11
      arg0 arg1 v11 v202 c0_i32_113 c1_i32_114 v222 v224 where
  inv _ _ := iprop(emp)
  step k _ := absurd (lt_of_lt_of_eq k.isLt (trips2_eq i)) (Nat.not_lt_zero _)

end Trip

end Cert.FlashIdeal.Body
-- ==== Proof.FlashRun.lean ====
module

public import proofs.«01_k».proof.Proof.FlashTrip
public import proofs.«01_k».proof.Proof.Gen.FlashIdeal.Frame

@[expose] public section

set_option maxRecDepth 16384

noncomputable section

namespace Cert.FlashIdeal.Body

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (c : Dev nD) (i : grid0.Coords) (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole) (arg6 : Memref sig .tc .vmem S1024x128 .bf16) (harg6 : arg6.IsWhole)
  (arg7 : Memref sig .tc .vmem S8192x256 .f32) (harg7 : arg7.IsWhole) (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (X2 : arg2.view.ty.Contents (Elt F)) (X3 : arg3.view.ty.Contents (Elt F)) (X4 : arg4.view.ty.Contents (Elt F)) (X5 : arg5.view.ty.Contents (Elt F)) (X6 : arg6.view.ty.Contents (Elt F))

/-- The condition under which a point clears the gradient of the queries. -/
abbrev cond0 (i : grid0.Coords) : Prop := Scalar.cmpi .ne (Scalar.extui (Scalar.cmpi .eq (BitVec.ofNat 32 (i 1).val) 0#32) : BitVec 32) 0#32 = 1#1
theorem cond0_of_zero : ∀ i : grid0.Coords, (i 1).val = 0 → cond0 i := by decide +kernel
theorem cond0_of_odd : ∀ i : grid0.Coords, (i 1).val % 2 = 1 → ¬cond0 i := by decide +kernel
theorem cond0_of_pos : ∀ i : grid0.Coords, (i 1).val ≠ 0 → ¬cond0 i := by decide +kernel

/-- The inputs at their contents. -/
abbrev Ins : sProp (𝕄 (F := F)) :=
  iprop((arg2.view.loc (c : Thread nD τ) ↦[arg2.view.set]{fullShare} X2) ∗ (arg3.view.loc (c : Thread nD τ) ↦[arg3.view.set]{fullShare} X3)
    ∗ (arg4.view.loc (c : Thread nD τ) ↦[arg4.view.set]{fullShare} X4) ∗ (arg5.view.loc (c : Thread nD τ) ↦[arg5.view.set]{fullShare} X5)
    ∗ (arg6.view.loc (c : Thread nD τ) ↦[arg6.view.set]{fullShare} X6))

/-- Before the body: the inputs, the gradient of the queries at `f7`, the other buffers at anything. -/
abbrev Pre (f7 : arg7.view.ty.Contents (Elt F)) (f8 : arg8.view.ty.Contents (Elt F)) (f9 : arg9.view.ty.Contents (Elt F))
    (f10 : arg10.view.ty.Contents (Elt F)) (f11 : arg11.view.ty.Contents (Elt F)) : sProp (𝕄 (F := F)) :=
  iprop(Ins c arg2 arg3 arg4 arg5 arg6 X2 X3 X4 X5 X6 ∗ (arg7.view.loc (c : Thread nD τ) ↦[arg7.view.set]{fullShare} f7)
    ∗ (arg8.view.loc (c : Thread nD τ) ↦[arg8.view.set]{fullShare} f8) ∗ (arg9.view.loc (c : Thread nD τ) ↦[arg9.view.set]{fullShare} f9)
    ∗ (arg10.view.loc (c : Thread nD τ) ↦[arg10.view.set]{fullShare} f10) ∗ (arg11.view.loc (c : Thread nD τ) ↦[arg11.view.set]{fullShare} f11))

/-- After it: the gradient of the queries at `g7`, those of the keys and the values written by `L8` and `L9`. -/
abbrev Post (g7 : arg7.view.ty.Contents (Elt F)) (L8 : List (View.Piece (Elt F) S1024x256 .f32)) (L9 : List (View.Piece (Elt F) S1024x128 .f32)) : sProp (𝕄 (F := F)) :=
  iprop(Ins c arg2 arg3 arg4 arg5 arg6 X2 X3 X4 X5 X6 ∗ (arg7.view.loc (c : Thread nD τ) ↦[arg7.view.set]{fullShare} g7)
    ∗ (∃ f, arg8.view.loc (c : Thread nD τ) ↦[arg8.view.set]{fullShare} arg8.view.writes (Elt F) f L8)
    ∗ (∃ f, arg9.view.loc (c : Thread nD τ) ↦[arg9.view.set]{fullShare} arg9.view.writes (Elt F) f L9)
    ∗ (∃ f, arg10.view.loc (c : Thread nD τ) ↦[arg10.view.set]{fullShare} f) ∗ (∃ f, arg11.view.loc (c : Thread nD τ) ↦[arg11.view.set]{fullShare} f))

/-- The body's triple at the point `i`. -/
abbrev Sound (f7 g7 : arg7.view.ty.Contents (Elt F)) (L8 : List (View.Piece (Elt F) S1024x256 .f32)) (L9 : List (View.Piece (Elt F) S1024x128 .f32)) : Prop :=
  ∀ f8 f9 f10 f11, Pre c arg2 arg3 arg4 arg5 arg6 arg7 arg8 arg9 arg10 arg11 X2 X3 X4 X5 X6 f7 f8 f9 f10 f11
    ⊢ wp frame (wpE (defs₀ (F := F)) Variants.none (c : Thread nD τ) none) Set.univ (cc0_flash_backward i arg2 harg2 arg3 harg3 arg4 harg4 arg5 harg5 arg6 harg6 arg7 harg7 arg8 harg8 arg9 harg9 arg10 harg10 arg11 harg11)
        (fun _ => Post c arg2 arg3 arg4 arg5 arg6 arg7 arg8 arg9 arg10 arg11 X2 X3 X4 X5 X6 g7 L8 L9)

set_option maxHeartbeats 8000000 in
/-- The body at the first key block, which clears the gradient of the queries. -/
@[irreducible] def runZero (h0 : (i 1).val = 0) :
    Σ' (g7 : arg7.view.ty.Contents (Elt F)) (L8 : List (View.Piece (Elt F) S1024x256 .f32)),
      { L9 : List (View.Piece (Elt F) S1024x128 .f32) // ∀ f7, Sound c i arg2 harg2 arg3 harg3 arg4 harg4 arg5 harg5 arg6 harg6 arg7 harg7 arg8 harg8 arg9 harg9 arg10 harg10 arg11 harg11 X2 X3 X4 X5 X6 f7 g7 L8 L9 } := by
  have hc2 := cond2_of_even i (by omega)
  have hc0 := cond0_of_zero i h0
  letI : ClosedOff (k0_off17 i) := ⟨_, off17_eq i hc2⟩
  letI : ClosedOff (k0_off19 i) := ⟨_, off19_eq i hc2⟩
  refine ⟨?_, ?_, ?_, fun f7 f8 f9 f10 f11 => ?run⟩
  case run =>
    simp only [cc0_flash_backward_eq_skeleton]; unfold cc0_flash_backward_skel
    simp only [k0_part29_eq_skeleton, k0_part30_eq_skeleton, k0_part31_eq_skeleton, k0_part32_eq_skeleton, k0_part33_eq_skeleton, k0_part34_eq_skeleton, k0_part35_eq_skeleton]
    iintro ⟨⟨H2, H3, H4, H5, H6⟩, H7, H8, H9, H10, H11⟩
    sl_exec (disch := first | sl_exact hc0 | sl_exact hc2)
    iapply (loop_run c i arg2 harg2 arg3 harg3 arg4 harg4 arg5 harg5 arg6 harg6 arg7 harg7 arg8 harg8 arg9 harg9 arg10 harg10 arg11 harg11 _ _ _ _ _ _ _ X2 X3 X4 X5 X6)
    isplitl [H2 H3 H4 H5 H6 H7 H10 H11]
    · sl_close
    iintro ⟨H2, H3, H4, H5, H6, H7, H10, H11⟩
    simp only [k0_part23_eq_skeleton, k0_part24_eq_skeleton, k0_part25_eq_skeleton, k0_part26_eq_skeleton, k0_part27_eq_skeleton, k0_part28_eq_skeleton]
    sl_exec (disch := first | sl_exact hc0 | sl_exact hc2)
    sl_step
    isplitl [H2 H3 H4 H5 H6]
    · sl_close
    isplitl [H7]; · iexact H7
    isplitl [H8]; · iexists _; iexact H8
    isplitl [H9]; · iexists _; iexact H9
    isplitl [H10]; · iexists _; iexact H10
    iexists _; iexact H11

set_option maxHeartbeats 8000000 in
/-- The body at an odd key block. -/
@[irreducible] def runOdd (f7 : arg7.view.ty.Contents (Elt F)) (h : (i 1).val % 2 = 1) :
    Σ' (g7 : arg7.view.ty.Contents (Elt F)) (L8 : List (View.Piece (Elt F) S1024x256 .f32)),
      { L9 : List (View.Piece (Elt F) S1024x128 .f32) // Sound c i arg2 harg2 arg3 harg3 arg4 harg4 arg5 harg5 arg6 harg6 arg7 harg7 arg8 harg8 arg9 harg9 arg10 harg10 arg11 harg11 X2 X3 X4 X5 X6 f7 g7 L8 L9 } := by
  have hc2 := cond2_of_odd i h
  have hc0 := cond0_of_odd i h
  refine ⟨?_, ?_, ?_, fun f8 f9 f10 f11 => ?run⟩
  case run =>
    simp only [cc0_flash_backward_eq_skeleton]; unfold cc0_flash_backward_skel
    simp only [k0_part29_eq_skeleton, k0_part30_eq_skeleton, k0_part31_eq_skeleton, k0_part32_eq_skeleton, k0_part33_eq_skeleton, k0_part34_eq_skeleton, k0_part35_eq_skeleton]
    iintro ⟨⟨H2, H3, H4, H5, H6⟩, H7, H8, H9, H10, H11⟩
    sl_exec (disch := first | sl_exact hc0 | sl_exact hc2)
    iapply (loop_run c i arg2 harg2 arg3 harg3 arg4 harg4 arg5 harg5 arg6 harg6 arg7 harg7 arg8 harg8 arg9 harg9 arg10 harg10 arg11 harg11 _ _ _ _ _ _ _ X2 X3 X4 X5 X6)
    isplitl [H2 H3 H4 H5 H6 H7 H10 H11]
    · sl_close
    iintro ⟨H2, H3, H4, H5, H6, H7, H10, H11⟩
    sl_exec (disch := first | sl_exact hc0 | sl_exact hc2)
    sl_step
    isplitl [H2 H3 H4 H5 H6]
    · sl_close
    isplitl [H7]; · iexact H7
    isplitl [H8]; · iexists _; iexact H8
    isplitl [H9]; · iexists _; iexact H9
    isplitl [H10]; · iexists _; iexact H10
    iexists _; iexact H11

set_option maxHeartbeats 8000000 in
/-- The body at an even key block after the first. -/
@[irreducible] def runEven (f7 : arg7.view.ty.Contents (Elt F)) (h0 : (i 1).val ≠ 0) (h : (i 1).val % 2 = 0) :
    Σ' (g7 : arg7.view.ty.Contents (Elt F)) (L8 : List (View.Piece (Elt F) S1024x256 .f32)),
      { L9 : List (View.Piece (Elt F) S1024x128 .f32) // Sound c i arg2 harg2 arg3 harg3 arg4 harg4 arg5 harg5 arg6 harg6 arg7 harg7 arg8 harg8 arg9 harg9 arg10 harg10 arg11 harg11 X2 X3 X4 X5 X6 f7 g7 L8 L9 } := by
  have hc2 := cond2_of_even i h
  have hc0 := cond0_of_pos i h0
  letI : ClosedOff (k0_off17 i) := ⟨_, off17_eq i hc2⟩
  letI : ClosedOff (k0_off19 i) := ⟨_, off19_eq i hc2⟩
  refine ⟨?_, ?_, ?_, fun f8 f9 f10 f11 => ?run⟩
  case run =>
    simp only [cc0_flash_backward_eq_skeleton]; unfold cc0_flash_backward_skel
    simp only [k0_part29_eq_skeleton, k0_part30_eq_skeleton, k0_part31_eq_skeleton, k0_part32_eq_skeleton, k0_part33_eq_skeleton, k0_part34_eq_skeleton, k0_part35_eq_skeleton]
    iintro ⟨⟨H2, H3, H4, H5, H6⟩, H7, H8, H9, H10, H11⟩
    sl_exec (disch := first | sl_exact hc0 | sl_exact hc2)
    iapply (loop_run c i arg2 harg2 arg3 harg3 arg4 harg4 arg5 harg5 arg6 harg6 arg7 harg7 arg8 harg8 arg9 harg9 arg10 harg10 arg11 harg11 _ _ _ _ _ _ _ X2 X3 X4 X5 X6)
    isplitl [H2 H3 H4 H5 H6 H7 H10 H11]
    · sl_close
    iintro ⟨H2, H3, H4, H5, H6, H7, H10, H11⟩
    simp only [k0_part23_eq_skeleton, k0_part24_eq_skeleton, k0_part25_eq_skeleton, k0_part26_eq_skeleton, k0_part27_eq_skeleton, k0_part28_eq_skeleton]
    sl_exec (disch := first | sl_exact hc0 | sl_exact hc2)
    sl_step
    isplitl [H2 H3 H4 H5 H6]
    · sl_close
    isplitl [H7]; · iexact H7
    isplitl [H8]; · iexists _; iexact H8
    isplitl [H9]; · iexists _; iexact H9
    isplitl [H10]; · iexists _; iexact H10
    iexists _; iexact H11

end Cert.FlashIdeal.Body
-- ==== Proof.FlashFrame.lean ====
module

public import proofs.«01_k».proof.Proof.FlashRun
public import Idealize.ShloMosaic.Lib.Claim

@[expose] public section

set_option maxRecDepth 16384

noncomputable section

namespace Cert.FlashIdeal.Body

open Cert.FlashIdeal Cert.FlashIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## A point's run, over the staging buffers -/

section Point
variable (c : Dev nD) (i : grid0.Coords) (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole) (arg6 : Memref sig .tc .vmem S1024x128 .bf16) (harg6 : arg6.IsWhole)
  (arg7 : Memref sig .tc .vmem S8192x256 .f32) (harg7 : arg7.IsWhole) (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (x2 : Vec F S8192x256 .bf16) (x3 : Vec F S8192x128 .bf16) (x4 : Vec F S8192x128 .f32) (x5 : Vec F S1024x256 .bf16) (x6 : Vec F S1024x128 .bf16) (y : Vec F S8192x256 .f32)

/-- What a point leaves in the three outputs' buffers. -/
@[ext] structure Outs (F : FTy → Type) where
  dq : Vec F S8192x256 .f32
  dk : Vec F S1024x256 .f32
  dv : Vec F S1024x128 .f32

/-- What the body leaves, given what it finds (`y`: the gradient of the queries so far). -/
def step : Outs F :=
  if h0 : (i 1).val = 0 then
    let r := runZero c i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) h0
    ⟨arg7.view.read (Elt F) r.1, arg8.view.read (Elt F) (arg8.view.writes (Elt F) arg8.view.junk r.2.1), arg9.view.read (Elt F) (arg9.view.writes (Elt F) arg9.view.junk r.2.2.1)⟩
  else if h : (i 1).val % 2 = 1 then
    let r := runOdd c i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread y) h
    ⟨arg7.view.read (Elt F) r.1, arg8.view.read (Elt F) (arg8.view.writes (Elt F) arg8.view.junk r.2.1), arg9.view.read (Elt F) (arg9.view.writes (Elt F) arg9.view.junk r.2.2.1)⟩
  else
    let r := runEven c i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread y) h0 (by omega)
    ⟨arg7.view.read (Elt F) r.1, arg8.view.read (Elt F) (arg8.view.writes (Elt F) arg8.view.junk r.2.1), arg9.view.read (Elt F) (arg9.view.writes (Elt F) arg9.view.junk r.2.2.1)⟩

theorem step_zero (h0 : (i 1).val = 0) (y') : step c i arg2 harg2 arg3 harg3 arg4 harg4 arg5 harg5 arg6 harg6 arg7 harg7 arg8 harg8 arg9 harg9 arg10 harg10 arg11 harg11 x2 x3 x4 x5 x6 y = step c i arg2 harg2 arg3 harg3 arg4 harg4 arg5 harg5 arg6 harg6 arg7 harg7 arg8 harg8 arg9 harg9 arg10 harg10 arg11 harg11 x2 x3 x4 x5 x6 y' := by
  unfold step; rw [dif_pos h0, dif_pos h0]

/-- What the body is called with, -/
abbrev OwnsPre : sProp (𝕄 (F := F)) :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6 ∗ owns (c : Thread nD τ) arg7 fullShare y
    ∗ (∃ d, owns (c : Thread nD τ) arg8 fullShare d) ∗ (∃ d, owns (c : Thread nD τ) arg9 fullShare d)
    ∗ (∃ d, owns (c : Thread nD τ) arg10 fullShare d) ∗ (∃ d, owns (c : Thread nD τ) arg11 fullShare d))

/-- and what it returns. -/
abbrev OwnsPost (o : Outs F) : sProp (𝕄 (F := F)) :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6 ∗ owns (c : Thread nD τ) arg7 fullShare o.dq
    ∗ owns (c : Thread nD τ) arg8 fullShare o.dk ∗ owns (c : Thread nD τ) arg9 fullShare o.dv
    ∗ (∃ d, owns (c : Thread nD τ) arg10 fullShare d) ∗ (∃ d, owns (c : Thread nD τ) arg11 fullShare d))

/-- A run of the body, read over the buffers. -/
theorem run_owns {g7 : arg7.view.ty.Contents (Elt F)} {L8 : List (View.Piece (Elt F) S1024x256 .f32)} {L9 : List (View.Piece (Elt F) S1024x128 .f32)}
    (hs : Sound c i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread y) g7 L8 L9)
    (h8 : ∀ z, ∃ pc ∈ L8, z ∈ pc.1.set) (h9 : ∀ z, ∃ pc ∈ L9, z ∈ pc.1.set) :
    OwnsPre c arg2 arg3 arg4 arg5 arg6 arg7 arg8 arg9 arg10 arg11 x2 x3 x4 x5 x6 y
      ⊢ wp frame (wpE (defs₀ (F := F)) Variants.none (c : Thread nD τ) none) Set.univ (cc0_flash_backward i arg2 harg2 arg3 harg3 arg4 harg4 arg5 harg5 arg6 harg6 arg7 harg7 arg8 harg8 arg9 harg9 arg10 harg10 arg11 harg11)
        (fun _ => OwnsPost c arg2 arg3 arg4 arg5 arg6 arg7 arg8 arg9 arg10 arg11 x2 x3 x4 x5 x6
          ⟨arg7.view.read (Elt F) g7, arg8.view.read (Elt F) (arg8.view.writes (Elt F) arg8.view.junk L8),
            arg9.view.read (Elt F) (arg9.view.writes (Elt F) arg9.view.junk L9)⟩) := by
  unfold OwnsPre OwnsPost owns
  iintro ⟨⟨%f2, %h2, H2⟩, ⟨%f3, %h3, H3⟩, ⟨%f4, %h4, H4⟩, ⟨%f5, %h5, H5⟩, ⟨%f6, %h6, H6⟩, ⟨%f7, %h7, H7⟩, ⟨%d8, %f8, -, H8⟩, ⟨%d9, %f9, -, H9⟩, ⟨%d10, %f10, -, H10⟩, ⟨%d11, %f11, -, H11⟩⟩
  obtain rfl := harg2.eq_unread h2; obtain rfl := harg3.eq_unread h3; obtain rfl := harg4.eq_unread h4
  obtain rfl := harg5.eq_unread h5; obtain rfl := harg6.eq_unread h6; obtain rfl := harg7.eq_unread h7
  iapply (wp_wand_r frame (wpE (defs₀ (F := F)) Variants.none (c : Thread nD τ) none) Set.univ)
  isplitl [H2 H3 H4 H5 H6 H7 H8 H9 H10 H11]
  · iapply (hs f8 f9 f10 f11)
    unfold Pre Ins
    sl_close
  iintro %_ ⟨⟨H2, H3, H4, H5, H6⟩, H7, ⟨%e8, H8⟩, ⟨%e9, H9⟩, ⟨%e10, H10⟩, ⟨%e11, H11⟩⟩
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; rfl
    iexact H7
  isplitl [H8]
  · iexists _; isplitr
    swap; · iexact H8
    ipureintro; exact View.read_writes_of_cover _ _ _ _ _ h8
  isplitl [H9]
  · iexists _; isplitr
    swap; · iexact H9
    ipureintro; exact View.read_writes_of_cover _ _ _ _ _ h9
  isplitl [H10]
  · iexists _; iexists _; isplitr
    swap; · iexact H10
    ipureintro; rfl
  iexists _; iexists _; isplitr
  swap; · iexact H11
  ipureintro; rfl

theorem step_sound :
    OwnsPre c arg2 arg3 arg4 arg5 arg6 arg7 arg8 arg9 arg10 arg11 x2 x3 x4 x5 x6 y
      ⊢ wp frame (wpE (defs₀ (F := F)) Variants.none (c : Thread nD τ) none) Set.univ (cc0_flash_backward i arg2 harg2 arg3 harg3 arg4 harg4 arg5 harg5 arg6 harg6 arg7 harg7 arg8 harg8 arg9 harg9 arg10 harg10 arg11 harg11)
        (fun _ => OwnsPost c arg2 arg3 arg4 arg5 arg6 arg7 arg8 arg9 arg10 arg11 x2 x3 x4 x5 x6 (step c i arg2 harg2 arg3 harg3 arg4 harg4 arg5 harg5 arg6 harg6 arg7 harg7 arg8 harg8 arg9 harg9 arg10 harg10 arg11 harg11 x2 x3 x4 x5 x6 y)) := by
  unfold step
  split
  · rename_i h0
    exact run_owns c i arg2 harg2 arg3 harg3 arg4 harg4 arg5 harg5 arg6 harg6 arg7 harg7 arg8 harg8 arg9 harg9 arg10 harg10 arg11 harg11 x2 x3 x4 x5 x6 y
      ((runZero c i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) h0).2.2.2 _)
      (View.cover_of_tiledL _ ![512, 256] (by unfold runZero; sl_kernel_rfl)) (View.cover_of_tiledL _ ![512, 128] (by unfold runZero; sl_kernel_rfl))
  · split
    · rename_i h0 h
      exact run_owns c i arg2 harg2 arg3 harg3 arg4 harg4 arg5 harg5 arg6 harg6 arg7 harg7 arg8 harg8 arg9 harg9 arg10 harg10 arg11 harg11 x2 x3 x4 x5 x6 y
        ((runOdd c i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread y) h).2.2.2)
        (View.cover_of_tiledL _ ![512, 256] (by unfold runOdd; sl_kernel_rfl)) (View.cover_of_tiledL _ ![512, 128] (by unfold runOdd; sl_kernel_rfl))
    · rename_i h0 h
      exact run_owns c i arg2 harg2 arg3 harg3 arg4 harg4 arg5 harg5 arg6 harg6 arg7 harg7 arg8 harg8 arg9 harg9 arg10 harg10 arg11 harg11 x2 x3 x4 x5 x6 y
        ((runEven c i arg2 harg2 arg3 harg3 arg4 harg4 arg5 harg5 arg6 harg6 arg7 harg7 arg8 harg8 arg9 harg9 arg10 harg10 arg11 harg11 (harg2.unread x2) (harg3.unread x3) (harg4.unread x4) (harg5.unread x5) (harg6.unread x6) (harg7.unread y) h0 (by omega)).2.2.2)
        (View.cover_of_tiledL _ ![512, 256] (by unfold runEven; sl_kernel_rfl)) (View.cover_of_tiledL _ ![512, 128] (by unfold runEven; sl_kernel_rfl))

end Point

/-! ## The proof data -/

variable (m : (ℓ : Loc nD τ sig) → Buf (Elt F) ℓ) (ρ : Dev nD → PrngReg)

theorem coords0 : ∀ t : Fin cfg0.N, (grid0.coords t 0).val = t.val / 8 ∧ (grid0.coords t 1).val = t.val % 8 := (by decide +kernel : ∀ t : Fin grid0.N, _)

/-- What point `t` leaves, where it finds `y` in the first output's buffer. -/
def stepAt (c : Dev nD) (t : Fin cfg0.N) (y : Vec F S8192x256 .f32) : Outs F :=
  step c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t) y

theorem stepAt_zero (c : Dev nD) (t : Fin cfg0.N) (h : t.val % 8 = 0) (y y') : stepAt m c t y = stepAt m c t y' := by
  unfold stepAt; exact step_zero _ _ _ _ _ _ _ _ _ _ _ _ _ _ _ _ _ _ _ _ _ _ _ _ _ _ _ _ ((coords0 t).2.trans h) y'

/-- The outputs after each point: the gradient of the queries is carried on from the point before. -/
def outsAt (c : Dev nD) : (n : ℕ) → n < cfg0.N → Outs F
  | 0, h => stepAt m c ⟨0, h⟩ k0_pay189
  | n + 1, h => stepAt m c ⟨n + 1, h⟩ (outsAt c n (Nat.lt_of_succ_lt h)).dq

theorem outsAt_first (c : Dev nD) (t : Fin cfg0.N) (h : t.val % 8 = 0) (y) : outsAt m c t.val t.isLt = stepAt m c t y := by
  obtain ⟨n, hn⟩ := t
  cases n with
  | zero => exact stepAt_zero m c _ h _ _
  | succ n => exact stepAt_zero m c _ h _ _

theorem outsAt_next (c : Dev nD) (t : Fin cfg0.N) (h : t.val % 8 ≠ 0) :
    outsAt m c t.val t.isLt = stepAt m c t (outsAt m c (t.val - 1) (by omega)).dq := by
  obtain ⟨n, hn⟩ := t
  cases n with
  | zero => exact absurd rfl h
  | succ n => rfl

/-- The pipeline's proof data: an input's buffer holds its block, an output's what the points so far left. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).dq
    | ⟨6, _⟩ => (outsAt m c t.val t.isLt).dk
    | ⟨7, _⟩ => (outsAt m c t.val t.isLt).dv
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outsAt m c t.val t.isLt).dq := by dsimp only [dats]
theorem after_6 (c : Dev nD) (t : Fin cfg0.N) : (dats m 0 c).after 6 t = (outsAt m c t.val t.isLt).dk := by dsimp only [dats]
theorem after_7 (c : Dev nD) (t : Fin cfg0.N) : (dats m 0 c).after 7 t = (outsAt m c t.val t.isLt).dv := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d
theorem before_4 (c : Dev nD) (t : Fin cfg0.N) (d) : (dats m 0 c).before 4 t d = iblk m c 4 t := before0_4_of m _ (A_eq m c 4) (after_4 m c) t d

/-- Between two blocks of queries' gradient the buffer is not written back: it holds what the point before left. -/
theorem before_5 (c : Dev nD) (t : Fin cfg0.N) (h : t.val % 8 ≠ 0) (d) : (dats m 0 c).before 5 t d = (outsAt m c (t.val - 1) (by omega)).dq :=
  (Dat.before_out_kept _ 5 rfl t (by omega) (Bool.eq_false_iff.mpr fun hf => by
    have := (flush0_5 _).mp hf; dsimp only at this; omega) (fun _ => rfl) (fun _ _ => rfl) d).trans (by dsimp only [dats])

/-- What the body finds in the first output's buffer leads to what the data say it leaves. -/
theorem outsAt_eq (c : Dev nD) (t : Fin cfg0.N) (d) : outsAt m c t.val t.isLt = stepAt m c t ((dats m 0 c).before 5 t d) := by
  by_cases h : t.val % 8 = 0
  · exact outsAt_first m c t h _
  · rw [before_5 m c t h d]; exact outsAt_next m c t h

theorem PhiA_eq (c : Dev nD) : (Pipeline.ΦA spec0 c : sProp (𝕄 (F := F)))
    = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-! ## The body's obligation -/

def bodyPre (c : Dev nD) (t : Fin cfg0.N) : sProp (𝕄 (F := F)) :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))

def bodyPost (c : Dev nD) (t : Fin cfg0.N) : sProp (𝕄 (F := F)) :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t)
    ∗ owns (c : Thread nD τ) (st0_2 t) fullShare ((dats m 0 c).after 2 t) ∗ owns (c : Thread nD τ) (st0_3 t) fullShare ((dats m 0 c).after 3 t)
    ∗ owns (c : Thread nD τ) (st0_4 t) fullShare ((dats m 0 c).after 4 t) ∗ owns (c : Thread nD τ) (st0_5 t) fullShare ((dats m 0 c).after 5 t)
    ∗ owns (c : Thread nD τ) (st0_6 t) fullShare ((dats m 0 c).after 6 t) ∗ owns (c : Thread nD τ) (st0_7 t) fullShare ((dats m 0 c).after 7 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after_0, after_1, after_2, after_3, after_4, after_5, after_6, after_7]
  iintro ⟨⟨⟨Hs, Hs'⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [outsAt_eq m c t d5]
  iapply (wp_wand_r frame (wpE (defs₀ (F := F)) Variants.none (c : Thread nD τ) none) Set.univ)
  isplitl [Hs Hs' H0 H1 H2 H3 H4 H5 H6 H7]
  · iapply (step_sound c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (iblk m c 0 t) (iblk m c 1 t) (iblk m c 2 t) (iblk m c 3 t) (iblk m c 4 t) ((dats m 0 c).before 5 t d5))
    unfold OwnsPre
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [Hs]; · iexact Hs
    iexact Hs'
  unfold OwnsPost
  iintro %_ ⟨H0, H1, H2, H3, H4, H5, H6, H7, Hs, Hs'⟩
  isplitl [Hs Hs' Hr]
  · isplitl [Hs Hs']
    · isplitl [Hs]; · iexact Hs
      iexact Hs'
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the implicit arguments of `θ_run_frame` are found by unifying its conclusion with this one
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, with the arguments as they were and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FlashIdeal.Body
-- ==== Proof.FlashTile.lean ====
module

public import proofs.«01_k».proof.Proof.Lift
public import proofs.«01_k».proof.Proof.Gen.FlashIdeal.Skeleton

@[expose] public section

set_option maxRecDepth 16384

noncomputable section

namespace Cert.FlashIdeal.Body

open Idealize.ShloMosaic Idealize.ShloMosaic.Pointwise Cert.Lift Cert.FlashIdeal Cert.FlashIdeal.Gen

/-! ## The constants -/

/-- The scores' scale, and `log₂ e`. -/
def att : ℝ := (Real.sqrt 192)⁻¹
def lg : ℝ := (Real.log 2)⁻¹

@[pointwise] theorem named_log2e : (Named.named κ "log2e" 0x3FB8AA3B#32 : Ideal .f32) = ((lg : ℝ) : EReal) := IdealRules.named_const.ideal_named_scalar _ _ _ _ rfl
@[pointwise] theorem named_exp2 : (Named.named κ "exp2_scale" 0x3DD53B95#32 : Ideal .f32) = ((att * lg : ℝ) : EReal) := IdealRules.named_const.ideal_named_scalar _ _ _ _ rfl
@[pointwise] theorem named_att : (Named.named κ "att_scale" 0x3D93CD3A#32 : Ideal .f32) = ((att : ℝ) : EReal) := IdealRules.named_const.ideal_named_scalar _ _ _ _ rfl

@[pointwise] theorem lift_exp2 (a : ℝ) : Ideal.exp2 (a : EReal) = ((Real.rpow 2 a : ℝ) : EReal) := rfl

section Tile
variable {F : FTy → Type} [FloatOps F] [Named F]

/-- A tile of probabilities, from its queries and keys and its rows' log-sum-exps; -/
def tP (q kt : Vec F S512x256 .bf16) (lse : FVec F S512x1 .f32) : FVec F S512x512 .f32 := k0_pay9 lse (k0_pay7 q kt) k0_pay8

/-- on the diagonal, with the keys after a query struck out; -/
def tMask (p : FVec F S512x512 .f32) : FVec F S512x512 .f32 :=
  select (cmpi .sle (iota .tc S512x512 32 [1] iota_S512x512_d1_w32) (iota .tc S512x512 32 [0] iota_S512x512_d0_w32)) p
    (broadcast S512x512 (Scalar.ofBits .f32 0x00000000#32))

/-- what it adds to the values' gradient; -/
def tDV (p : FVec F S512x512 .f32) (dov : Vec F S512x128 .bf16) (acc : Vec F S1x512x128 .f32) : FVec F S1x512x128 .f32 :=
  shapeCast S1x512x128 (addf (shapeCast S512x128 acc shapeCasts_S1x512x128_S512x128)
    (matmul dot_S512x512_S512x128_S512x128_0_0_1_1_n_n none (truncf .bf16 p bitsLt_bf16_f32) (k0_pay2 dov) (constant S512x128 .f32 0x00000000#32)))
    shapeCasts_S512x128_S1x512x128

/-- its scores' gradient; -/
def tDS (p : FVec F S512x512 .f32) (dov : Vec F S512x128 .bf16) (del : FVec F S512x1 .f32) (vt : Vec F S512x128 .bf16) : FVec F S512x512 .bf16 :=
  truncf .bf16 (mulf (mulf p (subf (matmul dot_S512x128_S512x128_S512x512_1_1_0_0_n_n none (k0_pay2 dov)
      (shapeCast S512x128 vt shapeCasts_S512x128_S512x128) (constant S512x512 .f32 0x00000000#32)) (broadcastTo S512x512 del broadcasts_S512x1_S512x512)))
    (broadcast S512x512 (Named.named κ "att_scale" 0x3D93CD3A#32))) bitsLt_bf16_f32

/-- what these add to the keys' gradient -/
def tDK (ds : FVec F S512x512 .bf16) (q : Vec F S512x256 .bf16) (acc : Vec F S1x512x256 .f32) : FVec F S1x512x256 .f32 :=
  shapeCast S1x512x256 (addf (shapeCast S512x256 acc shapeCasts_S1x512x256_S512x256)
    (matmul dot_S512x512_S512x256_S512x256_0_0_1_1_n_n none ds (k0_pay1 q) (constant S512x256 .f32 0x00000000#32))) shapeCasts_S512x256_S1x512x256

/-- and to the queries'. -/
def tDQ (ds : FVec F S512x512 .bf16) (kt : Vec F S512x256 .bf16) : FVec F S512x256 .f32 :=
  matmul dot_S512x512_S512x256_S512x256_1_0_0_1_n_n none ds (k0_pay6 kt) (constant S512x256 .f32 0x00000000#32)

def tAdd (acc : Vec F S512x256 .f32) (x : FVec F S512x256 .f32) : FVec F S512x256 .f32 :=
  addf (shapeCast S512x256 acc shapeCasts_S512x256_S512x256) x

end Tile

/-! ## Their values -/

theorem select_bool (b : Bool) (x y : EReal) : Scalar.select (BitVec.ofBool b) x y = if b then x else y := by cases b <;> rfl

/-- A comparison's choice, as an `if`. -/
theorem sel_eq {a b : ℕ} (ha : a < 2 ^ 31) (hb : b < 2 ^ 31) {x y : EReal} :
    Scalar.select (IntOp.cmpi CmpIPredicate.eq (BitVec.ofNat 32 a) (BitVec.ofNat 32 b)) x y = if a = b then x else y := by
  have e : (BitVec.ofNat 32 a = BitVec.ofNat 32 b) = (a = b) := by
    rw [← BitVec.toNat_inj, BitVec.toNat_ofNat, BitVec.toNat_ofNat, Nat.mod_eq_of_lt (by omega), Nat.mod_eq_of_lt (by omega)]
  simp only [IntOp.cmpi, select_bool, beq_iff_eq, e]

theorem sel_sle {a b : ℕ} (ha : a < 2 ^ 31) (hb : b < 2 ^ 31) {x y : EReal} :
    Scalar.select (IntOp.cmpi CmpIPredicate.sle (BitVec.ofNat 32 a) (BitVec.ofNat 32 b)) x y = if a ≤ b then x else y := by
  have e : (BitVec.ofNat 32 a).sle (BitVec.ofNat 32 b) = decide (a ≤ b) := by
    have h (c : ℕ) (hc : c < 2 ^ 31) : (BitVec.ofNat 32 c).toInt = c := by
      have e : (BitVec.ofNat 32 c).toNat = c := by rw [BitVec.toNat_ofNat]; exact Nat.mod_eq_of_lt (by omega)
      rw [BitVec.toInt_eq_toNat_of_lt (by omega), e]
    rw [BitVec.sle, h a ha, h b hb]; simp
  simp only [IntOp.cmpi, select_bool, e, decide_eq_true_eq]

theorem pick (f : Fin 128 → ℝ) (k : Fin 128) (b : BitVec 32) (hb : b = BitVec.ofNat 32 k.val) :
    ∑ x : Fin 128, Scalar.select (IntOp.cmpi CmpIPredicate.eq (BitVec.ofNat 32 x.val) b) ((f x : ℝ) : EReal) 0 = ((f k : ℝ) : EReal) := by
  subst hb
  rw [Finset.sum_eq_single k, sel_eq (by omega) (by omega), if_pos rfl]
  · intro x _ h
    rw [sel_eq (by omega) (by omega), if_neg fun e => h (Fin.ext e)]
  · exact fun h => absurd (Finset.mem_univ k) h

theorem lse_at (h : Fin 4) (lane : IVec S1x128 32) (hl : ∀ l : Fin 128, lane (ix2 0 l) = BitVec.ofNat 32 l.val) (st : S512x128.Idx → ℝ) (r : Fin 512) (z : Fin 1) :
    k0_pay4 (F := Ideal) (BitVec.ofNat 32 h.val) lane (up st) (ix2 r z) = ((st (ix2 r ⟨2 * h.val, by omega⟩) * lg : ℝ) : EReal) := by
  pointwise [k0_pay4, k0_pay3, hl]
  rw [pick (fun x => st (ix2 r x)) ⟨2 * h.val, by omega⟩ _ (by revert h; decide)]
  pointwise

theorem del_at (h : Fin 4) (lane : IVec S1x128 32) (hl : ∀ l : Fin 128, lane (ix2 0 l) = BitVec.ofNat 32 l.val) (st : S512x128.Idx → ℝ) (r : Fin 512) (z : Fin 1) :
    k0_pay5 (F := Ideal) (BitVec.ofNat 32 h.val) lane (up st) (ix2 r z) = ((st (ix2 r ⟨2 * h.val + 1, by omega⟩) : ℝ) : EReal) := by
  pointwise [k0_pay5, k0_pay3, hl]
  exact pick (fun x => st (ix2 r x)) ⟨2 * h.val + 1, by omega⟩ _ (by revert h; decide)

section Values
variable (q kt : S512x256.Idx → ℝ) (dov vt : S512x128.Idx → ℝ) (lse del : S512x1.Idx → ℝ) (p ds : S512x512.Idx → ℝ) (r n : Fin 512)

theorem tP_at : tP (F := Ideal) (up q) (up kt) (up lse) (ix2 r n) = ((Real.exp (att * (∑ l, q (ix2 r l) * kt (ix2 n l)) - lse (ix2 r 0) * lg⁻¹) : ℝ) : EReal) := by
  pointwise [tP, k0_pay9, k0_pay8, k0_pay7, k0_pay6, k0_pay1]
  refine congrArg (fun x : ℝ => (x : EReal)) ?_
  have h : Real.log 2 ≠ 0 := (Real.log_pos (by norm_num)).ne'
  rw [Real.rpow_eq_pow, Real.rpow_def_of_pos (by norm_num), lg, inv_inv]
  congr 1
  field_simp

theorem tMask_at : tMask (F := Ideal) (up p) (ix2 r n) = ((if n ≤ r then p (ix2 r n) else 0 : ℝ) : EReal) := by
  pointwise [tMask]
  rw [sel_sle (by omega) (by omega)]
  split
  · rename_i h; rw [if_pos (Fin.le_def.mpr h)]
  · rename_i h; rw [if_neg fun e => h (Fin.le_def.mp e)]; rfl

theorem tDV_at (acc : S1x512x128.Idx → ℝ) (z : Fin 1) (l : Fin 128) :
    tDV (F := Ideal) (up p) (up dov) (up acc) (ix3 z n l) = ((acc (ix3 0 n l) + ∑ r, p (ix2 r n) * dov (ix2 r l) : ℝ) : EReal) := by
  pointwise [tDV, k0_pay2]

theorem tDS_at : tDS (F := Ideal) (up p) (up dov) (up del) (up vt) (ix2 r n)
    = ((p (ix2 r n) * ((∑ l, dov (ix2 r l) * vt (ix2 n l)) - del (ix2 r 0)) * att : ℝ) : EReal) := by
  pointwise [tDS, k0_pay2]

theorem tDK_at (acc : S1x512x256.Idx → ℝ) (z : Fin 1) (l : Fin 256) :
    tDK (F := Ideal) (up ds) (up q) (up acc) (ix3 z n l) = ((acc (ix3 0 n l) + ∑ r, ds (ix2 r n) * q (ix2 r l) : ℝ) : EReal) := by
  pointwise [tDK, k0_pay1]

theorem tDQ_at (l : Fin 256) : tDQ (F := Ideal) (up ds) (up kt) (ix2 r l) = ((∑ n, ds (ix2 r n) * kt (ix2 n l) : ℝ) : EReal) := by
  pointwise [tDQ, k0_pay6]

theorem tAdd_at (x y : S512x256.Idx → ℝ) (l : Fin 256) : tAdd (F := Ideal) (up x) (up y) (ix2 r l) = ((x (ix2 r l) + y (ix2 r l) : ℝ) : EReal) := by
  pointwise [tAdd]

end Values

end Cert.FlashIdeal.Body

end
-- ==== Proof.FlashPieces.lean ====
module

public import proofs.«01_k».proof.Proof.FlashFrame
public import proofs.«01_k».proof.Proof.FlashTile
public import Idealize.ShloMosaic.Lib.Pipeline.ValueKit
public import Idealize.ShloMosaic.Lib.HeldBySlice

@[expose] public section

set_option maxRecDepth 16384

noncomputable section

namespace Cert.FlashIdeal.Body

open Cert.FlashIdeal Cert.FlashIdeal.Gen
open Idealize.ShloMosaic Idealize.ShloMosaic.TcCoe Idealize.ShloMosaic.Tactic

/-! ## An accumulator in two halves

A tile updates the first half and then the second, each from what it holds: pieces that read back as the updates composed. -/

section Halves
variable {κ : Kind} {sp : Space} {s : Shape} {e : EltTy} {Val : EltTy → Type} [∀ e, Nonempty (Val e)]
  (v : View sig κ sp s e) {R0 R1 : Rect s} (A : (R0.shape.Idx → Val e) → R0.shape.Idx → Val e) (B : (R1.shape.Idx → Val e) → R1.shape.Idx → Val e)
  (f f' : v.ty.Contents Val) (L : List (View.Piece Val s e))

def start : List (View.Piece Val s e) := [⟨R1, B (v.readAt Val R1.toLoadRect f)⟩, ⟨R0, A (v.readAt Val R0.toLoadRect f)⟩]

def push : List (View.Piece Val s e) :=
  ⟨R1, B (v.readCov (⟨R0, A (v.readCov L R0.toLoadRect)⟩ :: L) R1.toLoadRect)⟩ :: ⟨R0, A (v.readCov L R0.toLoadRect)⟩ :: L

theorem readAt_top (w) : v.readAt Val R0.toLoadRect (v.writes Val f (⟨R0, w⟩ :: L)) = w :=
  (View.readAt_writes_eq_of_cover v f v.junk _ _ fun j => ⟨_, List.mem_cons_self, R0.toLoadRect.idx_mem j⟩).trans (View.readCov_cons_toLoadRect v R0 w L)

theorem readAt_second (h : Disjoint R1.set R0.set) (w w') : v.readAt Val R0.toLoadRect (v.writes Val f (⟨R1, w'⟩ :: ⟨R0, w⟩ :: L)) = w :=
  (View.readAt_writes_eq_of_cover v f v.junk _ _ fun j => ⟨_, List.mem_cons_of_mem _ List.mem_cons_self, R0.toLoadRect.idx_mem j⟩).trans
    ((View.readCov_cons_of_disjoint v ⟨R1, w'⟩ _ R0.toLoadRect h).trans (View.readCov_cons_toLoadRect v R0 w L))

theorem start0 (h : Disjoint R1.set R0.set) : v.readAt Val R0.toLoadRect (v.writes Val f' (start v A B f)) = A (v.readAt Val R0.toLoadRect f) := readAt_second v f' _ h _ _
theorem start1 : v.readAt Val R1.toLoadRect (v.writes Val f' (start v A B f)) = B (v.readAt Val R1.toLoadRect f) := readAt_top v f' _ _
theorem push0 (h : Disjoint R1.set R0.set) : v.readAt Val R0.toLoadRect (v.writes Val f' (push v A B L)) = A (v.readCov L R0.toLoadRect) := readAt_second v f' _ h _ _
theorem push1 (h : Disjoint R0.set R1.set) : v.readAt Val R1.toLoadRect (v.writes Val f' (push v A B L)) = B (v.readCov L R1.toLoadRect) :=
  (readAt_top v f' _ _).trans (congrArg B (View.readCov_cons_of_disjoint v _ _ _ h))

end Halves

/-! ## A tile's updates -/

section Tiles
variable {F : FTy → Type} [FloatOps F] [Named F]
  (arg0 : BitVec 32) (v11 : IVec S1x128 32) (q : Vec F S512x256 .bf16) (dov : Vec F S512x128 .bf16) (st : Vec F S512x128 .f32)
  (kt kt' : Vec F S512x256 .bf16) (vt vt' : Vec F S512x128 .bf16)

abbrev prob : FVec F S512x512 .f32 := tP q kt (k0_pay4 arg0 v11 st)
abbrev grad (p : FVec F S512x512 .f32) : FVec F S512x512 .bf16 := tDS p dov (k0_pay5 arg0 v11 st) vt

def upV (acc : Vec F S1x512x128 .f32) : FVec F S1x512x128 .f32 := tDV (prob arg0 v11 q st kt) dov acc
def upK (acc : Vec F S1x512x256 .f32) : FVec F S1x512x256 .f32 := tDK (grad arg0 v11 dov st vt (prob arg0 v11 q st kt)) q acc
def upQ (acc : Vec F S512x256 .f32) : FVec F S512x256 .f32 :=
  tAdd acc (addf (tDQ (grad arg0 v11 dov st vt (prob arg0 v11 q st kt)) kt) (tDQ (grad arg0 v11 dov st vt' (prob arg0 v11 q st kt')) kt'))

end Tiles

abbrev RV0 : Rect S2x512x128 := Rect.unit ![0, 0, 0] S1x512x128.size inb_S2x512x128_S1x512x128_0_0_0
abbrev RV1 : Rect S2x512x128 := Rect.unit ![1, 0, 0] S1x512x128.size inb_S2x512x128_S1x512x128_1_0_0
abbrev RK0 : Rect S2x512x256 := Rect.unit ![0, 0, 0] S1x512x256.size inb_S2x512x256_S1x512x256_0_0_0
abbrev RK1 : Rect S2x512x256 := Rect.unit ![1, 0, 0] S1x512x256.size inb_S2x512x256_S1x512x256_1_0_0

section Trip
variable {F : FTy → Type} [FloatOps F] [Named F]
variable (c : Dev nD) (i : grid0.Coords) (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole) (arg6 : Memref sig .tc .vmem S1024x128 .bf16) (harg6 : arg6.IsWhole)
  (arg7 : Memref sig .tc .vmem S8192x256 .f32) (harg7 : arg7.IsWhole) (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (arg0 arg1 : BitVec 32) (v11 : IVec S1x128 32) (v202 c0_i32_113 c1_i32_114 v222 : BitVec 32)
  (X2 : arg2.view.ty.Contents (Elt F)) (X3 : arg3.view.ty.Contents (Elt F)) (X4 : arg4.view.ty.Contents (Elt F)) (X5 : arg5.view.ty.Contents (Elt F)) (X6 : arg6.view.ty.Contents (Elt F))
  (k : Fin (k0_t1_loop i).trips) (f7 : arg7.view.ty.Contents (Elt F)) (f10 : arg10.view.ty.Contents (Elt F)) (f11 : arg11.view.ty.Contents (Elt F))

abbrev kt0 : Vec F S512x256 .bf16 := View.readAt (Elt F) arg5.view (Rect.unit (s := S1024x256) ![0, 0] S512x256.size inb_S1024x256_S512x256_0_0).toLoadRect X5
abbrev kt1 : Vec F S512x256 .bf16 := View.readAt (Elt F) arg5.view (Rect.unit (s := S1024x256) ![512, 0] S512x256.size inb_S1024x256_S512x256_512_0).toLoadRect X5
abbrev vt0 : Vec F S512x128 .bf16 := View.readAt (Elt F) arg6.view (Rect.unit (s := S1024x128) ![0, 0] S512x128.size inb_S1024x128_S512x128_0_0).toLoadRect X6
abbrev vt1 : Vec F S512x128 .bf16 := View.readAt (Elt F) arg6.view (Rect.unit (s := S1024x128) ![512, 0] S512x128.size inb_S1024x128_S512x128_512_0).toLoadRect X6

section At
variable (off : Fin 2 → ℕ) (h2 : ∀ a, off a + S512x256.size a ≤ S8192x256.size a) (h3 : ∀ a, off a + S512x128.size a ≤ S8192x128.size a)
/-- The rows from `off` on of the queries, of the cotangent and of the statistics. -/
abbrev qAt : Vec F S512x256 .bf16 := View.readAt (Elt F) arg2.view (Rect.unit (s := S8192x256) off S512x256.size h2).toLoadRect X2
abbrev oAt : Vec F S512x128 .bf16 := View.readAt (Elt F) arg3.view (Rect.unit (s := S8192x128) off S512x128.size h3).toLoadRect X3
abbrev sAt : Vec F S512x128 .f32 := View.readAt (Elt F) arg4.view (Rect.unit (s := S8192x128) off S512x128.size h3).toLoadRect X4

def tileV0 := upV arg0 v11 (qAt arg2 X2 off h2) (oAt arg3 X3 off h3) (sAt arg4 X4 off h3) (kt0 arg5 X5)
def tileV1 := upV arg0 v11 (qAt arg2 X2 off h2) (oAt arg3 X3 off h3) (sAt arg4 X4 off h3) (kt1 arg5 X5)
def tileK0 := upK arg0 v11 (qAt arg2 X2 off h2) (oAt arg3 X3 off h3) (sAt arg4 X4 off h3) (kt0 arg5 X5) (vt0 arg6 X6)
def tileK1 := upK arg0 v11 (qAt arg2 X2 off h2) (oAt arg3 X3 off h3) (sAt arg4 X4 off h3) (kt1 arg5 X5) (vt1 arg6 X6)
def tileQ := upQ arg0 v11 (qAt arg2 X2 off h2) (oAt arg3 X3 off h3) (sAt arg4 X4 off h3) (kt0 arg5 X5) (kt1 arg5 X5) (vt0 arg6 X6) (vt1 arg6 X6)

/-- A tile's rows of the queries' gradient, from what it finds in them. -/
abbrev pieceQ (f7 : arg7.view.ty.Contents (Elt F)) (off : Fin 2 → ℕ) (h2 : ∀ a, off a + S512x256.size a ≤ S8192x256.size a) (h3 : ∀ a, off a + S512x128.size a ≤ S8192x128.size a) : View.Piece (Elt F) S8192x256 .f32 :=
  ⟨Rect.unit (s := S8192x256) off S512x256.size h2, tileQ arg2 arg3 arg4 arg5 arg6 arg0 v11 X2 X3 X4 X5 X6 off h2 h3
    (View.readAt (Elt F) arg7.view (Rect.unit (s := S8192x256) off S512x256.size h2).toLoadRect f7)⟩
end At

/-! A trip's four tiles. -/

theorem trip_V : (trip c i arg2 harg2 arg3 harg3 arg4 harg4 arg5 harg5 arg6 harg6 arg7 harg7 arg8 harg8 arg9 harg9 arg10 harg10 arg11 harg11 arg0 arg1 v11 v202 c0_i32_113 c1_i32_114 v222 X2 X3 X4 X5 X6 k).2.2.1 f7 f10 f11
    = push arg11.view (R0 := RV0) (R1 := RV1)
        (tileV0 arg2 arg3 arg4 arg5 arg0 v11 X2 X3 X4 X5 (k0_off9 i k) (k0_off9_inb i k) (k0_off10_inb i k))
        (tileV1 arg2 arg3 arg4 arg5 arg0 v11 X2 X3 X4 X5 (k0_off9 i k) (k0_off9_inb i k) (k0_off10_inb i k))
      (push arg11.view (R0 := RV0) (R1 := RV1)
        (tileV0 arg2 arg3 arg4 arg5 arg0 v11 X2 X3 X4 X5 (k0_off7 i k 2#32) (k0_off7_inb i k 1) (k0_off8_inb i k 1))
        (tileV1 arg2 arg3 arg4 arg5 arg0 v11 X2 X3 X4 X5 (k0_off7 i k 2#32) (k0_off7_inb i k 1) (k0_off8_inb i k 1))
      (push arg11.view (R0 := RV0) (R1 := RV1)
        (tileV0 arg2 arg3 arg4 arg5 arg0 v11 X2 X3 X4 X5 (k0_off7 i k 1#32) (k0_off7_inb i k 0) (k0_off8_inb i k 0))
        (tileV1 arg2 arg3 arg4 arg5 arg0 v11 X2 X3 X4 X5 (k0_off7 i k 1#32) (k0_off7_inb i k 0) (k0_off8_inb i k 0))
      (start arg11.view (R0 := RV0) (R1 := RV1)
        (tileV0 arg2 arg3 arg4 arg5 arg0 v11 X2 X3 X4 X5 (k0_off5 i k) (k0_off5_inb i k) (k0_off6_inb i k))
        (tileV1 arg2 arg3 arg4 arg5 arg0 v11 X2 X3 X4 X5 (k0_off5 i k) (k0_off5_inb i k) (k0_off6_inb i k)) f11))) := by
  unfold trip; rfl

theorem trip_K : (trip c i arg2 harg2 arg3 harg3 arg4 harg4 arg5 harg5 arg6 harg6 arg7 harg7 arg8 harg8 arg9 harg9 arg10 harg10 arg11 harg11 arg0 arg1 v11 v202 c0_i32_113 c1_i32_114 v222 X2 X3 X4 X5 X6 k).2.1 f7 f10 f11
    = push arg10.view (R0 := RK0) (R1 := RK1)
        (tileK0 arg2 arg3 arg4 arg5 arg6 arg0 v11 X2 X3 X4 X5 X6 (k0_off9 i k) (k0_off9_inb i k) (k0_off10_inb i k))
        (tileK1 arg2 arg3 arg4 arg5 arg6 arg0 v11 X2 X3 X4 X5 X6 (k0_off9 i k) (k0_off9_inb i k) (k0_off10_inb i k))
      (push arg10.view (R0 := RK0) (R1 := RK1)
        (tileK0 arg2 arg3 arg4 arg5 arg6 arg0 v11 X2 X3 X4 X5 X6 (k0_off7 i k 2#32) (k0_off7_inb i k 1) (k0_off8_inb i k 1))
        (tileK1 arg2 arg3 arg4 arg5 arg6 arg0 v11 X2 X3 X4 X5 X6 (k0_off7 i k 2#32) (k0_off7_inb i k 1) (k0_off8_inb i k 1))
      (push arg10.view (R0 := RK0) (R1 := RK1)
        (tileK0 arg2 arg3 arg4 arg5 arg6 arg0 v11 X2 X3 X4 X5 X6 (k0_off7 i k 1#32) (k0_off7_inb i k 0) (k0_off8_inb i k 0))
        (tileK1 arg2 arg3 arg4 arg5 arg6 arg0 v11 X2 X3 X4 X5 X6 (k0_off7 i k 1#32) (k0_off7_inb i k 0) (k0_off8_inb i k 0))
      (start arg10.view (R0 := RK0) (R1 := RK1)
        (tileK0 arg2 arg3 arg4 arg5 arg6 arg0 v11 X2 X3 X4 X5 X6 (k0_off5 i k) (k0_off5_inb i k) (k0_off6_inb i k))
        (tileK1 arg2 arg3 arg4 arg5 arg6 arg0 v11 X2 X3 X4 X5 X6 (k0_off5 i k) (k0_off5_inb i k) (k0_off6_inb i k)) f10))) := by
  unfold trip; rfl

theorem trip_Q : (trip c i arg2 harg2 arg3 harg3 arg4 harg4 arg5 harg5 arg6 harg6 arg7 harg7 arg8 harg8 arg9 harg9 arg10 harg10 arg11 harg11 arg0 arg1 v11 v202 c0_i32_113 c1_i32_114 v222 X2 X3 X4 X5 X6 k).1 f7 f10 f11
    = [pieceQ arg2 arg3 arg4 arg5 arg6 arg7 arg0 v11 X2 X3 X4 X5 X6 f7 (k0_off9 i k) (k0_off9_inb i k) (k0_off10_inb i k),
      pieceQ arg2 arg3 arg4 arg5 arg6 arg7 arg0 v11 X2 X3 X4 X5 X6 f7 (k0_off7 i k 2#32) (k0_off7_inb i k 1) (k0_off8_inb i k 1),
      pieceQ arg2 arg3 arg4 arg5 arg6 arg7 arg0 v11 X2 X3 X4 X5 X6 f7 (k0_off7 i k 1#32) (k0_off7_inb i k 0) (k0_off8_inb i k 0),
      pieceQ arg2 arg3 arg4 arg5 arg6 arg7 arg0 v11 X2 X3 X4 X5 X6 f7 (k0_off5 i k) (k0_off5_inb i k) (k0_off6_inb i k)] := by
  unfold trip; rfl

end Trip

end Cert.FlashIdeal.Body

end
-- ==== Proof.FlashCases.lean ====
module

public import proofs.«01_k».proof.Proof.FlashPieces

@[expose] public section

set_option maxRecDepth 16384

/-! What the three runs of the body leave, as compositions of the tiles' updates. -/

noncomputable section

namespace Cert.FlashIdeal.Body

open Cert.FlashIdeal Cert.FlashIdeal.Gen
open Idealize.ShloMosaic Idealize.ShloMosaic.TcCoe Idealize.ShloMosaic.Tactic

/-! ## The diagonal's tiles -/

section Diagonal
variable {F : FTy → Type} [FloatOps F] [Named F]
  (arg0 : BitVec 32) (v11 : IVec S1x128 32) (q : Vec F S512x256 .bf16) (dov : Vec F S512x128 .bf16) (st : Vec F S512x128 .f32)
  (kt kt' : Vec F S512x256 .bf16) (vt vt' : Vec F S512x128 .bf16)

def upVm (acc : Vec F S1x512x128 .f32) : FVec F S1x512x128 .f32 := tDV (tMask (prob arg0 v11 q st kt)) dov acc
def upKm (acc : Vec F S1x512x256 .f32) : FVec F S1x512x256 .f32 := tDK (grad arg0 v11 dov st vt (tMask (prob arg0 v11 q st kt))) q acc
def upQ1 (acc : Vec F S512x256 .f32) : FVec F S512x256 .f32 := tAdd acc (tDQ (grad arg0 v11 dov st vt (tMask (prob arg0 v11 q st kt))) kt)
def upQ2 (acc : Vec F S512x256 .f32) : FVec F S512x256 .f32 :=
  tAdd acc (addf (tDQ (grad arg0 v11 dov st vt (prob arg0 v11 q st kt)) kt) (tDQ (grad arg0 v11 dov st vt' (tMask (prob arg0 v11 q st kt'))) kt'))

end Diagonal

section Cases
variable {F : FTy → Type} [FloatOps F] [Named F]
variable (c : Dev nD) (i : grid0.Coords) (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole) (arg6 : Memref sig .tc .vmem S1024x128 .bf16) (harg6 : arg6.IsWhole)
  (arg7 : Memref sig .tc .vmem S8192x256 .f32) (harg7 : arg7.IsWhole) (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (X2 : arg2.view.ty.Contents (Elt F)) (X3 : arg3.view.ty.Contents (Elt F)) (X4 : arg4.view.ty.Contents (Elt F)) (X5 : arg5.view.ty.Contents (Elt F)) (X6 : arg6.view.ty.Contents (Elt F))

abbrev head : BitVec 32 := BitVec.ofNat 32 (i 0).val
abbrev lanes : IVec S1x128 32 := iota Kind.tc S1x128 32 [1] iota_S1x128_d1_w32

/-- The two diagonal tiles' rows. -/
abbrev q1 : Vec F S512x256 .bf16 := qAt arg2 X2 (k0_off1 i) (k0_off1_inb i)
abbrev o1 : Vec F S512x128 .bf16 := oAt arg3 X3 (k0_off2 i) (k0_off2_inb i)
abbrev s1 : Vec F S512x128 .f32 := sAt arg4 X4 (k0_off2 i) (k0_off2_inb i)
abbrev q2 : Vec F S512x256 .bf16 := qAt arg2 X2 (k0_off3 i) (k0_off3_inb i)
abbrev o2 : Vec F S512x128 .bf16 := oAt arg3 X3 (k0_off4 i) (k0_off4_inb i)
abbrev s2 : Vec F S512x128 .f32 := sAt arg4 X4 (k0_off4 i) (k0_off4_inb i)

/-- The accumulators as the loop finds them. -/
def entryV : arg11.view.ty.Contents (Elt F) := arg11.view.writes (Elt F) arg11.view.junk
  (push arg11.view (R0 := RV0) (R1 := RV1)
    (upV (head i) lanes (q2 i arg2 X2) (o2 i arg3 X3) (s2 i arg4 X4) (kt0 arg5 X5)) (upVm (head i) lanes (q2 i arg2 X2) (o2 i arg3 X3) (s2 i arg4 X4) (kt1 arg5 X5))
    [⟨RV0, upVm (head i) lanes (q1 i arg2 X2) (o1 i arg3 X3) (s1 i arg4 X4) (kt0 arg5 X5)
        (arg11.view.readCov [⟨Rect.unit ![0, 0, 0] S2x512x128.size inb_S2x512x128_S2x512x128_0_0_0, k0_pay191⟩] RV0.toLoadRect)⟩,
      ⟨Rect.unit ![0, 0, 0] S2x512x128.size inb_S2x512x128_S2x512x128_0_0_0, k0_pay191⟩])

def entryK : arg10.view.ty.Contents (Elt F) := arg10.view.writes (Elt F) arg10.view.junk
  (push arg10.view (R0 := RK0) (R1 := RK1)
    (upK (head i) lanes (q2 i arg2 X2) (o2 i arg3 X3) (s2 i arg4 X4) (kt0 arg5 X5) (vt0 arg6 X6)) (upKm (head i) lanes (q2 i arg2 X2) (o2 i arg3 X3) (s2 i arg4 X4) (kt1 arg5 X5) (vt1 arg6 X6))
    [⟨RK0, upKm (head i) lanes (q1 i arg2 X2) (o1 i arg3 X3) (s1 i arg4 X4) (kt0 arg5 X5) (vt0 arg6 X6)
        (arg10.view.readCov [⟨Rect.unit ![0, 0, 0] S2x512x256.size inb_S2x512x256_S2x512x256_0_0_0, k0_pay190⟩] RK0.toLoadRect)⟩,
      ⟨Rect.unit ![0, 0, 0] S2x512x256.size inb_S2x512x256_S2x512x256_0_0_0, k0_pay190⟩])

abbrev RQ1 : Rect S8192x256 := Rect.unit (k0_off1 i) S512x256.size (k0_off1_inb i)
abbrev RQ2 : Rect S8192x256 := Rect.unit (k0_off3 i) S512x256.size (k0_off3_inb i)

/-- The queries' gradient as the loop finds it: first over what the point before left, -/
def entryQ (f7 : arg7.view.ty.Contents (Elt F)) : arg7.view.ty.Contents (Elt F) := arg7.view.writes (Elt F) f7
  [⟨RQ2 i, upQ2 (head i) lanes (q2 i arg2 X2) (o2 i arg3 X3) (s2 i arg4 X4) (kt0 arg5 X5) (kt1 arg5 X5) (vt0 arg6 X6) (vt1 arg6 X6)
      (arg7.view.readAt (Elt F) (RQ2 i).toLoadRect f7)⟩,
    ⟨RQ1 i, upQ1 (head i) lanes (q1 i arg2 X2) (o1 i arg3 X3) (s1 i arg4 X4) (kt0 arg5 X5) (vt0 arg6 X6)
      (arg7.view.readAt (Elt F) (RQ1 i).toLoadRect f7)⟩]

/-- then over zeros. -/
def zeroQ : List (View.Piece (Elt F) S8192x256 .f32) :=
  [⟨RQ1 i, upQ1 (head i) lanes (q1 i arg2 X2) (o1 i arg3 X3) (s1 i arg4 X4) (kt0 arg5 X5) (vt0 arg6 X6)
      (arg7.view.readCov [⟨Rect.unit ![0, 0] S8192x256.size inb_S8192x256_S8192x256_0_0, k0_pay189⟩] (RQ1 i).toLoadRect)⟩,
    ⟨Rect.unit ![0, 0] S8192x256.size inb_S8192x256_S8192x256_0_0, k0_pay189⟩]

def entryZ : arg7.view.ty.Contents (Elt F) := arg7.view.writes (Elt F) arg7.view.junk
  (⟨RQ2 i, upQ2 (head i) lanes (q2 i arg2 X2) (o2 i arg3 X3) (s2 i arg4 X4) (kt0 arg5 X5) (kt1 arg5 X5) (vt0 arg6 X6) (vt1 arg6 X6)
      (arg7.view.readCov (zeroQ i arg2 arg3 arg4 arg5 arg6 arg7 X2 X3 X4 X5 X6) (RQ2 i).toLoadRect)⟩ :: zeroQ i arg2 arg3 arg4 arg5 arg6 arg7 X2 X3 X4 X5 X6)

/-- The three buffers after the loop, -/
abbrev after (G7 : arg7.view.ty.Contents (Elt F)) : arg7.view.ty.Contents (Elt F) × arg10.view.ty.Contents (Elt F) × arg11.view.ty.Contents (Elt F) :=
  st c i arg2 harg2 arg3 harg3 arg4 harg4 arg5 harg5 arg6 harg6 arg7 harg7 arg8 harg8 arg9 harg9 arg10 harg10 arg11 harg11 (head i) (BitVec.ofNat 32 (i 1).val) lanes (runOdd.sl.v202 i) 0#32 1#32 (runOdd.sl.v222 i) X2 X3 X4 X5 X6
    (G7, entryK i arg2 arg3 arg4 arg5 arg6 arg10 X2 X3 X4 X5 X6, entryV i arg2 arg3 arg4 arg5 arg11 X2 X3 X4 X5) (k0_t1_loop i).trips

/-- and, where an odd number of pairs of tiles is left, after the last pair. -/
def lastV (hc : k0_cond2 i = 1#1) (f11 : arg11.view.ty.Contents (Elt F)) : arg11.view.ty.Contents (Elt F) := arg11.view.writes (Elt F) arg11.view.junk
  (push arg11.view (R0 := RV0) (R1 := RV1)
    (tileV0 arg2 arg3 arg4 arg5 (head i) lanes X2 X3 X4 X5 (k0_off19 i) (k0_off19_inb i hc) (k0_off20_inb i hc))
    (tileV1 arg2 arg3 arg4 arg5 (head i) lanes X2 X3 X4 X5 (k0_off19 i) (k0_off19_inb i hc) (k0_off20_inb i hc))
  (start arg11.view (R0 := RV0) (R1 := RV1)
    (tileV0 arg2 arg3 arg4 arg5 (head i) lanes X2 X3 X4 X5 (k0_off17 i) (k0_off17_inb i hc) (k0_off18_inb i hc))
    (tileV1 arg2 arg3 arg4 arg5 (head i) lanes X2 X3 X4 X5 (k0_off17 i) (k0_off17_inb i hc) (k0_off18_inb i hc)) f11))

def lastK (hc : k0_cond2 i = 1#1) (f10 : arg10.view.ty.Contents (Elt F)) : arg10.view.ty.Contents (Elt F) := arg10.view.writes (Elt F) arg10.view.junk
  (push arg10.view (R0 := RK0) (R1 := RK1)
    (tileK0 arg2 arg3 arg4 arg5 arg6 (head i) lanes X2 X3 X4 X5 X6 (k0_off19 i) (k0_off19_inb i hc) (k0_off20_inb i hc))
    (tileK1 arg2 arg3 arg4 arg5 arg6 (head i) lanes X2 X3 X4 X5 X6 (k0_off19 i) (k0_off19_inb i hc) (k0_off20_inb i hc))
  (start arg10.view (R0 := RK0) (R1 := RK1)
    (tileK0 arg2 arg3 arg4 arg5 arg6 (head i) lanes X2 X3 X4 X5 X6 (k0_off17 i) (k0_off17_inb i hc) (k0_off18_inb i hc))
    (tileK1 arg2 arg3 arg4 arg5 arg6 (head i) lanes X2 X3 X4 X5 X6 (k0_off17 i) (k0_off17_inb i hc) (k0_off18_inb i hc)) f10))

def lastQ (hc : k0_cond2 i = 1#1) (f7 : arg7.view.ty.Contents (Elt F)) : arg7.view.ty.Contents (Elt F) := arg7.view.writes (Elt F) f7
  [pieceQ arg2 arg3 arg4 arg5 arg6 arg7 (head i) lanes X2 X3 X4 X5 X6 f7 (k0_off19 i) (k0_off19_inb i hc) (k0_off20_inb i hc),
    pieceQ arg2 arg3 arg4 arg5 arg6 arg7 (head i) lanes X2 X3 X4 X5 X6 f7 (k0_off17 i) (k0_off17_inb i hc) (k0_off18_inb i hc)]

/-- The pieces copied out of an accumulator. -/
def outK (f10 : arg10.view.ty.Contents (Elt F)) : List (View.Piece (Elt F) S1024x256 .f32) :=
  [⟨Rect.unit (s := S1024x256) ![512, 0] S512x256.size inb_S1024x256_S512x256_512_0, k0_pay229 (arg10.view.readAt (Elt F) RK1.toLoadRect f10)⟩,
    ⟨Rect.unit (s := S1024x256) ![0, 0] S512x256.size inb_S1024x256_S512x256_0_0, k0_pay227 (arg10.view.readAt (Elt F) RK0.toLoadRect f10)⟩]
def outV (f11 : arg11.view.ty.Contents (Elt F)) : List (View.Piece (Elt F) S1024x128 .f32) :=
  [⟨Rect.unit (s := S1024x128) ![512, 0] S512x128.size inb_S1024x128_S512x128_512_0, k0_pay230 (arg11.view.readAt (Elt F) RV1.toLoadRect f11)⟩,
    ⟨Rect.unit (s := S1024x128) ![0, 0] S512x128.size inb_S1024x128_S512x128_0_0, k0_pay228 (arg11.view.readAt (Elt F) RV0.toLoadRect f11)⟩]

section Odd
variable (f7 : arg7.view.ty.Contents (Elt F)) (h : (i 1).val % 2 = 1)

theorem odd_Q : (runOdd c i arg2 harg2 arg3 harg3 arg4 harg4 arg5 harg5 arg6 harg6 arg7 harg7 arg8 harg8 arg9 harg9 arg10 harg10 arg11 harg11 X2 X3 X4 X5 X6 f7 h).1 = (after c i arg2 harg2 arg3 harg3 arg4 harg4 arg5 harg5 arg6 harg6 arg7 harg7 arg8 harg8 arg9 harg9 arg10 harg10 arg11 harg11 X2 X3 X4 X5 X6 (entryQ i arg2 arg3 arg4 arg5 arg6 arg7 X2 X3 X4 X5 X6 f7)).1 := by unfold runOdd; rfl
theorem odd_K : (runOdd c i arg2 harg2 arg3 harg3 arg4 harg4 arg5 harg5 arg6 harg6 arg7 harg7 arg8 harg8 arg9 harg9 arg10 harg10 arg11 harg11 X2 X3 X4 X5 X6 f7 h).2.1 = outK arg10 (after c i arg2 harg2 arg3 harg3 arg4 harg4 arg5 harg5 arg6 harg6 arg7 harg7 arg8 harg8 arg9 harg9 arg10 harg10 arg11 harg11 X2 X3 X4 X5 X6 (entryQ i arg2 arg3 arg4 arg5 arg6 arg7 X2 X3 X4 X5 X6 f7)).2.1 := by unfold runOdd; rfl
theorem odd_V : (runOdd c i arg2 harg2 arg3 harg3 arg4 harg4 arg5 harg5 arg6 harg6 arg7 harg7 arg8 harg8 arg9 harg9 arg10 harg10 arg11 harg11 X2 X3 X4 X5 X6 f7 h).2.2.1 = outV arg11 (after c i arg2 harg2 arg3 harg3 arg4 harg4 arg5 harg5 arg6 harg6 arg7 harg7 arg8 harg8 arg9 harg9 arg10 harg10 arg11 harg11 X2 X3 X4 X5 X6 (entryQ i arg2 arg3 arg4 arg5 arg6 arg7 X2 X3 X4 X5 X6 f7)).2.2 := by unfold runOdd; rfl

end Odd

section Even
variable (f7 : arg7.view.ty.Contents (Elt F)) (h0 : (i 1).val ≠ 0) (h : (i 1).val % 2 = 0)

theorem even_Q : (runEven c i arg2 harg2 arg3 harg3 arg4 harg4 arg5 harg5 arg6 harg6 arg7 harg7 arg8 harg8 arg9 harg9 arg10 harg10 arg11 harg11 X2 X3 X4 X5 X6 f7 h0 h).1 = lastQ i arg2 arg3 arg4 arg5 arg6 arg7 X2 X3 X4 X5 X6 (cond2_of_even i h) (after c i arg2 harg2 arg3 harg3 arg4 harg4 arg5 harg5 arg6 harg6 arg7 harg7 arg8 harg8 arg9 harg9 arg10 harg10 arg11 harg11 X2 X3 X4 X5 X6 (entryQ i arg2 arg3 arg4 arg5 arg6 arg7 X2 X3 X4 X5 X6 f7)).1 := by unfold runEven; rfl
theorem even_K : (runEven c i arg2 harg2 arg3 harg3 arg4 harg4 arg5 harg5 arg6 harg6 arg7 harg7 arg8 harg8 arg9 harg9 arg10 harg10 arg11 harg11 X2 X3 X4 X5 X6 f7 h0 h).2.1 = outK arg10 (lastK i arg2 arg3 arg4 arg5 arg6 arg10 X2 X3 X4 X5 X6 (cond2_of_even i h) (after c i arg2 harg2 arg3 harg3 arg4 harg4 arg5 harg5 arg6 harg6 arg7 harg7 arg8 harg8 arg9 harg9 arg10 harg10 arg11 harg11 X2 X3 X4 X5 X6 (entryQ i arg2 arg3 arg4 arg5 arg6 arg7 X2 X3 X4 X5 X6 f7)).2.1) := by unfold runEven; rfl
theorem even_V : (runEven c i arg2 harg2 arg3 harg3 arg4 harg4 arg5 harg5 arg6 harg6 arg7 harg7 arg8 harg8 arg9 harg9 arg10 harg10 arg11 harg11 X2 X3 X4 X5 X6 f7 h0 h).2.2.1 = outV arg11 (lastV i arg2 arg3 arg4 arg5 arg11 X2 X3 X4 X5 (cond2_of_even i h) (after c i arg2 harg2 arg3 harg3 arg4 harg4 arg5 harg5 arg6 harg6 arg7 harg7 arg8 harg8 arg9 harg9 arg10 harg10 arg11 harg11 X2 X3 X4 X5 X6 (entryQ i arg2 arg3 arg4 arg5 arg6 arg7 X2 X3 X4 X5 X6 f7)).2.2) := by unfold runEven; rfl

end Even

section Zero
variable (h0 : (i 1).val = 0)

theorem zero_Q : (runZero c i arg2 harg2 arg3 harg3 arg4 harg4 arg5 harg5 arg6 harg6 arg7 harg7 arg8 harg8 arg9 harg9 arg10 harg10 arg11 harg11 X2 X3 X4 X5 X6 h0).1 = lastQ i arg2 arg3 arg4 arg5 arg6 arg7 X2 X3 X4 X5 X6 (cond2_of_even i (by rw [h0])) (after c i arg2 harg2 arg3 harg3 arg4 harg4 arg5 harg5 arg6 harg6 arg7 harg7 arg8 harg8 arg9 harg9 arg10 harg10 arg11 harg11 X2 X3 X4 X5 X6 (entryZ i arg2 arg3 arg4 arg5 arg6 arg7 X2 X3 X4 X5 X6)).1 := by unfold runZero; rfl
theorem zero_K : (runZero c i arg2 harg2 arg3 harg3 arg4 harg4 arg5 harg5 arg6 harg6 arg7 harg7 arg8 harg8 arg9 harg9 arg10 harg10 arg11 harg11 X2 X3 X4 X5 X6 h0).2.1 = outK arg10 (lastK i arg2 arg3 arg4 arg5 arg6 arg10 X2 X3 X4 X5 X6 (cond2_of_even i (by rw [h0])) (after c i arg2 harg2 arg3 harg3 arg4 harg4 arg5 harg5 arg6 harg6 arg7 harg7 arg8 harg8 arg9 harg9 arg10 harg10 arg11 harg11 X2 X3 X4 X5 X6 (entryZ i arg2 arg3 arg4 arg5 arg6 arg7 X2 X3 X4 X5 X6)).2.1) := by unfold runZero; rfl
theorem zero_V : (runZero c i arg2 harg2 arg3 harg3 arg4 harg4 arg5 harg5 arg6 harg6 arg7 harg7 arg8 harg8 arg9 harg9 arg10 harg10 arg11 harg11 X2 X3 X4 X5 X6 h0).2.2.1 = outV arg11 (lastV i arg2 arg3 arg4 arg5 arg11 X2 X3 X4 X5 (cond2_of_even i (by rw [h0])) (after c i arg2 harg2 arg3 harg3 arg4 harg4 arg5 harg5 arg6 harg6 arg7 harg7 arg8 harg8 arg9 harg9 arg10 harg10 arg11 harg11 X2 X3 X4 X5 X6 (entryZ i arg2 arg3 arg4 arg5 arg6 arg7 X2 X3 X4 X5 X6)).2.2) := by unfold runZero; rfl

end Zero

end Cases

end Cert.FlashIdeal.Body

end
-- ==== Proof.FlashReal.lean ====
module

public import proofs.«01_k».proof.Proof.FlashCases

@[expose] public section

set_option maxRecDepth 16384

/-! A grid point's tiles over finite inputs: the masked probabilities and score gradients of a block of 1024 keys, and the
    sums over the query tiles done so far that the accumulators hold. Rows and keys are counted by natural numbers. -/

noncomputable section

namespace Cert.FlashIdeal.Body

open Cert.FlashIdeal Cert.FlashIdeal.Gen
open Idealize.ShloMosaic Idealize.ShloMosaic.TcCoe Idealize.ShloMosaic.Tactic
open Cert.Lift
open scoped BigOperators

def row (r : ℕ) : Fin 8192 := Fin.ofNat 8192 r
def key (n : ℕ) : Fin 1024 := Fin.ofNat 1024 n

theorem row_eq {r : ℕ} (h : r < 8192) : row r = ⟨r, h⟩ := Fin.ext (Nat.mod_eq_of_lt h)
theorem key_eq {n : ℕ} (h : n < 1024) : key n = ⟨n, h⟩ := Fin.ext (Nat.mod_eq_of_lt h)

/-- What a grid point works on: a head's queries, cotangents and statistics, its `j`-th block of keys and values. -/
structure Data where
  Q : S8192x256.Idx → ℝ
  D : S8192x128.Idx → ℝ
  S : S8192x128.Idx → ℝ
  K : S1024x256.Idx → ℝ
  V : S1024x128.Idx → ℝ
  h : Fin 4
  j : ℕ

namespace Data
variable (X : Data)

def pr (r : Fin 8192) (n : Fin 1024) : ℝ := Real.exp (att * (∑ l, X.Q (ix2 r l) * X.K (ix2 n l)) - X.S (ix2 r ⟨2 * X.h.val, by omega⟩))
def pm (r n : ℕ) : ℝ := if 1024 * X.j + n ≤ r then X.pr (row r) (key n) else 0
def dsm (r n : ℕ) : ℝ := X.pm r n * ((∑ l, X.D (ix2 (row r) l) * X.V (ix2 (key n) l)) - X.S (ix2 (row r) ⟨2 * X.h.val + 1, by omega⟩)) * att

/-- The sums over the rows of the first `T` tiles; a row's sum over the block's keys. -/
def sumV (T n : ℕ) (l : Fin 128) : ℝ := ∑ r ∈ Finset.range (512 * T), X.pm r n * X.D (ix2 (row r) l)
def sumK (T n : ℕ) (l : Fin 256) : ℝ := ∑ r ∈ Finset.range (512 * T), X.dsm r n * X.Q (ix2 (row r) l)
def gq (r : ℕ) (l : Fin 256) : ℝ := ∑ n ∈ Finset.range 1024, X.dsm r n * X.K (ix2 (key n) l)

def tq (o : ℕ) : S512x256.Idx → ℝ := fun y => X.Q (ix2 (row (o + (y 0).val)) (y 1))
def td (o : ℕ) : S512x128.Idx → ℝ := fun y => X.D (ix2 (row (o + (y 0).val)) (y 1))
def ts (o : ℕ) : S512x128.Idx → ℝ := fun y => X.S (ix2 (row (o + (y 0).val)) (y 1))
def tk (b : ℕ) : S512x256.Idx → ℝ := fun y => X.K (ix2 (key (b + (y 0).val)) (y 1))
def tv (b : ℕ) : S512x128.Idx → ℝ := fun y => X.V (ix2 (key (b + (y 0).val)) (y 1))
def tp (o b : ℕ) : S512x512.Idx → ℝ := fun y => X.pr (row (o + (y 0).val)) (key (b + (y 1).val))
def tm (o b : ℕ) : S512x512.Idx → ℝ := fun y => X.pm (o + (y 0).val) (b + (y 1).val)
def tds (o b : ℕ) : S512x512.Idx → ℝ := fun y => X.dsm (o + (y 0).val) (b + (y 1).val)
def aV (T b : ℕ) : S1x512x128.Idx → ℝ := fun z => X.sumV T (b + (z 1).val) (z 2)
def aK (T b : ℕ) : S1x512x256.Idx → ℝ := fun z => X.sumK T (b + (z 1).val) (z 2)

/-- The queries' gradient after `T` tiles, over what was there. -/
def dqS (Y : ℕ → Fin 256 → ℝ) (T : ℕ) : S8192x256.Idx → ℝ := fun y => Y (y 0).val (y 1) + if (y 0).val < 512 * T then X.gq (y 0).val (y 1) else 0

/-! ## Before the block's diagonal nothing is added -/

theorem pm_early {r n : ℕ} (h : r < 1024 * X.j + n) : X.pm r n = 0 := if_neg (by omega)
theorem dsm_early {r n : ℕ} (h : r < 1024 * X.j + n) : X.dsm r n = 0 := by rw [dsm, pm_early X h, zero_mul, zero_mul]
theorem sumV_early {T n : ℕ} (h : 512 * T ≤ 1024 * X.j + n) (l : Fin 128) : X.sumV T n l = 0 :=
  Finset.sum_eq_zero fun r hr => by rw [pm_early X (by have := Finset.mem_range.1 hr; omega), zero_mul]
theorem sumK_early {T n : ℕ} (h : 512 * T ≤ 1024 * X.j + n) (l : Fin 256) : X.sumK T n l = 0 :=
  Finset.sum_eq_zero fun r hr => by rw [dsm_early X (by have := Finset.mem_range.1 hr; omega), zero_mul]
theorem gq_early {r : ℕ} (h : r < 1024 * X.j) (l : Fin 256) : X.gq r l = 0 :=
  Finset.sum_eq_zero fun n _ => by rw [dsm_early X (by omega), zero_mul]

/-! ## A further tile -/

theorem sumV_succ (T n : ℕ) (l : Fin 128) : X.sumV (T + 1) n l = X.sumV T n l + ∑ r : Fin 512, X.pm (512 * T + r.val) n * X.D (ix2 (row (512 * T + r.val)) l) := by
  rw [sumV, mul_add, mul_one, Finset.sum_range_add, Finset.sum_range (n := 512)]; rfl
theorem sumK_succ (T n : ℕ) (l : Fin 256) : X.sumK (T + 1) n l = X.sumK T n l + ∑ r : Fin 512, X.dsm (512 * T + r.val) n * X.Q (ix2 (row (512 * T + r.val)) l) := by
  rw [sumK, mul_add, mul_one, Finset.sum_range_add, Finset.sum_range (n := 512)]; rfl
theorem gq_halves (r : ℕ) (l : Fin 256) : X.gq r l = (∑ n : Fin 512, X.dsm r (0 + n.val) * X.K (ix2 (key (0 + n.val)) l))
    + ∑ n : Fin 512, X.dsm r (512 + n.val) * X.K (ix2 (key (512 + n.val)) l) := by
  refine (Finset.sum_range_add (fun n => X.dsm r n * X.K (ix2 (key n) l)) 512 512).trans ?_
  rw [Finset.sum_range (n := 512), Finset.sum_range (n := 512)]
  simp only [zero_add]

end Data

/-! ## The tiles' updates -/

section Updates
variable (X : Data)

abbrev lns : IVec S1x128 32 := iota Kind.tc S1x128 32 [1] iota_S1x128_d1_w32

theorem lns_at (l : Fin 128) : lns (ix2 0 l) = BitVec.ofNat 32 l.val := by pointwise [lns]

theorem prob_up (o b : ℕ) : prob (F := Ideal) (BitVec.ofNat 32 X.h.val) lns (up (X.tq o)) (up (X.ts o)) (up (X.tk b)) = up (X.tp o b) := by
  have e : k0_pay4 (F := Ideal) (BitVec.ofNat 32 X.h.val) lns (up (X.ts o)) = up (fun y : S512x1.Idx => X.ts o (ix2 (y 0) ⟨2 * X.h.val, by omega⟩) * lg) := by
    funext y; rw [eq_ix2 y]; exact lse_at X.h _ lns_at _ _ _
  have hlg : lg ≠ 0 := inv_ne_zero (Real.log_pos (by norm_num)).ne'
  funext y
  rw [prob, e, eq_ix2 y]
  refine (tP_at _ _ _ _ _).trans (congrArg (fun x : ℝ => (x : EReal)) ?_)
  simp only [Data.tp, Data.pr, Data.tq, Data.tk, Data.ts, mul_inv_cancel_right₀ hlg]
  rfl

theorem mask_up (o b : ℕ) (h : o = 1024 * X.j + b) : tMask (F := Ideal) (up (X.tp o b)) = up (X.tm o b) := by
  funext y
  rw [eq_ix2 y]
  refine (tMask_at _ _ _).trans (congrArg (fun x : ℝ => (x : EReal)) ?_)
  simp only [Data.tm, Data.pm]
  refine if_congr (Fin.le_def.trans ?_) rfl rfl
  show (y 1).val ≤ (y 0).val ↔ 1024 * X.j + (b + (y 1).val) ≤ o + (y 0).val
  omega

theorem tm_below (o b : ℕ) (h : 1024 * X.j + b + 512 ≤ o) : up (X.tp o b) = up (X.tm o b) := by
  funext y
  refine congrArg (fun x : ℝ => (x : EReal)) ?_
  have h1 : (y 1).val < 512 := (y 1).isLt
  simp only [Data.tm, Data.pm]
  rw [if_pos (by omega)]; rfl

theorem grad_up (o b : ℕ) : grad (F := Ideal) (BitVec.ofNat 32 X.h.val) lns (up (X.td o)) (up (X.ts o)) (up (X.tv b)) (up (X.tm o b)) = up (X.tds o b) := by
  have e : k0_pay5 (F := Ideal) (BitVec.ofNat 32 X.h.val) lns (up (X.ts o)) = up (fun y : S512x1.Idx => X.ts o (ix2 (y 0) ⟨2 * X.h.val + 1, by omega⟩)) := by
    funext y; rw [eq_ix2 y]; exact del_at X.h _ lns_at _ _ _
  funext y
  rw [grad, e, eq_ix2 y]
  exact (tDS_at _ _ _ _ _ _).trans rfl

theorem dV_up (T b : ℕ) : tDV (F := Ideal) (up (X.tm (512 * T) b)) (up (X.td (512 * T))) (up (X.aV T b)) = up (X.aV (T + 1) b) := by
  funext z
  obtain ⟨z0, n, l, rfl⟩ : ∃ a b c, z = ix3 a b c := ⟨_, _, _, eq_ix3 z⟩
  exact (tDV_at _ _ _ _ _ _).trans (congrArg (fun x : ℝ => (x : EReal)) (X.sumV_succ T _ l).symm)

theorem dK_up (T b : ℕ) : tDK (F := Ideal) (up (X.tds (512 * T) b)) (up (X.tq (512 * T))) (up (X.aK T b)) = up (X.aK (T + 1) b) := by
  funext z
  obtain ⟨z0, n, l, rfl⟩ : ∃ a b c, z = ix3 a b c := ⟨_, _, _, eq_ix3 z⟩
  exact (tDK_at _ _ _ _ _ _).trans (congrArg (fun x : ℝ => (x : EReal)) (X.sumK_succ T _ l).symm)

theorem dQ_up (o b : ℕ) : tDQ (F := Ideal) (up (X.tds o b)) (up (X.tk b)) = up (fun y : S512x256.Idx => ∑ n : Fin 512, X.dsm (o + (y 0).val) (b + n.val) * X.K (ix2 (key (b + n.val)) (y 1))) := by
  funext y
  rw [eq_ix2 y]
  exact (tDQ_at _ _ _ _).trans rfl

/-- Both halves of the block, or the first where the second is masked. -/
theorem dQ_both (o : ℕ) (Y : ℕ → Fin 256 → ℝ) :
    tAdd (F := Ideal) (up (fun y : S512x256.Idx => Y (o + (y 0).val) (y 1)))
      (addf (tDQ (up (X.tds o 0)) (up (X.tk 0))) (tDQ (up (X.tds o 512)) (up (X.tk 512))))
    = up (fun y : S512x256.Idx => Y (o + (y 0).val) (y 1) + X.gq (o + (y 0).val) (y 1)) := by
  rw [dQ_up, dQ_up]
  funext y
  have e : ∀ a b : S512x256.Idx → ℝ, addf (F := Ideal) (φ := .f32) (up a) (up b) = up (fun y => a y + b y) := fun a b => by
    funext y; pointwise
  rw [e, eq_ix2 y]
  refine (tAdd_at _ _ _ _).trans (congrArg (fun x : ℝ => (x : EReal)) ?_)
  exact congrArg (Y _ _ + ·) (X.gq_halves _ _).symm

theorem dQ_first (o : ℕ) (ho : o = 1024 * X.j) (Y : ℕ → Fin 256 → ℝ) :
    tAdd (F := Ideal) (up (fun y : S512x256.Idx => Y (o + (y 0).val) (y 1))) (tDQ (up (X.tds o 0)) (up (X.tk 0)))
    = up (fun y : S512x256.Idx => Y (o + (y 0).val) (y 1) + X.gq (o + (y 0).val) (y 1)) := by
  rw [dQ_up]
  funext y
  rw [eq_ix2 y]
  refine (tAdd_at _ _ _ _).trans (congrArg (fun x : ℝ => (x : EReal)) ?_)
  have h0 : (y 0).val < 512 := (y 0).isLt
  refine congrArg (Y _ _ + ·) (Eq.symm ((X.gq_halves _ _).trans ?_))
  refine (congrArg (_ + ·) (Finset.sum_eq_zero fun n _ => ?_)).trans (add_zero _)
  rw [X.dsm_early (by show o + (y 0).val < _; omega), zero_mul]

end Updates

end Cert.FlashIdeal.Body

end
-- ==== Proof.FlashMath.lean ====
module

public import proofs.«01_k».proof.Proof.FlashReal

@[expose] public section

set_option maxRecDepth 16384

/-! The gradients of causal softmax attention over real arrays: of queries `q`, keys `k`, values `v` and the output's
    cotangent `d`. -/

noncomputable section

namespace Cert.FlashIdeal.Body

open Cert.FlashIdeal Cert.FlashIdeal.Gen
open Idealize.ShloMosaic Idealize.ShloMosaic.TcCoe Idealize.ShloMosaic.Tactic
open Cert.Lift
open scoped BigOperators

section Math
variable (q k : S8192x4x192.Idx → ℝ) (v d : S8192x4x128.Idx → ℝ)

/-- The scaled scores; their exponentials at or before the query's position, and a row's sum; the weights. -/
def sc (h : Fin 4) (i j : Fin 8192) : ℝ := (∑ l, q (ix3 i h l) * k (ix3 j h l)) * att
def wt (h : Fin 4) (i j : Fin 8192) : ℝ := if j ≤ i then Real.exp (sc q k h i j) else 0
def tw (h : Fin 4) (i : Fin 8192) : ℝ := ∑ j, wt q k h i j
def pb (h : Fin 4) (i j : Fin 8192) : ℝ := wt q k h i j / tw q k h i
/-- The weights' cotangent, its mean under the weights, the scores' gradient. -/
def dp (h : Fin 4) (i j : Fin 8192) : ℝ := ∑ l, d (ix3 i h l) * v (ix3 j h l)
def dl (h : Fin 4) (i : Fin 8192) : ℝ := ∑ j, dp v d h i j * pb q k h i j
def ds (h : Fin 4) (i j : Fin 8192) : ℝ := pb q k h i j * (dp v d h i j - dl q k v d h i) * att
/-- The gradients. -/
def gradQ (h : Fin 4) (i : Fin 8192) (l : Fin 192) : ℝ := ∑ j, ds q k v d h i j * k (ix3 j h l)
def gradK (h : Fin 4) (j : Fin 8192) (l : Fin 192) : ℝ := ∑ i, ds q k v d h i j * q (ix3 i h l)
def gradV (h : Fin 4) (j : Fin 8192) (l : Fin 128) : ℝ := ∑ i, pb q k h i j * d (ix3 i h l)

theorem wt_nonneg (h : Fin 4) (i j : Fin 8192) : 0 ≤ wt q k h i j := by
  unfold wt; split
  · exact (Real.exp_pos _).le
  · exact le_rfl

theorem tw_pos (h : Fin 4) (i : Fin 8192) : 0 < tw q k h i :=
  Finset.sum_pos' (fun j _ => wt_nonneg q k h i j) ⟨i, Finset.mem_univ _, by rw [wt, if_pos le_rfl]; exact Real.exp_pos _⟩

/-! ## A row shifted by any real number -/

variable (T : ℝ)

def ew (h : Fin 4) (i j : Fin 8192) : ℝ := if j ≤ i then Real.exp (sc q k h i j - T) else 0
def es (h : Fin 4) (i : Fin 8192) : ℝ := ∑ j, ew q k T h i j

theorem ew_eq (h : Fin 4) (i j : Fin 8192) : ew q k T h i j = wt q k h i j * Real.exp (-T) := by
  unfold ew wt; split
  · rw [← Real.exp_add, sub_eq_add_neg]
  · rw [zero_mul]
theorem es_eq (h : Fin 4) (i : Fin 8192) : es q k T h i = tw q k h i * Real.exp (-T) := by
  rw [es, tw, Finset.sum_mul]; exact Finset.sum_congr rfl fun j _ => ew_eq ..
theorem es_pos (h : Fin 4) (i : Fin 8192) : 0 < es q k T h i := by
  rw [es_eq]; exact mul_pos (tw_pos ..) (Real.exp_pos _)
theorem ew_div (h : Fin 4) (i j : Fin 8192) : ew q k T h i j / es q k T h i = pb q k h i j := by
  rw [ew_eq, es_eq, pb, mul_div_mul_right _ _ (Real.exp_ne_zero _)]
theorem log_es (h : Fin 4) (i : Fin 8192) : T + Real.log (es q k T h i) = Real.log (tw q k h i) := by
  rw [es_eq, Real.log_mul (tw_pos ..).ne' (Real.exp_ne_zero _), Real.log_exp]; ring

/-- The reference's order: the quotient's two cotangents, summed. -/
theorem ds_ref (h : Fin 4) (i j : Fin 8192) :
    (dp v d h i j / es q k T h i + -(∑ j', dp v d h i j' * (1 / (es q k T h i * es q k T h i)) * ew q k T h i j')) * ew q k T h i j * att = ds q k v d h i j := by
  have e : (∑ j', dp v d h i j' * (1 / (es q k T h i * es q k T h i)) * ew q k T h i j') = dl q k v d h i / es q k T h i := by
    rw [dl, Finset.sum_div]
    refine Finset.sum_congr rfl fun j' _ => ?_
    rw [← ew_div q k T]
    have := (es_pos q k T h i).ne'
    field_simp
  rw [e, ds, ← ew_div q k T]
  ring

/-- The rows' sum of output times cotangent is the weights' mean of their cotangent. -/
theorem sum_do_o (h : Fin 4) (i : Fin 8192) : ∑ l, d (ix3 i h l) * (∑ j, v (ix3 j h l) * pb q k h i j) = dl q k v d h i := by
  simp_rw [dl, dp, Finset.mul_sum, Finset.sum_mul]
  rw [Finset.sum_comm]
  exact Finset.sum_congr rfl fun j _ => Finset.sum_congr rfl fun l _ => by ring

/-! ## A head's 192 columns in 256 -/

def wide (x : Fin 192 → ℝ) (l : Fin 256) : ℝ := if h : l.val < 192 then x ⟨l.val, h⟩ else 0

theorem sum_wide (x y : Fin 192 → ℝ) : ∑ l, wide x l * wide y l = ∑ l, x l * y l := by
  rw [show (∑ l : Fin 256, wide x l * wide y l) = ∑ l : Fin (192 + 64), wide x l * wide y l from rfl, Fin.sum_univ_add]
  have e : ∀ l : Fin 64, wide x (Fin.natAdd 192 l) * wide y (Fin.natAdd 192 l) = 0 := fun l => by
    rw [wide, dif_neg (by simp), zero_mul]
  rw [Finset.sum_eq_zero fun l _ => e l, add_zero]
  refine Finset.sum_congr rfl fun l _ => ?_
  rw [wide, wide, dif_pos (by exact l.isLt), dif_pos (by exact l.isLt)]; rfl

theorem wide_sum {ι : Type} (S : Finset ι) (a : ι → ℝ) (x : ι → Fin 192 → ℝ) (l : Fin 256) :
    ∑ i ∈ S, a i * wide (x i) l = wide (fun l => ∑ i ∈ S, a i * x i l) l := by
  unfold wide; split
  · rfl
  · exact Finset.sum_eq_zero fun i _ => mul_zero _

/-! ## A grid point's blocks -/

/-- The statistics: a row's logarithm of its sum and its mean, head after head. -/
def statAt (r : Fin 8192) (l : Fin 128) : ℝ :=
  if h : l.val < 8 then
    if l.val % 2 = 0 then Real.log (tw q k ⟨l.val / 2, by omega⟩ r) else dl q k v d ⟨l.val / 2, by omega⟩ r
  else 0
def stat : S8192x128.Idx → ℝ := fun y => statAt q k v d (y 0) (y 1)

theorem stat_even (h : Fin 4) (r : Fin 8192) : statAt q k v d r ⟨2 * h.val, by omega⟩ = Real.log (tw q k h r) := by
  unfold statAt
  rw [dif_pos (show 2 * h.val < 8 by omega), if_pos (show 2 * h.val % 2 = 0 by omega)]
  exact congrArg (fun h => Real.log (tw q k h r)) (Fin.ext (show 2 * h.val / 2 = h.val by omega))

theorem stat_odd (h : Fin 4) (r : Fin 8192) : statAt q k v d r ⟨2 * h.val + 1, by omega⟩ = dl q k v d h r := by
  unfold statAt
  rw [dif_pos (show 2 * h.val + 1 < 8 by omega), if_neg (show ¬(2 * h.val + 1) % 2 = 0 by omega)]
  exact congrArg (fun h => dl q k v d h r) (Fin.ext (show (2 * h.val + 1) / 2 = h.val by omega))

/-- Head `h` and the `j`-th block of keys. -/
def blocks (h : Fin 4) (j : ℕ) : Data where
  Q := fun y => wide (fun l => q (ix3 (y 0) h l)) (y 1)
  D := fun y => d (ix3 (y 0) h (y 1))
  S := stat q k v d
  K := fun y => wide (fun l => k (ix3 (row (1024 * j + (y 0).val)) h l)) (y 1)
  V := fun y => v (ix3 (row (1024 * j + (y 0).val)) h (y 1))
  h := h
  j := j

section Blocks
variable (h : Fin 4) (j : ℕ)

theorem row_le {r n : ℕ} (hr : r < 8192) (hn : n < 8192) : row n ≤ row r ↔ n ≤ r := by
  rw [row_eq hr, row_eq hn]; exact Iff.rfl

theorem blocks_pm (hj : j < 8) {r n : ℕ} (hr : r < 8192) (hn : n < 1024) :
    (blocks q k v d h j).pm r n = pb q k h (row r) (row (1024 * j + n)) := by
  have e : (blocks q k v d h j).pm r n = if 1024 * j + n ≤ r then (blocks q k v d h j).pr (row r) (key n) else 0 := rfl
  have e2 : (blocks q k v d h j).pr (row r) (key n) = Real.exp (sc q k h (row r) (row (1024 * j + n)) - Real.log (tw q k h (row r))) := by
    unfold Data.pr
    refine congrArg Real.exp (congrArg₂ (· - ·) ?_ (stat_even q k v d h (row r)))
    rw [mul_comm att, key_eq hn]
    exact congrArg (· * att) (sum_wide (fun l => q (ix3 (row r) h l)) (fun l => k (ix3 (row (1024 * j + n)) h l)))
  rw [e, e2, pb, wt, Real.exp_sub, Real.exp_log (tw_pos ..)]
  by_cases hle : 1024 * j + n ≤ r
  · rw [if_pos hle, if_pos ((row_le hr (by omega)).2 hle)]
  · rw [if_neg hle, if_neg (mt (row_le hr (by omega)).1 hle), zero_div]

theorem blocks_dsm (hj : j < 8) {r n : ℕ} (hr : r < 8192) (hn : n < 1024) :
    (blocks q k v d h j).dsm r n = ds q k v d h (row r) (row (1024 * j + n)) := by
  unfold Data.dsm ds
  rw [blocks_pm q k v d h j hj hr hn, key_eq hn]
  exact congrArg (fun x => _ * (_ - x) * att) (stat_odd q k v d h (row r))

theorem blocks_sumV (hj : j < 8) {n : ℕ} (hn : n < 1024) (l : Fin 128) :
    (blocks q k v d h j).sumV 16 n l = gradV q k d h (row (1024 * j + n)) l := by
  unfold Data.sumV gradV
  rw [Finset.sum_range]
  refine Finset.sum_congr rfl fun r _ => ?_
  rw [blocks_pm q k v d h j hj r.isLt hn, row_eq r.isLt]
  rfl

theorem blocks_sumK (hj : j < 8) {n : ℕ} (hn : n < 1024) (l : Fin 256) :
    (blocks q k v d h j).sumK 16 n l = wide (gradK q k v d h (row (1024 * j + n))) l := by
  unfold Data.sumK
  rw [Finset.sum_range]
  refine Eq.trans (Finset.sum_congr rfl fun r _ => ?_) (wide_sum Finset.univ (fun i : Fin 8192 => ds q k v d h i (row (1024 * j + n))) (fun i l => q (ix3 i h l)) l)
  rw [blocks_dsm q k v d h j hj r.isLt hn, row_eq r.isLt]
  rfl

theorem blocks_gq (hj : j < 8) {r : ℕ} (hr : r < 8192) (l : Fin 256) :
    (blocks q k v d h j).gq r l = ∑ n ∈ Finset.range 1024, ds q k v d h (row r) (row (1024 * j + n)) * wide (fun l => k (ix3 (row (1024 * j + n)) h l)) l := by
  unfold Data.gq
  refine Finset.sum_congr rfl fun n hn => ?_
  rw [blocks_dsm q k v d h j hj hr (Finset.mem_range.1 hn), key_eq (Finset.mem_range.1 hn)]
  rfl

/-- The queries' gradient over the first `j` blocks of keys. -/
def partQ (j : ℕ) : ℕ → Fin 256 → ℝ := fun r l => ∑ j' ∈ Finset.range j, (blocks q k v d h j').gq r l

theorem sum_blocks (f : ℕ → ℝ) : ∀ j, ∑ j' ∈ Finset.range j, ∑ n ∈ Finset.range 1024, f (1024 * j' + n) = ∑ i ∈ Finset.range (1024 * j), f i
  | 0 => by simp
  | j + 1 => by rw [Finset.sum_range_succ, sum_blocks f j, Nat.mul_succ, Finset.sum_range_add f]

theorem partQ_all {r : ℕ} (hr : r < 8192) (l : Fin 256) : partQ q k v d h 8 r l = wide (gradQ q k v d h (row r)) l := by
  unfold partQ
  rw [Finset.sum_congr rfl fun j' hj' => blocks_gq q k v d h j' (Finset.mem_range.1 hj') hr l,
    sum_blocks (fun i => ds q k v d h (row r) (row i) * wide (fun l => k (ix3 (row i) h l)) l) 8, Finset.sum_range]
  refine Eq.trans (Finset.sum_congr rfl fun i _ => ?_) (wide_sum Finset.univ (fun i : Fin 8192 => ds q k v d h (row r) i) (fun i l => k (ix3 i h l)) l)
  rw [row_eq i.isLt]

theorem dqS_at (X : Data) (Y : ℕ → Fin 256 → ℝ) (r : Fin 8192) (l : Fin 256) : X.dqS Y 16 (ix2 r l) = Y r.val l + X.gq r.val l := by
  show Y r.val l + (if r.val < 512 * 16 then X.gq r.val l else 0) = _
  rw [if_pos (show r.val < 512 * 16 from r.isLt)]

theorem dqS_part : (blocks q k v d h j).dqS (partQ q k v d h j) 16 = fun y => partQ q k v d h (j + 1) (y 0).val (y 1) := by
  funext y
  obtain ⟨r, l, rfl⟩ : ∃ r l, y = ix2 r l := ⟨_, _, eq_ix2 y⟩
  rw [dqS_at]
  exact (Finset.sum_range_succ (fun j' => (blocks q k v d h j').gq r.val l) j).symm

theorem part_zero : partQ q k v d h 0 = fun _ _ => 0 := by
  funext r l; exact Finset.sum_range_zero _

end Blocks
end Math

end Cert.FlashIdeal.Body
-- ==== Proof.FlashHost.lean ====
module

public import proofs.«01_k».proof.Proof.FlashMath
public import Idealize.ShloMosaic.Lib.Claim
public import Idealize.ShloMosaic.Lib.WordCmp
public import Idealize.ShloMosaic.PureOps.Ideal.Laws

@[expose] public section

set_option maxRecDepth 16384

/-! The host lines: the scores, their rows' sums and the statistics of the forward pass. -/

noncomputable section

namespace Cert.FlashIdeal.Body

open Cert.FlashIdeal Cert.FlashIdeal.Gen
open Idealize.ShloMosaic Idealize.ShloMosaic.TcCoe Idealize.ShloMosaic.Tactic
open Cert.Lift
open scoped BigOperators

@[pointwise] theorem lit_192 : Ideal.ofBits .f32 0x43400000#32 = ((192 : ℝ) : EReal) := by
  simp [Ideal.ofBits, Ideal.ieee, -EReal.coe_mul]; norm_num
@[pointwise] theorem lit_bot : Ideal.ofBits .f32 0xFF800000#32 = ⊥ := by simp [Ideal.ofBits, Ideal.ieee]
@[pointwise] theorem sqrt_192 : Ideal.sqrt ((192 : ℝ) : EReal) = ((Real.sqrt 192 : ℝ) : EReal) := by
  rw [Ideal.sqrt_coe, if_neg (by norm_num)]
@[pointwise] theorem div_sqrt (x : ℝ) : Ideal.div (x : EReal) ((Real.sqrt 192 : ℝ) : EReal) = ((x * att : ℝ) : EReal) := by
  rw [coe_div (Real.sqrt_ne_zero'.2 (by norm_num)), att, div_eq_mul_inv]

section Host
variable (q k : FVec Ideal S8192x4x192 .f32) (v d : FVec Ideal S8192x4x128 .f32)

def hMask : IVec S8192x8192 1 :=
  cmpi .sle (broadcastInDim S8192x8192 ![0, 1] bcast_S1x8192_S8192x8192_0_1 (broadcastInDim S1x8192 ![1] bcast_S8192_S1x8192_1 (iotaInDim S8192 32 0)))
    (broadcastInDim S8192x8192 ![0, 1] bcast_S8192x1_S8192x8192_0_1 (broadcastInDim S8192x1 ![0] bcast_S8192_S8192x1_0 (iotaInDim S8192 32 0)))
def hScore : FVec Ideal S4x8192x8192 .f32 :=
  Host.divf (Host.dotGeneral (F := Ideal) dot_S8192x4x192_S8192x4x192_S4x8192x8192_2_2_0_0_1_1 none q k)
    (broadcastInDim S4x8192x8192 ![] bcast_S_S4x8192x8192 (Host.sqrt (constant (F := Ideal) S_ .f32 0x43400000#32)))
def hMasked : FVec Ideal S4x8192x8192 .f32 :=
  select (broadcastInDim S4x8192x8192 ![1, 2] bcast_S8192x8192_S4x8192x8192_1_2 hMask) (hScore q k)
    (broadcastInDim S4x8192x8192 ![] bcast_S_S4x8192x8192 (constant (F := Ideal) S_ .f32 0xFF800000#32))
def hTop (x : FVec Ideal S4x8192x8192 .f32) : FVec Ideal S4x8192 .f32 :=
  Host.reduce (FloatOps.maximumf (F := Ideal) (φ := .f32)) x (constant (F := Ideal) S_ .f32 0xFF800000#32) reducesTo_S4x8192x8192_S4x8192_d2 h_S_
def hExp (x : FVec Ideal S4x8192x8192 .f32) (t : FVec Ideal S4x8192 .f32) : FVec Ideal S4x8192x8192 .f32 :=
  Host.exp (subf x (broadcastInDim S4x8192x8192 ![0, 1, 2] bcast_S4x8192x1_S4x8192x8192_0_1_2 (broadcastInDim S4x8192x1 ![0, 1] bcast_S4x8192_S4x8192x1_0_1 t)))
def hSum (e : FVec Ideal S4x8192x8192 .f32) : FVec Ideal S4x8192x1 .f32 :=
  broadcastInDim S4x8192x1 ![0, 1] bcast_S4x8192_S4x8192x1_0_1 (Host.reduceAdd e (constant (F := Ideal) S_ .f32 0x00000000#32) reducesTo_S4x8192x8192_S4x8192_d2 h_S_)

theorem mask_at (i j : Fin 8192) : hMask (ix2 i j) = BitVec.ofBool (decide (j ≤ i)) := by
  pointwise [hMask]
  rw [WordCmp.cmpi_sle_ofNat (by omega) (by omega)]
  rfl

variable (qr kr : S8192x4x192.Idx → ℝ)

theorem score_at (h : Fin 4) (i j : Fin 8192) : hScore (up qr) (up kr) (ix3 h i j) = ((sc qr kr h i j : ℝ) : EReal) := by
  pointwise [hScore]
  rfl

theorem masked_at (h : Fin 4) (i j : Fin 8192) : hMasked (up qr) (up kr) (ix3 h i j) = if j ≤ i then ((sc qr kr h i j : ℝ) : EReal) else ⊥ := by
  pointwise [hMasked, score_at, mask_at]

theorem fold_max_real {ι : Type} (S : Finset ι) (f : ι → EReal) (h : ∀ i ∈ S, f i < ⊤) {i : ι} (hi : i ∈ S) (hf : ⊥ < f i) :
    ∃ T : ℝ, S.fold max ⊥ f = (T : EReal) := by
  have h1 : S.fold max ⊥ f < ⊤ := (Finset.fold_max_lt _).2 ⟨bot_lt_top, h⟩
  have h2 : ⊥ < S.fold max ⊥ f := (Finset.lt_fold_max _).2 (Or.inr ⟨i, hi, hf⟩)
  exact ⟨_, (EReal.coe_toReal h1.ne h2.ne').symm⟩

theorem top_real (h : Fin 4) (i : Fin 8192) : ∃ T : ℝ, hTop (hMasked (up qr) (up kr)) (ix2 h i) = (T : EReal) := by
  have hr : S4x8192x8192.Reduces [2] S4x8192 := by decide
  have e : ∀ j : Fin 8192, (hMasked (up qr) (up kr) ∘ hr.lift (ix2 h i)) j = if j ≤ i then ((sc qr kr h i j : ℝ) : EReal) else ⊥ := fun j => by
    rw [← masked_at]
    exact congrArg (hMasked (up qr) (up kr)) (by funext a; fin_cases a <;> rfl)
  obtain ⟨T, hT⟩ := fold_max_real (Finset.univ : Finset (Fin 8192)) (fun j => if j ≤ i then ((sc qr kr h i j : ℝ) : EReal) else ⊥)
    (fun j _ => by split; exacts [EReal.coe_lt_top _, bot_lt_top]) (Finset.mem_univ i) (by rw [if_pos le_rfl]; exact EReal.bot_lt_coe _)
  refine ⟨T, Eq.trans ?_ hT⟩
  unfold hTop
  rw [Host.reduce_eq_fold_single _ _ _ _ hr]
  have e0 : constant (F := Ideal) S_ .f32 0xFF800000#32 (Shape.Idx.first h_S_) = ⊥ := lit_bot
  rw [e0]
  exact congrArg ((Finset.univ : Finset (Fin 8192)).fold max ⊥) (funext e)

/-- The rows' maxima, as real numbers. -/
def tops : Fin 4 → Fin 8192 → ℝ := fun h i => (top_real qr kr h i).choose
theorem top_at (h : Fin 4) (i : Fin 8192) : hTop (hMasked (up qr) (up kr)) (ix2 h i) = ((tops qr kr h i : ℝ) : EReal) := (top_real qr kr h i).choose_spec

theorem exp_at (h : Fin 4) (i j : Fin 8192) :
    hExp (hMasked (up qr) (up kr)) (hTop (hMasked (up qr) (up kr))) (ix3 h i j) = ((ew qr kr (tops qr kr h i) h i j : ℝ) : EReal) := by
  pointwise [hExp, masked_at, top_at]
  unfold ew
  split
  · pointwise
  · rw [EReal.bot_sub]; exact EReal.coe_zero.symm

theorem sum_at (h : Fin 4) (i : Fin 8192) :
    hSum (hExp (hMasked (up qr) (up kr)) (hTop (hMasked (up qr) (up kr)))) (ix3 h i 0) = ((es qr kr (tops qr kr h i) h i : ℝ) : EReal) := by
  pointwise [hSum, exp_at]
  rfl

/-! ## The statistics -/

def hLseOf (t : FVec Ideal S4x8192 .f32) (s : FVec Ideal S4x8192x1 .f32) : FVec Ideal S4x8192x1 .f32 :=
  addf (broadcastInDim S4x8192x1 ![0, 1] bcast_S4x8192_S4x8192x1_0_1 t) (Host.log s)
def hLse : FVec Ideal S4x8192x1 .f32 := hLseOf (hTop (hMasked q k)) (hSum (hExp (hMasked q k) (hTop (hMasked q k))))
def hOut (e : FVec Ideal S4x8192x8192 .f32) (s : FVec Ideal S4x8192x1 .f32) : FVec Ideal S8192x4x128 .f32 :=
  transpose S8192x4x128 [2, 0, 1] (Host.dotGeneral (F := Ideal) dot_S8192x4x128_S4x8192x8192_S4x128x8192_0_2_2_1_1_0 none v
    (Host.divf e (broadcastInDim S4x8192x8192 ![0, 1, 2] bcast_S4x8192x1_S4x8192x8192_0_1_2 s))) transposes_S4x128x8192_S8192x4x128_2_0_1
def hDelta : FVec Ideal S8192x4 .f32 :=
  Host.reduceAdd (mulf d (hOut v (hExp (hMasked q k) (hTop (hMasked q k))) (hSum (hExp (hMasked q k) (hTop (hMasked q k))))))
    (constant (F := Ideal) S_ .f32 0x00000000#32) reducesTo_S8192x4x128_S8192x4_d2 h_S_
def hPair : FVec Ideal S8192x4x2 .f32 :=
  concatenate S8192x4x2 2 [⟨S8192x4x1, (broadcastInDim S8192x4x1 ![0, 1] bcast_S8192x4_S8192x4x1_0_1
      (transpose S8192x4 [1, 0] (shapeCast S4x8192 (hLse q k) shapeCasts_S4x8192x1_S4x8192) transposes_S4x8192_S8192x4_1_0) : FVec Ideal S8192x4x1 .f32)⟩,
    ⟨S8192x4x1, (broadcastInDim S8192x4x1 ![0, 1] bcast_S8192x4_S8192x4x1_0_1 (hDelta q k v d) : FVec Ideal S8192x4x1 .f32)⟩] concatenates_S8192x4x1_S8192x4x1_S8192x4x2_d2

variable (vr dr : S8192x4x128.Idx → ℝ)

theorem log_pos {x : ℝ} (h : 0 < x) : Ideal.log (x : EReal) = ((Real.log x : ℝ) : EReal) := by
  rw [Ideal.log_coe, if_neg (not_le.2 h)]

theorem hLseOf_at (t : FVec Ideal S4x8192 .f32) (s : FVec Ideal S4x8192x1 .f32) (h : Fin 4) (i : Fin 8192) :
    hLseOf t s (ix3 h i 0) = t (ix2 h i) + Ideal.log (s (ix3 h i 0)) := by
  pointwise [hLseOf]

theorem hLse_at (h : Fin 4) (i : Fin 8192) : hLse (up qr) (up kr) (ix3 h i 0) = ((Real.log (tw qr kr h i) : ℝ) : EReal) := by
  rw [hLse, hLseOf_at, top_at, sum_at, log_pos (es_pos ..), lift_add, log_es]

theorem out_at (i : Fin 8192) (h : Fin 4) (l : Fin 128) :
    hOut (up vr) (hExp (hMasked (up qr) (up kr)) (hTop (hMasked (up qr) (up kr)))) (hSum (hExp (hMasked (up qr) (up kr)) (hTop (hMasked (up qr) (up kr))))) (ix3 i h l)
      = ((∑ j, vr (ix3 j h l) * pb qr kr h i j : ℝ) : EReal) := by
  pointwise [hOut, exp_at, sum_at]
  simp only [coe_div (es_pos qr kr _ h i).ne', ew_div]
  pointwise

theorem delta_at (i : Fin 8192) (h : Fin 4) : hDelta (up qr) (up kr) (up vr) (up dr) (ix2 i h) = ((dl qr kr vr dr h i : ℝ) : EReal) := by
  pointwise [hDelta, out_at]
  rw [sum_do_o]

theorem pair0_at (i : Fin 8192) (h : Fin 4) : hPair (up qr) (up kr) (up vr) (up dr) (ix3 i h 0) = ((Real.log (tw qr kr h i) : ℝ) : EReal) := by
  pointwise [hPair, hLse_at]
theorem pair1_at (i : Fin 8192) (h : Fin 4) : hPair (up qr) (up kr) (up vr) (up dr) (ix3 i h 1) = ((dl qr kr vr dr h i : ℝ) : EReal) := by
  pointwise [hPair, delta_at]

end Host
end Cert.FlashIdeal.Body
-- ==== Proof.FlashState.lean ====
module

public import proofs.«01_k».proof.Proof.FlashReal
public import Idealize.ShloMosaic.Lib.WritesUnit
public import Idealize.ShloMosaic.Lib.Pipeline.ValueKit

@[expose] public section

set_option maxRecDepth 16384

/-! What the body's three buffers hold after `T` query tiles, from the diagonal to the last one. -/

noncomputable section

namespace Cert.FlashIdeal.Body

open Cert.FlashIdeal Cert.FlashIdeal.Gen
open Idealize.ShloMosaic Idealize.ShloMosaic.TcCoe Idealize.ShloMosaic.Tactic
open Cert.Lift
open scoped BigOperators

theorem off1_eq : ∀ i : grid0.Coords, k0_off1 i = ![1024 * (i 1).val, 0] := by decide +kernel
theorem off2_eq : ∀ i : grid0.Coords, k0_off2 i = ![1024 * (i 1).val, 0] := by decide +kernel
theorem off3_eq : ∀ i : grid0.Coords, k0_off3 i = ![1024 * (i 1).val + 512, 0] := by decide +kernel
theorem off4_eq : ∀ i : grid0.Coords, k0_off4 i = ![1024 * (i 1).val + 512, 0] := by decide +kernel
theorem off18_eq : ∀ i : grid0.Coords, k0_cond2 i = 1#1 → k0_off18 i = ![7168, 0] := by decide +kernel
theorem off20_eq : ∀ i : grid0.Coords, k0_cond2 i = 1#1 → k0_off20 i = ![7680, 0] := by decide +kernel

/-- A load of rows from the `o`-th on. -/
theorem rows_at {κ : Kind} {sp : Space} {e : EltTy} {d : Fin 2 → ℕ} {Val : EltTy → Type} (v : View sig κ sp ⟨2, d⟩ e) (f : v.ty.Contents Val)
    {off size : Fin 2 → ℕ} {o : ℕ} (inb : ∀ a : Fin 2, off a + size a ≤ d a) (hoff : off = ![o, 0])
    (y : (Rect.unit (s := ⟨2, d⟩) off size inb).shape.Idx) (y' : (⟨2, d⟩ : Shape).Idx)
    (h0 : (y' (0 : Fin 2)).val = o + (y (0 : Fin 2)).val) (h1 : (y' (1 : Fin 2)).val = (y (1 : Fin 2)).val) :
    v.readAt Val (Rect.unit (s := ⟨2, d⟩) off size inb).toLoadRect f y = v.read Val f y' := by
  subst hoff
  rw [View.readAt_apply]
  congr 1
  funext a
  apply Fin.ext
  rw [Rect.idx_unit_val]
  match a with
  | ⟨0, _⟩ => exact h0.symm
  | ⟨1, _⟩ => exact (Nat.zero_add _).trans h1.symm

section Cov
variable {κ : Kind} {sp : Space} {s : Shape} {e : EltTy} {Val : EltTy → Type} [∀ e, Nonempty (Val e)]
  (v : View sig κ sp s e) {R0 R1 : Rect s} (A : (R0.shape.Idx → Val e) → R0.shape.Idx → Val e) (B : (R1.shape.Idx → Val e) → R1.shape.Idx → Val e)
  (f : v.ty.Contents Val) (L : List (View.Piece Val s e))

theorem cov_start0 (h : Disjoint R1.set R0.set) : v.readCov (start v A B f) R0.toLoadRect = A (v.readAt Val R0.toLoadRect f) := start0 v A B f v.junk h
theorem cov_start1 : v.readCov (start v A B f) R1.toLoadRect = B (v.readAt Val R1.toLoadRect f) := start1 v A B f v.junk
theorem cov_push0 (h : Disjoint R1.set R0.set) : v.readCov (push v A B L) R0.toLoadRect = A (v.readCov L R0.toLoadRect) := push0 v A B v.junk L h
theorem cov_push1 (h : Disjoint R0.set R1.set) : v.readCov (push v A B L) R1.toLoadRect = B (v.readCov L R1.toLoadRect) := push1 v A B v.junk L h

end Cov

theorem disjV : Disjoint RV1.set RV0.set := Rect.unit_disjoint (inb := inb_S2x512x128_S1x512x128_1_0_0) (inb' := inb_S2x512x128_S1x512x128_0_0_0) 0 (Or.inr le_rfl)
theorem disjK : Disjoint RK1.set RK0.set := Rect.unit_disjoint (inb := inb_S2x512x256_S1x512x256_1_0_0) (inb' := inb_S2x512x256_S1x512x256_0_0_0) 0 (Or.inr le_rfl)

section
variable (c : Dev nD) (i : grid0.Coords) (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole) (arg6 : Memref sig .tc .vmem S1024x128 .bf16) (harg6 : arg6.IsWhole)
  (arg7 : Memref sig .tc .vmem S8192x256 .f32) (harg7 : arg7.IsWhole) (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (X2 : arg2.view.ty.Contents (Elt Ideal)) (X3 : arg3.view.ty.Contents (Elt Ideal)) (X4 : arg4.view.ty.Contents (Elt Ideal)) (X5 : arg5.view.ty.Contents (Elt Ideal)) (X6 : arg6.view.ty.Contents (Elt Ideal))
  (X : Data) (Y : ℕ → Fin 256 → ℝ)

/-- The blocks the point reads. -/
structure Reads : Prop where
  q : arg2.view.read (Elt Ideal) X2 = up X.Q
  d : arg3.view.read (Elt Ideal) X3 = up X.D
  s : arg4.view.read (Elt Ideal) X4 = up X.S
  k : arg5.view.read (Elt Ideal) X5 = up X.K
  v : arg6.view.read (Elt Ideal) X6 = up X.V
  h : (i 0).val = X.h.val
  j : (i 1).val = X.j

section Tiles
variable {i arg2 arg3 arg4 arg5 arg6 X2 X3 X4 X5 X6 X} (E : Reads i arg2 arg3 arg4 arg5 arg6 X2 X3 X4 X5 X6 X)
include E

theorem kt0_up : kt0 arg5 X5 = up (X.tk 0) := funext fun y =>
  (rows_at arg5.view X5 _ rfl y (ix2 (key (0 + (y 0).val)) (y 1)) (congrArg Fin.val (key_eq (by have h : (y 0).val < 512 := (y 0).isLt; omega))) rfl).trans (congrFun E.k _)
theorem kt1_up : kt1 arg5 X5 = up (X.tk 512) := funext fun y =>
  (rows_at arg5.view X5 _ rfl y (ix2 (key (512 + (y 0).val)) (y 1)) (congrArg Fin.val (key_eq (by have h : (y 0).val < 512 := (y 0).isLt; omega))) rfl).trans (congrFun E.k _)
theorem vt0_up : vt0 arg6 X6 = up (X.tv 0) := funext fun y =>
  (rows_at arg6.view X6 _ rfl y (ix2 (key (0 + (y 0).val)) (y 1)) (congrArg Fin.val (key_eq (by have h : (y 0).val < 512 := (y 0).isLt; omega))) rfl).trans (congrFun E.v _)
theorem vt1_up : vt1 arg6 X6 = up (X.tv 512) := funext fun y =>
  (rows_at arg6.view X6 _ rfl y (ix2 (key (512 + (y 0).val)) (y 1)) (congrArg Fin.val (key_eq (by have h : (y 0).val < 512 := (y 0).isLt; omega))) rfl).trans (congrFun E.v _)

section At
variable {off off' : Fin 2 → ℕ} (h2 : ∀ a, off a + S512x256.size a ≤ S8192x256.size a) (h3 : ∀ a, off' a + S512x128.size a ≤ S8192x128.size a)
  {T : ℕ} (hT : T < 16)
include hT

theorem q_up (e : off = ![512 * T, 0]) : qAt arg2 X2 off h2 = up (X.tq (512 * T)) := funext fun y =>
  (rows_at arg2.view X2 _ e y (ix2 (row (512 * T + (y 0).val)) (y 1)) (congrArg Fin.val (row_eq (by have h : (y 0).val < 512 := (y 0).isLt; omega))) rfl).trans (congrFun E.q _)
theorem o_up (e : off' = ![512 * T, 0]) : oAt arg3 X3 off' h3 = up (X.td (512 * T)) := funext fun y =>
  (rows_at arg3.view X3 _ e y (ix2 (row (512 * T + (y 0).val)) (y 1)) (congrArg Fin.val (row_eq (by have h : (y 0).val < 512 := (y 0).isLt; omega))) rfl).trans (congrFun E.d _)
theorem s_up (e : off' = ![512 * T, 0]) : sAt arg4 X4 off' h3 = up (X.ts (512 * T)) := funext fun y =>
  (rows_at arg4.view X4 _ e y (ix2 (row (512 * T + (y 0).val)) (y 1)) (congrArg Fin.val (row_eq (by have h : (y 0).val < 512 := (y 0).isLt; omega))) rfl).trans (congrFun E.s _)

variable (e : off = ![512 * T, 0]) (e' : off' = ![512 * T, 0])
include e e'

/-! A tile below the diagonal; -/

theorem upV_up {b : ℕ} (hb : 1024 * X.j + b + 512 ≤ 512 * T) : upV (head i) lns (qAt arg2 X2 off h2) (oAt arg3 X3 off' h3) (sAt arg4 X4 off' h3) (up (X.tk b)) (up (X.aV T b)) = up (X.aV (T + 1) b) := by
  rw [upV, q_up E h2 hT e, o_up E h3 hT e', s_up E h3 hT e', head, E.h, prob_up, tm_below X _ _ hb, dV_up]
theorem upK_up {b : ℕ} (hb : 1024 * X.j + b + 512 ≤ 512 * T) : upK (head i) lns (qAt arg2 X2 off h2) (oAt arg3 X3 off' h3) (sAt arg4 X4 off' h3) (up (X.tk b)) (up (X.tv b)) (up (X.aK T b)) = up (X.aK (T + 1) b) := by
  rw [upK, q_up E h2 hT e, o_up E h3 hT e', s_up E h3 hT e', head, E.h, prob_up, tm_below X _ _ hb, grad_up, dK_up]
theorem upQ_up (hb : 1024 * X.j + 512 + 512 ≤ 512 * T) : upQ (head i) lns (qAt arg2 X2 off h2) (oAt arg3 X3 off' h3) (sAt arg4 X4 off' h3) (kt0 arg5 X5) (kt1 arg5 X5) (vt0 arg6 X6) (vt1 arg6 X6)
    (up (fun y : S512x256.Idx => Y (512 * T + (y 0).val) (y 1))) = up (fun y : S512x256.Idx => Y (512 * T + (y 0).val) (y 1) + X.gq (512 * T + (y 0).val) (y 1)) := by
  rw [upQ, q_up E h2 hT e, o_up E h3 hT e', s_up E h3 hT e', head, E.h, kt0_up E, kt1_up E, vt0_up E, vt1_up E, prob_up, prob_up, tm_below X _ _ hb,
    tm_below X (512 * T) 0 (by omega), grad_up, grad_up, dQ_both]

/-! on it. -/

theorem upVm_up {b : ℕ} (hb : 512 * T = 1024 * X.j + b) : upVm (head i) lns (qAt arg2 X2 off h2) (oAt arg3 X3 off' h3) (sAt arg4 X4 off' h3) (up (X.tk b)) (up (X.aV T b)) = up (X.aV (T + 1) b) := by
  rw [upVm, q_up E h2 hT e, o_up E h3 hT e', s_up E h3 hT e', head, E.h, prob_up, mask_up X _ _ hb, dV_up]
theorem upKm_up {b : ℕ} (hb : 512 * T = 1024 * X.j + b) : upKm (head i) lns (qAt arg2 X2 off h2) (oAt arg3 X3 off' h3) (sAt arg4 X4 off' h3) (up (X.tk b)) (up (X.tv b)) (up (X.aK T b)) = up (X.aK (T + 1) b) := by
  rw [upKm, q_up E h2 hT e, o_up E h3 hT e', s_up E h3 hT e', head, E.h, prob_up, mask_up X _ _ hb, grad_up, dK_up]
theorem upQ1_up (hb : 512 * T = 1024 * X.j) : upQ1 (head i) lns (qAt arg2 X2 off h2) (oAt arg3 X3 off' h3) (sAt arg4 X4 off' h3) (kt0 arg5 X5) (vt0 arg6 X6)
    (up (fun y : S512x256.Idx => Y (512 * T + (y 0).val) (y 1))) = up (fun y : S512x256.Idx => Y (512 * T + (y 0).val) (y 1) + X.gq (512 * T + (y 0).val) (y 1)) := by
  rw [upQ1, q_up E h2 hT e, o_up E h3 hT e', s_up E h3 hT e', head, E.h, kt0_up E, vt0_up E, prob_up, mask_up X _ 0 hb, grad_up, dQ_first X _ hb]
theorem upQ2_up (hb : 512 * T = 1024 * X.j + 512) : upQ2 (head i) lns (qAt arg2 X2 off h2) (oAt arg3 X3 off' h3) (sAt arg4 X4 off' h3) (kt0 arg5 X5) (kt1 arg5 X5) (vt0 arg6 X6) (vt1 arg6 X6)
    (up (fun y : S512x256.Idx => Y (512 * T + (y 0).val) (y 1))) = up (fun y : S512x256.Idx => Y (512 * T + (y 0).val) (y 1) + X.gq (512 * T + (y 0).val) (y 1)) := by
  rw [upQ2, q_up E h2 hT e, o_up E h3 hT e', s_up E h3 hT e', head, E.h, kt0_up E, kt1_up E, vt0_up E, vt1_up E, prob_up, prob_up, mask_up X _ _ hb,
    tm_below X (512 * T) 0 (by omega), grad_up, grad_up, dQ_both]

end At

end Tiles

/-! ## The queries' gradient -/

section Grow
variable {arg7}

theorem grow (f : arg7.view.ty.Contents (Elt Ideal)) (L : List (View.Piece (Elt Ideal) S8192x256 .f32)) {off : Fin 2 → ℕ} (inb : ∀ a, off a + S512x256.size a ≤ S8192x256.size a) {T : ℕ}
    (e : off = ![512 * T, 0]) (h : arg7.view.read (Elt Ideal) (arg7.view.writes (Elt Ideal) f L) = up (X.dqS Y T)) :
    arg7.view.read (Elt Ideal) (arg7.view.writes (Elt Ideal) f (⟨Rect.unit (s := S8192x256) off S512x256.size inb,
        up (fun y : S512x256.Idx => Y (512 * T + (y 0).val) (y 1) + X.gq (512 * T + (y 0).val) (y 1))⟩ :: L)) = up (X.dqS Y (T + 1)) := by
  funext y
  by_cases hy : 512 * T ≤ (y 0).val ∧ (y 0).val < 512 * T + 512
  · have e0 : 512 * T + ((y 0).val - 512 * T) = (y 0).val := by omega
    refine (View.read_writes_cons_rows_of_mem arg7.view f inb _ L y (ix2 ⟨(y 0).val - 512 * T, by omega⟩ (y 1)) e e0.symm rfl).trans
      (congrArg (fun x : ℝ => (x : EReal)) ?_)
    show Y (512 * T + ((y 0).val - 512 * T)) (y 1) + X.gq (512 * T + ((y 0).val - 512 * T)) (y 1) = Y (y 0).val (y 1) + if (y 0).val < 512 * (T + 1) then X.gq (y 0).val (y 1) else 0
    rw [e0, if_pos (by omega)]
  · refine (View.read_writes_cons_rows_of_not_mem arg7.view f inb _ L y e (W := 512) rfl (by omega)).trans ((congrFun h y).trans
      (congrArg (fun x : ℝ => (x : EReal)) ?_))
    show Y (y 0).val (y 1) + (if (y 0).val < 512 * T then X.gq (y 0).val (y 1) else 0) = Y (y 0).val (y 1) + if (y 0).val < 512 * (T + 1) then X.gq (y 0).val (y 1) else 0
    exact congrArg (Y (y 0).val (y 1) + ·) (if_congr (by omega) rfl rfl)

/-- A tile not done yet. -/
theorem rest (f : arg7.view.ty.Contents (Elt Ideal)) {off : Fin 2 → ℕ} (inb : ∀ a, off a + S512x256.size a ≤ S8192x256.size a) {T T' : ℕ}
    (e : off = ![512 * T, 0]) (hT : T < 16) (h : arg7.view.read (Elt Ideal) f = up (X.dqS Y T')) (hle : T' ≤ T) :
    arg7.view.readAt (Elt Ideal) (Rect.unit (s := S8192x256) off S512x256.size inb).toLoadRect f = up (fun y : S512x256.Idx => Y (512 * T + (y 0).val) (y 1)) := by
  funext y
  have hy : (y 0).val < 512 := (y 0).isLt
  refine (rows_at arg7.view f inb e y (ix2 ⟨512 * T + (y 0).val, by omega⟩ (y 1)) rfl rfl).trans ((congrFun h _).trans
    (congrArg (fun x : ℝ => (x : EReal)) ?_))
  show Y (512 * T + (y 0).val) (y 1) + (if 512 * T + (y 0).val < 512 * T' then X.gq (512 * T + (y 0).val) (y 1) else 0) = _
  rw [if_neg (by omega), add_zero]

theorem dqS_early {T : ℕ} (h : 512 * T ≤ 1024 * X.j) : X.dqS Y T = fun y => Y (y 0).val (y 1) := by
  funext y
  rw [Data.dqS]
  split
  · exact (congrArg (Y _ _ + ·) (X.gq_early (r := (y 0).val) (by omega) (y 1))).trans (add_zero _)
  · rw [add_zero]

end Grow

end

end Cert.FlashIdeal.Body

end
-- ==== Proof.FlashPoint.lean ====
module

public import proofs.«01_k».proof.Proof.FlashState
public import Idealize.ShloMosaic.Lib.VecWindow

@[expose] public section

set_option maxRecDepth 16384

/-! The three buffers, tile after tile: the diagonal's two tiles, the trips of the loop, the last pair. -/

noncomputable section

namespace Cert.FlashIdeal.Body

open Cert.FlashIdeal Cert.FlashIdeal.Gen
open Idealize.ShloMosaic Idealize.ShloMosaic.TcCoe Idealize.ShloMosaic.Tactic
open Cert.Lift
open scoped BigOperators

section Cov
variable {κ : Kind} {sp : Space} {s : Shape} {e : EltTy} {Val : EltTy → Type} [∀ e, Nonempty (Val e)] (v : View sig κ sp s e) {R0 R1 : Rect s}

theorem cov_skip (w) (L : List (View.Piece Val s e)) (h : Disjoint R0.set R1.set) : v.readCov (⟨R0, w⟩ :: L) R1.toLoadRect = v.readCov L R1.toLoadRect :=
  View.readCov_cons_of_disjoint v _ _ _ h

theorem cov_eq (L : List (View.Piece Val s e)) : v.readCov L R0.toLoadRect = v.readAt Val R0.toLoadRect (v.writes Val v.junk L) := rfl

end Cov

theorem halves_read {κ : Kind} {sp : Space} {e : EltTy} {Val : EltTy → Type} {W : ℕ} (v : View sig κ sp ⟨2, ![1024, W]⟩ e) (f : v.ty.Contents Val)
    (inb : ∀ a : Fin 2, (![512, 0] : Fin 2 → ℕ) a + (![512, W] : Fin 2 → ℕ) a ≤ (![1024, W] : Fin 2 → ℕ) a)
    (inb' : ∀ a : Fin 2, (![0, 0] : Fin 2 → ℕ) a + (![512, W] : Fin 2 → ℕ) a ≤ (![1024, W] : Fin 2 → ℕ) a)
    (hi lo : (⟨2, ![512, W]⟩ : Shape).Idx → Val e) (n : Fin 1024) (l : Fin W) :
    v.read Val (v.writes Val f [⟨Rect.unit (s := ⟨2, ![1024, W]⟩) ![512, 0] ![512, W] inb, hi⟩, ⟨Rect.unit (s := ⟨2, ![1024, W]⟩) ![0, 0] ![512, W] inb', lo⟩]) (ix2 n l)
      = if h : 512 ≤ n.val then hi (ix2 ⟨n.val - 512, by omega⟩ l) else lo (ix2 ⟨n.val, by omega⟩ l) := by
  by_cases h : 512 ≤ n.val
  · rw [dif_pos h]
    have e0 : 512 + (n.val - 512) = n.val := by omega
    exact View.read_writes_cons_rows_of_mem v f inb hi _ (ix2 n l) (ix2 ⟨n.val - 512, by omega⟩ l) rfl e0.symm rfl
  · rw [dif_neg h]
    exact (View.read_writes_cons_rows_of_not_mem v f inb hi _ (ix2 n l) rfl (W := 512) rfl (Or.inl (Nat.lt_of_not_le h))).trans
      (View.read_writes_cons_rows_of_mem v f inb' lo [] (ix2 n l) (ix2 ⟨n.val, by omega⟩ l) rfl (Nat.zero_add _).symm rfl)

theorem chain2 {α : Type} {A B : α → α} {x y z : α} (h : A x = y) (h' : B y = z) : B (A x) = z := (congrArg B h).trans h'
theorem chain4 {α : Type} {A B C D : α → α} {x y z u w : α} (h : A x = y) (h' : B y = z) (h1 : C z = u) (h2 : D u = w) : D (C (B (A x))) = w :=
  chain2 (chain2 (chain2 h h') h1) h2

section
variable (c : Dev nD) (i : grid0.Coords) (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole) (arg6 : Memref sig .tc .vmem S1024x128 .bf16) (harg6 : arg6.IsWhole)
  (arg7 : Memref sig .tc .vmem S8192x256 .f32) (harg7 : arg7.IsWhole) (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (X2 : arg2.view.ty.Contents (Elt Ideal)) (X3 : arg3.view.ty.Contents (Elt Ideal)) (X4 : arg4.view.ty.Contents (Elt Ideal)) (X5 : arg5.view.ty.Contents (Elt Ideal)) (X6 : arg6.view.ty.Contents (Elt Ideal))
  (X : Data) (Y : ℕ → Fin 256 → ℝ)

/-- What the buffers hold after `T` tiles. -/
structure Inv (T : ℕ) (s : arg7.view.ty.Contents (Elt Ideal) × arg10.view.ty.Contents (Elt Ideal) × arg11.view.ty.Contents (Elt Ideal)) : Prop where
  q : arg7.view.read (Elt Ideal) s.1 = up (X.dqS Y T)
  k0 : arg10.view.readAt (Elt Ideal) RK0.toLoadRect s.2.1 = up (X.aK T 0)
  k1 : arg10.view.readAt (Elt Ideal) RK1.toLoadRect s.2.1 = up (X.aK T 512)
  v0 : arg11.view.readAt (Elt Ideal) RV0.toLoadRect s.2.2 = up (X.aV T 0)
  v1 : arg11.view.readAt (Elt Ideal) RV1.toLoadRect s.2.2 = up (X.aV T 512)

variable {i arg2 arg3 arg4 arg5 arg6 arg7 arg10 arg11 X2 X3 X4 X5 X6 X Y} (E : Reads i arg2 arg3 arg4 arg5 arg6 X2 X3 X4 X5 X6 X)
include E

section Tile
variable {off : Fin 2 → ℕ} (h2 : ∀ a, off a + S512x256.size a ≤ S8192x256.size a) (h3 : ∀ a, off a + S512x128.size a ≤ S8192x128.size a)
  {T : ℕ} (hT : T < 16) (hb : 2 * X.j + 2 ≤ T) (e : off = ![512 * T, 0])
include hT hb e

theorem tV0 : tileV0 arg2 arg3 arg4 arg5 (head i) lanes X2 X3 X4 X5 off h2 h3 (up (X.aV T 0)) = up (X.aV (T + 1) 0) := by
  rw [tileV0, kt0_up E, upV_up E h2 h3 hT e e (by omega)]
theorem tV1 : tileV1 arg2 arg3 arg4 arg5 (head i) lanes X2 X3 X4 X5 off h2 h3 (up (X.aV T 512)) = up (X.aV (T + 1) 512) := by
  rw [tileV1, kt1_up E, upV_up E h2 h3 hT e e (by omega)]
theorem tK0 : tileK0 arg2 arg3 arg4 arg5 arg6 (head i) lanes X2 X3 X4 X5 X6 off h2 h3 (up (X.aK T 0)) = up (X.aK (T + 1) 0) := by
  rw [tileK0, kt0_up E, vt0_up E, upK_up E h2 h3 hT e e (by omega)]
theorem tK1 : tileK1 arg2 arg3 arg4 arg5 arg6 (head i) lanes X2 X3 X4 X5 X6 off h2 h3 (up (X.aK T 512)) = up (X.aK (T + 1) 512) := by
  rw [tileK1, kt1_up E, vt1_up E, upK_up E h2 h3 hT e e (by omega)]

theorem tQ {f : arg7.view.ty.Contents (Elt Ideal)} {L : List (View.Piece (Elt Ideal) S8192x256 .f32)} {T' : ℕ}
    (hf : arg7.view.read (Elt Ideal) f = up (X.dqS Y T')) (hle : T' ≤ T) (hL : arg7.view.read (Elt Ideal) (arg7.view.writes (Elt Ideal) f L) = up (X.dqS Y T)) :
    arg7.view.read (Elt Ideal) (arg7.view.writes (Elt Ideal) f (pieceQ arg2 arg3 arg4 arg5 arg6 arg7 (head i) lanes X2 X3 X4 X5 X6 f off h2 h3 :: L))
      = up (X.dqS Y (T + 1)) := by
  rw [pieceQ, rest X Y f h2 e hT hf hle, tileQ, upQ_up Y E h2 h3 hT e e (by omega)]
  exact grow X Y f L h2 e hL

end Tile

theorem Inv.trip {T : ℕ} {s : arg7.view.ty.Contents (Elt Ideal) × arg10.view.ty.Contents (Elt Ideal) × arg11.view.ty.Contents (Elt Ideal)} (I : Inv arg7 arg10 arg11 X Y T s)
    (arg1 v202 a b v222 : BitVec 32) (k : Fin (k0_t1_loop i).trips) (hk : T = 2 * X.j + 2 + 4 * k.val) :
    Inv arg7 arg10 arg11 X Y (T + 4)
      (let t := Body.trip c i arg2 harg2 arg3 harg3 arg4 harg4 arg5 harg5 arg6 harg6 arg7 harg7 arg8 harg8 arg9 harg9 arg10 harg10 arg11 harg11 (head i) arg1 lanes v202 a b v222 X2 X3 X4 X5 X6 k
       ⟨arg7.view.writes (Elt Ideal) s.1 (t.1 s.1 s.2.1 s.2.2), arg10.view.writes (Elt Ideal) s.2.1 (t.2.1 s.1 s.2.1 s.2.2),
          arg11.view.writes (Elt Ideal) s.2.2 (t.2.2.1 s.1 s.2.1 s.2.2)⟩) := by
  have hlt := k.isLt.trans_eq (trips_eq i)
  rw [E.j] at hlt
  have e5 : k0_off5 i k = ![512 * T, 0] := by rw [off5_eq, E.j, show 1024 * X.j + 2048 * k.val + 1024 = 512 * T by omega]
  have e7 : k0_off7 i k 1#32 = ![512 * (T + 1), 0] := by rw [off7a_eq, E.j, show 1024 * X.j + 2048 * k.val + 1536 = 512 * (T + 1) by omega]
  have e8 : k0_off7 i k 2#32 = ![512 * (T + 2), 0] := by rw [off7b_eq, E.j, show 1024 * X.j + 2048 * k.val + 2048 = 512 * (T + 2) by omega]
  have e9 : k0_off9 i k = ![512 * (T + 3), 0] := by rw [off9_eq, E.j, show 1024 * X.j + 2048 * k.val + 2560 = 512 * (T + 3) by omega]
  refine ⟨?_, ?_, ?_, ?_, ?_⟩
  · show arg7.view.read (Elt Ideal) (arg7.view.writes (Elt Ideal) s.1 _) = _
    rw [trip_Q]
    exact tQ E _ _ (by omega) (by omega) e9 I.q (by omega) (tQ E _ _ (by omega) (by omega) e8 I.q (by omega)
      (tQ E _ _ (by omega) (by omega) e7 I.q (by omega) (tQ E _ _ (by omega) (by omega) e5 I.q le_rfl I.q)))
  · show arg10.view.readAt (Elt Ideal) RK0.toLoadRect (arg10.view.writes (Elt Ideal) s.2.1 _) = _
    rw [trip_K, push0 _ _ _ _ _ disjK, cov_push0 _ _ _ _ disjK, cov_push0 _ _ _ _ disjK, cov_start0 _ _ _ _ disjK, I.k0]
    exact chain4 (tK0 E _ _ (by omega) (by omega) e5) (tK0 E _ _ (by omega) (by omega) e7) (tK0 E _ _ (by omega) (by omega) e8) (tK0 E _ _ (by omega) (by omega) e9)
  · show arg10.view.readAt (Elt Ideal) RK1.toLoadRect (arg10.view.writes (Elt Ideal) s.2.1 _) = _
    rw [trip_K, push1 _ _ _ _ _ disjK.symm, cov_push1 _ _ _ _ disjK.symm, cov_push1 _ _ _ _ disjK.symm, cov_start1, I.k1]
    exact chain4 (tK1 E _ _ (by omega) (by omega) e5) (tK1 E _ _ (by omega) (by omega) e7) (tK1 E _ _ (by omega) (by omega) e8) (tK1 E _ _ (by omega) (by omega) e9)
  · show arg11.view.readAt (Elt Ideal) RV0.toLoadRect (arg11.view.writes (Elt Ideal) s.2.2 _) = _
    rw [trip_V, push0 _ _ _ _ _ disjV, cov_push0 _ _ _ _ disjV, cov_push0 _ _ _ _ disjV, cov_start0 _ _ _ _ disjV, I.v0]
    exact chain4 (tV0 E _ _ (by omega) (by omega) e5) (tV0 E _ _ (by omega) (by omega) e7) (tV0 E _ _ (by omega) (by omega) e8) (tV0 E _ _ (by omega) (by omega) e9)
  · show arg11.view.readAt (Elt Ideal) RV1.toLoadRect (arg11.view.writes (Elt Ideal) s.2.2 _) = _
    rw [trip_V, push1 _ _ _ _ _ disjV.symm, cov_push1 _ _ _ _ disjV.symm, cov_push1 _ _ _ _ disjV.symm, cov_start1, I.v1]
    exact chain4 (tV1 E _ _ (by omega) (by omega) e5) (tV1 E _ _ (by omega) (by omega) e7) (tV1 E _ _ (by omega) (by omega) e8) (tV1 E _ _ (by omega) (by omega) e9)

theorem Inv.st {G : arg7.view.ty.Contents (Elt Ideal) × arg10.view.ty.Contents (Elt Ideal) × arg11.view.ty.Contents (Elt Ideal)} (I : Inv arg7 arg10 arg11 X Y (2 * X.j + 2) G)
    (arg1 v202 a b v222 : BitVec 32) : ∀ k : ℕ, k ≤ (k0_t1_loop i).trips →
    Inv arg7 arg10 arg11 X Y (2 * X.j + 2 + 4 * k) (Body.st c i arg2 harg2 arg3 harg3 arg4 harg4 arg5 harg5 arg6 harg6 arg7 harg7 arg8 harg8 arg9 harg9 arg10 harg10 arg11 harg11 (head i) arg1 lanes v202 a b v222 X2 X3 X4 X5 X6 G k)
  | 0, _ => I
  | k + 1, h => by
    rw [st_succ (k := ⟨k, h⟩)]
    exact Inv.trip (c := c) (harg2 := harg2) (harg3 := harg3) (harg4 := harg4) (harg5 := harg5) (harg6 := harg6) (harg7 := harg7) (arg8 := arg8) (harg8 := harg8) (arg9 := arg9) (harg9 := harg9)
      (harg10 := harg10) (harg11 := harg11) E (Inv.st I arg1 v202 a b v222 k (Nat.le_of_succ_le h)) arg1 v202 a b v222 ⟨k, h⟩ rfl

/-! ## The diagonal -/

end

section
variable (c : Dev nD) (i : grid0.Coords) (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole) (arg6 : Memref sig .tc .vmem S1024x128 .bf16) (harg6 : arg6.IsWhole)
  (arg7 : Memref sig .tc .vmem S8192x256 .f32) (harg7 : arg7.IsWhole) (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (X2 : arg2.view.ty.Contents (Elt Ideal)) (X3 : arg3.view.ty.Contents (Elt Ideal)) (X4 : arg4.view.ty.Contents (Elt Ideal)) (X5 : arg5.view.ty.Contents (Elt Ideal)) (X6 : arg6.view.ty.Contents (Elt Ideal))
  (X : Data) (Y : ℕ → Fin 256 → ℝ)

section
variable {X}
theorem zeroV {T b : ℕ} (h : 512 * T ≤ 1024 * X.j + b) : (up (X.aV T b) : S1x512x128.Idx → EReal) = fun _ => 0 :=
  funext fun z => congrArg (fun x : ℝ => (x : EReal)) (X.sumV_early (by omega) _)
theorem zeroK {T b : ℕ} (h : 512 * T ≤ 1024 * X.j + b) : (up (X.aK T b) : S1x512x256.Idx → EReal) = fun _ => 0 :=
  funext fun z => congrArg (fun x : ℝ => (x : EReal)) (X.sumK_early (by omega) _)

theorem pay191_at (y : S2x512x128.Idx) : k0_pay191 (F := Ideal) y = 0 := by pointwise [k0_pay191]
theorem pay190_at (y : S2x512x256.Idx) : k0_pay190 (F := Ideal) y = 0 := by pointwise [k0_pay190]
theorem pay189_at (y : S8192x256.Idx) : k0_pay189 (F := Ideal) y = 0 := by pointwise [k0_pay189]

end

theorem covV0 {T b : ℕ} (h : 512 * T ≤ 1024 * X.j + b) :
    arg11.view.readCov (Val := Elt Ideal) [⟨Rect.unit (s := S2x512x128) ![0, 0, 0] S2x512x128.size inb_S2x512x128_S2x512x128_0_0_0, (k0_pay191 : FVec Ideal S2x512x128 .f32)⟩] RV0.toLoadRect = up (X.aV T b) :=
  (funext fun z => (congrFun (View.read_writes_full arg11.view arg11.view.junk _ _ _) _).trans (pay191_at _)).trans (zeroV h).symm
theorem covV1 {T b : ℕ} (h : 512 * T ≤ 1024 * X.j + b) :
    arg11.view.readCov (Val := Elt Ideal) [⟨Rect.unit (s := S2x512x128) ![0, 0, 0] S2x512x128.size inb_S2x512x128_S2x512x128_0_0_0, (k0_pay191 : FVec Ideal S2x512x128 .f32)⟩] RV1.toLoadRect = up (X.aV T b) :=
  (funext fun z => (congrFun (View.read_writes_full arg11.view arg11.view.junk _ _ _) _).trans (pay191_at _)).trans (zeroV h).symm
theorem covK0 {T b : ℕ} (h : 512 * T ≤ 1024 * X.j + b) :
    arg10.view.readCov (Val := Elt Ideal) [⟨Rect.unit (s := S2x512x256) ![0, 0, 0] S2x512x256.size inb_S2x512x256_S2x512x256_0_0_0, (k0_pay190 : FVec Ideal S2x512x256 .f32)⟩] RK0.toLoadRect = up (X.aK T b) :=
  (funext fun z => (congrFun (View.read_writes_full arg10.view arg10.view.junk _ _ _) _).trans (pay190_at _)).trans (zeroK h).symm
theorem covK1 {T b : ℕ} (h : 512 * T ≤ 1024 * X.j + b) :
    arg10.view.readCov (Val := Elt Ideal) [⟨Rect.unit (s := S2x512x256) ![0, 0, 0] S2x512x256.size inb_S2x512x256_S2x512x256_0_0_0, (k0_pay190 : FVec Ideal S2x512x256 .f32)⟩] RK1.toLoadRect = up (X.aK T b) :=
  (funext fun z => (congrFun (View.read_writes_full arg10.view arg10.view.junk _ _ _) _).trans (pay190_at _)).trans (zeroK h).symm

section Entry
variable {arg2 arg3 arg4 arg5 arg6 arg7 arg10 arg11 X2 X3 X4 X5 X6 i X Y} (E : Reads i arg2 arg3 arg4 arg5 arg6 X2 X3 X4 X5 X6 X)
include E

theorem e1 : k0_off1 i = ![512 * (2 * X.j), 0] := by rw [off1_eq, E.j, show 1024 * X.j = 512 * (2 * X.j) by omega]
theorem e2 : k0_off2 i = ![512 * (2 * X.j), 0] := by rw [off2_eq, E.j, show 1024 * X.j = 512 * (2 * X.j) by omega]
theorem e3 : k0_off3 i = ![512 * (2 * X.j + 1), 0] := by rw [off3_eq, E.j, show 1024 * X.j + 512 = 512 * (2 * X.j + 1) by omega]
theorem e4 : k0_off4 i = ![512 * (2 * X.j + 1), 0] := by rw [off4_eq, E.j, show 1024 * X.j + 512 = 512 * (2 * X.j + 1) by omega]
theorem j_lt : X.j < 8 := E.j ▸ (i 1).isLt

theorem entryV0 : arg11.view.readAt (Elt Ideal) RV0.toLoadRect (entryV i arg2 arg3 arg4 arg5 arg11 X2 X3 X4 X5) = up (X.aV (2 * X.j + 2) 0) := by
  have hj := j_lt E
  rw [entryV, push0 _ _ _ _ _ disjV, View.readCov_cons_toLoadRect, covV0 arg11 X (T := 2 * X.j) (b := 0) (by omega), kt0_up E,
    upVm_up E _ _ (by omega) (e1 E) (e2 E) (by omega), upV_up E _ _ (by omega) (e3 E) (e4 E) (by omega)]
theorem entryV1 : arg11.view.readAt (Elt Ideal) RV1.toLoadRect (entryV i arg2 arg3 arg4 arg5 arg11 X2 X3 X4 X5) = up (X.aV (2 * X.j + 2) 512) := by
  have hj := j_lt E
  rw [entryV, push1 _ _ _ _ _ disjV.symm, cov_skip _ _ _ disjV.symm, covV1 arg11 X (T := 2 * X.j + 1) (b := 512) (by omega), kt1_up E,
    upVm_up E _ _ (by omega) (e3 E) (e4 E) (by omega)]
theorem entryK0 : arg10.view.readAt (Elt Ideal) RK0.toLoadRect (entryK i arg2 arg3 arg4 arg5 arg6 arg10 X2 X3 X4 X5 X6) = up (X.aK (2 * X.j + 2) 0) := by
  have hj := j_lt E
  rw [entryK, push0 _ _ _ _ _ disjK, View.readCov_cons_toLoadRect, covK0 arg10 X (T := 2 * X.j) (b := 0) (by omega), kt0_up E, vt0_up E,
    upKm_up E _ _ (by omega) (e1 E) (e2 E) (by omega), upK_up E _ _ (by omega) (e3 E) (e4 E) (by omega)]
theorem entryK1 : arg10.view.readAt (Elt Ideal) RK1.toLoadRect (entryK i arg2 arg3 arg4 arg5 arg6 arg10 X2 X3 X4 X5 X6) = up (X.aK (2 * X.j + 2) 512) := by
  have hj := j_lt E
  rw [entryK, push1 _ _ _ _ _ disjK.symm, cov_skip _ _ _ disjK.symm, covK1 arg10 X (T := 2 * X.j + 1) (b := 512) (by omega), kt1_up E, vt1_up E,
    upKm_up E _ _ (by omega) (e3 E) (e4 E) (by omega)]

theorem entryQ_up {f7 : arg7.view.ty.Contents (Elt Ideal)} (h : arg7.view.read (Elt Ideal) f7 = up (fun y : S8192x256.Idx => Y (y 0).val (y 1))) :
    arg7.view.read (Elt Ideal) (entryQ i arg2 arg3 arg4 arg5 arg6 arg7 X2 X3 X4 X5 X6 f7) = up (X.dqS Y (2 * X.j + 2)) := by
  have hj := j_lt E
  have h' : arg7.view.read (Elt Ideal) f7 = up (X.dqS Y (2 * X.j)) := by rw [h, dqS_early X Y (by omega)]
  rw [entryQ, rest X Y f7 (k0_off3_inb i) (e3 E) (by omega) h' (by omega), rest X Y f7 (k0_off1_inb i) (e1 E) (by omega) h' (by omega),
    upQ2_up Y E _ _ (by omega) (e3 E) (e4 E) (by omega), upQ1_up Y E _ _ (by omega) (e1 E) (e2 E) (by omega)]
  exact grow X Y f7 _ _ (e3 E) (grow X Y f7 [] _ (e1 E) h')

/-- Nothing yet. -/
def nil : ℕ → Fin 256 → ℝ := fun _ _ => 0

theorem entryZ_up : arg7.view.read (Elt Ideal) (entryZ i arg2 arg3 arg4 arg5 arg6 arg7 X2 X3 X4 X5 X6) = up (X.dqS nil (2 * X.j + 2)) := by
  have hj := j_lt E
  have h' : arg7.view.read (Elt Ideal) (arg7.view.writes (Elt Ideal) arg7.view.junk [⟨Rect.unit (s := S8192x256) ![0, 0] S8192x256.size inb_S8192x256_S8192x256_0_0, (k0_pay189 : FVec Ideal S8192x256 .f32)⟩])
      = up (X.dqS nil (2 * X.j)) := by
    rw [View.read_writes_full, dqS_early X _ (by omega)]
    exact funext fun y => pay189_at y
  have h1 : arg7.view.readCov (Val := Elt Ideal) [⟨Rect.unit (s := S8192x256) ![0, 0] S8192x256.size inb_S8192x256_S8192x256_0_0, (k0_pay189 : FVec Ideal S8192x256 .f32)⟩] (RQ1 i).toLoadRect
      = up (fun y : S512x256.Idx => nil (512 * (2 * X.j) + (y 0).val) (y 1)) := by
    rw [cov_eq]; exact rest X nil _ (k0_off1_inb i) (e1 E) (by omega) h' le_rfl
  have hz : arg7.view.read (Elt Ideal) (arg7.view.writes (Elt Ideal) arg7.view.junk (zeroQ i arg2 arg3 arg4 arg5 arg6 arg7 X2 X3 X4 X5 X6)) = up (X.dqS nil (2 * X.j + 1)) := by
    rw [zeroQ, h1, upQ1_up nil E _ _ (by omega) (e1 E) (e2 E) (by omega)]
    exact grow X nil _ _ _ (e1 E) h'
  have h2 : arg7.view.readCov (zeroQ i arg2 arg3 arg4 arg5 arg6 arg7 X2 X3 X4 X5 X6) (RQ2 i).toLoadRect
      = up (fun y : S512x256.Idx => nil (512 * (2 * X.j + 1) + (y 0).val) (y 1)) := by
    rw [cov_eq]; exact rest X nil _ (k0_off3_inb i) (e3 E) (by omega) hz le_rfl
  rw [entryZ, h2, upQ2_up nil E _ _ (by omega) (e3 E) (e4 E) (by omega)]
  exact grow X nil _ _ _ (e3 E) hz

attribute [local irreducible] entryK entryV

theorem entry_inv {f7 : arg7.view.ty.Contents (Elt Ideal)} (h : arg7.view.read (Elt Ideal) f7 = up (X.dqS Y (2 * X.j + 2))) :
    Inv arg7 arg10 arg11 X Y (2 * X.j + 2) (f7, entryK i arg2 arg3 arg4 arg5 arg6 arg10 X2 X3 X4 X5 X6, entryV i arg2 arg3 arg4 arg5 arg11 X2 X3 X4 X5) := by
  constructor
  · exact h
  · exact entryK0 E
  · exact entryK1 E
  · exact entryV0 E
  · exact entryV1 E

/-! ## After the last tile -/

theorem after_inv {f7 : arg7.view.ty.Contents (Elt Ideal)} (h : arg7.view.read (Elt Ideal) f7 = up (X.dqS Y (2 * X.j + 2))) :
    Inv arg7 arg10 arg11 X Y (2 * X.j + 2 + 4 * ((7 - X.j) / 2)) (after c i arg2 harg2 arg3 harg3 arg4 harg4 arg5 harg5 arg6 harg6 arg7 harg7 arg8 harg8 arg9 harg9 arg10 harg10 arg11 harg11 X2 X3 X4 X5 X6 f7) := by
  have e : (k0_t1_loop i).trips = (7 - X.j) / 2 := (trips_eq i).trans (by rw [E.j])
  rw [← e]
  exact Inv.st (c := c) (harg2 := harg2) (harg3 := harg3) (harg4 := harg4) (harg5 := harg5) (harg6 := harg6) (harg7 := harg7) (arg8 := arg8) (harg8 := harg8) (arg9 := arg9) (harg9 := harg9)
      (harg10 := harg10) (harg11 := harg11) E (entry_inv E h) _ _ _ _ _ _ le_rfl

omit E in
theorem o17 (hc : k0_cond2 i = 1#1) : k0_off17 i = ![512 * 14, 0] := off17_eq i hc
omit E in
theorem o19 (hc : k0_cond2 i = 1#1) : k0_off19 i = ![512 * 15, 0] := off19_eq i hc

section Last
include E
variable (hc : k0_cond2 i = 1#1) (hj : X.j ≤ 6) {s : arg7.view.ty.Contents (Elt Ideal) × arg10.view.ty.Contents (Elt Ideal) × arg11.view.ty.Contents (Elt Ideal)} (I : Inv arg7 arg10 arg11 X Y 14 s)
include hj I

theorem lastQ_up : arg7.view.read (Elt Ideal) (lastQ i arg2 arg3 arg4 arg5 arg6 arg7 X2 X3 X4 X5 X6 hc s.1) = up (X.dqS Y 16) := by
  rw [lastQ]
  exact tQ E _ _ (by omega) (by omega) (o19 hc) I.q (by omega) (tQ E _ _ (by omega) (by omega) (o17 hc) I.q le_rfl I.q)
theorem lastK0 : arg10.view.readAt (Elt Ideal) RK0.toLoadRect (lastK i arg2 arg3 arg4 arg5 arg6 arg10 X2 X3 X4 X5 X6 hc s.2.1) = up (X.aK 16 0) := by
  rw [lastK, push0 _ _ _ _ _ disjK, cov_start0 _ _ _ _ disjK, I.k0]
  exact chain2 (tK0 E _ _ (by omega) (by omega) (o17 hc)) (tK0 E _ _ (by omega) (by omega) (o19 hc))
theorem lastK1 : arg10.view.readAt (Elt Ideal) RK1.toLoadRect (lastK i arg2 arg3 arg4 arg5 arg6 arg10 X2 X3 X4 X5 X6 hc s.2.1) = up (X.aK 16 512) := by
  rw [lastK, push1 _ _ _ _ _ disjK.symm, cov_start1, I.k1]
  exact chain2 (tK1 E _ _ (by omega) (by omega) (o17 hc)) (tK1 E _ _ (by omega) (by omega) (o19 hc))
theorem lastV0 : arg11.view.readAt (Elt Ideal) RV0.toLoadRect (lastV i arg2 arg3 arg4 arg5 arg11 X2 X3 X4 X5 hc s.2.2) = up (X.aV 16 0) := by
  rw [lastV, push0 _ _ _ _ _ disjV, cov_start0 _ _ _ _ disjV, I.v0]
  exact chain2 (tV0 E _ _ (by omega) (by omega) (o17 hc)) (tV0 E _ _ (by omega) (by omega) (o19 hc))
theorem lastV1 : arg11.view.readAt (Elt Ideal) RV1.toLoadRect (lastV i arg2 arg3 arg4 arg5 arg11 X2 X3 X4 X5 hc s.2.2) = up (X.aV 16 512) := by
  rw [lastV, push1 _ _ _ _ _ disjV.symm, cov_start1, I.v1]
  exact chain2 (tV1 E _ _ (by omega) (by omega) (o17 hc)) (tV1 E _ _ (by omega) (by omega) (o19 hc))

attribute [local irreducible] lastQ lastK lastV

theorem last_inv : Inv arg7 arg10 arg11 X Y 16 (lastQ i arg2 arg3 arg4 arg5 arg6 arg7 X2 X3 X4 X5 X6 hc s.1, lastK i arg2 arg3 arg4 arg5 arg6 arg10 X2 X3 X4 X5 X6 hc s.2.1, lastV i arg2 arg3 arg4 arg5 arg11 X2 X3 X4 X5 hc s.2.2) := by
  constructor
  · exact lastQ_up E hc hj I
  · exact lastK0 E hc hj I
  · exact lastK1 E hc hj I
  · exact lastV0 E hc hj I
  · exact lastV1 E hc hj I

end Last

end Entry

/-! ## The blocks copied out -/

theorem pay229_at (x : S1x512x256.Idx → ℝ) (n : Fin 512) (l : Fin 256) : k0_pay229 (F := Ideal) (up x) (ix2 n l) = ((x (ix3 0 n l) : ℝ) : EReal) := by pointwise [k0_pay229]
theorem pay227_at (x : S1x512x256.Idx → ℝ) (n : Fin 512) (l : Fin 256) : k0_pay227 (F := Ideal) (up x) (ix2 n l) = ((x (ix3 0 n l) : ℝ) : EReal) := by pointwise [k0_pay227]
theorem pay230_at (x : S1x512x128.Idx → ℝ) (n : Fin 512) (l : Fin 128) : k0_pay230 (F := Ideal) (up x) (ix2 n l) = ((x (ix3 0 n l) : ℝ) : EReal) := by pointwise [k0_pay230]
theorem pay228_at (x : S1x512x128.Idx → ℝ) (n : Fin 512) (l : Fin 128) : k0_pay228 (F := Ideal) (up x) (ix2 n l) = ((x (ix3 0 n l) : ℝ) : EReal) := by pointwise [k0_pay228]

variable {arg7 arg10 arg11 X Y}

theorem outK_up {s : arg7.view.ty.Contents (Elt Ideal) × arg10.view.ty.Contents (Elt Ideal) × arg11.view.ty.Contents (Elt Ideal)} (I : Inv arg7 arg10 arg11 X Y 16 s) :
    arg8.view.read (Elt Ideal) (arg8.view.writes (Elt Ideal) arg8.view.junk (outK arg10 s.2.1)) = up (fun y : S1024x256.Idx => X.sumK 16 (y 0).val (y 1)) := by
  funext y
  obtain ⟨n, l, rfl⟩ : ∃ a b, y = ix2 a b := ⟨_, _, eq_ix2 y⟩
  rw [outK, I.k0, I.k1]
  refine (halves_read arg8.view _ _ _ _ _ n l).trans ?_
  split
  · rename_i h
    refine (pay229_at _ _ _).trans (congrArg (fun x : ℝ => (x : EReal)) ?_)
    show X.sumK 16 (512 + (n.val - 512)) l = X.sumK 16 n.val l
    rw [Nat.add_sub_cancel' h]
  · refine (pay227_at _ _ _).trans (congrArg (fun x : ℝ => (x : EReal)) ?_)
    show X.sumK 16 (0 + n.val) l = X.sumK 16 n.val l
    rw [Nat.zero_add]

theorem outV_up {s : arg7.view.ty.Contents (Elt Ideal) × arg10.view.ty.Contents (Elt Ideal) × arg11.view.ty.Contents (Elt Ideal)} (I : Inv arg7 arg10 arg11 X Y 16 s) :
    arg9.view.read (Elt Ideal) (arg9.view.writes (Elt Ideal) arg9.view.junk (outV arg11 s.2.2)) = up (fun y : S1024x128.Idx => X.sumV 16 (y 0).val (y 1)) := by
  funext y
  obtain ⟨n, l, rfl⟩ : ∃ a b, y = ix2 a b := ⟨_, _, eq_ix2 y⟩
  rw [outV, I.v0, I.v1]
  refine (halves_read arg9.view _ _ _ _ _ n l).trans ?_
  split
  · rename_i h
    refine (pay230_at _ _ _).trans (congrArg (fun x : ℝ => (x : EReal)) ?_)
    show X.sumV 16 (512 + (n.val - 512)) l = X.sumV 16 n.val l
    rw [Nat.add_sub_cancel' h]
  · refine (pay228_at _ _ _).trans (congrArg (fun x : ℝ => (x : EReal)) ?_)
    show X.sumV 16 (0 + n.val) l = X.sumV 16 n.val l
    rw [Nat.zero_add]

end

end Cert.FlashIdeal.Body

end
-- ==== Proof.FlashStep.lean ====
module

public import proofs.«01_k».proof.Proof.FlashPoint
public import proofs.«01_k».proof.Proof.FlashFrame

@[expose] public section

set_option maxRecDepth 16384

/-! What one point of the grid leaves, over real blocks. -/

noncomputable section

namespace Cert.FlashIdeal.Body

open Cert.FlashIdeal Cert.FlashIdeal.Gen
open Idealize.ShloMosaic Idealize.ShloMosaic.TcCoe Idealize.ShloMosaic.Tactic
open Cert.Lift
open scoped BigOperators

section
variable (c : Dev nD) (i : grid0.Coords) (arg2 : Memref sig .tc .vmem S8192x256 .bf16) (harg2 : arg2.IsWhole) (arg3 : Memref sig .tc .vmem S8192x128 .bf16) (harg3 : arg3.IsWhole)
  (arg4 : Memref sig .tc .vmem S8192x128 .f32) (harg4 : arg4.IsWhole) (arg5 : Memref sig .tc .vmem S1024x256 .bf16) (harg5 : arg5.IsWhole) (arg6 : Memref sig .tc .vmem S1024x128 .bf16) (harg6 : arg6.IsWhole)
  (arg7 : Memref sig .tc .vmem S8192x256 .f32) (harg7 : arg7.IsWhole) (arg8 : Memref sig .tc .vmem S1024x256 .f32) (harg8 : arg8.IsWhole) (arg9 : Memref sig .tc .vmem S1024x128 .f32) (harg9 : arg9.IsWhole)
  (arg10 : Memref sig .tc .vmem S2x512x256 .f32) (harg10 : arg10.IsWhole) (arg11 : Memref sig .tc .vmem S2x512x128 .f32) (harg11 : arg11.IsWhole)
  (X : Data) (Y : ℕ → Fin 256 → ℝ)

/-- The blocks a point leaves. -/
def leaves : Outs Ideal where
  dq := up (X.dqS Y 16)
  dk := up (fun y : S1024x256.Idx => X.sumK 16 (y 0).val (y 1))
  dv := up (fun y : S1024x128.Idx => X.sumV 16 (y 0).val (y 1))

theorem reads (hh : (i 0).val = X.h.val) (hj : (i 1).val = X.j) :
    Reads i arg2 arg3 arg4 arg5 arg6 (harg2.unread (up X.Q)) (harg3.unread (up X.D)) (harg4.unread (up X.S)) (harg5.unread (up X.K)) (harg6.unread (up X.V)) X :=
  ⟨harg2.read_unread _, harg3.read_unread _, harg4.read_unread _, harg5.read_unread _, harg6.read_unread _, hh, hj⟩

attribute [local irreducible] entryQ entryZ entryK entryV lastQ lastK lastV outK outV

theorem step_first (hh : (i 0).val = X.h.val) (hj : (i 1).val = X.j) (h0 : (i 1).val = 0) (y : Vec Ideal S8192x256 .f32) :
    step c i arg2 harg2 arg3 harg3 arg4 harg4 arg5 harg5 arg6 harg6 arg7 harg7 arg8 harg8 arg9 harg9 arg10 harg10 arg11 harg11 (up X.Q) (up X.D) (up X.S) (up X.K) (up X.V) y
      = leaves X nil := by
  have E := reads i arg2 harg2 arg3 harg3 arg4 harg4 arg5 harg5 arg6 harg6 X hh hj
  have A := after_inv c harg2 harg3 harg4 harg5 harg6 harg7 arg8 harg8 arg9 harg9 harg10 harg11 E (entryZ_up E)
  rw [show 2 * X.j + 2 + 4 * ((7 - X.j) / 2) = 14 by omega] at A
  have L := last_inv E (cond2_of_even i (by rw [h0])) (by omega) A
  unfold step
  rw [dif_pos h0]
  refine Outs.ext ?_ ?_ ?_
  · exact (congrArg (arg7.view.read (Elt Ideal)) (zero_Q ..)).trans L.q
  · exact (congrArg (fun L => arg8.view.read (Elt Ideal) (arg8.view.writes (Elt Ideal) arg8.view.junk L)) (zero_K ..)).trans (outK_up arg8 L)
  · exact (congrArg (fun L => arg9.view.read (Elt Ideal) (arg9.view.writes (Elt Ideal) arg9.view.junk L)) (zero_V ..)).trans (outV_up arg9 L)

theorem step_next (hh : (i 0).val = X.h.val) (hj : (i 1).val = X.j) (h0 : (i 1).val ≠ 0) :
    step c i arg2 harg2 arg3 harg3 arg4 harg4 arg5 harg5 arg6 harg6 arg7 harg7 arg8 harg8 arg9 harg9 arg10 harg10 arg11 harg11 (up X.Q) (up X.D) (up X.S) (up X.K) (up X.V)
      (up (fun y : S8192x256.Idx => Y (y 0).val (y 1))) = leaves X Y := by
  have E := reads i arg2 harg2 arg3 harg3 arg4 harg4 arg5 harg5 arg6 harg6 X hh hj
  have hy : arg7.view.read (Elt Ideal) (harg7.unread (up (fun y : S8192x256.Idx => Y (y 0).val (y 1)))) = up (fun y : S8192x256.Idx => Y (y 0).val (y 1)) := harg7.read_unread _
  have A := after_inv c harg2 harg3 harg4 harg5 harg6 harg7 arg8 harg8 arg9 harg9 harg10 harg11 E (entryQ_up (Y := Y) E hy)
  have j8 := j_lt E
  unfold step
  rw [dif_neg h0]
  by_cases h : (i 1).val % 2 = 1
  · rw [show 2 * X.j + 2 + 4 * ((7 - X.j) / 2) = 16 by omega] at A
    rw [dif_pos h]
    refine Outs.ext ?_ ?_ ?_
    · exact (congrArg (arg7.view.read (Elt Ideal)) (odd_Q ..)).trans A.q
    · exact (congrArg (fun L => arg8.view.read (Elt Ideal) (arg8.view.writes (Elt Ideal) arg8.view.junk L)) (odd_K ..)).trans (outK_up arg8 A)
    · exact (congrArg (fun L => arg9.view.read (Elt Ideal) (arg9.view.writes (Elt Ideal) arg9.view.junk L)) (odd_V ..)).trans (outV_up arg9 A)
  · rw [show 2 * X.j + 2 + 4 * ((7 - X.j) / 2) = 14 by omega] at A
    have L := last_inv E (cond2_of_even i (by omega)) (by omega) A
    rw [dif_neg h]
    refine Outs.ext ?_ ?_ ?_
    · exact (congrArg (arg7.view.read (Elt Ideal)) (even_Q ..)).trans L.q
    · exact (congrArg (fun L => arg8.view.read (Elt Ideal) (arg8.view.writes (Elt Ideal) arg8.view.junk L)) (even_K ..)).trans (outK_up arg8 L)
    · exact (congrArg (fun L => arg9.view.read (Elt Ideal) (arg9.view.writes (Elt Ideal) arg9.view.junk L)) (even_V ..)).trans (outV_up arg9 L)

end

end Cert.FlashIdeal.Body
-- ==== Proof.FlashArrays.lean ====
module

public import proofs.«01_k».proof.Proof.FlashHost
public import proofs.«01_k».proof.Proof.FlashStep
public import Idealize.ShloMosaic.Lib.Claim

@[expose] public section

set_option maxRecDepth 16384

/-! The arrays: what the windows find, and what they leave. -/

noncomputable section

namespace Cert.FlashIdeal.Body

open Idealize.ShloMosaic Idealize.ShloMosaic.TcCoe Idealize.SL.Sem Cert.Lift
open Cert.FlashIdeal Cert.FlashIdeal.Gen
open scoped BigOperators

variable (m : (ℓ : Loc nD τ sig) → Buf (Elt Ideal) ℓ) (c : Dev nD)
variable (q k : S8192x4x192.Idx → ℝ) (v d : S8192x4x128.Idx → ℝ)

/-- The arguments' arrays are these real arrays. -/
structure Args : Prop where
  e0 : m ((c.tc : Thread nD τ).loc main_arg0) = up q
  e1 : m ((c.tc : Thread nD τ).loc main_arg1) = up k
  e2 : m ((c.tc : Thread nD τ).loc main_arg2) = up v
  e3 : m ((c.tc : Thread nD τ).loc main_arg3) = up d

/-- A point's head; a head's column in an array of four heads. -/
def hd (t : Fin cfg0.N) : Fin 4 := ⟨t.val / 8, by have := t.isLt; have : cfg0.N = 32 := N_0; omega⟩
def col (h : Fin 4) (l : Fin 256) : Fin 1024 := ⟨h.val * 256 + l.val, by omega⟩
def colV (h : Fin 4) (l : Fin 128) : Fin 512 := ⟨h.val * 128 + l.val, by omega⟩
def blkRow (t : Fin cfg0.N) (n : Fin 1024) : Fin 8192 := ⟨t.val % 8 * 1024 + n.val, by omega⟩

theorem idx : ∀ t : Fin cfg0.N, win0_0.index t = ![0, t.val / 8] ∧ win0_1.index t = ![0, t.val / 8] ∧ win0_2.index t = ![0, 0] ∧ win0_3.index t = ![t.val % 8, t.val / 8]
    ∧ win0_4.index t = ![t.val % 8, t.val / 8] ∧ win0_5.index t = ![0, t.val / 8] ∧ win0_6.index t = ![t.val % 8, t.val / 8] ∧ win0_7.index t = ![t.val % 8, t.val / 8] :=
  (by decide +kernel : ∀ t : Fin grid0.N, _)

variable {m c q k v d}

/-! ## The host lines' arrays -/

/-- Four heads of 192 columns, each widened to 256. -/
def widened (x : FVec Ideal S8192x4x192 .f32) : FVec Ideal S8192x1024 .bf16 :=
  truncf .bf16 (shapeCast S8192x1024 (pad S8192x4x256 ![0, 0, 0] ![0, 0, 64] ![0, 0, 0] x
    (sitofp (F := Ideal) .f32 (constantI S_ 32 0#32)) pads_S8192x4x192_S8192x4x256_000_000_0640 h_S_) shapeCasts_S8192x4x256_S8192x1024) bitsLt_bf16_f32
def flat (x : FVec Ideal S8192x4x128 .f32) : FVec Ideal S8192x512 .bf16 :=
  truncf .bf16 (shapeCast S8192x512 x shapeCasts_S8192x4x128_S8192x512) bitsLt_bf16_f32
def statsOf (x : FVec Ideal S8192x4x2 .f32) : FVec Ideal S8192x128 .f32 :=
  pad S8192x128 ![0, 0] ![0, 120] ![0, 0] (shapeCast S8192x8 x shapeCasts_S8192x4x2_S8192x8)
    (sitofp (F := Ideal) .f32 (constantI S_ 32 0#32)) pads_S8192x8_S8192x128_000_01200 h_S_

theorem ent0 (A : Args m c q k v d) : V m c main_v2 = widened (up q) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rw [show m (c, Proc.tc.devRef main_arg0) = up q from A.e0]
  rfl

theorem ent1 (A : Args m c q k v d) : V m c main_v42 = flat (up d) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rw [show m (c, Proc.tc.devRef main_arg3) = up d from A.e3]
  rfl

theorem ent3 (A : Args m c q k v d) : V m c main_v5 = widened (up k) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rw [show m (c, Proc.tc.devRef main_arg1) = up k from A.e1]
  rfl

theorem ent4 (A : Args m c q k v d) : V m c main_v40 = flat (up v) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rw [show m (c, Proc.tc.devRef main_arg2) = up v from A.e2]
  rfl

theorem ent2 (A : Args m c q k v d) : V m c main_v38 = statsOf (hPair (up q) (up k) (up v) (up d)) := by
  show StableHlo.after _ _ _ = _
  simp only [hostOps0, hostOps0_1, hostOps0_2, hostOps0_3, hostOps0_4, hostOps0_5, hostOps0_6, hostOps0_7, hostOps0_8, List.flatten_cons, List.flatten_nil, List.append_nil, List.cons_append, List.nil_append]
  entry_read
  rw [show m (c, Proc.tc.devRef main_arg0) = up q from A.e0, show m (c, Proc.tc.devRef main_arg1) = up k from A.e1,
    show m (c, Proc.tc.devRef main_arg2) = up v from A.e2, show m (c, Proc.tc.devRef main_arg3) = up d from A.e3]
  rfl

theorem sitofp_zero : (FloatOps.sitofp FTy.f32 0#32 : Ideal .f32) = ((0 : ℝ) : EReal) := by
  show (((0#32 : BitVec 32).toInt : ℝ) : EReal) = _
  simp

theorem widened_at (x : S8192x4x192.Idx → ℝ) (r : Fin 8192) (h : Fin 4) (l : Fin 256) :
    widened (up x) (ix2 r (col h l)) = ((wide (fun l => x (ix3 r h l)) l : ℝ) : EReal) := by
  pointwise [widened, col]
  rw [sitofp_zero]
  unfold wide
  split <;> rfl
theorem flat_at (x : S8192x4x128.Idx → ℝ) (r : Fin 8192) (h : Fin 4) (l : Fin 128) : flat (up x) (ix2 r (colV h l)) = ((x (ix3 r h l) : ℝ) : EReal) := by
  pointwise [flat, colV]
theorem statsOf_at (x : FVec Ideal S8192x4x2 .f32) (r : Fin 8192) (l : Fin 128) :
    statsOf x (ix2 r l) = if h : l.val < 8 then x (ix3 r ⟨l.val / 2, by omega⟩ ⟨l.val % 2, by omega⟩) else ((0 : ℝ) : EReal) := by
  pointwise [statsOf]
  rw [sitofp_zero]
theorem stats_at (r : Fin 8192) (l : Fin 128) :
    statsOf (hPair (up q) (up k) (up v) (up d)) (ix2 r l) = ((statAt q k v d r l : ℝ) : EReal) := by
  rw [statsOf_at]
  unfold statAt
  split
  · rename_i h
    by_cases h2 : l.val % 2 = 0
    · rw [if_pos h2, ← pair0_at q k v d]
      exact congrArg (hPair (up q) (up k) (up v) (up d)) (congrArg (ix3 r _) (Fin.ext h2))
    · rw [if_neg h2, ← pair1_at q k v d]
      exact congrArg (hPair (up q) (up k) (up v) (up d)) (congrArg (ix3 r _) (Fin.ext (by show l.val % 2 = 1; omega)))
  · rfl

/-! ## The windows' blocks -/

theorem blkRow_eq (t : Fin cfg0.N) (n : Fin 1024) : blkRow t n = row (1024 * (t.val % 8) + n.val) := by
  rw [row_eq (by omega)]; exact Fin.ext (by show t.val % 8 * 1024 + n.val = 1024 * (t.val % 8) + n.val; omega)

theorem in0 (A : Args m c q k v d) (t : Fin cfg0.N) : iblk m c 0 t = up (blocks q k v d (hd t) (t.val % 8)).Q := by
  funext y
  have e : ((View.whole main_v2).slice (win0_0.rect t)).emb y = ix2 (y 0) (col (hd t) (y 1)) := by blk_ext [idx t, hd, col]
  show V m c main_v2 _ = _
  rw [ent0 A]
  exact (congrArg (widened (up q)) e).trans (widened_at ..)

theorem in1 (A : Args m c q k v d) (t : Fin cfg0.N) : iblk m c 1 t = up (blocks q k v d (hd t) (t.val % 8)).D := by
  funext y
  have e : ((View.whole main_v42).slice (win0_1.rect t)).emb y = ix2 (y 0) (colV (hd t) (y 1)) := by blk_ext [idx t, hd, colV]
  show V m c main_v42 _ = _
  rw [ent1 A]
  exact (congrArg (flat (up d)) e).trans (flat_at ..)

theorem in2 (A : Args m c q k v d) (t : Fin cfg0.N) : iblk m c 2 t = up (blocks q k v d (hd t) (t.val % 8)).S := by
  funext y
  have e : ((View.whole main_v38).slice (win0_2.rect t)).emb y = ix2 (y 0) (y 1) := by blk_ext [idx t]
  show V m c main_v38 _ = _
  rw [ent2 A]
  exact (congrArg (statsOf (hPair (up q) (up k) (up v) (up d))) e).trans (stats_at ..)

theorem in3 (A : Args m c q k v d) (t : Fin cfg0.N) : iblk m c 3 t = up (blocks q k v d (hd t) (t.val % 8)).K := by
  funext y
  have e : ((View.whole main_v5).slice (win0_3.rect t)).emb y = ix2 (blkRow t (y 0)) (col (hd t) (y 1)) := by blk_ext [idx t, hd, col, blkRow]
  show V m c main_v5 _ = _
  rw [ent3 A]
  refine (congrArg (widened (up k)) e).trans ((widened_at ..).trans ?_)
  exact congrArg (fun r : Fin 8192 => ((wide (fun l => k (ix3 r (hd t) l)) (y 1) : ℝ) : EReal)) (blkRow_eq t (y 0))

theorem in4 (A : Args m c q k v d) (t : Fin cfg0.N) : iblk m c 4 t = up (blocks q k v d (hd t) (t.val % 8)).V := by
  funext y
  have e : ((View.whole main_v40).slice (win0_4.rect t)).emb y = ix2 (blkRow t (y 0)) (colV (hd t) (y 1)) := by blk_ext [idx t, hd, colV, blkRow]
  show V m c main_v40 _ = _
  rw [ent4 A]
  refine (congrArg (flat (up v)) e).trans ((flat_at ..).trans ?_)
  exact congrArg (fun r : Fin 8192 => ((v (ix3 r (hd t) (y 1)) : ℝ) : EReal)) (blkRow_eq t (y 0))

/-! ## The points -/

theorem stepAt_first (A : Args m c q k v d) (t : Fin cfg0.N) (h : t.val % 8 = 0) (y : Vec Ideal S8192x256 .f32) :
    stepAt m c t y = leaves (blocks q k v d (hd t) (t.val % 8)) nil := by
  unfold stepAt
  rw [in0 A, in1 A, in2 A, in3 A, in4 A]
  exact step_first c (grid0.coords t) _ _ _ _ _ _ _ _ _ _ _ _ _ _ _ _ _ _ _ _ _ (coords0 t).1 (coords0 t).2 ((coords0 t).2.trans h) y

theorem stepAt_next (A : Args m c q k v d) (t : Fin cfg0.N) (h : t.val % 8 ≠ 0) (Y : ℕ → Fin 256 → ℝ) :
    stepAt m c t (up (fun y : S8192x256.Idx => Y (y 0).val (y 1))) = leaves (blocks q k v d (hd t) (t.val % 8)) Y := by
  unfold stepAt
  rw [in0 A, in1 A, in2 A, in3 A, in4 A]
  exact step_next c (grid0.coords t) _ _ _ _ _ _ _ _ _ _ _ _ _ _ _ _ _ _ _ _ _ Y (coords0 t).1 (coords0 t).2 (fun e => h ((coords0 t).2.symm.trans e))

theorem outs_at (A : Args m c q k v d) : ∀ (n : ℕ) (h : n < cfg0.N),
    outsAt m c n h = leaves (blocks q k v d (hd ⟨n, h⟩) (n % 8)) (partQ q k v d (hd ⟨n, h⟩) (n % 8)) := by
  intro n
  induction n with
  | zero =>
    intro h
    rw [part_zero]
    exact (outsAt_first m c ⟨0, h⟩ rfl (k0_pay189 (F := Ideal))).trans (stepAt_first A ⟨0, h⟩ rfl _)
  | succ n ih =>
    intro h
    by_cases h8 : (n + 1) % 8 = 0
    · rw [h8, part_zero]
      refine (outsAt_first m c ⟨n + 1, h⟩ h8 (k0_pay189 (F := Ideal))).trans ((stepAt_first A ⟨n + 1, h⟩ h8 _).trans ?_)
      rw [show (⟨n + 1, h⟩ : Fin cfg0.N).val % 8 = 0 from h8]; rfl
    · refine (outsAt_next m c ⟨n + 1, h⟩ h8).trans ?_
      have e := ih (Nat.lt_of_succ_lt h)
      have e1 : hd ⟨n, Nat.lt_of_succ_lt h⟩ = hd ⟨n + 1, h⟩ := Fin.ext (by show n / 8 = (n + 1) / 8; omega)
      have e2 : n % 8 + 1 = (n + 1) % 8 := by omega
      have e3 : (outsAt m c n (Nat.lt_of_succ_lt h)).dq = up (fun y : S8192x256.Idx => partQ q k v d (hd ⟨n + 1, h⟩) ((n + 1) % 8) (y 0).val (y 1)) := by
        rw [e, e1, ← e2]
        exact congrArg up (dqS_part q k v d (hd ⟨n + 1, h⟩) (n % 8))
      exact (congrArg (stepAt m c ⟨n + 1, h⟩) e3).trans (stepAt_next A ⟨n + 1, h⟩ h8 _)

/-! ## The arrays after the run -/

def headOf (x : Fin 1024) : Fin 4 := ⟨x.val / 256, by omega⟩
def laneOf (x : Fin 1024) : Fin 256 := ⟨x.val % 256, by omega⟩
def headOfV (x : Fin 512) : Fin 4 := ⟨x.val / 128, by omega⟩
def laneOfV (x : Fin 512) : Fin 128 := ⟨x.val % 128, by omega⟩

theorem headOf_col (h : Fin 4) (l : Fin 256) : headOf (col h l) = h := Fin.ext (by show (h.val * 256 + l.val) / 256 = h.val; omega)
theorem laneOf_col (h : Fin 4) (l : Fin 256) : laneOf (col h l) = l := Fin.ext (by show (h.val * 256 + l.val) % 256 = l.val; omega)
theorem headOfV_col (h : Fin 4) (l : Fin 128) : headOfV (colV h l) = h := Fin.ext (by show (h.val * 128 + l.val) / 128 = h.val; omega)
theorem laneOfV_col (h : Fin 4) (l : Fin 128) : laneOfV (colV h l) = l := Fin.ext (by show (h.val * 128 + l.val) % 128 = l.val; omega)

section Results
variable (q k v d)

/-- The gradients, head after head in the columns. -/
def resQ (r : Fin 8192) (x : Fin 1024) : ℝ := wide (gradQ q k v d (headOf x) r) (laneOf x)
def resK (r : Fin 8192) (x : Fin 1024) : ℝ := wide (gradK q k v d (headOf x) r) (laneOf x)
def resV (r : Fin 8192) (x : Fin 512) : ℝ := gradV q k d (headOfV x) r (laneOfV x)
end Results

theorem leaves_dk (h : Fin 4) (j : ℕ) (hj : j < 8) (Y : ℕ → Fin 256 → ℝ) (n : Fin 1024) (l : Fin 256) :
    (leaves (blocks q k v d h j) Y).dk (ix2 n l) = ((wide (gradK q k v d h (row (1024 * j + n.val))) l : ℝ) : EReal) :=
  congrArg (fun x : ℝ => (x : EReal)) (blocks_sumK q k v d h j hj n.isLt l)
theorem leaves_dv (h : Fin 4) (j : ℕ) (hj : j < 8) (Y : ℕ → Fin 256 → ℝ) (n : Fin 1024) (l : Fin 128) :
    (leaves (blocks q k v d h j) Y).dv (ix2 n l) = ((gradV q k d h (row (1024 * j + n.val)) l : ℝ) : EReal) :=
  congrArg (fun x : ℝ => (x : EReal)) (blocks_sumV q k v d h j hj n.isLt l)
theorem leaves_dq (h : Fin 4) (r : Fin 8192) (l : Fin 256) :
    (leaves (blocks q k v d h 7) (partQ q k v d h 7)).dq (ix2 r l) = ((wide (gradQ q k v d h r) l : ℝ) : EReal) := by
  refine (congrFun (congrArg up (dqS_part q k v d h 7)) (ix2 r l)).trans (congrArg (fun x : ℝ => (x : EReal)) ((partQ_all q k v d h r.isLt l).trans ?_))
  rw [row_eq r.isLt]

theorem final6 (A : Args m c q k v d) : (dats m 0 c).arrAt 6 (cfgs 0).N = up fun i => resK q k v d (i 0) (i 1) := by
  refine (dats m 0 c).arrAt_eq_of_covers 6 _ (by decide +kernel) fun t _ y => ?_
  have e : ((View.whole main_v43_1).slice (win0_6.rect t)).emb y = ix2 (blkRow t (y 0)) (col (hd t) (y 1)) := by blk_ext [idx t, hd, col, blkRow]
  blk_simp
  rw [after_6, outs_at A, e]
  obtain ⟨n, l, rfl⟩ : ∃ (n : Fin 1024) (l : Fin 256), y = ix2 n l := ⟨_, _, eq_ix2 y⟩
  refine (leaves_dk _ _ (Nat.mod_lt _ (by decide)) _ n l).trans ?_
  rw [← blkRow_eq]
  show _ = ((resK q k v d (blkRow t n) (col (hd t) l) : ℝ) : EReal)
  rw [resK, headOf_col, laneOf_col]

theorem final7 (A : Args m c q k v d) : (dats m 0 c).arrAt 7 (cfgs 0).N = up fun i => resV q k d (i 0) (i 1) := by
  refine (dats m 0 c).arrAt_eq_of_covers 7 _ (by decide +kernel) fun t _ y => ?_
  have e : ((View.whole main_v43_2).slice (win0_7.rect t)).emb y = ix2 (blkRow t (y 0)) (colV (hd t) (y 1)) := by blk_ext [idx t, hd, colV, blkRow]
  blk_simp
  rw [after_7, outs_at A, e]
  obtain ⟨n, l, rfl⟩ : ∃ (n : Fin 1024) (l : Fin 128), y = ix2 n l := ⟨_, _, eq_ix2 y⟩
  refine (leaves_dv _ _ (Nat.mod_lt _ (by decide)) _ n l).trans ?_
  rw [← blkRow_eq]
  show _ = ((resV q k d (blkRow t n) (colV (hd t) l) : ℝ) : EReal)
  rw [resV, headOfV_col, laneOfV_col]

theorem flush5 : ∀ t : Fin cfg0.N, (cfg0.win 5).flush t = true → t.val % 8 = 7 := (by decide +kernel : ∀ t : Fin grid0.N, _)

theorem final5 (A : Args m c q k v d) : (dats m 0 c).arrAt 5 (cfgs 0).N = up fun i => resQ q k v d (i 0) (i 1) := by
  refine (dats m 0 c).arrAt_eq_of_covers 5 _ (by decide +kernel) fun t ht y => ?_
  have h7 := flush5 t ht
  have e : ((View.whole main_v43_0).slice (win0_5.rect t)).emb y = ix2 (y 0) (col (hd t) (y 1)) := by blk_ext [idx t, hd, col]
  blk_simp
  rw [after_5, outs_at A, e, h7]
  obtain ⟨n, l, rfl⟩ : ∃ (n : Fin 8192) (l : Fin 256), y = ix2 n l := ⟨_, _, eq_ix2 y⟩
  refine (leaves_dq _ n l).trans ?_
  show _ = ((resQ q k v d n (col (hd t) l) : ℝ) : EReal)
  rw [resQ, headOf_col, laneOf_col]

end Cert.FlashIdeal.Body
-- ==== Proof.FlashValue.lean ====
module

public import proofs.«01_k».proof.Defs
public import proofs.«01_k».proof.Proof.Gen.Pre_finite_fb
public import proofs.«01_k».proof.Proof.Gen.FlashRefIdeal.Run
public import proofs.«01_k».proof.Proof.Gen.FlashRefIdeal.Read
public import proofs.«01_k».proof.Proof.FlashArrays

@[expose] public section

set_option maxRecDepth 16384

/-! The reference's operations in the reals, and the two programs' results side by side. -/

noncomputable section

namespace Cert.FlashIdeal.Body

open Idealize.ShloMosaic Idealize.ShloMosaic.TcCoe Idealize.ShloMosaic.Tactic Idealize.SL.Sem Cert.Lift
open Cert.FlashIdeal Cert.FlashIdeal.Gen
open scoped BigOperators

section Reference

open Cert.FlashRefIdeal.Read Cert.FlashRefIdeal.Value

variable (q k : S8192x4x192.Idx → ℝ) (v d : S8192x4x128.Idx → ℝ)

theorem r10_eq : val_main_v10_0 (F := Ideal) (up q) (up k) = hMasked (up q) (up k) := rfl
theorem r11_eq : val_main_v11 (F := Ideal) (up q) (up k) = hTop (val_main_v10_0 (F := Ideal) (up q) (up k)) := rfl
theorem r9_eq : val_main_v9 (F := Ideal) = hMask := rfl

theorem r18_at (h : Fin 4) (i : Fin 8192) : val_main_v18 (F := Ideal) (up q) (up k) (ix2 h i) = ((tops q k h i : ℝ) : EReal) := by
  rw [val_main_v18_apply, r11_eq, r10_eq, top_at]
  exact (congrArg (fun x : EReal => max x _) lit_bot).trans (max_eq_right bot_le)

theorem r31_at (h : Fin 4) (i j : Fin 8192) : val_main_v31 (F := Ideal) (up q) (up k) (ix3 h i j) = ((ew q k (tops q k h i) h i j : ℝ) : EReal) := by
  pointwise [val_main_v31, val_main_v30, val_main_v29, val_main_v28, r10_eq, masked_at, r18_at]
  unfold ew
  split
  · pointwise
  · rw [EReal.bot_sub]; exact EReal.coe_zero.symm

theorem r33_at (h : Fin 4) (i : Fin 8192) : val_main_v33 (F := Ideal) (up q) (up k) (ix3 h i 0) = ((es q k (tops q k h i) h i : ℝ) : EReal) := by
  pointwise [val_main_v33, val_main_v32, val_main_cst_9, r31_at]
  rfl

theorem r35_at (h : Fin 4) (i j : Fin 8192) : val_main_v35 (F := Ideal) (up q) (up k) (ix3 h i j) = ((pb q k h i j : ℝ) : EReal) := by
  pointwise [val_main_v35, val_main_v34, r31_at, r33_at]
  rw [coe_div (es_pos ..).ne', ew_div]

theorem r38_at (h : Fin 4) (i : Fin 8192) : val_main_v38 (F := Ideal) (up q) (up k) (ix3 h i 0)
    = ((1 / (es q k (tops q k h i) h i * es q k (tops q k h i) h i) : ℝ) : EReal) := by
  pointwise [val_main_v38, val_main_v37, val_main_v36, val_main_cst_10, r33_at]
  rw [← EReal.coe_one, coe_div (mul_pos (es_pos ..) (es_pos ..)).ne']

theorem r42_at (h : Fin 4) (i j : Fin 8192) : val_main_v42 (F := Ideal) (up v) (up d) (ix3 h i j) = ((dp v d h i j : ℝ) : EReal) := by
  pointwise [val_main_v42, val_main_v41]
  rfl

theorem r44_at (j : Fin 8192) (h : Fin 4) (l : Fin 128) : val_main_v44 (F := Ideal) (up q) (up k) (up d) (ix3 j h l) = ((gradV q k d h j l : ℝ) : EReal) := by
  pointwise [val_main_v44, val_main_v43, val_main_v41, r35_at]
  rw [gradV]
  exact congrArg (fun x : ℝ => (x : EReal)) (Finset.sum_congr rfl fun _ _ => mul_comm _ _)

theorem r53_at (h : Fin 4) (i : Fin 8192) : val_main_v53 (F := Ideal) (up q) (up k) (up v) (up d) (ix2 h i)
    = ((-(∑ j', dp v d h i j' * (1 / (es q k (tops q k h i) h i * es q k (tops q k h i) h i)) * ew q k (tops q k h i) h i j') : ℝ) : EReal) := by
  pointwise [val_main_v53, val_main_v50, val_main_v49, val_main_v48, val_main_v47, val_main_v46, val_main_v45, val_main_cst_11, val_main_cst_12, r42_at, r38_at, r31_at]

theorem r59_at (h : Fin 4) (i j : Fin 8192) : val_main_v59 (F := Ideal) (up q) (up k) (up v) (up d) (ix3 h i j) = ((ds q k v d h i j : ℝ) : EReal) := by
  pointwise [val_main_v59, val_main_v58, val_main_v57, val_main_v1, val_main_cst, val_main_call1_v0, val_main_call1_cst, val_main_v10_1, r9_eq, mask_at,
    val_main_v56, val_main_v55, val_main_v54, val_main_v52, val_main_v51, r53_at, r42_at, r31_at, r33_at]
  rw [← ds_ref q k v d (tops q k h i), coe_div (es_pos ..).ne']
  split
  · pointwise
  · rw [ew, if_neg ‹_›, mul_zero, zero_mul, ← EReal.coe_zero, div_sqrt, zero_mul]

theorem r61_at (j : Fin 8192) (h : Fin 4) (l : Fin 192) : val_main_v61 (F := Ideal) (up q) (up k) (up v) (up d) (ix3 j h l) = ((gradK q k v d h j l : ℝ) : EReal) := by
  pointwise [val_main_v61, val_main_v60, r59_at]
  rfl
theorem r63_at (i : Fin 8192) (h : Fin 4) (l : Fin 192) : val_main_v63 (F := Ideal) (up q) (up k) (up v) (up d) (ix3 i h l) = ((gradQ q k v d h i l : ℝ) : EReal) := by
  pointwise [val_main_v63, val_main_v62, r59_at]
  rfl

theorem r65_at (i : Fin 8192) (x : Fin 1024) : val_main_v65 (F := Ideal) (up q) (up k) (up v) (up d) (ix2 i x) = ((resQ q k v d i x : ℝ) : EReal) := by
  pointwise [val_main_v65, val_main_v64, val_main_call2_v0, val_main_c, r63_at]
  unfold resQ wide headOf laneOf
  split_ifs with h1 h2 h2
  · rfl
  · exact absurd h1.2 h2
  · exact absurd ⟨by omega, h2⟩ h1
  · exact sitofp_zero.trans EReal.coe_zero.symm
theorem r67_at (i : Fin 8192) (x : Fin 1024) : val_main_v67 (F := Ideal) (up q) (up k) (up v) (up d) (ix2 i x) = ((resK q k v d i x : ℝ) : EReal) := by
  pointwise [val_main_v67, val_main_v66, val_main_call3_v0, val_main_c_13, r61_at]
  unfold resK wide headOf laneOf
  split_ifs with h1 h2 h2
  · rfl
  · exact absurd h1.2 h2
  · exact absurd ⟨by omega, h2⟩ h1
  · exact sitofp_zero.trans EReal.coe_zero.symm
theorem r68_at (i : Fin 8192) (x : Fin 512) : val_main_v68 (F := Ideal) (up q) (up k) (up d) (ix2 i x) = ((resV q k d i x : ℝ) : EReal) := by
  pointwise [val_main_v68, r44_at]
  rfl

end Reference

/-- The precondition's meaning: every argument is a real array. -/
theorem exists_args (m : (ℓ : Loc nD τ sig) → Buf (Elt Ideal) ℓ) (hm : Pre_FlashIdeal_finite_fb m) (c : Dev nD) :
    ∃ q k v d, Args m c q k v d := by
  have e := congrFun (hm c) ix0
  dsimp only [Cert.Pre_finite_fb.fn, Cert.Pre_finite_fb.fn_part1] at e
  obtain ⟨e, e3⟩ := IntOp.andi_eq_one.1 e
  obtain ⟨e, e2⟩ := IntOp.andi_eq_one.1 e
  obtain ⟨e0, e1⟩ := IntOp.andi_eq_one.1 e
  obtain ⟨q, e0⟩ := exists_up _ _ (fun _ => rfl) _ _ _ _ e0
  obtain ⟨k, e1⟩ := exists_up _ _ (fun _ => rfl) _ _ _ _ e1
  obtain ⟨v, e2⟩ := exists_up _ _ (fun _ => rfl) _ _ _ _ e2
  obtain ⟨d, e3⟩ := exists_up _ _ (fun _ => rfl) _ _ _ _ e3
  exact ⟨q, k, v, d, e0, e1, e2, e3⟩

/-- The reference's arguments' arrays are these real arrays. -/
structure ArgsR (m : (ℓ : Loc Cert.FlashRefIdeal.nD Cert.FlashRefIdeal.τ Cert.FlashRefIdeal.sig) → Buf (Elt Ideal) ℓ) (c : Dev nD)
    (q k : S8192x4x192.Idx → ℝ) (v d : S8192x4x128.Idx → ℝ) : Prop where
  e0 : m ((c.tc : Thread nD Cert.FlashRefIdeal.τ).loc Cert.FlashRefIdeal.main_arg0) = up q
  e1 : m ((c.tc : Thread nD Cert.FlashRefIdeal.τ).loc Cert.FlashRefIdeal.main_arg1) = up k
  e2 : m ((c.tc : Thread nD Cert.FlashRefIdeal.τ).loc Cert.FlashRefIdeal.main_arg2) = up v
  e3 : m ((c.tc : Thread nD Cert.FlashRefIdeal.τ).loc Cert.FlashRefIdeal.main_arg3) = up d

section Results

open Cert.FlashRefIdeal.Read Cert.FlashRefIdeal.Value

variable {m : (ℓ : Loc Cert.FlashRefIdeal.nD Cert.FlashRefIdeal.τ Cert.FlashRefIdeal.sig) → Buf (Elt Ideal) ℓ} {c : Dev nD}
variable {q k : S8192x4x192.Idx → ℝ} {v d : S8192x4x128.Idx → ℝ}

theorem ref0 (B : ArgsR m c q k v d) : res_main_v65 m c = up fun i => resQ q k v d (i 0) (i 1) := by
  refine (val_main_v65_eq m c).trans ?_
  rw [B.e0, B.e1, B.e2, B.e3]
  funext i
  rw [eq_ix2 i]; exact r65_at ..
theorem ref1 (B : ArgsR m c q k v d) : res_main_v67 m c = up fun i => resK q k v d (i 0) (i 1) := by
  refine (val_main_v67_eq m c).trans ?_
  rw [B.e0, B.e1, B.e2, B.e3]
  funext i
  rw [eq_ix2 i]; exact r67_at ..
theorem ref2 (B : ArgsR m c q k v d) : res_main_v68 m c = up fun i => resV q k d (i 0) (i 1) := by
  refine (val_main_v68_eq m c).trans ?_
  rw [B.e0, B.e1, B.e3]
  funext i
  rw [eq_ix2 i]; exact r68_at ..

end Results

set_option maxHeartbeats 1000000 in
theorem algebraic : Cert.algebraic_FlashIdeal_FlashRefIdeal_pre_finite_fb := by
  pair_intro
  · run_from Cert.FlashIdeal.Body.run_main m g
    · exact V_main_arg0 m c
    · exact V_main_arg1 m c
    · exact V_main_arg2 m c
    · exact V_main_arg3 m c
  · refine θ_run_mono (Cert.FlashRefIdeal.Value.run m' g') fun r hr c => ?_
    obtain ⟨q, k, v, d, A⟩ := exists_args m hpre c
    obtain ⟨a0, a1, a2, a3⟩ := hagree c
    have B : ArgsR m' c q k v d := ⟨a0.trans A.e0, a1.trans A.e1, a2.trans A.e2, a3.trans A.e3⟩
    have hc := hr c
    refine ⟨hc.1.trans ?_, hc.2.1.trans ?_, hc.2.2.1.trans ?_, hc.2.2.2⟩
    · exact (ref0 B).trans (final5 A).symm
    · exact (ref1 B).trans (final6 A).symm
    · exact (ref2 B).trans (final7 A).symm

/-- The reference is host operations only, and declares no semaphore. -/
theorem frame_ref : Cert.quiescent_FlashRefIdeal := fun m ρ _ =>
  (θ_run Cert.FlashRefIdeal.defs _ _).mono
    (fun r h => ⟨fun c => (h c).2.2.2, sem_eq_zero_of_no_sems (by decide) r.2⟩) (Cert.FlashRefIdeal.Value.run m ρ)

end Cert.FlashIdeal.Body

end
-- ==== Proof.FlashBits.lean ====
module

public import proofs.«01_k».proof.Proof.FlashFrame
public import proofs.«01_k».proof.Defs
public import proofs.«01_k».proof.Proof.Gen.Flash
public import Idealize.ShloMosaic.Lib.Tactic

@[expose] public section

set_option maxRecDepth 65536

/-! The kernel with its constants' bits: the run of the kernel with the constants named, each name read as its bits. -/

namespace Cert.Flash.Body

open Idealize.ShloMosaic Idealize.ShloMosaic.TcCoe Idealize.ShloMosaic.Tactic

/-- A named constant, as its bits. -/
@[reducible] noncomputable def bits : Named Bits := ⟨fun _ _ {_} b => Scalar.ofBits _ b⟩

theorem main_eq : Cert.Flash.main (F := Bits) = (letI := bits; Cert.FlashIdeal.main (F := Bits)) := by sl_kernel_rfl

theorem defs_eq : Cert.Flash.defs (F := Bits) = (letI := bits; Cert.FlashIdeal.defs (F := Bits)) := by sl_kernel_rfl

theorem frame : Cert.quiescent_Flash := fun m g _ => by
  letI := bits
  rw [main_eq, defs_eq]
  exact Cert.FlashIdeal.Body.frame (F := Bits) m g

theorem preserves : Cert.preserves_Flash_FlashIdeal :=
  ⟨IdealRules.named_const.statement Cert.FlashIdeal.κ "log2e" .f32 0x3FB8AA3B#32 (((Real.log 2)⁻¹ : ℝ) : EReal) rfl,
    IdealRules.named_const.statement Cert.FlashIdeal.κ "exp2_scale" .f32 0x3DD53B95#32 (((Real.sqrt 192)⁻¹ * (Real.log 2)⁻¹ : ℝ) : EReal) rfl,
    IdealRules.named_const.statement Cert.FlashIdeal.κ "att_scale" .f32 0x3D93CD3A#32 (((Real.sqrt 192)⁻¹ : ℝ) : EReal) rfl⟩

end Cert.Flash.Body

end
-- ==== Proof.InProj.lean ====
module

public import proofs.«01_k».proof.Proof.Gen.InProjIdeal.Value
public import proofs.«01_k».proof.Proof.Gen.InProjRefIdeal.Read
public import proofs.«01_k».proof.Proof.Lift
public import Idealize.ShloMosaic.Lib.Pipeline.ValueKit

@[expose] public section

set_option maxRecDepth 16384

noncomputable section

namespace Cert.InProjIdeal.Body

open Idealize.ShloMosaic Idealize.ShloMosaic.TcCoe Idealize.SL.Sem Cert.Lift
open Cert.InProjIdeal Cert.InProjIdeal.Gen

@[pointwise] theorem lit_1024 : Ideal.ofBits .f32 0x44800000#32 = ((1024 : ℝ) : EReal) := by
  simp [Ideal.ofBits, Ideal.ieee, -EReal.coe_mul]; norm_num

@[pointwise] theorem div_1024 (a : ℝ) : Ideal.div (a : EReal) ((1024 : ℝ) : EReal) = ((a / 1024 : ℝ) : EReal) := coe_div (by norm_num)

/-- A row's mean square plus epsilon, and the reciprocal of its root. -/
def vr (v : Fin 1024 → ℝ) : ℝ := (∑ k, v k * v k) / 1024 + eps
def rsd (v : Fin 1024 → ℝ) : ℝ := (Real.sqrt (vr v))⁻¹

theorem vr_pos (v : Fin 1024 → ℝ) : 0 < vr v := add_eps_pos _ (by norm_num)

/-- The cotangent of the projection's argument. -/
def dh {n : ℕ} (d : Fin n → ℝ) (w : Fin 1024 → Fin n → ℝ) (l : Fin 1024) : ℝ := ∑ k, d k * w l k

/-- The gradient of the norm's argument: `u` that of the modulated norm. -/
def dxK (v o u g s : Fin 1024 → ℝ) (l : Fin 1024) : ℝ :=
  o l + rsd v * (u l * (1 + s l) * g l - v l * rsd v * ((∑ k, u k * (1 + s k) * g k * (v k * rsd v)) / 1024))

/-- A row's shares of the gradients of the shift, the scale and the gain. -/
def shS (u : Fin 1024 → ℝ) (l : Fin 1024) : ℝ := u l
def shM (v u g : Fin 1024 → ℝ) (l : Fin 1024) : ℝ := u l * (v l * rsd v * g l)
def shG (v u s : Fin 1024 → ℝ) (l : Fin 1024) : ℝ := u l * (1 + s l) * (v l * rsd v)

section Kernel

variable (x o : S256x1024.Idx → ℝ) (z : S256x2560.Idx → ℝ) (w : S1024x2560.Idx → ℝ) (g s : S1x1024.Idx → ℝ) (acc : FVec Ideal S1x1024 .f32)
variable (r : Fin 256) (l : Fin 1024)

abbrev row (x : S256x1024.Idx → ℝ) (r : Fin 256) : Fin 1024 → ℝ := fun k => x (ix2 r k)
abbrev rowz (z : S256x2560.Idx → ℝ) (r : Fin 256) : Fin 2560 → ℝ := fun k => z (ix2 r k)
abbrev vec (g : S1x1024.Idx → ℝ) : Fin 1024 → ℝ := fun k => g (ix2 0 k)
abbrev mat (w : S1024x2560.Idx → ℝ) : Fin 1024 → Fin 2560 → ℝ := fun l k => w (ix2 l k)

theorem pay14_at : k0_pay14 (F := Ideal) (up s) (ix2 0 l) = ((1 + s (ix2 0 l) : ℝ) : EReal) := by
  pointwise [k0_pay14]

theorem pay15_at : k0_pay15 (F := Ideal) (up z) (up w) (ix2 r l) = ((dh (rowz z r) (mat w) l : ℝ) : EReal) := by
  pointwise [k0_pay15]
  rfl

theorem pay25_at : k0_pay25 (F := Ideal) (up z) (up w) (ix2 r l) = ((dh (rowz z r) (mat w) l : ℝ) : EReal) := pay15_at z w r l

theorem pay16_at : k0_pay16 (F := Ideal) (up x) (ix2 r 0) = ((rsd (row x r) : ℝ) : EReal) := by
  pointwise [k0_pay16]
  exact coe_rsqrt (vr_pos (row x r))

theorem pay26_at : k0_pay26 (F := Ideal) (up x) (ix2 r 0) = ((rsd (row x r) : ℝ) : EReal) := pay16_at x r

theorem pay17_at : k0_pay17 (F := Ideal) (up x) (k0_pay16 (up x)) (ix2 r l) = ((x (ix2 r l) * rsd (row x r) : ℝ) : EReal) := by
  pointwise [k0_pay17, pay16_at]

theorem pay27_at : k0_pay27 (F := Ideal) (up x) (ix2 r l) = ((x (ix2 r l) * rsd (row x r) : ℝ) : EReal) := pay17_at x r l

theorem pay18_at : k0_pay18 (F := Ideal) (k0_pay15 (up z) (up w)) acc (ix2 0 l)
    = acc (ix2 0 l) + ((∑ r, shS (dh (rowz z r) (mat w)) l : ℝ) : EReal) := by
  pointwise [k0_pay18, pay15_at]
  rfl

theorem pay28_at : k0_pay28 (F := Ideal) (up z) (up w) acc (ix2 0 l)
    = acc (ix2 0 l) + ((∑ r, shS (dh (rowz z r) (mat w)) l : ℝ) : EReal) := pay18_at z w acc l

theorem pay19_at : k0_pay19 (F := Ideal) (k0_pay13 (up g)) (k0_pay15 (up z) (up w)) (up x) (k0_pay16 (up x)) acc (ix2 0 l)
    = acc (ix2 0 l) + ((∑ r, shM (row x r) (dh (rowz z r) (mat w)) (vec g) l : ℝ) : EReal) := by
  pointwise [k0_pay19, k0_pay13, pay15_at, pay17_at]
  rfl

theorem pay29_at : k0_pay29 (F := Ideal) (k0_pay13 (up g)) (up z) (up w) (up x) acc (ix2 0 l)
    = acc (ix2 0 l) + ((∑ r, shM (row x r) (dh (rowz z r) (mat w)) (vec g) l : ℝ) : EReal) := pay19_at x z w g acc l

theorem pay20_at : k0_pay20 (F := Ideal) (k0_pay14 (up s)) (k0_pay15 (up z) (up w)) (ix2 r l)
    = ((dh (rowz z r) (mat w) l * (1 + s (ix2 0 l)) : ℝ) : EReal) := by
  pointwise [k0_pay20, pay14_at, pay15_at]

theorem pay30_at : k0_pay30 (F := Ideal) (k0_pay14 (up s)) (up z) (up w) (ix2 r l)
    = ((dh (rowz z r) (mat w) l * (1 + s (ix2 0 l)) : ℝ) : EReal) := pay20_at z w s r l

theorem pay21_at : k0_pay21 (F := Ideal) (k0_pay14 (up s)) (k0_pay15 (up z) (up w)) (up x) (k0_pay16 (up x)) acc (ix2 0 l)
    = acc (ix2 0 l) + ((∑ r, shG (row x r) (dh (rowz z r) (mat w)) (vec s) l : ℝ) : EReal) := by
  pointwise [k0_pay21, pay20_at, pay17_at]
  rfl

theorem pay1_at : k0_pay1 (F := Ideal) (k0_pay27 (up x)) (k0_pay30 (k0_pay14 (up s)) (up z) (up w)) acc (ix2 0 l)
    = acc (ix2 0 l) + ((∑ r, shG (row x r) (dh (rowz z r) (mat w)) (vec s) l : ℝ) : EReal) := pay21_at x z w s acc l

theorem pay22_at : k0_pay22 (F := Ideal) (k0_pay13 (up g)) (k0_pay14 (up s)) (k0_pay15 (up z) (up w)) (up x) (k0_pay16 (up x)) (ix2 r l)
    = ((dh (rowz z r) (mat w) l * (1 + s (ix2 0 l)) * g (ix2 0 l)
      - x (ix2 r l) * rsd (row x r) * ((∑ k, dh (rowz z r) (mat w) k * (1 + s (ix2 0 k)) * g (ix2 0 k) * (x (ix2 r k) * rsd (row x r))) / 1024) : ℝ) : EReal) := by
  pointwise [k0_pay22, k0_pay13, pay20_at, pay17_at]

theorem pay24_at : k0_pay24 (F := Ideal) (up o) (k0_pay22 (k0_pay13 (up g)) (k0_pay14 (up s)) (k0_pay15 (up z) (up w)) (up x) (k0_pay16 (up x))) (k0_pay23 (k0_pay16 (up x))) (ix2 r l)
    = ((dxK (row x r) (row o r) (dh (rowz z r) (mat w)) (vec g) (vec s) l : ℝ) : EReal) := by
  pointwise [k0_pay24, k0_pay23, pay22_at, pay16_at]
  rfl

theorem pay2_at : k0_pay2 (F := Ideal) (k0_pay13 (up g)) (k0_pay26 (up x)) (k0_pay27 (up x)) (k0_pay30 (k0_pay14 (up s)) (up z) (up w)) (up o) (ix2 r l)
    = ((dxK (row x r) (row o r) (dh (rowz z r) (mat w)) (vec g) (vec s) l : ℝ) : EReal) := pay24_at x o z w g s r l

end Kernel

/-! ## The reference -/

section Reference

open Cert.InProjRefIdeal.Read

variable (x o : S8192x1024.Idx → ℝ) (g : S1024.Idx → ℝ) (m : S3x1024.Idx → ℝ) (w : S1024x2496.Idx → ℝ) (z : S8192x2496.Idx → ℝ)
variable (r : Fin 8192) (l : Fin 1024)

abbrev rowR (x : S8192x1024.Idx → ℝ) (r : Fin 8192) : Fin 1024 → ℝ := fun k => x (ix2 r k)
abbrev vec1 (g : S1024.Idx → ℝ) : Fin 1024 → ℝ := fun k => g (ix1 k)
abbrev vecS (m : S3x1024.Idx → ℝ) : Fin 1024 → ℝ := fun k => m (ix2 1 k)
abbrev dhR (w : S1024x2496.Idx → ℝ) (z : S8192x2496.Idx → ℝ) (r : Fin 8192) : Fin 1024 → ℝ := dh (fun k => z (ix2 r k)) (fun l k => w (ix2 l k))

theorem v10_at : val_main_v10 (F := Ideal) (up x) (ix2 r 0) = ((vr (rowR x r) : ℝ) : EReal) := by
  pointwise [val_main_v10, val_main_v9, val_main_cst_1, val_main_v8, val_main_v7, val_main_cst_0, val_main_v6, val_main_v5, val_main_cst, val_main_v4]
  rfl

theorem v11_at : val_main_v11 (F := Ideal) (up x) (ix2 r 0) = ((rsd (rowR x r) : ℝ) : EReal) := by
  pointwise [val_main_v11, v10_at]
  exact coe_rsqrt (vr_pos _)

theorem v14_at : val_main_v14 (F := Ideal) (up x) (ix2 r 0) = ((-(1 / 2) * (rsd (rowR x r) / vr (rowR x r)) : ℝ) : EReal) := by
  pointwise [val_main_v14, val_main_v13, val_main_cst_2, val_main_v12, v10_at, v11_at]
  rw [coe_div (vr_pos _).ne', lift_mul]

theorem v16_at : val_main_v16 (F := Ideal) (up x) (ix2 r l) = ((x (ix2 r l) * rsd (rowR x r) : ℝ) : EReal) := by
  pointwise [val_main_v16, val_main_v15, v11_at]

theorem v29_at : val_main_v29 (F := Ideal) (up w) (up z) (ix2 r l) = ((dhR w z r l : ℝ) : EReal) := by
  pointwise [val_main_v29]
  rfl

theorem v37_at : val_main_v37 (F := Ideal) (up m) (up w) (up z) (ix2 r l) = ((dhR w z r l * (1 + m (ix2 1 l)) : ℝ) : EReal) := by
  pointwise [val_main_v37, val_main_v36, val_main_v22, val_main_v21, val_main_v20, val_main_cst_3, val_main_v3, val_main_v2, v29_at]

theorem v43_at : val_main_v43 (F := Ideal) (up g) (up m) (up w) (up z) (ix2 r l) = ((dhR w z r l * (1 + m (ix2 1 l)) * g (ix1 l) : ℝ) : EReal) := by
  pointwise [val_main_v43, val_main_v42, val_main_v17, v37_at]

theorem v32_at : val_main_v32 (F := Ideal) (up w) (up z) (ix1 l) = ((∑ r, shS (dhR w z r) l : ℝ) : EReal) := by
  pointwise [val_main_v32, val_main_cst_5, val_main_v31, val_main_v30, val_main_cst_4, v29_at]
  rfl

theorem v38_at : val_main_v38 (F := Ideal) (up x) (up g) (up w) (up z) (ix1 l) = ((∑ r, shM (rowR x r) (dhR w z r) (vec1 g) l : ℝ) : EReal) := by
  pointwise [val_main_v38, val_main_cst_7, val_main_v35, val_main_v34, val_main_cst_6, val_main_v33, val_main_v19, val_main_v18, val_main_v17, v16_at, v29_at]
  exact congrArg _ (Finset.sum_congr rfl fun k _ => mul_comm _ _)

theorem v63_at : val_main_v63 (F := Ideal) (up x) (up m) (up w) (up z) (ix2 0 l) = ((∑ r, shG (rowR x r) (dhR w z r) (vecS m) l : ℝ) : EReal) := by
  pointwise [val_main_v63, val_main_v44, val_main_cst_9, val_main_v41, val_main_v40, val_main_cst_8, val_main_v39, v16_at, v37_at]
  exact congrArg _ (Finset.sum_congr rfl fun k _ => mul_comm _ _)

theorem v55_at : val_main_v55 (F := Ideal) (up x) (up g) (up m) (up w) (up z) (ix2 r l)
    = (((∑ k, x (ix2 r k) * (dhR w z r k * (1 + m (ix2 1 k)) * g (ix1 k))) * (-(1 / 2) * (rsd (rowR x r) / vr (rowR x r))) / 1024 : ℝ) : EReal) := by
  pointwise [val_main_v55, val_main_v54, val_main_cst_12, val_main_v53, val_main_v52, val_main_cst_11, val_main_v51, val_main_v47, val_main_v46, val_main_cst_10, val_main_v45, v43_at, v14_at]

/-- The gradient of a norm `v l * R`, `R = V ^ (-1/2)`, `V` a mean of squares of `v`: the chain rule's terms in the order
    of a reverse pass, against the closed form. -/
theorem rms_back {n : ℕ} (N o : ℝ) (v q : Fin n → ℝ) (R V : ℝ) (hR : R * R * V = 1) (hV : V ≠ 0) (l : Fin n) :
    o + q l * R + v l * ((∑ k, v k * q k) * (-(1 / 2) * (R / V)) / N) + (∑ k, v k * q k) * (-(1 / 2) * (R / V)) / N * v l
      = o + R * (q l - v l * R * ((∑ k, q k * (v k * R)) / N)) := by
  have h3 : ∑ k, q k * (v k * R) = (∑ k, v k * q k) * R := by
    rw [Finset.sum_mul]; exact Finset.sum_congr rfl fun k _ => by ring
  have h4 : R / V = R * R * R := by rw [div_eq_iff hV]; linear_combination -R * hR
  rw [h3, h4]
  ring

theorem v59_at : val_main_v59 (F := Ideal) (up x) (up g) (up m) (up w) (up o) (up z) (ix2 r l)
    = ((dxK (rowR x r) (rowR o r) (dhR w z r) (vec1 g) (vecS m) l : ℝ) : EReal) := by
  pointwise [val_main_v59, val_main_v58, val_main_v57, val_main_v56, val_main_v50, val_main_v49, val_main_v48, v43_at, v11_at, v55_at]
  exact congrArg _ (rms_back 1024 _ (rowR x r) (fun k => dhR w z r k * (1 + m (ix2 1 k)) * g (ix1 k)) _ _ (inv_sqrt_mul (vr_pos _)) (vr_pos _).ne' l)

end Reference

/-! ## The padded product -/

/-- A row with the zero columns put in between. -/
def padrow (z : Fin 2496 → ℝ) (k : Fin 2560) : ℝ :=
  if h : k.val < 448 then z ⟨k.val, by omega⟩ else if h : k.val < 512 then 0 else z ⟨k.val - 64, by omega⟩

theorem sum_pad (z w : Fin 2496 → ℝ) : ∑ k, padrow z k * padrow w k = ∑ k, z k * w k := by
  have e1 := Fin.sum_univ_add (a := 448) (b := 2112) (fun k : Fin 2560 => padrow z k * padrow w k)
  have e2 := Fin.sum_univ_add (a := 64) (b := 2048) (fun k : Fin 2112 => padrow z (Fin.natAdd 448 k) * padrow w (Fin.natAdd 448 k))
  have e3 := Fin.sum_univ_add (a := 448) (b := 2048) (fun k : Fin 2496 => z k * w k)
  refine e1.trans (Eq.trans (congrArg₂ (· + ·) ?_ (e2.trans ?_)) e3.symm)
  · refine Finset.sum_congr rfl fun k _ => ?_
    have hk : (Fin.castAdd 2112 k : Fin 2560).val < 448 := k.isLt
    simp only [padrow, dif_pos hk]; rfl
  · rw [Finset.sum_eq_zero fun k _ => ?_, zero_add]
    · refine Finset.sum_congr rfl fun k _ => ?_
      have h1 : ¬ (Fin.natAdd 448 (Fin.natAdd 64 k) : Fin 2560).val < 448 := by simp
      have h2 : ¬ (Fin.natAdd 448 (Fin.natAdd 64 k) : Fin 2560).val < 512 := by simp; omega
      have h3 : ∀ h, (⟨(Fin.natAdd 448 (Fin.natAdd 64 k) : Fin 2560).val - 64, h⟩ : Fin 2496) = Fin.natAdd 448 k := fun h => by
        ext; simp; omega
      simp only [padrow, dif_neg h1, dif_neg h2, h3]
    · have h1 : ¬ (Fin.natAdd 448 (Fin.castAdd 2048 k) : Fin 2560).val < 448 := by simp
      have h2 : (Fin.natAdd 448 (Fin.castAdd 2048 k) : Fin 2560).val < 512 := by simp; omega
      simp only [padrow, dif_neg h1, dif_pos h2, mul_zero]

end Cert.InProjIdeal.Body

end
-- ==== Proof.InProjBlocks.lean ====
module

public import proofs.«01_k».proof.Defs
public import proofs.«01_k».proof.Proof.Gen.Pre_finite_ip
public import proofs.«01_k».proof.Proof.InProj
public import Idealize.ShloMosaic.Lib.Claim

@[expose] public section

set_option maxRecDepth 16384

noncomputable section

namespace Cert.InProjIdeal.Body

open Idealize.ShloMosaic Idealize.ShloMosaic.TcCoe Idealize.SL.Sem Cert.Lift
open Cert.InProjIdeal Cert.InProjIdeal.Gen

/-! ## The arrays after the run -/

section Arrays

variable (m : (ℓ : Loc nD τ sig) → Buf (Elt Ideal) ℓ) (c : Dev nD)
variable (x o : S8192x1024.Idx → ℝ) (g : S1024.Idx → ℝ) (md : S3x1024.Idx → ℝ) (w : S1024x2496.Idx → ℝ) (z : S8192x2496.Idx → ℝ)

/-- The arguments' arrays are these real arrays. -/
structure Args : Prop where
  e0 : m ((c.tc : Thread nD τ).loc main_arg0) = up x
  e1 : m ((c.tc : Thread nD τ).loc main_arg1) = up g
  e2 : m ((c.tc : Thread nD τ).loc main_arg2) = up md
  e3 : m ((c.tc : Thread nD τ).loc main_arg3) = up w
  e4 : m ((c.tc : Thread nD τ).loc main_arg4) = up o
  e5 : m ((c.tc : Thread nD τ).loc main_arg5) = up z

/-- Row `r` of point `t`'s block in the whole array. -/
def glob (t : Fin cfg0.N) (r : Fin 512) : Fin 8192 := ⟨t.val * 512 + r.val, by have := t.isLt; have : cfg0.N = 16 := N_0; omega⟩

theorem idx : ∀ t : Fin cfg0.N, (win0_0.index t = ![t.val, 0] ∧ win0_1.index t = ![t.val, 0] ∧ win0_2.index t = ![t.val, 0] ∧ win0_3.index t = ![t.val, 0])
    ∧ (win0_4.index t = ![t.val, 0] ∧ win0_5.index t = ![t.val, 0] ∧ win0_6.index t = ![t.val, 0] ∧ win0_7.index t = ![t.val, 0])
    ∧ (win0_8.index t = ![t.val, 0] ∧ win0_9.index t = ![t.val, 0] ∧ win0_10.index t = ![0, 0] ∧ win0_11.index t = ![0, 0])
    ∧ (win0_12.index t = ![0, 0] ∧ win0_13.index t = ![t.val, 0] ∧ win0_14.index t = ![0, 0] ∧ win0_15.index t = ![0, 0]) :=
  (by decide +kernel : ∀ t : Fin grid0.N, _)

/-- A row of the padded cotangent, and of the padded matrix. -/
abbrev pz (z : S8192x2496.Idx → ℝ) (r : Fin 8192) : Fin 2560 → ℝ := padrow fun k => z (ix2 r k)
abbrev pw (w : S1024x2496.Idx → ℝ) (l : Fin 1024) : Fin 2560 → ℝ := padrow fun k => w (ix2 l k)

variable {m c x o g md w z}

/-- Row `r` of the half at row `p` of point `t`'s block, in the whole array; the half's rows of the arrays. -/
def half (p : ℕ) (hp : p + 256 ≤ 512) (t : Fin cfg0.N) (r : Fin 256) : Fin 8192 := glob t ⟨p + r.val, by omega⟩
def hx (x : S8192x1024.Idx → ℝ) (p : ℕ) (hp : p + 256 ≤ 512) (t : Fin cfg0.N) : S256x1024.Idx → ℝ := fun y => x (ix2 (half p hp t (y 0)) (y 1))
def hz (z : S8192x2496.Idx → ℝ) (p : ℕ) (hp : p + 256 ≤ 512) (t : Fin cfg0.N) : S256x2560.Idx → ℝ := fun y => pz z (half p hp t (y 0)) (y 1)
def gv (g : S1024.Idx → ℝ) : S1x1024.Idx → ℝ := fun y => g (ix1 (y 1))
def sv (md : S3x1024.Idx → ℝ) : S1x1024.Idx → ℝ := fun y => md (ix2 1 (y 1))
def wv (w : S1024x2496.Idx → ℝ) : S1024x2560.Idx → ℝ := fun y => pw w (y 0) (y 1)

theorem in0 (A : Args m c x o g md w z) (t : Fin cfg0.N) : iblk m c 0 t = up fun y => x (ix2 (glob t (y 0)) (y 1)) := by
  funext y
  have e : ((View.whole main_arg0).slice (win0_0.rect t)).emb y = ix2 (glob t (y 0)) (y 1) := by blk_ext [idx t, glob]
  blk_simp [iblk]
  entry_read
  exact (congrFun A.e0 _).trans (by rw [e]; rfl)

theorem in1 (A : Args m c x o g md w z) (t : Fin cfg0.N) : iblk m c 1 t = up fun y => o (ix2 (glob t (y 0)) (y 1)) := by
  funext y
  have e : ((View.whole main_arg4).slice (win0_1.rect t)).emb y = ix2 (glob t (y 0)) (y 1) := by blk_ext [idx t, glob]
  blk_simp [iblk]
  entry_read
  exact (congrFun A.e4 _).trans (by rw [e]; rfl)

theorem padrow_low (f : Fin 2496 → ℝ) (k : Fin 2560) (h : k.val < 512) (h' : k.val < 448 → k.val < 2496) :
    padrow f k = if h : k.val < 448 then f ⟨k.val, h' h⟩ else 0 := by
  simp only [padrow, dif_pos h]

theorem padrow_high (f : Fin 2496 → ℝ) (k : Fin 2560) (h : 512 ≤ k.val) (i : Fin 2496) (e : i.val + 64 = k.val) : padrow f k = f i := by
  have h1 : ¬ k.val < 448 := by omega
  have h2 : ¬ k.val < 512 := by omega
  simp only [padrow, dif_neg h1, dif_neg h2]
  exact congrArg f (Fin.ext (by simp; omega))

theorem pz_high (z : S8192x2496.Idx → ℝ) (r : Fin 8192) (k : Fin 2560) (h : 512 ≤ k.val) (i : Fin 2496) (e : i.val + 64 = k.val) :
    ((pz z r k : ℝ) : EReal) = ((z (ix2 r i) : ℝ) : EReal) := congrArg _ (padrow_high _ k h i e)

theorem ent7 (A : Args m c x o g md w z) : V m c main_v7 = up fun y => pz z (y 0) ⟨(y 1).val, by have := (y 1).isLt; simp at this; omega⟩ := by
  show StableHlo.after _ _ _ = _
  simp only [hostOps0, hostOps0_1, hostOps0_2, List.flatten_cons, List.flatten_nil, List.append_nil, List.cons_append, List.nil_append]
  entry_read
  rw [show m (c, Proc.tc.devRef main_arg5) = up z from A.e5]
  show (pad S8192x512 ![0, 0] ![0, 64] ![0, 0] (extractStridedSlice S8192x448 ![0, 0] (truncf .bf16 (up z : FVec Ideal S8192x2496 .f32) bitsLt_bf16_f32) slices_S8192x2496_S8192x448_0_0)
    (sitofp .bf16 (constantI S_ 32 0#32)) pads_S8192x448_S8192x512_000_0640 h_S_ : FVec Ideal S8192x512 .bf16) = _
  funext y
  obtain ⟨r, k, rfl⟩ : ∃ r k, y = ix2 r k := ⟨y 0, y 1, eq_ix2 y⟩
  pointwise
  have hk : k.val < 512 := k.isLt
  show (if h : k.val < 448 then ((z (ix2 r ⟨k.val, by omega⟩) : ℝ) : EReal) else (((0#32 : BitVec 32).toInt : ℝ) : EReal))
    = ((if h : k.val < 448 then z (ix2 r ⟨k.val, by omega⟩) else if h : k.val < 512 then 0 else z (ix2 r ⟨k.val - 64, by omega⟩) : ℝ) : EReal)
  by_cases h1 : k.val < 448
  · simp only [dif_pos h1]
  · simp [dif_neg h1, dif_pos hk]

theorem ent8 (A : Args m c x o g md w z) : V m c main_v8 = up fun y => z (ix2 (y 0) ⟨448 + (y 1).val, by have := (y 1).isLt; simp at this; omega⟩) := by
  show StableHlo.after _ _ _ = _
  simp only [hostOps0, hostOps0_1, hostOps0_2, List.flatten_cons, List.flatten_nil, List.append_nil, List.cons_append, List.nil_append]
  entry_read
  rw [show m (c, Proc.tc.devRef main_arg5) = up z from A.e5]
  funext y
  pointwise

theorem ent4 (A : Args m c x o g md w z) : V m c main_v4 = up fun y => pw w (y 0) (y 1) := by
  show StableHlo.after _ _ _ = _
  simp only [hostOps0, hostOps0_1, hostOps0_2, List.flatten_cons, List.flatten_nil, List.append_nil, List.cons_append, List.nil_append]
  simp only [StableHlo.after_cons, StableHlo.after_nil]
  after_results_steps
  dsimp only [Matrix.cons_val]
  after_results_steps
  rw [show m (c, Proc.tc.devRef main_arg3) = up w from A.e3]
  funext y
  obtain ⟨r, k, rfl⟩ : ∃ r k, y = ix2 r k := ⟨y 0, y 1, eq_ix2 y⟩
  pointwise
  have hk : k.val < 2560 := k.isLt
  simp only [padrow]
  by_cases h1 : k.val < 448
  · simp only [dif_pos h1]
  · by_cases h2 : k.val < 512
    · simp only [dif_neg h1, dif_pos h2, dif_pos (show k.val - 448 < 64 by omega)]
      rfl
    · simp only [dif_neg h1, dif_neg h2, dif_neg (show ¬ k.val - 448 < 64 by omega)]
      exact congrArg (fun i => ((w (ix2 r i) : ℝ) : EReal)) (Fin.ext (show 448 + (k.val - 448 - 64) = k.val - 64 by omega))

theorem ent9 (A : Args m c x o g md w z) : V m c main_v9 = up fun y => z (ix2 (y 0) ⟨960 + (y 1).val, by have := (y 1).isLt; simp at this; omega⟩) := by
  show StableHlo.after _ _ _ = _
  simp only [hostOps0, hostOps0_1, hostOps0_2, List.flatten_cons, List.flatten_nil, List.append_nil, List.cons_append, List.nil_append]
  entry_read
  rw [show m (c, Proc.tc.devRef main_arg5) = up z from A.e5]
  funext y
  pointwise

theorem ent10 (A : Args m c x o g md w z) : V m c main_v10 = up fun y => z (ix2 (y 0) ⟨1216 + (y 1).val, by have := (y 1).isLt; simp at this; omega⟩) := by
  show StableHlo.after _ _ _ = _
  simp only [hostOps0, hostOps0_1, hostOps0_2, List.flatten_cons, List.flatten_nil, List.append_nil, List.cons_append, List.nil_append]
  entry_read
  rw [show m (c, Proc.tc.devRef main_arg5) = up z from A.e5]
  funext y
  pointwise

theorem ent11 (A : Args m c x o g md w z) : V m c main_v11 = up fun y => z (ix2 (y 0) ⟨1472 + (y 1).val, by have := (y 1).isLt; simp at this; omega⟩) := by
  show StableHlo.after _ _ _ = _
  simp only [hostOps0, hostOps0_1, hostOps0_2, List.flatten_cons, List.flatten_nil, List.append_nil, List.cons_append, List.nil_append]
  entry_read
  rw [show m (c, Proc.tc.devRef main_arg5) = up z from A.e5]
  funext y
  pointwise

theorem ent12 (A : Args m c x o g md w z) : V m c main_v12 = up fun y => z (ix2 (y 0) ⟨1728 + (y 1).val, by have := (y 1).isLt; simp at this; omega⟩) := by
  show StableHlo.after _ _ _ = _
  simp only [hostOps0, hostOps0_1, hostOps0_2, List.flatten_cons, List.flatten_nil, List.append_nil, List.cons_append, List.nil_append]
  entry_read
  rw [show m (c, Proc.tc.devRef main_arg5) = up z from A.e5]
  funext y
  pointwise

theorem ent13 (A : Args m c x o g md w z) : V m c main_v13 = up fun y => z (ix2 (y 0) ⟨1984 + (y 1).val, by have := (y 1).isLt; simp at this; omega⟩) := by
  show StableHlo.after _ _ _ = _
  simp only [hostOps0, hostOps0_1, hostOps0_2, List.flatten_cons, List.flatten_nil, List.append_nil, List.cons_append, List.nil_append]
  entry_read
  rw [show m (c, Proc.tc.devRef main_arg5) = up z from A.e5]
  funext y
  pointwise

theorem ent14 (A : Args m c x o g md w z) : V m c main_v14 = up fun y => z (ix2 (y 0) ⟨2240 + (y 1).val, by have := (y 1).isLt; simp at this; omega⟩) := by
  show StableHlo.after _ _ _ = _
  simp only [hostOps0, hostOps0_1, hostOps0_2, List.flatten_cons, List.flatten_nil, List.append_nil, List.cons_append, List.nil_append]
  entry_read
  rw [show m (c, Proc.tc.devRef main_arg5) = up z from A.e5]
  funext y
  pointwise

theorem ent15 (A : Args m c x o g md w z) : V m c main_v15 = up fun y => g (ix1 (y 1)) := by
  show StableHlo.after _ _ _ = _
  simp only [hostOps0, hostOps0_1, hostOps0_2, List.flatten_cons, List.flatten_nil, List.append_nil, List.cons_append, List.nil_append]
  entry_read
  rw [show m (c, Proc.tc.devRef main_arg1) = up g from A.e1]
  funext y
  obtain ⟨r, k, rfl⟩ : ∃ r k, y = ix2 r k := ⟨y 0, y 1, eq_ix2 y⟩
  pointwise

theorem in2 (A : Args m c x o g md w z) (t : Fin cfg0.N) : iblk m c 2 t = up fun y => pz z (glob t (y 0)) ⟨(y 1).val, by have := (y 1).isLt; simp at this; omega⟩ := by
  funext y
  have e : ((View.whole main_v7).slice (win0_2.rect t)).emb y = ix2 (glob t (y 0)) (y 1) := by blk_ext [idx t, glob]
  show V m c main_v7 _ = _
  rw [ent7 A]
  exact congrArg (up _) e

theorem in3 (A : Args m c x o g md w z) (t : Fin cfg0.N) : iblk m c 3 t = up fun y => pz z (glob t (y 0)) ⟨512 + (y 1).val, by have := (y 1).isLt; simp at this; omega⟩ := by
  funext y
  have e : ((View.whole main_v8).slice (win0_3.rect t)).emb y = ix2 (glob t (y 0)) (y 1) := by blk_ext [idx t, glob]
  show V m c main_v8 _ = _
  rw [ent8 A]
  exact (congrArg (up _) e).trans (pz_high _ _ _ (Nat.le_add_right_of_le (by norm_num)) _ (by simp; omega)).symm

theorem in4 (A : Args m c x o g md w z) (t : Fin cfg0.N) : iblk m c 4 t = up fun y => pz z (glob t (y 0)) ⟨1024 + (y 1).val, by have := (y 1).isLt; simp at this; omega⟩ := by
  funext y
  have e : ((View.whole main_v9).slice (win0_4.rect t)).emb y = ix2 (glob t (y 0)) (y 1) := by blk_ext [idx t, glob]
  show V m c main_v9 _ = _
  rw [ent9 A]
  exact (congrArg (up _) e).trans (pz_high _ _ _ (Nat.le_add_right_of_le (by norm_num)) _ (by simp; omega)).symm

theorem in5 (A : Args m c x o g md w z) (t : Fin cfg0.N) : iblk m c 5 t = up fun y => pz z (glob t (y 0)) ⟨1280 + (y 1).val, by have := (y 1).isLt; simp at this; omega⟩ := by
  funext y
  have e : ((View.whole main_v10).slice (win0_5.rect t)).emb y = ix2 (glob t (y 0)) (y 1) := by blk_ext [idx t, glob]
  show V m c main_v10 _ = _
  rw [ent10 A]
  exact (congrArg (up _) e).trans (pz_high _ _ _ (Nat.le_add_right_of_le (by norm_num)) _ (by simp; omega)).symm

theorem in6 (A : Args m c x o g md w z) (t : Fin cfg0.N) : iblk m c 6 t = up fun y => pz z (glob t (y 0)) ⟨1536 + (y 1).val, by have := (y 1).isLt; simp at this; omega⟩ := by
  funext y
  have e : ((View.whole main_v11).slice (win0_6.rect t)).emb y = ix2 (glob t (y 0)) (y 1) := by blk_ext [idx t, glob]
  show V m c main_v11 _ = _
  rw [ent11 A]
  exact (congrArg (up _) e).trans (pz_high _ _ _ (Nat.le_add_right_of_le (by norm_num)) _ (by simp; omega)).symm

theorem in7 (A : Args m c x o g md w z) (t : Fin cfg0.N) : iblk m c 7 t = up fun y => pz z (glob t (y 0)) ⟨1792 + (y 1).val, by have := (y 1).isLt; simp at this; omega⟩ := by
  funext y
  have e : ((View.whole main_v12).slice (win0_7.rect t)).emb y = ix2 (glob t (y 0)) (y 1) := by blk_ext [idx t, glob]
  show V m c main_v12 _ = _
  rw [ent12 A]
  exact (congrArg (up _) e).trans (pz_high _ _ _ (Nat.le_add_right_of_le (by norm_num)) _ (by simp; omega)).symm

theorem in8 (A : Args m c x o g md w z) (t : Fin cfg0.N) : iblk m c 8 t = up fun y => pz z (glob t (y 0)) ⟨2048 + (y 1).val, by have := (y 1).isLt; simp at this; omega⟩ := by
  funext y
  have e : ((View.whole main_v13).slice (win0_8.rect t)).emb y = ix2 (glob t (y 0)) (y 1) := by blk_ext [idx t, glob]
  show V m c main_v13 _ = _
  rw [ent13 A]
  exact (congrArg (up _) e).trans (pz_high _ _ _ (Nat.le_add_right_of_le (by norm_num)) _ (by simp; omega)).symm

theorem in9 (A : Args m c x o g md w z) (t : Fin cfg0.N) : iblk m c 9 t = up fun y => pz z (glob t (y 0)) ⟨2304 + (y 1).val, by have := (y 1).isLt; simp at this; omega⟩ := by
  funext y
  have e : ((View.whole main_v14).slice (win0_9.rect t)).emb y = ix2 (glob t (y 0)) (y 1) := by blk_ext [idx t, glob]
  show V m c main_v14 _ = _
  rw [ent14 A]
  exact (congrArg (up _) e).trans (pz_high _ _ _ (Nat.le_add_right_of_le (by norm_num)) _ (by simp; omega)).symm

theorem in10 (A : Args m c x o g md w z) (t : Fin cfg0.N) : iblk m c 10 t = up (gv g) := by
  funext y
  have e : ((View.whole main_v15).slice (win0_10.rect t)).emb y = y := by blk_ext [idx t]
  show V m c main_v15 _ = _
  rw [ent15 A]
  exact congrArg (up (gv g)) e

theorem in12 (A : Args m c x o g md w z) (t : Fin cfg0.N) : iblk m c 12 t = up (wv w) := by
  funext y
  have e : ((View.whole main_v4).slice (win0_12.rect t)).emb y = y := by blk_ext [idx t]
  show V m c main_v4 _ = _
  rw [ent4 A]
  exact congrArg (up (wv w)) e

theorem in11 (A : Args m c x o g md w z) (t : Fin cfg0.N) : iblk m c 11 t = up md := by
  funext y
  have e : ((View.whole main_arg2).slice (win0_11.rect t)).emb y = y := by blk_ext [idx t]
  blk_simp [iblk]
  entry_read
  exact (congrFun A.e2 _).trans (by rw [e])

theorem ld_half (f : Fin 512 → Fin 1024 → ℝ) (p : ℕ) (hp : p + 256 ≤ 512) (inb) :
    View.ld (Val := Elt Ideal) (e' := .f32) (up fun y : S512x1024.Idx => f (y 0) (y 1)) (Rect.unit (s := S512x1024) ![p, 0] S256x1024.size inb)
      = up fun y : S256x1024.Idx => f ⟨p + (y 0).val, by have := (y 0).isLt; simp at this; omega⟩ (y 1) := by
  funext y
  refine congrArg (fun q : ℝ => (q : EReal)) (congrArg₂ f (Fin.ext ?_) (Fin.ext ?_))
  · exact Rect.idx_unit_val _ _ _ y 0
  · exact (Rect.idx_unit_val _ _ _ y 1).trans (Nat.zero_add _)

theorem ld_scale (md : S3x1024.Idx → ℝ) (inb) :
    View.ld (Val := Elt Ideal) (e' := .f32) (up md) (Rect.unit (s := S3x1024) ![1, 0] S1x1024.size inb) = up fun y : S1x1024.Idx => md (ix2 1 (y 1)) := by
  funext y
  pointwise

/-- The eight pieces of the cotangent, stored side by side and read back by rows. -/
theorem readCov_pieces (Z : Fin 512 → Fin 2560 → ℝ) (P0 P1 : FVec Ideal S512x512 .bf16) (P2 P3 P4 P5 P6 P7 : FVec Ideal S512x256 .bf16)
    (h0 : ∀ i k, k.val = 0 + (i 1).val → P0 i = ((Z (i 0) k : ℝ) : EReal))
    (h1 : ∀ i k, k.val = 512 + (i 1).val → P1 i = ((Z (i 0) k : ℝ) : EReal))
    (h2 : ∀ i k, k.val = 1024 + (i 1).val → P2 i = ((Z (i 0) k : ℝ) : EReal))
    (h3 : ∀ i k, k.val = 1280 + (i 1).val → P3 i = ((Z (i 0) k : ℝ) : EReal))
    (h4 : ∀ i k, k.val = 1536 + (i 1).val → P4 i = ((Z (i 0) k : ℝ) : EReal))
    (h5 : ∀ i k, k.val = 1792 + (i 1).val → P5 i = ((Z (i 0) k : ℝ) : EReal))
    (h6 : ∀ i k, k.val = 2048 + (i 1).val → P6 i = ((Z (i 0) k : ℝ) : EReal))
    (h7 : ∀ i k, k.val = 2304 + (i 1).val → P7 i = ((Z (i 0) k : ℝ) : EReal))
    (p : ℕ) (hp : p + 256 ≤ 512) (inb) :
    (View.whole cc0_scratch0).readCov (Val := Elt Ideal) [⟨Rect.unit (s := S512x2560) ![0, 2304] S512x256.size inb_S512x2560_S512x256_0_2304, P7⟩,
      ⟨Rect.unit (s := S512x2560) ![0, 2048] S512x256.size inb_S512x2560_S512x256_0_2048, P6⟩,
      ⟨Rect.unit (s := S512x2560) ![0, 1792] S512x256.size inb_S512x2560_S512x256_0_1792, P5⟩,
      ⟨Rect.unit (s := S512x2560) ![0, 1536] S512x256.size inb_S512x2560_S512x256_0_1536, P4⟩,
      ⟨Rect.unit (s := S512x2560) ![0, 1280] S512x256.size inb_S512x2560_S512x256_0_1280, P3⟩,
      ⟨Rect.unit (s := S512x2560) ![0, 1024] S512x256.size inb_S512x2560_S512x256_0_1024, P2⟩,
      ⟨Rect.unit (s := S512x2560) ![0, 512] S512x512.size inb_S512x2560_S512x512_0_512, P1⟩,
      ⟨Rect.unit (s := S512x2560) ![0, 0] S512x512.size inb_S512x2560_S512x512_0_0, P0⟩]
      (Rect.unit (s := S512x2560) ![p, 0] S256x2560.size inb).toLoadRect
      = up fun y : S256x2560.Idx => Z ⟨p + (y 0).val, by have := (y 0).isLt; simp at this; omega⟩ (y 1) := by
  rw [View.readCov_eq_canon']
  funext y
  obtain ⟨i, hi0, hi1, hi⟩ : ∃ i : S512x2560.Idx, (i 0).val = p + (y 0).val ∧ (i 1).val = (y 1).val ∧ (Rect.unit (s := S512x2560) ![p, 0] S256x2560.size inb).toLoadRect.idx y = i :=
    ⟨_, Rect.idx_unit_val _ _ _ y 0, (Rect.idx_unit_val _ _ _ y 1).trans (Nat.zero_add _), rfl⟩
  rw [hi]
  have hv : up (fun y : S256x2560.Idx => Z ⟨p + (y 0).val, by have := (y 0).isLt; simp at this; omega⟩ (y 1)) y = ((Z (i 0) (i 1) : ℝ) : EReal) := by
    refine congrArg (fun q : ℝ => (q : EReal)) (congrArg₂ Z (Fin.ext hi0.symm) (Fin.ext hi1.symm))
  rw [hv]
  have hz : ∀ r : Fin 512, r.val = (i 0).val → Z r (i 1) = Z (i 0) (i 1) := fun r e => by rw [Fin.ext e]
  refine View.canon_eq_of_allAt _ i _ ?_ ?_
  · have b0 : (i 0).val < 512 := (i 0).isLt
    have b1 : (i 1).val < 2560 := (i 1).isLt
    have key : ∀ (o w : ℕ) (inb : ∀ a, ![0, o] a + (⟨2, ![512, w]⟩ : Shape).size a ≤ S512x2560.size a), o ≤ (i 1).val → (i 1).val < o + w →
        i ∈ (Rect.unit (s := S512x2560) ![0, o] (⟨2, ![512, w]⟩ : Shape).size inb).set := fun o w inb l u =>
      Rect.mem_set_unit.mpr fun a => Fin.cases ⟨Nat.zero_le _, (Nat.zero_add 512).symm ▸ b0⟩ (fun a => by obtain rfl := Subsingleton.elim a 0; exact ⟨l, u⟩) a
    rcases (by omega : (i 1).val < 0 + 512 ∨ (512 ≤ (i 1).val ∧ (i 1).val < 512 + 512) ∨ (1024 ≤ (i 1).val ∧ (i 1).val < 1024 + 256) ∨ (1280 ≤ (i 1).val ∧ (i 1).val < 1280 + 256)
      ∨ (1536 ≤ (i 1).val ∧ (i 1).val < 1536 + 256) ∨ (1792 ≤ (i 1).val ∧ (i 1).val < 1792 + 256) ∨ (2048 ≤ (i 1).val ∧ (i 1).val < 2048 + 256) ∨ (2304 ≤ (i 1).val ∧ (i 1).val < 2304 + 256))
      with u | ⟨l, u⟩ | ⟨l, u⟩ | ⟨l, u⟩ | ⟨l, u⟩ | ⟨l, u⟩ | ⟨l, u⟩ | ⟨l, u⟩
    · exact ⟨_, .tail _ (.tail _ (.tail _ (.tail _ (.tail _ (.tail _ (.tail _ (.head _))))))), key 0 512 inb_S512x2560_S512x512_0_0 (Nat.zero_le _) u⟩
    · exact ⟨_, .tail _ (.tail _ (.tail _ (.tail _ (.tail _ (.tail _ (.head _)))))), key 512 512 inb_S512x2560_S512x512_0_512 l u⟩
    · exact ⟨_, .tail _ (.tail _ (.tail _ (.tail _ (.tail _ (.head _))))), key 1024 256 inb_S512x2560_S512x256_0_1024 l u⟩
    · exact ⟨_, .tail _ (.tail _ (.tail _ (.tail _ (.head _)))), key 1280 256 inb_S512x2560_S512x256_0_1280 l u⟩
    · exact ⟨_, .tail _ (.tail _ (.tail _ (.head _))), key 1536 256 inb_S512x2560_S512x256_0_1536 l u⟩
    · exact ⟨_, .tail _ (.tail _ (.head _)), key 1792 256 inb_S512x2560_S512x256_0_1792 l u⟩
    · exact ⟨_, .tail _ (.head _), key 2048 256 inb_S512x2560_S512x256_0_2048 l u⟩
    · exact ⟨_, .head _, key 2304 256 inb_S512x2560_S512x256_0_2304 l u⟩
  repeat' refine View.allAt_cons_unit _ _ _ _ _ (fun q hq => ?_) ?_
  · exact (h7 q (i 1) (hq 1)).trans (congrArg _ (hz (q 0) ((hq 0).trans (Nat.zero_add _)).symm))
  · exact (h6 q (i 1) (hq 1)).trans (congrArg _ (hz (q 0) ((hq 0).trans (Nat.zero_add _)).symm))
  · exact (h5 q (i 1) (hq 1)).trans (congrArg _ (hz (q 0) ((hq 0).trans (Nat.zero_add _)).symm))
  · exact (h4 q (i 1) (hq 1)).trans (congrArg _ (hz (q 0) ((hq 0).trans (Nat.zero_add _)).symm))
  · exact (h3 q (i 1) (hq 1)).trans (congrArg _ (hz (q 0) ((hq 0).trans (Nat.zero_add _)).symm))
  · exact (h2 q (i 1) (hq 1)).trans (congrArg _ (hz (q 0) ((hq 0).trans (Nat.zero_add _)).symm))
  · exact (h1 q (i 1) (hq 1)).trans (congrArg _ (hz (q 0) ((hq 0).trans (Nat.zero_add _)).symm))
  · exact (h0 q (i 1) (hq 1)).trans (congrArg _ (hz (q 0) ((hq 0).trans (Nat.zero_add _)).symm))
  · exact View.allAt_nil _ _

theorem cast512 (X : FVec Ideal S512x512 .bf16) : k0_pay5 X = X := by
  funext y
  pointwise [k0_pay5]

theorem cast256 (X : FVec Ideal S512x256 .bf16) : k0_pay7 X = X := by
  funext y
  pointwise [k0_pay7]

theorem zread (A : Args m c x o g md w z) (t : Fin cfg0.N) (p : ℕ) (hp : p + 256 ≤ 512) (inb) :
    (View.whole cc0_scratch0).readCov (Val := Elt Ideal) [⟨Rect.unit (s := S512x2560) ![0, 2304] S512x256.size inb_S512x2560_S512x256_0_2304, k0_pay12 (iblk m c 9 t)⟩,
      ⟨Rect.unit (s := S512x2560) ![0, 2048] S512x256.size inb_S512x2560_S512x256_0_2048, k0_pay11 (iblk m c 8 t)⟩,
      ⟨Rect.unit (s := S512x2560) ![0, 1792] S512x256.size inb_S512x2560_S512x256_0_1792, k0_pay10 (iblk m c 7 t)⟩,
      ⟨Rect.unit (s := S512x2560) ![0, 1536] S512x256.size inb_S512x2560_S512x256_0_1536, k0_pay9 (iblk m c 6 t)⟩,
      ⟨Rect.unit (s := S512x2560) ![0, 1280] S512x256.size inb_S512x2560_S512x256_0_1280, k0_pay8 (iblk m c 5 t)⟩,
      ⟨Rect.unit (s := S512x2560) ![0, 1024] S512x256.size inb_S512x2560_S512x256_0_1024, k0_pay7 (iblk m c 4 t)⟩,
      ⟨Rect.unit (s := S512x2560) ![0, 512] S512x512.size inb_S512x2560_S512x512_0_512, k0_pay6 (iblk m c 3 t)⟩,
      ⟨Rect.unit (s := S512x2560) ![0, 0] S512x512.size inb_S512x2560_S512x512_0_0, k0_pay5 (iblk m c 2 t)⟩]
      (Rect.unit (s := S512x2560) ![p, 0] S256x2560.size inb).toLoadRect
      = up (hz z p hp t) :=
  readCov_pieces (fun r k => pz z (glob t r) k) _ _ _ _ _ _ _ _
    (fun i k h => (congrFun ((cast512 (iblk m c 2 t)).trans (in2 A t)) i).trans (congrArg (fun q : Fin 2560 => ((pz z (glob t (i 0)) q : ℝ) : EReal)) (Fin.ext ((h.trans (Nat.zero_add _)).symm))))
    (fun i k h => (congrFun ((cast512 (iblk m c 3 t)).trans (in3 A t)) i).trans (congrArg (fun q : Fin 2560 => ((pz z (glob t (i 0)) q : ℝ) : EReal)) (Fin.ext (h.symm))))
    (fun i k h => (congrFun ((cast256 (iblk m c 4 t)).trans (in4 A t)) i).trans (congrArg (fun q : Fin 2560 => ((pz z (glob t (i 0)) q : ℝ) : EReal)) (Fin.ext (h.symm))))
    (fun i k h => (congrFun ((cast256 (iblk m c 5 t)).trans (in5 A t)) i).trans (congrArg (fun q : Fin 2560 => ((pz z (glob t (i 0)) q : ℝ) : EReal)) (Fin.ext (h.symm))))
    (fun i k h => (congrFun ((cast256 (iblk m c 6 t)).trans (in6 A t)) i).trans (congrArg (fun q : Fin 2560 => ((pz z (glob t (i 0)) q : ℝ) : EReal)) (Fin.ext (h.symm))))
    (fun i k h => (congrFun ((cast256 (iblk m c 7 t)).trans (in7 A t)) i).trans (congrArg (fun q : Fin 2560 => ((pz z (glob t (i 0)) q : ℝ) : EReal)) (Fin.ext (h.symm))))
    (fun i k h => (congrFun ((cast256 (iblk m c 8 t)).trans (in8 A t)) i).trans (congrArg (fun q : Fin 2560 => ((pz z (glob t (i 0)) q : ℝ) : EReal)) (Fin.ext (h.symm))))
    (fun i k h => (congrFun ((cast256 (iblk m c 9 t)).trans (in9 A t)) i).trans (congrArg (fun q : Fin 2560 => ((pz z (glob t (i 0)) q : ℝ) : EReal)) (Fin.ext (h.symm)))) p hp inb

theorem ldx (A : Args m c x o g md w z) (t : Fin cfg0.N) (p : ℕ) (hp : p + 256 ≤ 512) (inb) :
    View.ld (Val := Elt Ideal) (e' := .f32) (iblk m c 0 t) (Rect.unit (s := S512x1024) ![p, 0] S256x1024.size inb) = up (hx x p hp t) := by
  rw [in0 A]; exact ld_half (fun r k => x (ix2 (glob t r) k)) p hp inb

theorem ldo (A : Args m c x o g md w z) (t : Fin cfg0.N) (p : ℕ) (hp : p + 256 ≤ 512) (inb) :
    View.ld (Val := Elt Ideal) (e' := .f32) (iblk m c 1 t) (Rect.unit (s := S512x1024) ![p, 0] S256x1024.size inb) = up (hx o p hp t) := by
  rw [in1 A]; exact ld_half (fun r k => o (ix2 (glob t r) k)) p hp inb

theorem lds (A : Args m c x o g md w z) (t : Fin cfg0.N) (inb) :
    View.ld (Val := Elt Ideal) (e' := .f32) (iblk m c 11 t) (Rect.unit (s := S3x1024) ![1, 0] S1x1024.size inb) = up (sv md) := by
  rw [in11 A]; exact ld_scale md inb

end Arrays

end Cert.InProjIdeal.Body

end
-- ==== Proof.InProjValue.lean ====
module

public import proofs.«01_k».proof.Defs
public import proofs.«01_k».proof.Proof.Gen.Pre_finite_ip
public import proofs.«01_k».proof.Proof.InProjBlocks
public import Idealize.ShloMosaic.Lib.Claim

@[expose] public section

set_option maxRecDepth 16384

noncomputable section

namespace Cert.InProjIdeal.Body

open Idealize.ShloMosaic Idealize.ShloMosaic.TcCoe Idealize.SL.Sem Cert.Lift
open Cert.InProjIdeal Cert.InProjIdeal.Gen

/-! ## The results' arrays after the run -/

section Arrays

variable {m : (ℓ : Loc nD τ sig) → Buf (Elt Ideal) ℓ} {c : Dev nD}
variable {x o : S8192x1024.Idx → ℝ} {g : S1024.Idx → ℝ} {md : S3x1024.Idx → ℝ} {w : S1024x2496.Idx → ℝ} {z : S8192x2496.Idx → ℝ}

theorem dh_pad (z : S8192x2496.Idx → ℝ) (w : S1024x2496.Idx → ℝ) (r : Fin 8192) : dh (pz z r) (pw w) = dhR w z r := by
  funext l
  exact sum_pad _ _

set_option maxHeartbeats 2000000 in
theorem final13 (A : Args m c x o g md w z) : (dats m 0 c).arrAt 13 (cfgs 0).N
    = up fun i => dxK (rowR x (i 0)) (rowR o (i 0)) (dhR w z (i 0)) (vec1 g) (vecS md) (i 1) := by
  refine (dats m 0 c).arrAt_eq_of_covers 13 _ (by decide +kernel) fun t _ y => ?_
  blk_simp
  rw [after0_13]
  have e : ((View.whole main_v16_0).slice (win0_13.rect t)).emb y = ix2 (glob t (y 0)) (y 1) := by blk_ext [idx t, glob]
  rw [e]
  have hv : ∀ (p : ℕ) (hp : p + 256 ≤ 512) (r : Fin 256) (l : Fin 1024), (y 0).val = p + r.val → (y 1).val = l.val →
      ((dxK (rowR x (half p hp t r)) (rowR o (half p hp t r)) (dh (pz z (half p hp t r)) (pw w)) (vec1 g) (vecS md) l : ℝ) : EReal)
        = up (fun i : S8192x1024.Idx => dxK (rowR x (i 0)) (rowR o (i 0)) (dhR w z (i 0)) (vec1 g) (vecS md) (i 1)) (ix2 (glob t (y 0)) (y 1)) := by
    intro p hp r l hr hl
    have e0 : glob t (y 0) = half p hp t r := Fin.ext (congrArg (t.val * 512 + ·) hr)
    have e1 : y 1 = l := Fin.ext hl
    rw [dh_pad, e0, e1]; rfl
  by_cases h : t.val % 16 = 0
  · rw [outsAt0_A m c t h]; frame_out
    rw [zread A t 0 (by norm_num), zread A t 256 (by norm_num), ldo A t 0 (by norm_num), ldo A t 256 (by norm_num), in10 A, in12 A]
    repeat rw [lds A]
    repeat rw [ldx A t 0 (by norm_num)]
    repeat rw [ldx A t 256 (by norm_num)]
    canon_tiles q k
    · rw [eq_ix2 q]
      exact (pay2_at ..).trans (hv 256 (by norm_num) (q 0) (q 1) k0 k1)
    · rw [eq_ix2 q]
      exact (pay24_at ..).trans (hv 0 (by norm_num) (q 0) (q 1) (k0.trans (Nat.zero_add _).symm) k1)
  · rw [outsAt0_B m c t h]; frame_out
    rw [zread A t 0 (by norm_num), zread A t 256 (by norm_num), ldo A t 0 (by norm_num), ldo A t 256 (by norm_num), in10 A, in12 A]
    repeat rw [lds A]
    repeat rw [ldx A t 0 (by norm_num)]
    repeat rw [ldx A t 256 (by norm_num)]
    canon_tiles q k
    · rw [eq_ix2 q]
      exact (pay2_at ..).trans (hv 256 (by norm_num) (q 0) (q 1) k0 k1)
    · rw [eq_ix2 q]
      exact (pay24_at ..).trans (hv 0 (by norm_num) (q 0) (q 1) (k0.trans (Nat.zero_add _).symm) k1)

abbrev R0 : Rect S2x1024 := Rect.unit (s := S2x1024) ![0, 0] S1x1024.size inb_S2x1024_S1x1024_0_0
abbrev R1 : Rect S2x1024 := Rect.unit (s := S2x1024) ![1, 0] S1x1024.size inb_S2x1024_S1x1024_1_0

section Rows

variable (v : View sig .tc .vmem S2x1024 .f32) (p q : FVec Ideal S1x1024 .f32) (L : List (View.Piece (Elt Ideal) S2x1024 .f32)) (l : Fin 1024)

theorem R0_emb : R0.emb (ix2 0 l : S1x1024.Idx) = (ix2 0 l : S2x1024.Idx) := by
  funext a; exact Fin.ext (Fin.cases rfl (fun a => by obtain rfl := Subsingleton.elim a 0; exact (Rect.idx_unit_val _ _ _ _ 1).trans (Nat.zero_add _)) a)

theorem R1_emb : R1.emb (ix2 0 l : S1x1024.Idx) = (ix2 1 l : S2x1024.Idx) := by
  funext a; exact Fin.ext (Fin.cases rfl (fun a => by obtain rfl := Subsingleton.elim a 0; exact (Rect.idx_unit_val _ _ _ _ 1).trans (Nat.zero_add _)) a)

theorem not_mem0 : (ix2 1 l : S2x1024.Idx) ∉ R0.set := fun h => absurd (Rect.mem_set_unit.mp h 0).2 (show ¬ (1 : ℕ) < 0 + 1 by decide)
theorem not_mem1 : (ix2 0 l : S2x1024.Idx) ∉ R1.set := fun h => absurd (Rect.mem_set_unit.mp h 0).1 (show ¬ (1 : ℕ) ≤ 0 by decide)

theorem canon00 : View.canon (⟨R0, p⟩ :: L) (ix2 0 l : S2x1024.Idx) = p (ix2 0 l) := by
  rw [← R0_emb]; exact View.canon_cons_emb _ _ _ _
theorem canon11 : View.canon (⟨R1, p⟩ :: L) (ix2 1 l : S2x1024.Idx) = p (ix2 0 l) := by
  rw [← R1_emb]; exact View.canon_cons_emb _ _ _ _
theorem canon01 : View.canon (⟨R0, p⟩ :: L) (ix2 1 l : S2x1024.Idx) = View.canon L (ix2 1 l) := View.canon_cons_of_not_mem _ _ (not_mem0 l)
theorem canon10 : View.canon (⟨R1, p⟩ :: L) (ix2 0 l : S2x1024.Idx) = View.canon L (ix2 0 l) := View.canon_cons_of_not_mem _ _ (not_mem1 l)

/-- A row read back is the row of the pieces' contents. -/
theorem read0 : v.readCov L R0.toLoadRect (ix2 0 l : S1x1024.Idx) = View.canon L (ix2 0 l) := by
  rw [View.readCov_eq_canon']; exact congrArg (View.canon L) (R0_emb l)
theorem read1 : v.readCov L R1.toLoadRect (ix2 0 l : S1x1024.Idx) = View.canon L (ix2 1 l) := by
  rw [View.readCov_eq_canon']; exact congrArg (View.canon L) (R1_emb l)

theorem canon_zero (i : S2x1024.Idx) : View.canon (Val := Elt Ideal) (e := .f32) [⟨Rect.unit (s := S2x1024) ![0, 0] S2x1024.size inb_S2x1024_S2x1024_0_0, k0_pay3 (F := Ideal)⟩] i = 0 := by
  canon_tiles y h
  pointwise [k0_pay3]

end Rows

/-- Row `r`'s share of the modulation's gradient: of the shift's in row 0, of the scale's in row 1. -/
def shD (x : S8192x1024.Idx → ℝ) (g : S1024.Idx → ℝ) (w : S1024x2496.Idx → ℝ) (z : S8192x2496.Idx → ℝ) (r : Fin 8192) (k : Fin 2) (l : Fin 1024) : ℝ :=
  if k = 0 then shS (dh (pz z r) (pw w)) l else shM (rowR x r) (dh (pz z r) (pw w)) (vec1 g) l

/-- The two halves' sums are the block's. -/
theorem sum_halves (t : Fin cfg0.N) (f : Fin 8192 → ℝ) (a : EReal) :
    a + ((∑ r, f (half 0 (by norm_num) t r) : ℝ) : EReal) + ((∑ r, f (half 256 (by norm_num) t r) : ℝ) : EReal) = a + ∑ r : Fin 512, ((f (glob t r) : ℝ) : EReal) := by
  rw [add_assoc, lift_add, coe_sum]
  congr 2
  refine Eq.trans ?_ (Fin.sum_univ_add (a := 256) (b := 256) (fun k : Fin 512 => f (glob t k))).symm
  exact congrArg (· + _) <| Finset.sum_congr rfl fun r _ => congrArg (fun q => f (glob t q)) (Fin.ext (Nat.zero_add _))

set_option maxHeartbeats 2000000 in
theorem step14_A (A : Args m c x o g md w z) (t : Fin cfg0.N) (ht : t.val % 16 = 0) (j : S2x1024.Idx) :
    (outsAt0 m c t.val t.isLt).2.1 j = 0 + ∑ r : Fin 512, ((shD x g w z (glob t r) (j 0) (j 1) : ℝ) : EReal) := by
  rw [outsAt0_A m c t ht]; frame_out
  rw [zread A t 0 (by norm_num), zread A t 256 (by norm_num), in10 A, in12 A]
  repeat rw [ldx A t 0 (by norm_num)]
  repeat rw [ldx A t 256 (by norm_num)]
  obtain ⟨k, l, rfl⟩ : ∃ k l, j = ix2 k l := ⟨j 0, j 1, eq_ix2 j⟩
  obtain rfl | rfl : k = 0 ∨ k = 1 := by omega
  · rw [canon10, canon00]
    refine (pay28_at ..).trans ?_
    rw [read0, canon10, canon00]
    refine (congrArg (· + _) (pay18_at ..)).trans ?_
    rw [read0, canon_zero]
    exact sum_halves t (fun r => shS (dh (pz z r) (pw w)) l) 0
  · rw [canon11]
    refine (pay29_at ..).trans ?_
    rw [read1, canon01, canon11]
    refine (congrArg (· + _) (pay19_at ..)).trans ?_
    rw [read1, canon01, canon_zero]
    exact sum_halves t (fun r => shM (rowR x r) (dh (pz z r) (pw w)) (vec1 g) l) 0

set_option maxHeartbeats 2000000 in
theorem step14_B (A : Args m c x o g md w z) (t : Fin cfg0.N) (ht : ¬ t.val % 16 = 0) (j : S2x1024.Idx) :
    (outsAt0 m c t.val t.isLt).2.1 j = (outsAt0 m c (t.val - 1) (Nat.lt_of_le_of_lt (Nat.sub_le _ _) t.isLt)).2.1 j
      + ∑ r : Fin 512, ((shD x g w z (glob t r) (j 0) (j 1) : ℝ) : EReal) := by
  rw [outsAt0_B m c t ht]; frame_out
  rw [zread A t 0 (by norm_num), zread A t 256 (by norm_num), in10 A, in12 A]
  repeat rw [ldx A t 0 (by norm_num)]
  repeat rw [ldx A t 256 (by norm_num)]
  obtain ⟨k, l, rfl⟩ : ∃ k l, j = ix2 k l := ⟨j 0, j 1, eq_ix2 j⟩
  obtain rfl | rfl : k = 0 ∨ k = 1 := by omega
  · rw [canon10, canon00]
    refine (pay28_at ..).trans ?_
    rw [read0, canon10, canon00]
    refine (congrArg (· + _) (pay18_at ..)).trans ?_
    have hacc : View.ld (outsAt0 m c (t.val - 1) (Nat.lt_of_le_of_lt (Nat.sub_le _ _) t.isLt)).2.1 R0 (ix2 0 l : S1x1024.Idx) = (outsAt0 m c (t.val - 1) (Nat.lt_of_le_of_lt (Nat.sub_le _ _) t.isLt)).2.1 (ix2 0 l) :=
      congrArg _ (R0_emb l)
    refine Eq.trans ?_ (sum_halves t (fun r => shS (dh (pz z r) (pw w)) l) _)
    exact congrArg (fun a => a + _ + _) hacc
  · rw [canon11]
    refine (pay29_at ..).trans ?_
    rw [read1, canon01, canon11]
    refine (congrArg (· + _) (pay19_at ..)).trans ?_
    have hacc : View.ld (outsAt0 m c (t.val - 1) (Nat.lt_of_le_of_lt (Nat.sub_le _ _) t.isLt)).2.1 R1 (ix2 0 l : S1x1024.Idx) = (outsAt0 m c (t.val - 1) (Nat.lt_of_le_of_lt (Nat.sub_le _ _) t.isLt)).2.1 (ix2 1 l) :=
      congrArg _ (R1_emb l)
    refine Eq.trans ?_ (sum_halves t (fun r => shM (rowR x r) (dh (pz z r) (pw w)) (vec1 g) l) _)
    exact congrArg (fun a => a + _ + _) hacc

/-- The sixteen points' sums of 512 rows are the sum of all rows. -/
theorem sum_points (f : Fin 8192 → ℝ) : ∑ p : Fin cfg0.N, ∑ r : Fin 512, ((f (glob p r) : ℝ) : EReal) = ((∑ r, f r : ℝ) : EReal) := by
  rw [← coe_sum]
  exact Fin.sum_mul_add_congr (S := cfg0.N) (n := 512) (L := 8192) (fun p r _ => rfl) (by decide +kernel)

theorem final14 (A : Args m c x o g md w z) : (dats m 0 c).arrAt 14 (cfgs 0).N = up fun i => ∑ r, shD x g w z r (i 0) (i 1) := by
  refine (dats m 0 c).arrAt_eq_of_after_last 14 t0_15 (by decide +kernel) _ fun j => ?_
  blk_simp
  rw [after0_14, Pipeline.eq_sum_fin_of_reset_step_apply_last (fun n h => (outsAt0 m c n h).2.1) 16 (fun _ => 0)
    (fun p j => ∑ r : Fin 512, ((shD x g w z (glob p r) (j 0) (j 1) : ℝ) : EReal)) (step14_A A) (step14_B A)
    (le_of_eq N_0) t0_15 rfl j, zero_add, sum_points (shD x g w z · (j 0) (j 1))]
  rfl

theorem row0 (j : S1x1024.Idx) : ∃ l, j = ix2 0 l := ⟨j 1, (eq_ix2 j).trans (congrArg (ix2 · _) (Subsingleton.elim _ _))⟩

/-- Row `r`'s share of the gain's gradient. -/
def shN (x : S8192x1024.Idx → ℝ) (md : S3x1024.Idx → ℝ) (w : S1024x2496.Idx → ℝ) (z : S8192x2496.Idx → ℝ) (r : Fin 8192) (l : Fin 1024) : ℝ :=
  shG (rowR x r) (dh (pz z r) (pw w)) (vecS md) l

set_option maxHeartbeats 2000000 in
theorem step15_A (A : Args m c x o g md w z) (t : Fin cfg0.N) (ht : t.val % 16 = 0) (j : S1x1024.Idx) :
    (outsAt0 m c t.val t.isLt).2.2 j = 0 + ∑ r : Fin 512, ((shN x md w z (glob t r) (j 1) : ℝ) : EReal) := by
  obtain ⟨l, rfl⟩ := row0 j
  rw [outsAt0_A m c t ht]; frame_out
  rw [zread A t 0 (by norm_num), zread A t 256 (by norm_num), in12 A]
  repeat rw [ldx A t 0 (by norm_num)]
  repeat rw [ldx A t 256 (by norm_num)]
  repeat rw [lds A]
  refine (pay1_at ..).trans ?_
  refine (congrArg (· + _) (pay21_at ..)).trans ?_
  refine Eq.trans ?_ (sum_halves t (fun r => shN x md w z r l) 0)
  exact congrArg (fun a => a + _ + _) (by pointwise [k0_pay4])

set_option maxHeartbeats 2000000 in
theorem step15_B (A : Args m c x o g md w z) (t : Fin cfg0.N) (ht : ¬ t.val % 16 = 0) (j : S1x1024.Idx) :
    (outsAt0 m c t.val t.isLt).2.2 j = (outsAt0 m c (t.val - 1) (Nat.lt_of_le_of_lt (Nat.sub_le _ _) t.isLt)).2.2 j
      + ∑ r : Fin 512, ((shN x md w z (glob t r) (j 1) : ℝ) : EReal) := by
  obtain ⟨l, rfl⟩ := row0 j
  rw [outsAt0_B m c t ht]; frame_out
  rw [zread A t 0 (by norm_num), zread A t 256 (by norm_num), in12 A]
  repeat rw [ldx A t 0 (by norm_num)]
  repeat rw [ldx A t 256 (by norm_num)]
  repeat rw [lds A]
  refine (pay1_at ..).trans ?_
  refine (congrArg (· + _) (pay21_at ..)).trans ?_
  exact sum_halves t (fun r => shN x md w z r l) _

theorem final15 (A : Args m c x o g md w z) : (dats m 0 c).arrAt 15 (cfgs 0).N = up fun i => ∑ r, shN x md w z r (i 1) := by
  refine (dats m 0 c).arrAt_eq_of_after_last 15 t0_15 (by decide +kernel) _ fun j => ?_
  blk_simp
  rw [after0_15, Pipeline.eq_sum_fin_of_reset_step_apply_last (fun n h => (outsAt0 m c n h).2.2) 16 (fun _ => 0)
    (fun p j => ∑ r : Fin 512, ((shN x md w z (glob p r) (j 1) : ℝ) : EReal)) (step15_A A) (step15_B A)
    (le_of_eq N_0) t0_15 rfl j, zero_add, sum_points (shN x md w z · (j 1))]
  rfl

end Arrays

/-! ## The claims -/

/-- The precondition's meaning: every argument is a real array. -/
theorem exists_args (m : (ℓ : Loc nD τ sig) → Buf (Elt Ideal) ℓ) (hm : Pre_InProjIdeal_finite_ip m) (c : Dev nD) :
    ∃ x o g md w z, Args m c x o g md w z := by
  have e := congrFun (hm c) ix0
  dsimp only [Cert.Pre_finite_ip.fn, Cert.Pre_finite_ip.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨x, e0⟩ := exists_up _ _ (fun _ => rfl) _ _ _ _ e0
  obtain ⟨g, e1⟩ := exists_up _ _ (fun _ => rfl) _ _ _ _ e1
  obtain ⟨md, e2⟩ := exists_up _ _ (fun _ => rfl) _ _ _ _ e2
  obtain ⟨w, e3⟩ := exists_up _ _ (fun _ => rfl) _ _ _ _ e3
  obtain ⟨o, e4⟩ := exists_up _ _ (fun _ => rfl) _ _ _ _ e4
  obtain ⟨z, e5⟩ := exists_up _ _ (fun _ => rfl) _ _ _ _ e5
  exact ⟨x, o, g, md, w, z, e0, e1, e2, e3, e4, e5⟩

/-- The reference's arguments' arrays are these real arrays. -/
structure ArgsR (m : (ℓ : Loc Cert.InProjRefIdeal.nD Cert.InProjRefIdeal.τ Cert.InProjRefIdeal.sig) → Buf (Elt Ideal) ℓ) (c : Dev nD)
    (x o : S8192x1024.Idx → ℝ) (g : S1024.Idx → ℝ) (md : S3x1024.Idx → ℝ) (w : S1024x2496.Idx → ℝ) (z : S8192x2496.Idx → ℝ) : Prop where
  e0 : m ((c.tc : Thread nD Cert.InProjRefIdeal.τ).loc Cert.InProjRefIdeal.main_arg0) = up x
  e1 : m ((c.tc : Thread nD Cert.InProjRefIdeal.τ).loc Cert.InProjRefIdeal.main_arg1) = up g
  e2 : m ((c.tc : Thread nD Cert.InProjRefIdeal.τ).loc Cert.InProjRefIdeal.main_arg2) = up md
  e3 : m ((c.tc : Thread nD Cert.InProjRefIdeal.τ).loc Cert.InProjRefIdeal.main_arg3) = up w
  e4 : m ((c.tc : Thread nD Cert.InProjRefIdeal.τ).loc Cert.InProjRefIdeal.main_arg4) = up o
  e5 : m ((c.tc : Thread nD Cert.InProjRefIdeal.τ).loc Cert.InProjRefIdeal.main_arg5) = up z

section Reference

open Cert.InProjRefIdeal.Read Cert.InProjRefIdeal.Value

variable {m : (ℓ : Loc Cert.InProjRefIdeal.nD Cert.InProjRefIdeal.τ Cert.InProjRefIdeal.sig) → Buf (Elt Ideal) ℓ} {c : Dev nD}
variable {x o : S8192x1024.Idx → ℝ} {g : S1024.Idx → ℝ} {md : S3x1024.Idx → ℝ} {w : S1024x2496.Idx → ℝ} {z : S8192x2496.Idx → ℝ}

theorem ref0 (B : ArgsR m c x o g md w z) : res_main_v59 m c
    = up fun i => dxK (rowR x (i 0)) (rowR o (i 0)) (dhR w z (i 0)) (vec1 g) (vecS md) (i 1) := by
  refine (val_main_v59_eq m c).trans ?_
  rw [B.e0, B.e1, B.e2, B.e3, B.e4, B.e5]
  funext i
  rw [eq_ix2 i]; exact v59_at ..

theorem ref1 (x : S8192x1024.Idx → ℝ) (g : S1024.Idx → ℝ) (w : S1024x2496.Idx → ℝ) (z : S8192x2496.Idx → ℝ) :
    val_main_v62 (F := Ideal) (up x) (up g) (up w) (up z) = up fun i => ∑ r, shD x g w z r (i 0) (i 1) := by
  funext i
  obtain ⟨k, l, rfl⟩ : ∃ k l, i = ix2 k l := ⟨i 0, i 1, eq_ix2 i⟩
  obtain rfl | rfl : k = 0 ∨ k = 1 := by omega
  · pointwise [val_main_v62, val_main_v60, val_main_v61, v32_at]
    exact congrArg _ (Finset.sum_congr rfl fun r _ => by rw [← dh_pad]; rfl)
  · pointwise [val_main_v62, val_main_v60, val_main_v61, v38_at]
    exact congrArg _ (Finset.sum_congr rfl fun r _ => by rw [← dh_pad]; rfl)

theorem ref2 (x : S8192x1024.Idx → ℝ) (md : S3x1024.Idx → ℝ) (w : S1024x2496.Idx → ℝ) (z : S8192x2496.Idx → ℝ) :
    val_main_v63 (F := Ideal) (up x) (up md) (up w) (up z) = up fun i => ∑ r, shN x md w z r (i 1) := by
  funext i
  obtain ⟨l, rfl⟩ := row0 i
  exact (v63_at x md w z l).trans (congrArg _ (Finset.sum_congr rfl fun r _ => by rw [← dh_pad]; rfl))

end Reference

set_option maxHeartbeats 1000000 in
theorem algebraic : Cert.algebraic_InProjIdeal_InProjRefIdeal_pre_finite_ip := by
  pair_intro
  · run_from Cert.InProjIdeal.Gen.run_main m g
    · exact V_main_arg1 m c
    · exact V_main_arg3 m c
    · exact V_main_arg5 m c
  · refine θ_run_mono (Cert.InProjRefIdeal.Value.run m' g') fun r hr c => ?_
    obtain ⟨x, o, gn, md, w, z, A⟩ := exists_args m hpre c
    obtain ⟨a0, a1, a2, a3, a4, a5⟩ := hagree c
    have B : ArgsR m' c x o gn md w z := ⟨a0.trans A.e0, a1.trans A.e1, a2.trans A.e2, a3.trans A.e3, a4.trans A.e4, a5.trans A.e5⟩
    obtain ⟨r0, r1, r2, ra⟩ := hr c
    refine ⟨r0.trans ((ref0 B).trans (final13 A).symm), r1.trans ((Cert.InProjRefIdeal.Read.val_main_v62_eq ..).trans ?_),
      r2.trans ((Cert.InProjRefIdeal.Read.val_main_v63_eq ..).trans ?_), ra⟩
    · rw [B.e0, B.e1, B.e3, B.e5]
      exact (ref1 x gn w z).trans (final14 A).symm
    · rw [B.e0, B.e2, B.e3, B.e5]
      exact (ref2 x md w z).trans (final15 A).symm

/-- The reference is host operations only, and declares no semaphore. -/
theorem frame_ref : Cert.quiescent_InProjRefIdeal := fun m ρ _ =>
  (θ_run Cert.InProjRefIdeal.defs _ _).mono
    (fun r h => ⟨fun c => (h c).2.2.2, sem_eq_zero_of_no_sems (by decide) r.2⟩) (Cert.InProjRefIdeal.Value.run m ρ)

end Cert.InProjIdeal.Body

end
-- ==== Proof.OutProj.lean ====
module

public import proofs.«01_k».proof.Proof.Gen.OutProjIdeal.Value
public import proofs.«01_k».proof.Proof.Gen.OutProjRefIdeal.Read
public import proofs.«01_k».proof.Proof.InProj
public import Idealize.ShloMosaic.Lib.Pipeline.ValueKit

@[expose] public section

set_option maxRecDepth 16384

noncomputable section

namespace Cert.OutProjIdeal.Body

open Idealize.ShloMosaic Idealize.ShloMosaic.TcCoe Idealize.SL.Sem Cert.Lift
open Cert.OutProjIdeal Cert.OutProjIdeal.Gen
open Cert.InProjIdeal.Body (vr rsd vr_pos rms_back)

/-- The swish of a gate, and its derivative. -/
def sl (x : ℝ) : ℝ := x * sgm x
def dsl (x : ℝ) : ℝ := sgm x * (1 + x * (1 - sgm x))

/-- The gradient of the projection's result `v`: the norm's gain `gp`, the residual's gate `gt`, the cotangent `d`. -/
def dyK (v d gt gp : Fin 1024 → ℝ) (l : Fin 1024) : ℝ :=
  rsd v * (d l * gt l * gp l - v l * rsd v * ((∑ k, d k * gt k * gp k * (v k * rsd v)) / 1024))

/-- The gradient of the gated parts, side by side. -/
def dcat (u : Fin 1024 → ℝ) (w : Fin 1024 → Fin 1024 → ℝ) (k : Fin 1024) : ℝ := ∑ l, u l * w k l

/-- A row's shares of the gradients of the gate and of the gain. -/
def shT (v d gp : Fin 1024 → ℝ) (l : Fin 1024) : ℝ := d l * (v l * rsd v * gp l)
def shP (v d gt : Fin 1024 → ℝ) (l : Fin 1024) : ℝ := d l * gt l * (v l * rsd v)

theorem sel (l : Fin 128) (c : ℕ) (hc : c < 128) (x y : EReal) :
    Scalar.select (IntOp.cmpi CmpIPredicate.eq (BitVec.ofNat 32 l.val) (BitVec.ofNat 32 c)) x y = if l.val = c then x else y := by
  have e : (BitVec.ofNat 32 l.val == BitVec.ofNat 32 c) = decide (l.val = c) := by
    have h := l.isLt
    rw [Bool.eq_iff_iff, beq_iff_eq, decide_eq_true_eq, ← BitVec.toNat_inj, BitVec.toNat_ofNat, BitVec.toNat_ofNat]
    omega
  simp only [IntOp.cmpi, e]
  by_cases h : l.val = c
  · simp [h, Scalar.select]
  · simp [h, Scalar.select]

section Kernel

variable (y d : S512x1024.Idx → ℝ) (gp gt : S1x1024.Idx → ℝ) (w : S1024x1024.Idx → ℝ) (acc : FVec Ideal S1x1024 .f32)
variable (a e : S512x512.Idx → ℝ) (b f : S512x256.Idx → ℝ) (D : S512x1024.Idx → ℝ)
variable (r : Fin 512) (l : Fin 1024) (i : Fin 512) (j : Fin 256)

abbrev row (x : S512x1024.Idx → ℝ) (r : Fin 512) : Fin 1024 → ℝ := fun k => x (ix2 r k)
abbrev vec (g : S1x1024.Idx → ℝ) : Fin 1024 → ℝ := fun k => g (ix2 0 k)
abbrev mat (w : S1024x1024.Idx → ℝ) : Fin 1024 → Fin 1024 → ℝ := fun k l => w (ix2 k l)

theorem pay11_at : k0_pay11 (F := Ideal) (up y) (ix2 r 0) = ((rsd (row y r) : ℝ) : EReal) := by
  pointwise [k0_pay11, k0_pay9]
  exact coe_rsqrt (vr_pos (row y r))

theorem pay12_at : k0_pay12 (F := Ideal) (up y) (ix2 r l) = ((y (ix2 r l) * rsd (row y r) : ℝ) : EReal) := by
  pointwise [k0_pay12, k0_pay9, pay11_at]

theorem pay13_at : k0_pay13 (F := Ideal) (up d) (up y) (up gp) acc (ix2 0 l)
    = acc (ix2 0 l) + ((∑ r, shT (row y r) (row d r) (vec gp) l : ℝ) : EReal) := by
  pointwise [k0_pay13, k0_pay10, pay12_at]
  rfl

theorem pay15_at : k0_pay15 (F := Ideal) (up d) (up y) (up gt) acc (ix2 0 l)
    = acc (ix2 0 l) + ((∑ r, shP (row y r) (row d r) (vec gt) l : ℝ) : EReal) := by
  pointwise [k0_pay15, k0_pay14, pay12_at]
  rfl

theorem pay16_at : k0_pay16 (F := Ideal) (k0_pay10 (up gp)) (k0_pay11 (up y)) (k0_pay12 (up y)) (k0_pay14 (up d) (up gt)) (ix2 r l)
    = ((dyK (row y r) (row d r) (vec gt) (vec gp) l : ℝ) : EReal) := by
  pointwise [k0_pay16, k0_pay10, k0_pay14, pay12_at, pay11_at]
  rfl

theorem pay17_eq : k0_pay17 (F := Ideal) (k0_pay10 (up gp)) (k0_pay11 (up y)) (k0_pay12 (up y)) (k0_pay14 (up d) (up gt)) (up w)
    = up fun i : S512x1024.Idx => dcat (dyK (row y (i 0)) (row d (i 0)) (vec gt) (vec gp)) (mat w) (i 1) := by
  funext i
  obtain ⟨r, l, rfl⟩ : ∃ r l, i = ix2 r l := ⟨i 0, i 1, eq_ix2 i⟩
  pointwise [k0_pay17, pay16_at]
  rfl

/-! The gates: the attention's 512 lanes, the convolution's and the spatial gating unit's 256. -/

theorem pay19_at : k0_pay19 (F := Ideal) (up a) (ix2 r i) = ((sgm (a (ix2 r i)) : ℝ) : EReal) := by
  pointwise [k0_pay19, k0_pay18]

theorem pay20_at : k0_pay20 (F := Ideal) (up a) (ix2 r i) = ((dsl (a (ix2 r i)) : ℝ) : EReal) := by
  pointwise [k0_pay20, k0_pay18, pay19_at]
  rfl

theorem pay3_at : k0_pay3 (F := Ideal) (up b) (ix2 r j) = ((sgm (b (ix2 r j)) : ℝ) : EReal) := by
  pointwise [k0_pay3, k0_pay2]

theorem pay34_at : k0_pay34 (F := Ideal) (up b) (ix2 r j) = ((sgm (b (ix2 r j)) : ℝ) : EReal) := pay3_at b r j

theorem pay35_at : k0_pay35 (F := Ideal) (up b) (ix2 r j) = ((dsl (b (ix2 r j)) : ℝ) : EReal) := by
  pointwise [k0_pay35, k0_pay33, pay34_at]
  rfl

theorem pay5_at : k0_pay5 (F := Ideal) (up D) (up b) (ix2 r j) = ((D (ix2 r ⟨768 + j.val, by omega⟩) * sl (b (ix2 r j)) : ℝ) : EReal) := by
  pointwise [k0_pay5, k0_pay4, k0_pay2, pay3_at]
  rfl

theorem pay6_at : k0_pay6 (F := Ideal) (up D) (up b) (up f) (ix2 r j)
    = ((D (ix2 r ⟨768 + j.val, by omega⟩) * f (ix2 r j) * dsl (b (ix2 r j)) : ℝ) : EReal) := by
  pointwise [k0_pay6, k0_pay4, k0_pay2, pay3_at]
  rfl

theorem pay37_at : k0_pay37 (F := Ideal) (up D) (up b) (ix2 r j) = ((D (ix2 r ⟨512 + j.val, by omega⟩) * sl (b (ix2 r j)) : ℝ) : EReal) := by
  pointwise [k0_pay37, k0_pay36, k0_pay33, pay34_at]
  rfl

theorem pay1_at : k0_pay1 (F := Ideal) (k0_pay35 (up b)) (k0_pay36 (up D)) (up f) (ix2 r j)
    = ((D (ix2 r ⟨512 + j.val, by omega⟩) * f (ix2 r j) * dsl (b (ix2 r j)) : ℝ) : EReal) := by
  pointwise [k0_pay1, k0_pay36, pay35_at]

/-- The gradient of the gated parts, from the arguments' blocks. -/
abbrev dcB : S512x1024.Idx → ℝ := fun i => dcat (dyK (row y (i 0)) (row d (i 0)) (vec gt) (vec gp)) (mat w) (i 1)

/-- The attention's cotangent, and its gate's. -/
theorem pay22_eq : k0_pay22 (F := Ideal) (k0_pay10 (up gp)) (k0_pay11 (up y)) (k0_pay12 (up y)) (k0_pay14 (up d) (up gt)) (up w) (up a)
    = up fun q : S512x512.Idx => dcB y d gp gt w (ix2 (q 0) ⟨(q 1).val, by have := (q 1).isLt; simp at this; omega⟩) * sl (a q) := by
  funext q
  obtain ⟨r, i, rfl⟩ : ∃ r i, q = ix2 r i := ⟨q 0, q 1, eq_ix2 q⟩
  pointwise [k0_pay22, k0_pay21, pay17_eq, k0_pay18, pay19_at]
  rfl

theorem pay24_at : k0_pay24 (F := Ideal) (up e) (k0_pay20 (up a)) (k0_pay21 (k0_pay10 (up gp)) (k0_pay11 (up y)) (k0_pay12 (up y)) (k0_pay14 (up d) (up gt)) (up w)) (ix2 r i)
    = ((dcB y d gp gt w (ix2 r ⟨i.val, by omega⟩) * e (ix2 r i) * dsl (a (ix2 r i)) : ℝ) : EReal) := by
  pointwise [k0_pay24, k0_pay21, pay17_eq, pay20_at]
  rfl

/-! The statistics: lanes 2h and 2h + 1 of a row hold head `h`'s logarithm of the softmax's sum and the sum of the
    attention's cotangent times its result. -/

variable (T : S512x512.Idx → ℝ) (s0 s1 s2 s3 : FVec Ideal S1x512x1 .f32) (n : Fin 128)

/-- A head's sum over its 128 lanes, from lane `o`. -/
def dl (f : Fin 512 → ℝ) (o : ℕ) (ho : o + 128 ≤ 512) : ℝ := ∑ k : Fin 128, f ⟨o + k.val, by omega⟩

/-- The row of statistics, as the body adds it up. -/
def stat (x0 d0 x1 d1 x2 d2 x3 d3 : EReal) (n : Fin 128) : EReal :=
  0 + (if n.val = 0 then x0 else 0) + (if n.val = 1 then d0 else 0) + (if n.val = 2 then x1 else 0) + (if n.val = 3 then d1 else 0)
    + (if n.val = 4 then x2 else 0) + (if n.val = 5 then d2 else 0) + (if n.val = 6 then x3 else 0) + (if n.val = 7 then d3 else 0)

theorem pay32_at : k0_pay32 (F := Ideal) (iota .tc S1x128 32 [1] iota_S1x128_d1_w32)
      (k0_pay29 (up e) (up T) (iota .tc S1x128 32 [1] iota_S1x128_d1_w32) (k0_pay25 (up e) (up T) s0) (k0_pay26 (up e) (up T)) k0_pay27 (k0_pay28 s1) s2)
      (k0_pay30 (up e) (up T)) k0_pay31 s3 (ix2 r n)
    = stat (s0 (ix3 0 r 0)) (dl (fun k => T (ix2 r k) * e (ix2 r k)) 0 (by norm_num) : ℝ) (s1 (ix3 0 r 0)) (dl (fun k => T (ix2 r k) * e (ix2 r k)) 128 (by norm_num) : ℝ)
        (s2 (ix3 0 r 0)) (dl (fun k => T (ix2 r k) * e (ix2 r k)) 256 (by norm_num) : ℝ) (s3 (ix3 0 r 0)) (dl (fun k => T (ix2 r k) * e (ix2 r k)) 384 (by norm_num) : ℝ) n := by
  pointwise [k0_pay32, k0_pay29, k0_pay25, k0_pay26, k0_pay27, k0_pay28, k0_pay30, k0_pay31]
  simp only [sel _ _ (show 0 < 128 by norm_num), sel _ _ (show 1 < 128 by norm_num), sel _ _ (show 2 < 128 by norm_num), sel _ _ (show 3 < 128 by norm_num),
    sel _ _ (show 4 < 128 by norm_num), sel _ _ (show 5 < 128 by norm_num), sel _ _ (show 6 < 128 by norm_num), sel _ _ (show 7 < 128 by norm_num), stat, dl, zero_add]

end Kernel

/-! ## The reference -/

section Reference

open Cert.OutProjRefIdeal.Read

/-- The gated parts, side by side, and the projection's result. -/
def catR (z : S8192x2496.Idx → ℝ) (ya : S8192x512.Idx → ℝ) (yc ys : S8192x256.Idx → ℝ) (r : Fin 8192) (k : Fin 1024) : ℝ :=
  if h : k.val < 512 then ya (ix2 r ⟨k.val, h⟩) * sl (z (ix2 r ⟨448 + k.val, by omega⟩))
  else if h : k.val - 512 < 256 then yc (ix2 r ⟨k.val - 512, h⟩) * sl (z (ix2 r ⟨1472 + (k.val - 512), by omega⟩))
  else ys (ix2 r ⟨k.val - 512 - 256, by omega⟩) * sl (z (ix2 r ⟨2240 + (k.val - 512 - 256), by omega⟩))

variable (z : S8192x2496.Idx → ℝ) (ya : S8192x512.Idx → ℝ) (yc ys : S8192x256.Idx → ℝ) (w : S1024x1024.Idx → ℝ)
variable (g : S1024.Idx → ℝ) (m : S3x1024.Idx → ℝ) (d : S8192x1024.Idx → ℝ)
variable (r : Fin 8192) (l : Fin 1024) (i : Fin 512) (j : Fin 256)

def yR (r : Fin 8192) (l : Fin 1024) : ℝ := ∑ k, catR z ya yc ys r k * w (ix2 k l)

abbrev rowR (d : S8192x1024.Idx → ℝ) (r : Fin 8192) : Fin 1024 → ℝ := fun k => d (ix2 r k)
abbrev vec1 (g : S1024.Idx → ℝ) : Fin 1024 → ℝ := fun k => g (ix1 k)
abbrev vecG (m : S3x1024.Idx → ℝ) : Fin 1024 → ℝ := fun k => m (ix2 2 k)

/-- The gradient of the projection's result, and of the gated parts. -/
def dyR (r : Fin 8192) : Fin 1024 → ℝ := dyK (yR z ya yc ys w r) (rowR d r) (vecG m) (vec1 g)
def dcR (r : Fin 8192) : Fin 1024 → ℝ := dcat (dyR z ya yc ys w g m d r) (mat w)

theorem v3_2_at : val_main_v3_2 (F := Ideal) (up z) (ix2 r i) = ((sgm (z (ix2 r ⟨448 + i.val, by omega⟩)) : ℝ) : EReal) := by
  pointwise [val_main_v3_2, val_main_call0_v4, val_main_call0_cst_0, val_main_call0_v3, val_main_call0_v2, val_main_call0_cst, val_main_call0_v1, val_main_call0_v0, val_main_v0]

theorem v5_2_at : val_main_v5_2 (F := Ideal) (up z) (ix2 r j) = ((sgm (z (ix2 r ⟨1472 + j.val, by omega⟩)) : ℝ) : EReal) := by
  pointwise [val_main_v5_2, val_main_call1_v4, val_main_call1_cst_0, val_main_call1_v3, val_main_call1_v2, val_main_call1_cst, val_main_call1_v1, val_main_call1_v0, val_main_v1]

theorem v7_2_at : val_main_v7_2 (F := Ideal) (up z) (ix2 r j) = ((sgm (z (ix2 r ⟨2240 + j.val, by omega⟩)) : ℝ) : EReal) := by
  pointwise [val_main_v7_2, val_main_call2_v4, val_main_call2_cst_0, val_main_call2_v3, val_main_call2_v2, val_main_call2_cst, val_main_call2_v1, val_main_call2_v0, val_main_v2]

theorem v3_0_at : val_main_v3_0 (F := Ideal) (up z) (ix2 r i) = ((sl (z (ix2 r ⟨448 + i.val, by omega⟩)) : ℝ) : EReal) := by
  pointwise [val_main_v3_0, val_main_v0, v3_2_at]
  rfl

theorem v5_0_at : val_main_v5_0 (F := Ideal) (up z) (ix2 r j) = ((sl (z (ix2 r ⟨1472 + j.val, by omega⟩)) : ℝ) : EReal) := by
  pointwise [val_main_v5_0, val_main_v1, v5_2_at]
  rfl

theorem v7_0_at : val_main_v7_0 (F := Ideal) (up z) (ix2 r j) = ((sl (z (ix2 r ⟨2240 + j.val, by omega⟩)) : ℝ) : EReal) := by
  pointwise [val_main_v7_0, val_main_v2, v7_2_at]
  rfl

theorem v9_eq : val_main_v9 (F := Ideal) (up z) (up ya) (up yc) (up ys) = up fun i : S8192x1024.Idx => catR z ya yc ys (i 0) (i 1) := by
  funext i
  obtain ⟨r, k, rfl⟩ : ∃ r k, i = ix2 r k := ⟨i 0, i 1, eq_ix2 i⟩
  pointwise [val_main_v9, val_main_v4, val_main_v6, val_main_v8, v3_0_at, v5_0_at, v7_0_at]
  have hk : k.val < 1024 := k.isLt
  simp only [catR]
  by_cases h1 : k.val < 512
  · simp only [dif_pos h1]
  · by_cases h2 : k.val - 512 < 256
    · simp only [dif_neg h1, dif_pos h2]
    · simp only [dif_neg h1, dif_neg h2]

theorem v10_eq : val_main_v10 (F := Ideal) (up z) (up ya) (up yc) (up ys) (up w) = up fun i : S8192x1024.Idx => yR z ya yc ys w (i 0) (i 1) := by
  funext i
  obtain ⟨r, k, rfl⟩ : ∃ r k, i = ix2 r k := ⟨i 0, i 1, eq_ix2 i⟩
  pointwise [val_main_v10, v9_eq]
  rfl

theorem v19_at : val_main_v19 (F := Ideal) (up z) (up ya) (up yc) (up ys) (up w) (ix2 r 0) = ((vr (yR z ya yc ys w r) : ℝ) : EReal) := by
  pointwise [val_main_v19, val_main_v18, val_main_cst_1, val_main_v17, val_main_v16, val_main_cst_0, val_main_v15, val_main_v14, val_main_cst, val_main_v13, v10_eq]
  rfl

theorem v20_at : val_main_v20 (F := Ideal) (up z) (up ya) (up yc) (up ys) (up w) (ix2 r 0) = ((rsd (yR z ya yc ys w r) : ℝ) : EReal) := by
  pointwise [val_main_v20, v19_at]
  exact coe_rsqrt (vr_pos _)

theorem v23_at : val_main_v23 (F := Ideal) (up z) (up ya) (up yc) (up ys) (up w) (ix2 r 0)
    = ((-(1 / 2) * (rsd (yR z ya yc ys w r) / vr (yR z ya yc ys w r)) : ℝ) : EReal) := by
  pointwise [val_main_v23, val_main_v22, val_main_cst_2, val_main_v21, v19_at, v20_at]
  rw [coe_div (vr_pos _).ne', lift_mul]

theorem v25_at : val_main_v25 (F := Ideal) (up z) (up ya) (up yc) (up ys) (up w) (ix2 r l)
    = ((yR z ya yc ys w r l * rsd (yR z ya yc ys w r) : ℝ) : EReal) := by
  pointwise [val_main_v25, val_main_v24, v10_eq, v20_at]

theorem v33_at : val_main_v33 (F := Ideal) (up m) (up d) (ix2 r l) = ((d (ix2 r l) * m (ix2 2 l) : ℝ) : EReal) := by
  pointwise [val_main_v33, val_main_v32, val_main_v29, val_main_v12, val_main_v11]
  exact congrArg _ (mul_comm _ _)

theorem v106_at : val_main_v106 (F := Ideal) (up z) (up ya) (up yc) (up ys) (up w) (up g) (up d) (ix2 0 l)
    = ((∑ r, shT (yR z ya yc ys w r) (rowR d r) (vec1 g) l : ℝ) : EReal) := by
  pointwise [val_main_v106, val_main_v37, val_main_cst_4, val_main_v36, val_main_v35, val_main_cst_3, val_main_v34, val_main_v28, val_main_v27, val_main_v26, v25_at]
  rfl

theorem v107_at : val_main_v107 (F := Ideal) (up z) (up ya) (up yc) (up ys) (up w) (up m) (up d) (ix2 0 l)
    = ((∑ r, shP (yR z ya yc ys w r) (rowR d r) (vecG m) l : ℝ) : EReal) := by
  pointwise [val_main_v107, val_main_v43, val_main_cst_6, val_main_v40, val_main_v39, val_main_cst_5, val_main_v38, v33_at, v25_at]
  exact congrArg _ (Finset.sum_congr rfl fun k _ => mul_comm _ _)

theorem v42_at : val_main_v42 (F := Ideal) (up g) (up m) (up d) (ix2 r l) = ((d (ix2 r l) * m (ix2 2 l) * g (ix1 l) : ℝ) : EReal) := by
  pointwise [val_main_v42, val_main_v41, val_main_v26, v33_at]

theorem v53_at : val_main_v53 (F := Ideal) (up z) (up ya) (up yc) (up ys) (up w) (up g) (up m) (up d) (ix2 r l)
    = (((∑ k, yR z ya yc ys w r k * (d (ix2 r k) * m (ix2 2 k) * g (ix1 k)))
      * (-(1 / 2) * (rsd (yR z ya yc ys w r) / vr (yR z ya yc ys w r))) / 1024 : ℝ) : EReal) := by
  pointwise [val_main_v53, val_main_v52, val_main_cst_9, val_main_v51, val_main_v50, val_main_cst_8, val_main_v49, val_main_v46, val_main_v45, val_main_cst_7, val_main_v44, v10_eq, v42_at, v23_at]

theorem v57_eq : val_main_v57 (F := Ideal) (up z) (up ya) (up yc) (up ys) (up w) (up g) (up m) (up d)
    = up fun i : S8192x1024.Idx => dyR z ya yc ys w g m d (i 0) (i 1) := by
  funext i
  obtain ⟨r, l, rfl⟩ : ∃ r l, i = ix2 r l := ⟨i 0, i 1, eq_ix2 i⟩
  pointwise [val_main_v57, val_main_v56, val_main_v55, val_main_v54, val_main_v48, val_main_v47, v42_at, v20_at, v53_at, v10_eq]
  have e := rms_back 1024 0 (yR z ya yc ys w r) (fun k => d (ix2 r k) * m (ix2 2 k) * g (ix1 k)) _ _ (inv_sqrt_mul (vr_pos _)) (vr_pos (yR z ya yc ys w r)).ne' l
  rw [zero_add, zero_add] at e
  exact congrArg _ e

theorem v58_eq : val_main_v58 (F := Ideal) (up z) (up ya) (up yc) (up ys) (up w) (up g) (up m) (up d)
    = up fun i : S8192x1024.Idx => dcR z ya yc ys w g m d (i 0) (i 1) := by
  funext i
  obtain ⟨r, l, rfl⟩ : ∃ r l, i = ix2 r l := ⟨i 0, i 1, eq_ix2 i⟩
  pointwise [val_main_v58, v57_eq]
  rfl

theorem dsl_chain (a b x : ℝ) : a * b * sgm x + x * (a * b) * (sgm x * (1 - sgm x)) = b * a * dsl x := by
  simp only [dsl]; ring

theorem v69_at : val_main_v69 (F := Ideal) (up z) (up ya) (up yc) (up ys) (up w) (up g) (up m) (up d) (ix2 r i)
    = ((dcR z ya yc ys w g m d r ⟨i.val, by omega⟩ * sl (z (ix2 r ⟨448 + i.val, by omega⟩)) : ℝ) : EReal) := by
  pointwise [val_main_v69, val_main_v59, v58_eq, v3_0_at]

theorem v66_at : val_main_v66 (F := Ideal) (up z) (up ya) (up yc) (up ys) (up w) (up g) (up m) (up d) (ix2 r j)
    = ((dcR z ya yc ys w g m d r ⟨512 + j.val, by omega⟩ * sl (z (ix2 r ⟨1472 + j.val, by omega⟩)) : ℝ) : EReal) := by
  pointwise [val_main_v66, val_main_v60, v58_eq, v5_0_at]

theorem v63_at : val_main_v63 (F := Ideal) (up z) (up ya) (up yc) (up ys) (up w) (up g) (up m) (up d) (ix2 r j)
    = ((dcR z ya yc ys w g m d r ⟨768 + j.val, by omega⟩ * sl (z (ix2 r ⟨2240 + j.val, by omega⟩)) : ℝ) : EReal) := by
  pointwise [val_main_v63, val_main_v61, v58_eq, v7_0_at]

theorem v70_at : val_main_v70 (F := Ideal) (up z) (up ya) (up yc) (up ys) (up w) (up g) (up m) (up d) (ix2 r i)
    = ((dcR z ya yc ys w g m d r ⟨i.val, by omega⟩ * ya (ix2 r i) * dsl (z (ix2 r ⟨448 + i.val, by omega⟩)) : ℝ) : EReal) := by
  pointwise [val_main_v70, val_main_call5_v1, val_main_call5_v2, val_main_call5_v0, val_main_v0, val_main_v68, val_main_v59, val_main_v3_1, val_main_call0_v7, val_main_call0_v6, val_main_call0_cst_1, v58_eq, v3_2_at]
  exact congrArg _ (dsl_chain _ _ _)

theorem v67_at : val_main_v67 (F := Ideal) (up z) (up ya) (up yc) (up ys) (up w) (up g) (up m) (up d) (ix2 r j)
    = ((dcR z ya yc ys w g m d r ⟨512 + j.val, by omega⟩ * yc (ix2 r j) * dsl (z (ix2 r ⟨1472 + j.val, by omega⟩)) : ℝ) : EReal) := by
  pointwise [val_main_v67, val_main_call4_v1, val_main_call4_v2, val_main_call4_v0, val_main_v1, val_main_v65, val_main_v60, val_main_v5_1, val_main_call1_v7, val_main_call1_v6, val_main_call1_cst_1, v58_eq, v5_2_at]
  exact congrArg _ (dsl_chain _ _ _)

theorem v64_at : val_main_v64 (F := Ideal) (up z) (up ya) (up yc) (up ys) (up w) (up g) (up m) (up d) (ix2 r j)
    = ((dcR z ya yc ys w g m d r ⟨768 + j.val, by omega⟩ * ys (ix2 r j) * dsl (z (ix2 r ⟨2240 + j.val, by omega⟩)) : ℝ) : EReal) := by
  pointwise [val_main_v64, val_main_call3_v1, val_main_call3_v2, val_main_call3_v0, val_main_v2, val_main_v62, val_main_v61, val_main_v7_1, val_main_call2_v7, val_main_call2_v6, val_main_call2_cst_1, v58_eq, v7_2_at]
  exact congrArg _ (dsl_chain _ _ _)

/-- The attention's cotangent times its result. -/
def pr (r : Fin 8192) (k : Fin 512) : ℝ :=
  dcR z ya yc ys w g m d r ⟨k.val, by omega⟩ * sl (z (ix2 r ⟨448 + k.val, by omega⟩)) * ya (ix2 r k)

theorem v73_at (h : Fin 4) : val_main_v73 (F := Ideal) (up z) (up ya) (up yc) (up ys) (up w) (up g) (up m) (up d) (ix2 r h)
    = ((dl (pr z ya yc ys w g m d r) (h.val * 128) (by omega) : ℝ) : EReal) := by
  pointwise [val_main_v73, val_main_cst_10, val_main_v72, val_main_v71, v69_at]
  rfl

theorem v100_at (q k : FVec Ideal Cert.OutProjRefIdeal.S8192x4x192 .f32) (n : Fin 128) :
    val_main_v100 (F := Ideal) (up z) (up ya) (up yc) (up ys) q k (up w) (up g) (up m) (up d) (ix2 r n)
    = stat (val_main_v93 (F := Ideal) q k (ix3 0 r 0)) (dl (pr z ya yc ys w g m d r) 0 (by norm_num) : ℝ)
        (val_main_v93 (F := Ideal) q k (ix3 1 r 0)) (dl (pr z ya yc ys w g m d r) 128 (by norm_num) : ℝ)
        (val_main_v93 (F := Ideal) q k (ix3 2 r 0)) (dl (pr z ya yc ys w g m d r) 256 (by norm_num) : ℝ)
        (val_main_v93 (F := Ideal) q k (ix3 3 r 0)) (dl (pr z ya yc ys w g m d r) 384 (by norm_num) : ℝ) n := by
  pointwise [val_main_v100, val_main_call7_v0, val_main_c, val_main_v99, val_main_v98, val_main_v97, val_main_v96, val_main_v95, val_main_v94, v73_at]
  by_cases h : n.val < 8
  · rw [dif_pos h]
    obtain ⟨n, hn⟩ := n
    have h : n < 8 := h
    interval_cases n <;> simp [stat] <;> rfl
  · have e (c : ℕ) (hc : c < 8) : ¬ n.val = c := by omega
    rw [dif_neg h]
    show (((0#32 : BitVec 32).toInt : ℝ) : EReal) = _
    simp [stat, e 0, e 1, e 2, e 3, e 4, e 5, e 6, e 7]

end Reference

end Cert.OutProjIdeal.Body

end
-- ==== Proof.OutProjBlocks.lean ====
module

public import proofs.«01_k».proof.Defs
public import proofs.«01_k».proof.Proof.Gen.Pre_finite_op
public import proofs.«01_k».proof.Proof.InProjBlocks
public import proofs.«01_k».proof.Proof.OutProj
public import Idealize.ShloMosaic.Lib.Claim

@[expose] public section

set_option maxRecDepth 16384

noncomputable section

namespace Cert.OutProjIdeal.Body

open Idealize.ShloMosaic Idealize.ShloMosaic.TcCoe Idealize.SL.Sem Cert.Lift
open Cert.OutProjIdeal Cert.OutProjIdeal.Gen
open Cert.InProjIdeal.Body (padrow padrow_high)

/-! ## The arrays before the run -/

/-- The gates side by side, the parts side by side, and the gated parts as the host computes them. -/
def gatesH (z : S8192x2496.Idx → ℝ) : FVec Ideal S8192x1024 .f32 :=
  concatenate S8192x1024 1 [⟨S8192x512, extractStridedSlice S8192x512 ![0, 448] (up z : FVec Ideal S8192x2496 .f32) slices_S8192x2496_S8192x512_0_448⟩,
    ⟨S8192x256, extractStridedSlice S8192x256 ![0, 1472] (up z : FVec Ideal S8192x2496 .f32) slices_S8192x2496_S8192x256_0_1472⟩,
    ⟨S8192x256, extractStridedSlice S8192x256 ![0, 2240] (up z : FVec Ideal S8192x2496 .f32) slices_S8192x2496_S8192x256_0_2240⟩]
    concatenates_S8192x512_S8192x256_S8192x256_S8192x1024_d1

def partsH (ya : S8192x512.Idx → ℝ) (yc ys : S8192x256.Idx → ℝ) : FVec Ideal S8192x1024 .f32 :=
  concatenate S8192x1024 1 [⟨S8192x512, (up ya : FVec Ideal S8192x512 .f32)⟩, ⟨S8192x256, (up yc : FVec Ideal S8192x256 .f32)⟩, ⟨S8192x256, (up ys : FVec Ideal S8192x256 .f32)⟩]
    concatenates_S8192x512_S8192x256_S8192x256_S8192x1024_d1

def catH (z : S8192x2496.Idx → ℝ) (ya : S8192x512.Idx → ℝ) (yc ys : S8192x256.Idx → ℝ) : FVec Ideal S8192x1024 .bf16 :=
  truncf .bf16 (mulf (partsH ya yc ys) (mulf (gatesH z)
    (Host.divf (broadcastInDim S8192x1024 ![] bcast_S_S8192x1024 (constant S_ .f32 0x3F800000#32))
      (addf (broadcastInDim S8192x1024 ![] bcast_S_S8192x1024 (constant S_ .f32 0x3F800000#32)) (Host.exp (Host.negf (gatesH z))))))) bitsLt_bf16_f32

theorem catH_eq (z : S8192x2496.Idx → ℝ) (ya : S8192x512.Idx → ℝ) (yc ys : S8192x256.Idx → ℝ) :
    catH z ya yc ys = up fun i => catR z ya yc ys (i 0) (i 1) := by
  funext i
  obtain ⟨r, k, rfl⟩ : ∃ r k, i = ix2 r k := ⟨i 0, i 1, eq_ix2 i⟩
  have hk : k.val < 1024 := k.isLt
  have key (a b : ℝ) (hp : partsH ya yc ys (ix2 r k) = (a : EReal)) (hg : gatesH z (ix2 r k) = (b : EReal)) (hc : catR z ya yc ys r k = a * sl b) :
      catH z ya yc ys (ix2 r k) = ((catR z ya yc ys r k : ℝ) : EReal) := by
    pointwise [catH, hp, hg]
    exact congrArg _ hc.symm
  refine (?_ : catH z ya yc ys (ix2 r k) = ((catR z ya yc ys r k : ℝ) : EReal))
  by_cases h1 : k.val < 512
  · refine key (ya (ix2 r ⟨k.val, h1⟩)) (z (ix2 r ⟨448 + k.val, by omega⟩)) ?_ ?_ ?_
    · pointwise [partsH]; simp only [dif_pos h1]
    · pointwise [gatesH]; simp only [dif_pos h1]
    · simp only [catR, dif_pos h1]
  · by_cases h2 : k.val - 512 < 256
    · refine key (yc (ix2 r ⟨k.val - 512, h2⟩)) (z (ix2 r ⟨1472 + (k.val - 512), by omega⟩)) ?_ ?_ ?_
      · pointwise [partsH]; simp only [dif_neg h1, dif_pos h2]
      · pointwise [gatesH]; simp only [dif_neg h1, dif_pos h2]
      · simp only [catR, dif_neg h1, dif_pos h2]
    · refine key (ys (ix2 r ⟨k.val - 512 - 256, by omega⟩)) (z (ix2 r ⟨2240 + (k.val - 512 - 256), by omega⟩)) ?_ ?_ ?_
      · pointwise [partsH]; simp only [dif_neg h1, dif_neg h2]
      · pointwise [gatesH]; simp only [dif_neg h1, dif_neg h2]
      · simp only [catR, dif_neg h1, dif_neg h2]

section Arrays

variable (m : (ℓ : Loc nD τ sig) → Buf (Elt Ideal) ℓ) (c : Dev nD)
variable (z : S8192x2496.Idx → ℝ) (ya : S8192x512.Idx → ℝ) (yc ys : S8192x256.Idx → ℝ) (q k : FVec Ideal S8192x4x192 .f32)
variable (w : S1024x1024.Idx → ℝ) (g : S1024.Idx → ℝ) (md : S3x1024.Idx → ℝ) (d : S8192x1024.Idx → ℝ)

/-- The arguments' arrays: the queries' and keys' are any, the others real. -/
structure Args : Prop where
  e0 : m ((c.tc : Thread nD τ).loc main_arg0) = up z
  e1 : m ((c.tc : Thread nD τ).loc main_arg1) = up ya
  e2 : m ((c.tc : Thread nD τ).loc main_arg2) = up yc
  e3 : m ((c.tc : Thread nD τ).loc main_arg3) = up ys
  e4 : m ((c.tc : Thread nD τ).loc main_arg4) = q
  e5 : m ((c.tc : Thread nD τ).loc main_arg5) = k
  e6 : m ((c.tc : Thread nD τ).loc main_arg6) = up w
  e7 : m ((c.tc : Thread nD τ).loc main_arg7) = up g
  e8 : m ((c.tc : Thread nD τ).loc main_arg8) = up md
  e9 : m ((c.tc : Thread nD τ).loc main_arg9) = up d

/-- Row `r` of point `t`'s block in the whole array. -/
def glob (t : Fin cfg0.N) (r : Fin 512) : Fin 8192 := ⟨t.val * 512 + r.val, by have := t.isLt; have : cfg0.N = 16 := N_0; omega⟩

theorem idx : ∀ t : Fin cfg0.N, (win0_0.index t = ![t.val, 0] ∧ win0_1.index t = ![t.val, 0] ∧ win0_2.index t = ![t.val, 1] ∧ win0_3.index t = ![t.val, 6])
    ∧ (win0_4.index t = ![t.val, 9] ∧ win0_5.index t = ![t.val, 0] ∧ win0_6.index t = ![t.val, 0] ∧ win0_7.index t = ![t.val, 0])
    ∧ (win0_8.index t = ![0, t.val, 0] ∧ win0_9.index t = ![0, 0] ∧ win0_10.index t = ![0, 0] ∧ win0_11.index t = ![0, 0])
    ∧ (win0_12.index t = ![t.val, 0] ∧ win0_13.index t = ![t.val, 0] ∧ win0_14.index t = ![t.val, 0] ∧ win0_15.index t = ![t.val, 0])
    ∧ (win0_16.index t = ![t.val, 0] ∧ win0_17.index t = ![t.val, 0] ∧ win0_18.index t = ![t.val, 0] ∧ win0_19.index t = ![t.val, 0])
    ∧ (win0_20.index t = ![0, 0] ∧ win0_21.index t = ![0, 0]) :=
  (by decide +kernel : ∀ t : Fin grid0.N, _)

variable {m c z ya yc ys q k w g md d}

/-! What the host leaves: the padded projection, the matrix, the gain, the softmax's logarithms, the forward product. -/

set_option maxHeartbeats 2000000 in
theorem ent24 (A : Args m c z ya yc ys q k w g md d) : V m c main_v24 = up fun y => padrow (fun k => z (ix2 (y 0) k)) (y 1) := by
  show StableHlo.after _ _ _ = _
  simp only [hostOps0, hostOps0_1, hostOps0_2, hostOps0_3, hostOps0_4, List.flatten_cons, List.flatten_nil, List.append_nil, List.cons_append, List.nil_append]
  simp only [StableHlo.after_cons, StableHlo.after_nil]
  after_results_steps
  dsimp only [Matrix.cons_val]
  after_results_steps
  rw [show m (c, Proc.tc.devRef main_arg0) = up z from A.e0]
  funext y
  obtain ⟨r, k, rfl⟩ : ∃ r k, y = ix2 r k := ⟨y 0, y 1, eq_ix2 y⟩
  pointwise
  have hk : k.val < 2560 := k.isLt
  simp only [padrow]
  by_cases h1 : k.val < 448
  · simp only [dif_pos h1]
  · by_cases h2 : k.val < 512
    · simp only [dif_neg h1, dif_pos h2, dif_pos (show k.val - 448 < 64 by omega)]
      rfl
    · simp only [dif_neg h1, dif_neg h2, dif_neg (show ¬ k.val - 448 < 64 by omega)]
      exact congrArg (fun i => ((z (ix2 r i) : ℝ) : EReal)) (Fin.ext (show 448 + (k.val - 448 - 64) = k.val - 64 by omega))

theorem ent25 (A : Args m c z ya yc ys q k w g md d) : V m c main_v25 = up w := by
  show StableHlo.after _ _ _ = _
  simp only [hostOps0, hostOps0_1, hostOps0_2, hostOps0_3, hostOps0_4, List.flatten_cons, List.flatten_nil, List.append_nil, List.cons_append, List.nil_append]
  entry_read
  rw [show m (c, Proc.tc.devRef main_arg6) = up w from A.e6]
  funext y
  pointwise

def gv (g : S1024.Idx → ℝ) : S1x1024.Idx → ℝ := fun y => g (ix1 (y 1))

theorem ent35 (A : Args m c z ya yc ys q k w g md d) : V m c main_v35 = up (gv g) := by
  show StableHlo.after _ _ _ = _
  simp only [hostOps0, hostOps0_1, hostOps0_2, hostOps0_3, hostOps0_4, List.flatten_cons, List.flatten_nil, List.append_nil, List.cons_append, List.nil_append]
  entry_read
  rw [show m (c, Proc.tc.devRef main_arg7) = up g from A.e7]
  funext y
  obtain ⟨r, k, rfl⟩ : ∃ r k, y = ix2 r k := ⟨y 0, y 1, eq_ix2 y⟩
  pointwise
  rfl

theorem ent19 (A : Args m c z ya yc ys q k w g md d) : V m c main_v19 = Cert.OutProjRefIdeal.Read.val_main_v93 (F := Ideal) q k := by
  show StableHlo.after _ _ _ = _
  simp only [hostOps0, hostOps0_1, hostOps0_2, hostOps0_3, hostOps0_4, List.flatten_cons, List.flatten_nil, List.append_nil, List.cons_append, List.nil_append]
  entry_read
  rw [show m (c, Proc.tc.devRef main_arg4) = q from A.e4, show m (c, Proc.tc.devRef main_arg5) = k from A.e5]
  rfl

set_option maxHeartbeats 4000000 in
theorem ent34 (A : Args m c z ya yc ys q k w g md d) : V m c main_v34 = up fun y => yR z ya yc ys w (y 0) (y 1) := by
  show StableHlo.after _ _ _ = _
  simp only [hostOps0, hostOps0_1, hostOps0_2, hostOps0_3, hostOps0_4, List.flatten_cons, List.flatten_nil, List.append_nil, List.cons_append, List.nil_append]
  simp only [StableHlo.after_cons, StableHlo.after_nil]
  after_results_steps
  dsimp only [Matrix.cons_val]
  after_results_steps
  rw [show m (c, Proc.tc.devRef main_arg0) = up z from A.e0, show m (c, Proc.tc.devRef main_arg1) = up ya from A.e1,
    show m (c, Proc.tc.devRef main_arg2) = up yc from A.e2, show m (c, Proc.tc.devRef main_arg3) = up ys from A.e3,
    show m (c, Proc.tc.devRef main_arg6) = up w from A.e6]
  show Host.dotGeneral dot_S8192x1024_S1024x1024_S8192x1024_1_0_0_1_n_n none (catH z ya yc ys) (truncf .bf16 (up w : FVec Ideal S1024x1024 .f32) bitsLt_bf16_f32) = _
  rw [catH_eq]
  funext y
  obtain ⟨r, l, rfl⟩ : ∃ r l, y = ix2 r l := ⟨y 0, y 1, eq_ix2 y⟩
  pointwise
  rfl

end Arrays

end Cert.OutProjIdeal.Body

end
-- ==== Proof.OutProjPoint.lean ====
module

public import proofs.«01_k».proof.Defs
public import proofs.«01_k».proof.Proof.OutProjBlocks

@[expose] public section

set_option maxRecDepth 16384

noncomputable section

namespace Cert.OutProjIdeal.Body

open Idealize.ShloMosaic Idealize.ShloMosaic.TcCoe Idealize.SL.Sem Cert.Lift
open Cert.OutProjIdeal Cert.OutProjIdeal.Gen
open Cert.InProjIdeal.Body (padrow padrow_high)

section Arrays

variable {m : (ℓ : Loc nD τ sig) → Buf (Elt Ideal) ℓ} {c : Dev nD}
variable {z : S8192x2496.Idx → ℝ} {ya : S8192x512.Idx → ℝ} {yc ys : S8192x256.Idx → ℝ} {q k : FVec Ideal S8192x4x192 .f32}
variable {w : S1024x1024.Idx → ℝ} {g : S1024.Idx → ℝ} {md : S3x1024.Idx → ℝ} {d : S8192x1024.Idx → ℝ}

/-! ## The blocks the body reads at point `t` -/

def bD (d : S8192x1024.Idx → ℝ) (t : Fin cfg0.N) : S512x1024.Idx → ℝ := fun y => d (ix2 (glob t (y 0)) (y 1))
def bY (z : S8192x2496.Idx → ℝ) (ya : S8192x512.Idx → ℝ) (yc ys : S8192x256.Idx → ℝ) (w : S1024x1024.Idx → ℝ) (t : Fin cfg0.N) : S512x1024.Idx → ℝ :=
  fun y => yR z ya yc ys w (glob t (y 0)) (y 1)
def bA (ya : S8192x512.Idx → ℝ) (t : Fin cfg0.N) : S512x512.Idx → ℝ := fun y => ya (ix2 (glob t (y 0)) (y 1))
def bC (yc : S8192x256.Idx → ℝ) (t : Fin cfg0.N) : S512x256.Idx → ℝ := fun y => yc (ix2 (glob t (y 0)) (y 1))
def gA (z : S8192x2496.Idx → ℝ) (t : Fin cfg0.N) : S512x512.Idx → ℝ :=
  fun y => z (ix2 (glob t (y 0)) ⟨448 + (y 1).val, by have := (y 1).isLt; simp at this; omega⟩)
def gC (z : S8192x2496.Idx → ℝ) (o : ℕ) (ho : o + 256 ≤ 2496) (t : Fin cfg0.N) : S512x256.Idx → ℝ :=
  fun y => z (ix2 (glob t (y 0)) ⟨o + (y 1).val, by have := (y 1).isLt; simp at this; omega⟩)
def gt (md : S3x1024.Idx → ℝ) : S1x1024.Idx → ℝ := fun y => md (ix2 2 (y 1))

theorem in0 (A : Args m c z ya yc ys q k w g md d) (t : Fin cfg0.N) : iblk m c 0 t = up (bD d t) := by
  funext y
  have e : ((View.whole main_arg9).slice (win0_0.rect t)).emb y = ix2 (glob t (y 0)) (y 1) := by blk_ext [idx t, glob]
  show V m c main_arg9 _ = _
  rw [V_main_arg9, A.e9]
  exact congrArg (up _) e

theorem read1 (X : (b : Ref sig .tc) → Buf (Elt Ideal) ((c.tc : Thread nD τ).loc b)) (t : Fin cfg0.N) (y : S512x1024.Idx) :
    ((cfg0.win 1).blk t).view.read (Elt Ideal) (X (Pipeline.arrRef spec0 1)) y = X main_v34 (((View.whole main_v34).slice (win0_1.rect t)).emb y) := rfl

theorem at1 {Y : S8192x1024.Idx → ℝ} (hY : V m c main_v34 = up Y) (t : Fin cfg0.N) :
    iblk m c 1 t = up fun y : S512x1024.Idx => Y (ix2 (glob t (y 0)) (y 1)) := by
  funext y
  have e : ((View.whole main_v34).slice (win0_1.rect t)).emb y = ix2 (glob t (y 0)) (y 1) := by blk_ext [idx t, glob]
  unfold iblk
  rw [read1, hY]
  exact congrArg (up Y) e

theorem in1 (A : Args m c z ya yc ys q k w g md d) (t : Fin cfg0.N) : iblk m c 1 t = up (bY z ya yc ys w t) := at1 (ent34 A) t

theorem in2 (A : Args m c z ya yc ys q k w g md d) (t : Fin cfg0.N) : iblk m c 2 t = up (gA z t) := by
  funext y
  have e : ((View.whole main_v24).slice (win0_2.rect t)).emb y = ix2 (glob t (y 0)) ⟨512 + (y 1).val, by have := (y 1).isLt; simp at this; omega⟩ := by blk_ext [idx t, glob]
  show V m c main_v24 _ = _
  rw [ent24 A]
  exact (congrArg (up _) e).trans (congrArg _ (padrow_high _ _ (Nat.le_add_right_of_le (by norm_num)) _ (by simp; omega)))

theorem in3 (A : Args m c z ya yc ys q k w g md d) (t : Fin cfg0.N) : iblk m c 3 t = up (gC z 1472 (by norm_num) t) := by
  funext y
  have e : ((View.whole main_v24).slice (win0_3.rect t)).emb y = ix2 (glob t (y 0)) ⟨1536 + (y 1).val, by have := (y 1).isLt; simp at this; omega⟩ := by blk_ext [idx t, glob]
  show V m c main_v24 _ = _
  rw [ent24 A]
  exact (congrArg (up _) e).trans (congrArg _ (padrow_high _ _ (Nat.le_add_right_of_le (by norm_num)) _ (by simp; omega)))

theorem in4 (A : Args m c z ya yc ys q k w g md d) (t : Fin cfg0.N) : iblk m c 4 t = up (gC z 2240 (by norm_num) t) := by
  funext y
  have e : ((View.whole main_v24).slice (win0_4.rect t)).emb y = ix2 (glob t (y 0)) ⟨2304 + (y 1).val, by have := (y 1).isLt; simp at this; omega⟩ := by blk_ext [idx t, glob]
  show V m c main_v24 _ = _
  rw [ent24 A]
  exact (congrArg (up _) e).trans (congrArg _ (padrow_high _ _ (Nat.le_add_right_of_le (by norm_num)) _ (by simp; omega)))

theorem in5 (A : Args m c z ya yc ys q k w g md d) (t : Fin cfg0.N) : iblk m c 5 t = up (bA ya t) := by
  funext y
  have e : ((View.whole main_arg1).slice (win0_5.rect t)).emb y = ix2 (glob t (y 0)) (y 1) := by blk_ext [idx t, glob]
  show V m c main_arg1 _ = _
  rw [V_main_arg1, A.e1]
  exact congrArg (up _) e

theorem in6 (A : Args m c z ya yc ys q k w g md d) (t : Fin cfg0.N) : iblk m c 6 t = up (bC yc t) := by
  funext y
  have e : ((View.whole main_arg2).slice (win0_6.rect t)).emb y = ix2 (glob t (y 0)) (y 1) := by blk_ext [idx t, glob]
  show V m c main_arg2 _ = _
  rw [V_main_arg2, A.e2]
  exact congrArg (up _) e

theorem in7 (A : Args m c z ya yc ys q k w g md d) (t : Fin cfg0.N) : iblk m c 7 t = up (bC ys t) := by
  funext y
  have e : ((View.whole main_arg3).slice (win0_7.rect t)).emb y = ix2 (glob t (y 0)) (y 1) := by blk_ext [idx t, glob]
  show V m c main_arg3 _ = _
  rw [V_main_arg3, A.e3]
  exact congrArg (up _) e

theorem in9 (A : Args m c z ya yc ys q k w g md d) (t : Fin cfg0.N) : iblk m c 9 t = up w := by
  funext y
  have e : ((View.whole main_v25).slice (win0_9.rect t)).emb y = y := by blk_ext [idx t, glob]
  show V m c main_v25 _ = _
  rw [ent25 A]
  exact congrArg (up _) e

theorem in10 (A : Args m c z ya yc ys q k w g md d) (t : Fin cfg0.N) : iblk m c 10 t = up (gv g) := by
  funext y
  have e : ((View.whole main_v35).slice (win0_10.rect t)).emb y = y := by blk_ext [idx t, glob]
  show V m c main_v35 _ = _
  rw [ent35 A]
  exact congrArg (up _) e

theorem in11 (A : Args m c z ya yc ys q k w g md d) (t : Fin cfg0.N) : iblk m c 11 t = up md := by
  funext y
  have e : ((View.whole main_arg8).slice (win0_11.rect t)).emb y = y := by blk_ext [idx t, glob]
  show V m c main_arg8 _ = _
  rw [V_main_arg8, A.e8]
  exact congrArg (up _) e

/-- The softmax's logarithms, as the reference has them. -/
abbrev lse (q k : FVec Ideal S8192x4x192 .f32) : FVec Ideal S4x8192x1 .f32 := Cert.OutProjRefIdeal.Read.val_main_v93 (F := Ideal) q k

theorem read8 (X : (b : Ref sig .tc) → Buf (Elt Ideal) ((c.tc : Thread nD τ).loc b)) (t : Fin cfg0.N) (y : S4x512x1.Idx) :
    ((cfg0.win 8).blk t).view.read (Elt Ideal) (X (Pipeline.arrRef spec0 8)) y = X main_v19 (((View.whole main_v19).slice (win0_8.rect t)).emb y) := rfl

theorem in8 {L : FVec Ideal S4x8192x1 .f32} (hL : V m c main_v19 = L) (t : Fin cfg0.N) :
    iblk m c 8 t = fun y : S4x512x1.Idx => L (ix3 (y 0) (glob t (y 1)) (y 2)) := by
  funext y
  have e : ((View.whole main_v19).slice (win0_8.rect t)).emb y = ix3 (y 0) (glob t (y 1)) (y 2) := by blk_ext [idx t, glob]
  unfold iblk
  rw [read8, hL]
  exact congrArg L e

theorem ld_gate (md : S3x1024.Idx → ℝ) (inb) :
    View.ld (Val := Elt Ideal) (e' := .f32) (up md) (Rect.unit (s := S3x1024) ![2, 0] S1x1024.size inb) = up (gt md) := by
  funext y
  pointwise
  rfl

theorem row0 (j : S1x1024.Idx) : ∃ l, j = ix2 0 l := ⟨j 1, (eq_ix2 j).trans (congrArg (ix2 · _) (Subsingleton.elim _ _))⟩

/-- The sixteen points' sums of 512 rows are the sum of all rows. -/
theorem sum_points (f : Fin 8192 → ℝ) : ∑ p : Fin cfg0.N, ∑ r : Fin 512, ((f (glob p r) : ℝ) : EReal) = ((∑ r, f r : ℝ) : EReal) := by
  rw [← coe_sum]
  exact Fin.sum_mul_add_congr (S := cfg0.N) (n := 512) (L := 8192) (fun p r _ => rfl) (by decide +kernel)

/-- A row's share of the gate's gradient, and of the gain's. -/
def shA (z : S8192x2496.Idx → ℝ) (ya : S8192x512.Idx → ℝ) (yc ys : S8192x256.Idx → ℝ) (w : S1024x1024.Idx → ℝ) (g : S1024.Idx → ℝ)
    (d : S8192x1024.Idx → ℝ) (r : Fin 8192) (l : Fin 1024) : ℝ := shT (yR z ya yc ys w r) (rowR d r) (vec1 g) l
def shB (z : S8192x2496.Idx → ℝ) (ya : S8192x512.Idx → ℝ) (yc ys : S8192x256.Idx → ℝ) (w : S1024x1024.Idx → ℝ) (md : S3x1024.Idx → ℝ)
    (d : S8192x1024.Idx → ℝ) (r : Fin 8192) (l : Fin 1024) : ℝ := shP (yR z ya yc ys w r) (rowR d r) (vecG md) l

end Arrays

end Cert.OutProjIdeal.Body

end
-- ==== Proof.OutProjFinal.lean ====
module

public import proofs.«01_k».proof.Defs
public import proofs.«01_k».proof.Proof.OutProjPoint

@[expose] public section

set_option maxRecDepth 16384

noncomputable section

namespace Cert.OutProjIdeal.Body

open Idealize.ShloMosaic Idealize.ShloMosaic.TcCoe Idealize.SL.Sem Cert.Lift
open Cert.OutProjIdeal Cert.OutProjIdeal.Gen
open Cert.InProjIdeal.Body (padrow padrow_high)

/-! ## The results' arrays after the run: the gradients of the normalised output and of the first part -/

section Arrays

attribute [local irreducible] yR dyK dcat dl stat

variable {m : (ℓ : Loc nD τ sig) → Buf (Elt Ideal) ℓ} {c : Dev nD}
variable {z : S8192x2496.Idx → ℝ} {ya : S8192x512.Idx → ℝ} {yc ys : S8192x256.Idx → ℝ} {q k : FVec Ideal S8192x4x192 .f32}
variable {w : S1024x1024.Idx → ℝ} {g : S1024.Idx → ℝ} {md : S3x1024.Idx → ℝ} {d : S8192x1024.Idx → ℝ}

/-! The four heads' rows of the block of logarithms. -/

theorem ld8_0 (L : FVec Ideal S4x8192x1 .f32) (t : Fin cfg0.N) (inb) (r : Fin 512) :
    View.ld (Val := Elt Ideal) (e' := .f32) (fun y : S4x512x1.Idx => L (ix3 (y 0) (glob t (y 1)) (y 2))) (Rect.unit (s := S4x512x1) ![0, 0, 0] ![1, 512, 1] inb) (ix3 0 r 0)
      = L (ix3 0 (glob t r) 0) := by
  pointwise
theorem ld8_1 (L : FVec Ideal S4x8192x1 .f32) (t : Fin cfg0.N) (inb) (r : Fin 512) :
    View.ld (Val := Elt Ideal) (e' := .f32) (fun y : S4x512x1.Idx => L (ix3 (y 0) (glob t (y 1)) (y 2))) (Rect.unit (s := S4x512x1) ![1, 0, 0] ![1, 512, 1] inb) (ix3 0 r 0)
      = L (ix3 1 (glob t r) 0) := by
  pointwise
theorem ld8_2 (L : FVec Ideal S4x8192x1 .f32) (t : Fin cfg0.N) (inb) (r : Fin 512) :
    View.ld (Val := Elt Ideal) (e' := .f32) (fun y : S4x512x1.Idx => L (ix3 (y 0) (glob t (y 1)) (y 2))) (Rect.unit (s := S4x512x1) ![2, 0, 0] ![1, 512, 1] inb) (ix3 0 r 0)
      = L (ix3 2 (glob t r) 0) := by
  pointwise
theorem ld8_3 (L : FVec Ideal S4x8192x1 .f32) (t : Fin cfg0.N) (inb) (r : Fin 512) :
    View.ld (Val := Elt Ideal) (e' := .f32) (fun y : S4x512x1.Idx => L (ix3 (y 0) (glob t (y 1)) (y 2))) (Rect.unit (s := S4x512x1) ![3, 0, 0] ![1, 512, 1] inb) (ix3 0 r 0)
      = L (ix3 3 (glob t r) 0) := by
  pointwise

set_option maxHeartbeats 4000000 in
theorem final12 (A : Args m c z ya yc ys q k w g md d) : (dats m 0 c).arrAt 12 (cfgs 0).N
    = up fun i => dyR z ya yc ys w g md d (i 0) (i 1) := by
  refine (dats m 0 c).arrAt_eq_of_covers 12 _ (by decide +kernel) fun t _ y => ?_
  blk_simp
  rw [after0_12]
  have e : ((View.whole main_v36_0).slice (win0_12.rect t)).emb y = ix2 (glob t (y 0)) (y 1) := by blk_ext [idx t, glob]
  rw [e]
  obtain ⟨r, l, rfl⟩ : ∃ r l, y = ix2 r l := ⟨y 0, y 1, eq_ix2 y⟩
  by_cases h : t.val % 16 = 0 <;> (first | rw [outsAt0_A m c t h] | rw [outsAt0_B m c t h]) <;> frame_out <;> (
    rw [in0 A, in1 A, in10 A, in11 A, ld_gate]
    exact pay16_at ..)

set_option maxHeartbeats 4000000 in
theorem final13 (A : Args m c z ya yc ys q k w g md d) : (dats m 0 c).arrAt 13 (cfgs 0).N
    = up fun i => dcR z ya yc ys w g md d (i 0) ⟨(i 1).val, by have := (i 1).isLt; simp at this; omega⟩ * sl (z (ix2 (i 0) ⟨448 + (i 1).val, by have := (i 1).isLt; simp at this; omega⟩)) := by
  refine (dats m 0 c).arrAt_eq_of_covers 13 _ (by decide +kernel) fun t _ y => ?_
  blk_simp
  rw [after0_13]
  have e : ((View.whole main_v36_1).slice (win0_13.rect t)).emb y = ix2 (glob t (y 0)) (y 1) := by blk_ext [idx t, glob]
  rw [e]
  obtain ⟨r, l, rfl⟩ : ∃ r l, y = ix2 r l := ⟨y 0, y 1, eq_ix2 y⟩
  by_cases h : t.val % 16 = 0 <;> (first | rw [outsAt0_A m c t h] | rw [outsAt0_B m c t h]) <;> frame_out <;> (
    rw [in0 A, in1 A, in10 A, in11 A, ld_gate, in9 A, in2 A]
    exact congrFun (pay22_eq ..) _)

set_option maxHeartbeats 4000000 in
theorem final14 (A : Args m c z ya yc ys q k w g md d) {L : FVec Ideal S4x8192x1 .f32} (hL : V m c main_v19 = L) : (dats m 0 c).arrAt 14 (cfgs 0).N
    = fun i => stat (L (ix3 0 (i 0) 0)) (dl (pr z ya yc ys w g md d (i 0)) 0 (by norm_num) : ℝ)
        (L (ix3 1 (i 0) 0)) (dl (pr z ya yc ys w g md d (i 0)) 128 (by norm_num) : ℝ)
        (L (ix3 2 (i 0) 0)) (dl (pr z ya yc ys w g md d (i 0)) 256 (by norm_num) : ℝ)
        (L (ix3 3 (i 0) 0)) (dl (pr z ya yc ys w g md d (i 0)) 384 (by norm_num) : ℝ) (i 1) := by
  refine (dats m 0 c).arrAt_eq_of_covers 14 _ (by decide +kernel) fun t _ y => ?_
  blk_simp
  rw [after0_14]
  have e : ((View.whole main_v36_2).slice (win0_14.rect t)).emb y = ix2 (glob t (y 0)) (y 1) := by blk_ext [idx t, glob]
  rw [e]
  obtain ⟨r, l, rfl⟩ : ∃ r l, y = ix2 r l := ⟨y 0, y 1, eq_ix2 y⟩
  by_cases h : t.val % 16 = 0 <;> (first | rw [outsAt0_A m c t h] | rw [outsAt0_B m c t h]) <;> frame_out <;> (
    rw [in0 A, in1 A, in10 A, in11 A, ld_gate, in9 A, in2 A, in5 A, in8 hL, pay22_eq]
    refine (pay32_at ..).trans ?_
    rw [ld8_0, ld8_1, ld8_2, ld8_3]
    rfl)

set_option maxHeartbeats 4000000 in
theorem final15 (A : Args m c z ya yc ys q k w g md d) : (dats m 0 c).arrAt 15 (cfgs 0).N
    = up fun i => dcR z ya yc ys w g md d (i 0) ⟨(i 1).val, by have := (i 1).isLt; simp at this; omega⟩ * ya i * dsl (z (ix2 (i 0) ⟨448 + (i 1).val, by have := (i 1).isLt; simp at this; omega⟩)) := by
  refine (dats m 0 c).arrAt_eq_of_covers 15 _ (by decide +kernel) fun t _ y => ?_
  blk_simp
  rw [after0_15]
  have e : ((View.whole main_v36_3).slice (win0_15.rect t)).emb y = ix2 (glob t (y 0)) (y 1) := by blk_ext [idx t, glob]
  rw [e]
  obtain ⟨r, l, rfl⟩ : ∃ r l, y = ix2 r l := ⟨y 0, y 1, eq_ix2 y⟩
  by_cases h : t.val % 16 = 0 <;> (first | rw [outsAt0_A m c t h] | rw [outsAt0_B m c t h]) <;> frame_out <;> (
    rw [in0 A, in1 A, in10 A, in11 A, ld_gate, in9 A, in2 A, in5 A]
    exact pay24_at ..)

end Arrays

end Cert.OutProjIdeal.Body

end
-- ==== Proof.OutProjFinal2.lean ====
module

public import proofs.«01_k».proof.Defs
public import proofs.«01_k».proof.Proof.OutProjPoint

@[expose] public section

set_option maxRecDepth 16384

noncomputable section

namespace Cert.OutProjIdeal.Body

open Idealize.ShloMosaic Idealize.ShloMosaic.TcCoe Idealize.SL.Sem Cert.Lift
open Cert.OutProjIdeal Cert.OutProjIdeal.Gen
open Cert.InProjIdeal.Body (padrow padrow_high)

/-! ## The results' arrays after the run: the other parts' gradients -/

section Arrays

attribute [local irreducible] yR dyK dcat

variable {m : (ℓ : Loc nD τ sig) → Buf (Elt Ideal) ℓ} {c : Dev nD}
variable {z : S8192x2496.Idx → ℝ} {ya : S8192x512.Idx → ℝ} {yc ys : S8192x256.Idx → ℝ} {q k : FVec Ideal S8192x4x192 .f32}
variable {w : S1024x1024.Idx → ℝ} {g : S1024.Idx → ℝ} {md : S3x1024.Idx → ℝ} {d : S8192x1024.Idx → ℝ}

set_option maxHeartbeats 4000000 in
theorem final16 (A : Args m c z ya yc ys q k w g md d) : (dats m 0 c).arrAt 16 (cfgs 0).N
    = up fun i => dcR z ya yc ys w g md d (i 0) ⟨512 + (i 1).val, by have := (i 1).isLt; simp at this; omega⟩ * sl (z (ix2 (i 0) ⟨1472 + (i 1).val, by have := (i 1).isLt; simp at this; omega⟩)) := by
  refine (dats m 0 c).arrAt_eq_of_covers 16 _ (by decide +kernel) fun t _ y => ?_
  blk_simp
  rw [after0_16]
  have e : ((View.whole main_v36_4).slice (win0_16.rect t)).emb y = ix2 (glob t (y 0)) (y 1) := by blk_ext [idx t, glob]
  rw [e]
  obtain ⟨r, l, rfl⟩ : ∃ r l, y = ix2 r l := ⟨y 0, y 1, eq_ix2 y⟩
  by_cases h : t.val % 16 = 0 <;> (first | rw [outsAt0_A m c t h] | rw [outsAt0_B m c t h]) <;> frame_out <;> (
    rw [in0 A, in1 A, in10 A, in11 A, ld_gate, in9 A, in3 A, pay17_eq]
    exact pay37_at ..)

set_option maxHeartbeats 4000000 in
theorem final17 (A : Args m c z ya yc ys q k w g md d) : (dats m 0 c).arrAt 17 (cfgs 0).N
    = up fun i => dcR z ya yc ys w g md d (i 0) ⟨512 + (i 1).val, by have := (i 1).isLt; simp at this; omega⟩ * yc i * dsl (z (ix2 (i 0) ⟨1472 + (i 1).val, by have := (i 1).isLt; simp at this; omega⟩)) := by
  refine (dats m 0 c).arrAt_eq_of_covers 17 _ (by decide +kernel) fun t _ y => ?_
  blk_simp
  rw [after0_17]
  have e : ((View.whole main_v36_5).slice (win0_17.rect t)).emb y = ix2 (glob t (y 0)) (y 1) := by blk_ext [idx t, glob]
  rw [e]
  obtain ⟨r, l, rfl⟩ : ∃ r l, y = ix2 r l := ⟨y 0, y 1, eq_ix2 y⟩
  by_cases h : t.val % 16 = 0 <;> (first | rw [outsAt0_A m c t h] | rw [outsAt0_B m c t h]) <;> frame_out <;> (
    rw [in0 A, in1 A, in10 A, in11 A, ld_gate, in9 A, in3 A, in6 A, pay17_eq]
    exact pay1_at ..)

set_option maxHeartbeats 4000000 in
theorem final18 (A : Args m c z ya yc ys q k w g md d) : (dats m 0 c).arrAt 18 (cfgs 0).N
    = up fun i => dcR z ya yc ys w g md d (i 0) ⟨768 + (i 1).val, by have := (i 1).isLt; simp at this; omega⟩ * sl (z (ix2 (i 0) ⟨2240 + (i 1).val, by have := (i 1).isLt; simp at this; omega⟩)) := by
  refine (dats m 0 c).arrAt_eq_of_covers 18 _ (by decide +kernel) fun t _ y => ?_
  blk_simp
  rw [after0_18]
  have e : ((View.whole main_v36_6).slice (win0_18.rect t)).emb y = ix2 (glob t (y 0)) (y 1) := by blk_ext [idx t, glob]
  rw [e]
  obtain ⟨r, l, rfl⟩ : ∃ r l, y = ix2 r l := ⟨y 0, y 1, eq_ix2 y⟩
  by_cases h : t.val % 16 = 0 <;> (first | rw [outsAt0_A m c t h] | rw [outsAt0_B m c t h]) <;> frame_out <;> (
    rw [in0 A, in1 A, in10 A, in11 A, ld_gate, in9 A, in4 A, pay17_eq]
    exact pay5_at ..)

set_option maxHeartbeats 4000000 in
theorem final19 (A : Args m c z ya yc ys q k w g md d) : (dats m 0 c).arrAt 19 (cfgs 0).N
    = up fun i => dcR z ya yc ys w g md d (i 0) ⟨768 + (i 1).val, by have := (i 1).isLt; simp at this; omega⟩ * ys i * dsl (z (ix2 (i 0) ⟨2240 + (i 1).val, by have := (i 1).isLt; simp at this; omega⟩)) := by
  refine (dats m 0 c).arrAt_eq_of_covers 19 _ (by decide +kernel) fun t _ y => ?_
  blk_simp
  rw [after0_19]
  have e : ((View.whole main_v36_7).slice (win0_19.rect t)).emb y = ix2 (glob t (y 0)) (y 1) := by blk_ext [idx t, glob]
  rw [e]
  obtain ⟨r, l, rfl⟩ : ∃ r l, y = ix2 r l := ⟨y 0, y 1, eq_ix2 y⟩
  by_cases h : t.val % 16 = 0 <;> (first | rw [outsAt0_A m c t h] | rw [outsAt0_B m c t h]) <;> frame_out <;> (
    rw [in0 A, in1 A, in10 A, in11 A, ld_gate, in9 A, in4 A, in7 A, pay17_eq]
    exact pay6_at ..)

end Arrays

end Cert.OutProjIdeal.Body

end
-- ==== Proof.OutProjSums.lean ====
module

public import proofs.«01_k».proof.Defs
public import proofs.«01_k».proof.Proof.OutProjPoint

@[expose] public section

set_option maxRecDepth 16384

noncomputable section

namespace Cert.OutProjIdeal.Body

open Idealize.ShloMosaic Idealize.ShloMosaic.TcCoe Idealize.SL.Sem Cert.Lift
open Cert.OutProjIdeal Cert.OutProjIdeal.Gen
open Cert.InProjIdeal.Body (padrow padrow_high)

/-! ## The results' arrays after the run: the sums over all rows -/

section Arrays

variable {m : (ℓ : Loc nD τ sig) → Buf (Elt Ideal) ℓ} {c : Dev nD}
variable {z : S8192x2496.Idx → ℝ} {ya : S8192x512.Idx → ℝ} {yc ys : S8192x256.Idx → ℝ} {q k : FVec Ideal S8192x4x192 .f32}
variable {w : S1024x1024.Idx → ℝ} {g : S1024.Idx → ℝ} {md : S3x1024.Idx → ℝ} {d : S8192x1024.Idx → ℝ}

theorem step20_A (A : Args m c z ya yc ys q k w g md d) (t : Fin cfg0.N) (ht : t.val % 16 = 0) (j : S1x1024.Idx) :
    (outsAt0 m c t.val t.isLt).2.2.2.2.2.2.2.2.1 j = 0 + ∑ r : Fin 512, ((shA z ya yc ys w g d (glob t r) (j 1) : ℝ) : EReal) := by
  obtain ⟨l, rfl⟩ := row0 j
  rw [outsAt0_A m c t ht]; frame_out
  rw [in0 A, in1 A, in10 A]
  refine (pay13_at ..).trans ?_
  rw [coe_sum]
  exact congrArg (· + _) (by pointwise [k0_pay7])

theorem step20_B (A : Args m c z ya yc ys q k w g md d) (t : Fin cfg0.N) (ht : ¬ t.val % 16 = 0) (j : S1x1024.Idx) :
    (outsAt0 m c t.val t.isLt).2.2.2.2.2.2.2.2.1 j = (outsAt0 m c (t.val - 1) (Nat.lt_of_le_of_lt (Nat.sub_le _ _) t.isLt)).2.2.2.2.2.2.2.2.1 j
      + ∑ r : Fin 512, ((shA z ya yc ys w g d (glob t r) (j 1) : ℝ) : EReal) := by
  obtain ⟨l, rfl⟩ := row0 j
  rw [outsAt0_B m c t ht]; frame_out
  rw [in0 A, in1 A, in10 A]
  refine (pay13_at ..).trans ?_
  rw [coe_sum]
  rfl

theorem final20 (A : Args m c z ya yc ys q k w g md d) : (dats m 0 c).arrAt 20 (cfgs 0).N = up fun i => ∑ r, shA z ya yc ys w g d r (i 1) := by
  refine (dats m 0 c).arrAt_eq_of_after_last 20 t0_15 (by decide +kernel) _ fun j => ?_
  blk_simp
  rw [after0_20, Pipeline.eq_sum_fin_of_reset_step_apply_last (fun n h => (outsAt0 m c n h).2.2.2.2.2.2.2.2.1) 16 (fun _ => 0)
    (fun p j => ∑ r : Fin 512, ((shA z ya yc ys w g d (glob p r) (j 1) : ℝ) : EReal)) (step20_A A) (step20_B A)
    (le_of_eq N_0) t0_15 rfl j, zero_add, sum_points (shA z ya yc ys w g d · (j 1))]
  rfl

theorem step21_A (A : Args m c z ya yc ys q k w g md d) (t : Fin cfg0.N) (ht : t.val % 16 = 0) (j : S1x1024.Idx) :
    (outsAt0 m c t.val t.isLt).2.2.2.2.2.2.2.2.2 j = 0 + ∑ r : Fin 512, ((shB z ya yc ys w md d (glob t r) (j 1) : ℝ) : EReal) := by
  obtain ⟨l, rfl⟩ := row0 j
  rw [outsAt0_A m c t ht]; frame_out
  rw [in0 A, in1 A, in11 A, ld_gate]
  refine (pay15_at ..).trans ?_
  rw [coe_sum]
  exact congrArg (· + _) (by pointwise [k0_pay8])

theorem step21_B (A : Args m c z ya yc ys q k w g md d) (t : Fin cfg0.N) (ht : ¬ t.val % 16 = 0) (j : S1x1024.Idx) :
    (outsAt0 m c t.val t.isLt).2.2.2.2.2.2.2.2.2 j = (outsAt0 m c (t.val - 1) (Nat.lt_of_le_of_lt (Nat.sub_le _ _) t.isLt)).2.2.2.2.2.2.2.2.2 j
      + ∑ r : Fin 512, ((shB z ya yc ys w md d (glob t r) (j 1) : ℝ) : EReal) := by
  obtain ⟨l, rfl⟩ := row0 j
  rw [outsAt0_B m c t ht]; frame_out
  rw [in0 A, in1 A, in11 A, ld_gate]
  refine (pay15_at ..).trans ?_
  rw [coe_sum]
  rfl

theorem final21 (A : Args m c z ya yc ys q k w g md d) : (dats m 0 c).arrAt 21 (cfgs 0).N = up fun i => ∑ r, shB z ya yc ys w md d r (i 1) := by
  refine (dats m 0 c).arrAt_eq_of_after_last 21 t0_15 (by decide +kernel) _ fun j => ?_
  blk_simp
  rw [after0_21, Pipeline.eq_sum_fin_of_reset_step_apply_last (fun n h => (outsAt0 m c n h).2.2.2.2.2.2.2.2.2) 16 (fun _ => 0)
    (fun p j => ∑ r : Fin 512, ((shB z ya yc ys w md d (glob p r) (j 1) : ℝ) : EReal)) (step21_A A) (step21_B A)
    (le_of_eq N_0) t0_15 rfl j, zero_add, sum_points (shB z ya yc ys w md d · (j 1))]
  rfl

end Arrays

end Cert.OutProjIdeal.Body

end
-- ==== Proof.OutProjValue.lean ====
module

public import proofs.«01_k».proof.Defs
public import proofs.«01_k».proof.Proof.OutProjFinal
public import proofs.«01_k».proof.Proof.OutProjFinal2
public import proofs.«01_k».proof.Proof.OutProjSums
public import Idealize.ShloMosaic.Lib.Claim

@[expose] public section

set_option maxRecDepth 16384

noncomputable section

namespace Cert.OutProjIdeal.Body

open Idealize.ShloMosaic Idealize.ShloMosaic.TcCoe Idealize.SL.Sem Cert.Lift
open Cert.OutProjIdeal Cert.OutProjIdeal.Gen
open Cert.InProjIdeal.Body (padrow padrow_high)

/-! ## The claims -/

/-- The precondition's meaning: every argument but the queries and the keys is a real array. -/
theorem exists_args (m : (ℓ : Loc nD τ sig) → Buf (Elt Ideal) ℓ) (hm : Pre_OutProjIdeal_finite_op m) (c : Dev nD) :
    ∃ z ya yc ys q k w g md d, Args m c z ya yc ys q k w g md d := by
  have e := congrFun (hm c) ix0
  dsimp only [Cert.Pre_finite_op.fn, Cert.Pre_finite_op.fn_part1, Cert.Pre_finite_op.fn_part2] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨z, e0⟩ := exists_up _ _ (fun _ => rfl) _ _ _ _ e0
  obtain ⟨ya, e1⟩ := exists_up _ _ (fun _ => rfl) _ _ _ _ e1
  obtain ⟨yc, e2⟩ := exists_up _ _ (fun _ => rfl) _ _ _ _ e2
  obtain ⟨ys, e3⟩ := exists_up _ _ (fun _ => rfl) _ _ _ _ e3
  obtain ⟨w, e6⟩ := exists_up _ _ (fun _ => rfl) _ _ _ _ e6
  obtain ⟨g, e7⟩ := exists_up _ _ (fun _ => rfl) _ _ _ _ e7
  obtain ⟨md, e8⟩ := exists_up _ _ (fun _ => rfl) _ _ _ _ e8
  obtain ⟨d, e9⟩ := exists_up _ _ (fun _ => rfl) _ _ _ _ e9
  exact ⟨z, ya, yc, ys, _, _, w, g, md, d, e0, e1, e2, e3, rfl, rfl, e6, e7, e8, e9⟩

/-- The reference's arguments' arrays. -/
structure ArgsR (m : (ℓ : Loc Cert.OutProjRefIdeal.nD Cert.OutProjRefIdeal.τ Cert.OutProjRefIdeal.sig) → Buf (Elt Ideal) ℓ) (c : Dev nD)
    (z : S8192x2496.Idx → ℝ) (ya : S8192x512.Idx → ℝ) (yc ys : S8192x256.Idx → ℝ) (q k : FVec Ideal S8192x4x192 .f32)
    (w : S1024x1024.Idx → ℝ) (g : S1024.Idx → ℝ) (md : S3x1024.Idx → ℝ) (d : S8192x1024.Idx → ℝ) : Prop where
  e0 : m ((c.tc : Thread nD Cert.OutProjRefIdeal.τ).loc Cert.OutProjRefIdeal.main_arg0) = up z
  e1 : m ((c.tc : Thread nD Cert.OutProjRefIdeal.τ).loc Cert.OutProjRefIdeal.main_arg1) = up ya
  e2 : m ((c.tc : Thread nD Cert.OutProjRefIdeal.τ).loc Cert.OutProjRefIdeal.main_arg2) = up yc
  e3 : m ((c.tc : Thread nD Cert.OutProjRefIdeal.τ).loc Cert.OutProjRefIdeal.main_arg3) = up ys
  e4 : m ((c.tc : Thread nD Cert.OutProjRefIdeal.τ).loc Cert.OutProjRefIdeal.main_arg4) = q
  e5 : m ((c.tc : Thread nD Cert.OutProjRefIdeal.τ).loc Cert.OutProjRefIdeal.main_arg5) = k
  e6 : m ((c.tc : Thread nD Cert.OutProjRefIdeal.τ).loc Cert.OutProjRefIdeal.main_arg6) = up w
  e7 : m ((c.tc : Thread nD Cert.OutProjRefIdeal.τ).loc Cert.OutProjRefIdeal.main_arg7) = up g
  e8 : m ((c.tc : Thread nD Cert.OutProjRefIdeal.τ).loc Cert.OutProjRefIdeal.main_arg8) = up md
  e9 : m ((c.tc : Thread nD Cert.OutProjRefIdeal.τ).loc Cert.OutProjRefIdeal.main_arg9) = up d

section Reference

open Cert.OutProjRefIdeal.Read Cert.OutProjRefIdeal.Value

variable (z : S8192x2496.Idx → ℝ) (ya : S8192x512.Idx → ℝ) (yc ys : S8192x256.Idx → ℝ) (q k : FVec Ideal S8192x4x192 .f32)
    (w : S1024x1024.Idx → ℝ) (g : S1024.Idx → ℝ) (md : S3x1024.Idx → ℝ) (d : S8192x1024.Idx → ℝ)

theorem ref0 : val_main_v101 (F := Ideal) (up z) (up ya) (up yc) (up ys) (up w) (up g) (up md) (up d)
    = up fun i => dyR z ya yc ys w g md d (i 0) (i 1) := by
  funext i
  obtain ⟨r, l, rfl⟩ : ∃ r l, i = ix2 r l := ⟨i 0, i 1, eq_ix2 i⟩
  exact congrFun (v57_eq ..) _

theorem ref1 : val_main_v102 (F := Ideal) (up z) (up ya) (up yc) (up ys) (up w) (up g) (up md) (up d)
    = up fun i => dcR z ya yc ys w g md d (i 0) ⟨(i 1).val, by have := (i 1).isLt; simp at this; omega⟩ * sl (z (ix2 (i 0) ⟨448 + (i 1).val, by have := (i 1).isLt; simp at this; omega⟩)) := by
  funext i
  obtain ⟨r, l, rfl⟩ : ∃ r l, i = ix2 r l := ⟨i 0, i 1, eq_ix2 i⟩
  exact v69_at ..

theorem ref2 : val_main_v100 (F := Ideal) (up z) (up ya) (up yc) (up ys) q k (up w) (up g) (up md) (up d)
    = fun i => stat (lse q k (ix3 0 (i 0) 0)) (dl (pr z ya yc ys w g md d (i 0)) 0 (by norm_num) : ℝ)
        (lse q k (ix3 1 (i 0) 0)) (dl (pr z ya yc ys w g md d (i 0)) 128 (by norm_num) : ℝ)
        (lse q k (ix3 2 (i 0) 0)) (dl (pr z ya yc ys w g md d (i 0)) 256 (by norm_num) : ℝ)
        (lse q k (ix3 3 (i 0) 0)) (dl (pr z ya yc ys w g md d (i 0)) 384 (by norm_num) : ℝ) (i 1) := by
  funext i
  obtain ⟨r, l, rfl⟩ : ∃ r l, i = ix2 r l := ⟨i 0, i 1, eq_ix2 i⟩
  exact v100_at ..

theorem ref3 : val_main_v103 (F := Ideal) (up z) (up ya) (up yc) (up ys) (up w) (up g) (up md) (up d)
    = up fun i => dcR z ya yc ys w g md d (i 0) ⟨(i 1).val, by have := (i 1).isLt; simp at this; omega⟩ * ya i * dsl (z (ix2 (i 0) ⟨448 + (i 1).val, by have := (i 1).isLt; simp at this; omega⟩)) := by
  funext i
  obtain ⟨r, l, rfl⟩ : ∃ r l, i = ix2 r l := ⟨i 0, i 1, eq_ix2 i⟩
  exact v70_at ..

theorem ref4 : val_main_v66 (F := Ideal) (up z) (up ya) (up yc) (up ys) (up w) (up g) (up md) (up d)
    = up fun i => dcR z ya yc ys w g md d (i 0) ⟨512 + (i 1).val, by have := (i 1).isLt; simp at this; omega⟩ * sl (z (ix2 (i 0) ⟨1472 + (i 1).val, by have := (i 1).isLt; simp at this; omega⟩)) := by
  funext i
  obtain ⟨r, l, rfl⟩ : ∃ r l, i = ix2 r l := ⟨i 0, i 1, eq_ix2 i⟩
  exact v66_at ..

theorem ref5 : val_main_v104 (F := Ideal) (up z) (up ya) (up yc) (up ys) (up w) (up g) (up md) (up d)
    = up fun i => dcR z ya yc ys w g md d (i 0) ⟨512 + (i 1).val, by have := (i 1).isLt; simp at this; omega⟩ * yc i * dsl (z (ix2 (i 0) ⟨1472 + (i 1).val, by have := (i 1).isLt; simp at this; omega⟩)) := by
  funext i
  obtain ⟨r, l, rfl⟩ : ∃ r l, i = ix2 r l := ⟨i 0, i 1, eq_ix2 i⟩
  exact v67_at ..

theorem ref6 : val_main_v63 (F := Ideal) (up z) (up ya) (up yc) (up ys) (up w) (up g) (up md) (up d)
    = up fun i => dcR z ya yc ys w g md d (i 0) ⟨768 + (i 1).val, by have := (i 1).isLt; simp at this; omega⟩ * sl (z (ix2 (i 0) ⟨2240 + (i 1).val, by have := (i 1).isLt; simp at this; omega⟩)) := by
  funext i
  obtain ⟨r, l, rfl⟩ : ∃ r l, i = ix2 r l := ⟨i 0, i 1, eq_ix2 i⟩
  exact v63_at ..

theorem ref7 : val_main_v105 (F := Ideal) (up z) (up ya) (up yc) (up ys) (up w) (up g) (up md) (up d)
    = up fun i => dcR z ya yc ys w g md d (i 0) ⟨768 + (i 1).val, by have := (i 1).isLt; simp at this; omega⟩ * ys i * dsl (z (ix2 (i 0) ⟨2240 + (i 1).val, by have := (i 1).isLt; simp at this; omega⟩)) := by
  funext i
  obtain ⟨r, l, rfl⟩ : ∃ r l, i = ix2 r l := ⟨i 0, i 1, eq_ix2 i⟩
  exact v64_at ..

theorem ref8 : val_main_v106 (F := Ideal) (up z) (up ya) (up yc) (up ys) (up w) (up g) (up d) = up fun i => ∑ r, shA z ya yc ys w g d r (i 1) := by
  funext i
  obtain ⟨l, rfl⟩ := row0 i
  exact v106_at ..

theorem ref9 : val_main_v107 (F := Ideal) (up z) (up ya) (up yc) (up ys) (up w) (up md) (up d) = up fun i => ∑ r, shB z ya yc ys w md d r (i 1) := by
  funext i
  obtain ⟨l, rfl⟩ := row0 i
  exact v107_at ..

end Reference

set_option maxHeartbeats 4000000 in
theorem algebraic : Cert.algebraic_OutProjIdeal_OutProjRefIdeal_pre_finite_op := by
  intro m g m' g' hpre hagree
  refine ⟨fun c => (dats m 0 c).arrAt 12 (cfgs 0).N, fun c => (dats m 0 c).arrAt 13 (cfgs 0).N, fun c => (dats m 0 c).arrAt 14 (cfgs 0).N, fun c => (dats m 0 c).arrAt 15 (cfgs 0).N, fun c => (dats m 0 c).arrAt 16 (cfgs 0).N,
    fun c => (dats m 0 c).arrAt 17 (cfgs 0).N, fun c => (dats m 0 c).arrAt 18 (cfgs 0).N, fun c => (dats m 0 c).arrAt 19 (cfgs 0).N, fun c => (dats m 0 c).arrAt 20 (cfgs 0).N, fun c => (dats m 0 c).arrAt 21 (cfgs 0).N, ?_, ?_⟩
  · refine θ_run_mono (Cert.OutProjIdeal.Gen.run_main m g) fun _ h c => ⟨(h c).1 12, (h c).1 13, (h c).1 14, (h c).1 15, (h c).1 16, (h c).1 17, (h c).1 18, (h c).1 19, (h c).1 20, (h c).1 21,
      ((h c).2 main_arg0 (Pipeline.mem_restRefs_of main_arg0 (by decide) (by decide))).trans (V_main_arg0 m c),
      ((h c).1 5).trans (((dats m 0 c).arrAt_in 5 rfl _).trans ((A_eq m c 5).trans (V_main_arg1 m c))),
      ((h c).1 6).trans (((dats m 0 c).arrAt_in 6 rfl _).trans ((A_eq m c 6).trans (V_main_arg2 m c))),
      ((h c).1 7).trans (((dats m 0 c).arrAt_in 7 rfl _).trans ((A_eq m c 7).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).1 11).trans (((dats m 0 c).arrAt_in 11 rfl _).trans ((A_eq m c 11).trans (V_main_arg8 m c))),
      ((h c).1 0).trans (((dats m 0 c).arrAt_in 0 rfl _).trans ((A_eq m c 0).trans (V_main_arg9 m c)))⟩
  · refine θ_run_mono (Cert.OutProjRefIdeal.Value.run m' g') fun r hr c => ?_
    obtain ⟨z, ya, yc, ys, q, k, w, gp, md, d, A⟩ := exists_args m hpre c
    obtain ⟨a0, a1, a2, a3, a4, a5, a6, a7, a8, a9⟩ := hagree c
    have B : ArgsR m' c z ya yc ys q k w gp md d := ⟨a0.trans A.e0, a1.trans A.e1, a2.trans A.e2, a3.trans A.e3, a4.trans A.e4, a5.trans A.e5,
      a6.trans A.e6, a7.trans A.e7, a8.trans A.e8, a9.trans A.e9⟩
    obtain ⟨r0, r1, r2, r3, r4, r5, r6, r7, r8, r9, ra⟩ := hr c
    refine ⟨r0.trans ((Cert.OutProjRefIdeal.Read.val_main_v101_eq ..).trans ?_),
      r1.trans ((Cert.OutProjRefIdeal.Read.val_main_v102_eq ..).trans ?_),
      r2.trans ((Cert.OutProjRefIdeal.Read.val_main_v100_eq ..).trans ?_),
      r3.trans ((Cert.OutProjRefIdeal.Read.val_main_v103_eq ..).trans ?_),
      r4.trans ((Cert.OutProjRefIdeal.Read.val_main_v66_eq ..).trans ?_),
      r5.trans ((Cert.OutProjRefIdeal.Read.val_main_v104_eq ..).trans ?_),
      r6.trans ((Cert.OutProjRefIdeal.Read.val_main_v63_eq ..).trans ?_),
      r7.trans ((Cert.OutProjRefIdeal.Read.val_main_v105_eq ..).trans ?_),
      r8.trans ((Cert.OutProjRefIdeal.Read.val_main_v106_eq ..).trans ?_),
      r9.trans ((Cert.OutProjRefIdeal.Read.val_main_v107_eq ..).trans ?_), ra⟩
    · rw [B.e0, B.e1, B.e2, B.e3, B.e6, B.e7, B.e8, B.e9]
      exact (ref0 ..).trans (final12 A).symm
    · rw [B.e0, B.e1, B.e2, B.e3, B.e6, B.e7, B.e8, B.e9]
      exact (ref1 ..).trans (final13 A).symm
    · rw [B.e0, B.e1, B.e2, B.e3, B.e4, B.e5, B.e6, B.e7, B.e8, B.e9]
      exact (ref2 ..).trans (final14 A (ent19 A)).symm
    · rw [B.e0, B.e1, B.e2, B.e3, B.e6, B.e7, B.e8, B.e9]
      exact (ref3 ..).trans (final15 A).symm
    · rw [B.e0, B.e1, B.e2, B.e3, B.e6, B.e7, B.e8, B.e9]
      exact (ref4 ..).trans (final16 A).symm
    · rw [B.e0, B.e1, B.e2, B.e3, B.e6, B.e7, B.e8, B.e9]
      exact (ref5 ..).trans (final17 A).symm
    · rw [B.e0, B.e1, B.e2, B.e3, B.e6, B.e7, B.e8, B.e9]
      exact (ref6 ..).trans (final18 A).symm
    · rw [B.e0, B.e1, B.e2, B.e3, B.e6, B.e7, B.e8, B.e9]
      exact (ref7 ..).trans (final19 A).symm
    · rw [B.e0, B.e1, B.e2, B.e3, B.e6, B.e7, B.e9]
      exact (ref8 ..).trans (final20 A).symm
    · rw [B.e0, B.e1, B.e2, B.e3, B.e6, B.e8, B.e9]
      exact (ref9 ..).trans (final21 A).symm

/-- The reference is host operations only, and declares no semaphore. -/
theorem frame_ref : Cert.quiescent_OutProjRefIdeal := fun m ρ _ =>
  (θ_run Cert.OutProjRefIdeal.defs _ _).mono
    (fun r h => ⟨fun c => (h c).2.2.2.2.2.2.2.2.2.2, sem_eq_zero_of_no_sems (by decide) r.2⟩) (Cert.OutProjRefIdeal.Value.run m ρ)

end Cert.OutProjIdeal.Body

end
-- ==== Proof.SguFrame.lean ====
module

public import proofs.«01_k».proof.Defs
public import proofs.«01_k».proof.Proof.Gen.SguRefIdeal.Run

@[expose] public section

noncomputable section

namespace Cert.SguIdeal.Body

open Idealize.ShloMosaic Idealize.ShloMosaic.TcCoe Idealize.SL.Sem

/-- The reference of the spatial gating unit is host operations only, and declares no semaphore. -/
theorem frame_ref : Cert.quiescent_SguRefIdeal := fun m ρ _ =>
  (θ_run Cert.SguRefIdeal.defs _ _).mono
    (fun r h => ⟨fun c => (h c).2.2.2.2.2.2, sem_eq_zero_of_no_sems (by decide) r.2⟩) (Cert.SguRefIdeal.Value.run m ρ)

end Cert.SguIdeal.Body

end
-- ==== Proof.AttPrepFrame.lean ====
module

public import proofs.«01_k».proof.Defs
public import proofs.«01_k».proof.Proof.Gen.AttPrepRefIdeal.Run

@[expose] public section

noncomputable section

namespace Cert.AttPrepIdeal.Body

open Idealize.ShloMosaic Idealize.ShloMosaic.TcCoe Idealize.SL.Sem

/-- The reference of the attention's preparation is host operations only, and declares no semaphore. -/
theorem frame_ref : Cert.quiescent_AttPrepRefIdeal := fun m ρ _ =>
  (θ_run Cert.AttPrepRefIdeal.defs _ _).mono
    (fun r h => ⟨fun c => (h c).2.2.2.2.2.2.2, sem_eq_zero_of_no_sems (by decide) r.2⟩) (Cert.AttPrepRefIdeal.Value.run m ρ)

end Cert.AttPrepIdeal.Body

end
-- ==== Proof.lean ====
module

public import proofs.«01_k».proof.Defs
public import proofs.«01_k».proof.Proof.Gen.ConvNorm
public import proofs.«01_k».proof.Proof.Gen.ConvNorm.Skeleton
public import proofs.«01_k».proof.Proof.Gen.ConvNorm.Launch
public import proofs.«01_k».proof.Proof.Gen.ConvNorm.Points
public import proofs.«01_k».proof.Proof.Gen.ConvNorm.Frame
public import proofs.«01_k».proof.Proof.Gen.ConvNormIdeal
public import proofs.«01_k».proof.Proof.Gen.ConvNormIdeal.Skeleton
public import proofs.«01_k».proof.Proof.Gen.ConvNormIdeal.Launch
public import proofs.«01_k».proof.Proof.Gen.ConvNormIdeal.Points
public import proofs.«01_k».proof.Proof.Gen.ConvNormIdeal.Frame
public import proofs.«01_k».proof.Proof.Gen.ConvNormRefIdeal
public import proofs.«01_k».proof.Proof.Gen.Pre_finite_cn
public import proofs.«01_k».proof.Proof.Gen.ConvNormIdeal.Value
public import proofs.«01_k».proof.Proof.Gen.ConvNormRefIdeal.Read
public import proofs.«01_k».proof.Proof.Gen.Flash
public import proofs.«01_k».proof.Proof.Gen.Flash.Skeleton
public import proofs.«01_k».proof.Proof.Gen.Flash.Loops
public import proofs.«01_k».proof.Proof.Gen.Flash.Launch
public import proofs.«01_k».proof.Proof.Gen.Flash.Points
public import proofs.«01_k».proof.Proof.Gen.Flash.Frame
public import proofs.«01_k».proof.Proof.Gen.FlashIdeal
public import proofs.«01_k».proof.Proof.Gen.FlashIdeal.Skeleton
public import proofs.«01_k».proof.Proof.Gen.FlashIdeal.Loops
public import proofs.«01_k».proof.Proof.Gen.FlashIdeal.Launch
public import proofs.«01_k».proof.Proof.Gen.FlashIdeal.Points
public import proofs.«01_k».proof.Proof.Gen.FlashIdeal.Frame
public import proofs.«01_k».proof.Proof.Gen.FlashRefIdeal
public import proofs.«01_k».proof.Proof.Gen.Pre_finite_fb
public import proofs.«01_k».proof.Proof.Gen.FlashRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.Pre_finite_ip
public import proofs.«01_k».proof.Proof.Gen.InProjIdeal.Value
public import proofs.«01_k».proof.Proof.Gen.InProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Pre_finite_op
public import proofs.«01_k».proof.Proof.Gen.OutProjIdeal.Value
public import proofs.«01_k».proof.Proof.Gen.OutProjRefIdeal.Read
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.AttPrep
public import proofs.«01_k».proof.Proof.Gen.AttPrep.Skeleton
public import proofs.«01_k».proof.Proof.Gen.AttPrep.Launch
public import proofs.«01_k».proof.Proof.Gen.AttPrep.Points
public import proofs.«01_k».proof.Proof.Gen.AttPrep.Frame
public import proofs.«01_k».proof.Proof.Gen.AttPrepIdeal
public import proofs.«01_k».proof.Proof.Gen.AttPrepIdeal.Skeleton
public import proofs.«01_k».proof.Proof.Gen.AttPrepIdeal.Launch
public import proofs.«01_k».proof.Proof.Gen.AttPrepIdeal.Points
public import proofs.«01_k».proof.Proof.Gen.AttPrepIdeal.Frame
public import proofs.«01_k».proof.Proof.Gen.AttPrepRefIdeal
public import proofs.«01_k».proof.Proof.ConvNormValue
public import proofs.«01_k».proof.Proof.FlashValue
public import proofs.«01_k».proof.Proof.FlashBits
public import proofs.«01_k».proof.Proof.InProjValue
public import proofs.«01_k».proof.Proof.OutProjValue
public import proofs.«01_k».proof.Proof.SguFrame
public import proofs.«01_k».proof.Proof.AttPrepFrame
public import Idealize.ShloMosaic.Adequacy
public import Idealize.ShloMosaic.Init

@[expose] public section

noncomputable section

namespace Cert.Proof

open Idealize.ShloMosaic Idealize.SL.Sem Cert.ConvNorm

theorem claim : Cert.Claim :=
  ⟨Cert.ConvNorm.Gen.facts, Cert.ConvNormIdeal.Gen.facts, Cert.ConvNormRefIdeal.Gen.facts,
    Cert.Flash.Gen.facts, Cert.FlashIdeal.Gen.facts, Cert.FlashRefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.Sgu.Gen.facts, Cert.SguIdeal.Gen.facts, Cert.SguRefIdeal.Gen.facts,
    Cert.AttPrep.Gen.facts, Cert.AttPrepIdeal.Gen.facts, Cert.AttPrepRefIdeal.Gen.facts,
    Cert.Pre_finite_cn.Gen.facts, Cert.Pre_finite_fb.Gen.facts, Cert.Pre_finite_ip.Gen.facts, Cert.Pre_finite_op.Gen.facts,
    fun m ρ _ => Cert.ConvNorm.Gen.frame m ρ, fun m ρ _ => Cert.ConvNormIdeal.Gen.frame m ρ, fun m ρ _ => Cert.ConvNormIdeal.Gen.frame m ρ,
    Cert.ConvNormIdeal.Body.frame_ref, fun m ρ _ => Cert.ConvNormIdeal.Body.frame_ref m ρ trivial,
    Cert.Flash.Body.frame, fun m ρ _ => Cert.FlashIdeal.Body.frame m ρ, fun m ρ _ => Cert.FlashIdeal.Body.frame m ρ,
    Cert.FlashIdeal.Body.frame_ref, fun m ρ _ => Cert.FlashIdeal.Body.frame_ref m ρ trivial,
    fun m ρ _ => Cert.InProj.Gen.frame m ρ, fun m ρ _ => Cert.InProjIdeal.Gen.frame m ρ, fun m ρ _ => Cert.InProjIdeal.Gen.frame m ρ,
    Cert.InProjIdeal.Body.frame_ref, fun m ρ _ => Cert.InProjIdeal.Body.frame_ref m ρ trivial,
    fun m ρ _ => Cert.OutProj.Gen.frame m ρ, fun m ρ _ => Cert.OutProjIdeal.Gen.frame m ρ, fun m ρ _ => Cert.OutProjIdeal.Gen.frame m ρ,
    Cert.OutProjIdeal.Body.frame_ref, fun m ρ _ => Cert.OutProjIdeal.Body.frame_ref m ρ trivial,
    fun m ρ _ => Cert.Sgu.Gen.frame m ρ, fun m ρ _ => Cert.SguIdeal.Gen.frame m ρ, Cert.SguIdeal.Body.frame_ref,
    fun m ρ _ => Cert.AttPrep.Gen.frame m ρ, fun m ρ _ => Cert.AttPrepIdeal.Gen.frame m ρ, Cert.AttPrepIdeal.Body.frame_ref,
    trivial, Cert.ConvNormIdeal.Body.algebraic,
    Cert.Flash.Body.preserves, Cert.FlashIdeal.Body.algebraic,
    trivial, Cert.InProjIdeal.Body.algebraic,
    trivial, Cert.OutProjIdeal.Body.algebraic,
    trivial,
    trivial⟩

end Cert.Proof

end
